-- ==== Defs.lean ====
def Pre_WinKernel (m : (ℓ : Loc Cert.WinKernel.nD Cert.WinKernel.τ Cert.WinKernel.sig) → Buf (Elt Bits) ℓ) : Prop :=
  True

def Pre_WinKernelIdeal (m : (ℓ : Loc Cert.WinKernelIdeal.nD Cert.WinKernelIdeal.τ Cert.WinKernelIdeal.sig) → Buf (Elt Ideal) ℓ) : Prop :=
  True

def Pre_WinRefIdeal (m : (ℓ : Loc Cert.WinRefIdeal.nD Cert.WinRefIdeal.τ Cert.WinRefIdeal.sig) → Buf (Elt Ideal) ℓ) : Prop :=
  True

def Pre_ProjKernel (m : (ℓ : Loc Cert.ProjKernel.nD Cert.ProjKernel.τ Cert.ProjKernel.sig) → Buf (Elt Bits) ℓ) : Prop :=
  True

def Pre_ProjKernelIdeal (m : (ℓ : Loc Cert.ProjKernelIdeal.nD Cert.ProjKernelIdeal.τ Cert.ProjKernelIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_MergeKernel (m : (ℓ : Loc Cert.MergeKernel.nD Cert.MergeKernel.τ Cert.MergeKernel.sig) → Buf (Elt Bits) ℓ) : Prop :=
  True

def Pre_MergeKernelIdeal (m : (ℓ : Loc Cert.MergeKernelIdeal.nD Cert.MergeKernelIdeal.τ Cert.MergeKernelIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_FfnKernel (m : (ℓ : Loc Cert.FfnKernel.nD Cert.FfnKernel.τ Cert.FfnKernel.sig) → Buf (Elt Bits) ℓ) : Prop :=
  True

def Pre_FfnKernelIdeal (m : (ℓ : Loc Cert.FfnKernelIdeal.nD Cert.FfnKernelIdeal.τ Cert.FfnKernelIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_ProjsKernel (m : (ℓ : Loc Cert.ProjsKernel.nD Cert.ProjsKernel.τ Cert.ProjsKernel.sig) → Buf (Elt Bits) ℓ) : Prop :=
  True

def Pre_ProjsKernelIdeal (m : (ℓ : Loc Cert.ProjsKernelIdeal.nD Cert.ProjsKernelIdeal.τ Cert.ProjsKernelIdeal.sig) → Buf (Elt Ideal) ℓ) : Prop :=
  True

def Pre_ProjsRefIdeal (m : (ℓ : Loc Cert.ProjsRefIdeal.nD Cert.ProjsRefIdeal.τ Cert.ProjsRefIdeal.sig) → Buf (Elt Ideal) ℓ) : Prop :=
  True

def Pre_MergesKernel (m : (ℓ : Loc Cert.MergesKernel.nD Cert.MergesKernel.τ Cert.MergesKernel.sig) → Buf (Elt Bits) ℓ) : Prop :=
  True

def Pre_MergesKernelIdeal (m : (ℓ : Loc Cert.MergesKernelIdeal.nD Cert.MergesKernelIdeal.τ Cert.MergesKernelIdeal.sig) → Buf (Elt Ideal) ℓ) : Prop :=
  True

def Pre_MergesRefIdeal (m : (ℓ : Loc Cert.MergesRefIdeal.nD Cert.MergesRefIdeal.τ Cert.MergesRefIdeal.sig) → Buf (Elt Ideal) ℓ) : Prop :=
  True

def Pre_FfnsKernel (m : (ℓ : Loc Cert.FfnsKernel.nD Cert.FfnsKernel.τ Cert.FfnsKernel.sig) → Buf (Elt Bits) ℓ) : Prop :=
  True

def Pre_FfnsKernelIdeal (m : (ℓ : Loc Cert.FfnsKernelIdeal.nD Cert.FfnsKernelIdeal.τ Cert.FfnsKernelIdeal.sig) → Buf (Elt Ideal) ℓ) : Prop :=
  True

def Pre_FfnsRefIdeal (m : (ℓ : Loc Cert.FfnsRefIdeal.nD Cert.FfnsRefIdeal.τ Cert.FfnsRefIdeal.sig) → Buf (Elt Ideal) ℓ) : Prop :=
  True

def Pre_RgsKernel (m : (ℓ : Loc Cert.RgsKernel.nD Cert.RgsKernel.τ Cert.RgsKernel.sig) → Buf (Elt Bits) ℓ) : Prop :=
  True

def Pre_RgsKernelIdeal (m : (ℓ : Loc Cert.RgsKernelIdeal.nD Cert.RgsKernelIdeal.τ Cert.RgsKernelIdeal.sig) → Buf (Elt Ideal) ℓ) : Prop :=
  True

def Pre_RgsRefIdeal (m : (ℓ : Loc Cert.RgsRefIdeal.nD Cert.RgsRefIdeal.τ Cert.RgsRefIdeal.sig) → Buf (Elt Ideal) ℓ) : Prop :=
  True

def Pre_GlasKernel (m : (ℓ : Loc Cert.GlasKernel.nD Cert.GlasKernel.τ Cert.GlasKernel.sig) → Buf (Elt Bits) ℓ) : Prop :=
  True

def Pre_GlasKernelIdeal (m : (ℓ : Loc Cert.GlasKernelIdeal.nD Cert.GlasKernelIdeal.τ Cert.GlasKernelIdeal.sig) → Buf (Elt Ideal) ℓ) : Prop :=
  True

def Pre_GlasKernelIdeal_gates_open [hPre_gates_open : Cert.Pre_gates_open.Facts] (m : (ℓ : Loc Cert.GlasKernelIdeal.nD Cert.GlasKernelIdeal.τ Cert.GlasKernelIdeal.sig) → Buf (Elt Ideal) ℓ) : Prop :=
  ∀ c : Dev Cert.GlasKernelIdeal.nD,
    (Cert.Pre_gates_open.fn (F := Ideal) (m ((c.tc : Thread Cert.GlasKernelIdeal.nD Cert.GlasKernelIdeal.τ).loc Cert.GlasKernelIdeal.main_arg0)) (m ((c.tc : Thread Cert.GlasKernelIdeal.nD Cert.GlasKernelIdeal.τ).loc Cert.GlasKernelIdeal.main_arg1)) (m ((c.tc : Thread Cert.GlasKernelIdeal.nD Cert.GlasKernelIdeal.τ).loc Cert.GlasKernelIdeal.main_arg2)) (m ((c.tc : Thread Cert.GlasKernelIdeal.nD Cert.GlasKernelIdeal.τ).loc Cert.GlasKernelIdeal.main_arg3)) (m ((c.tc : Thread Cert.GlasKernelIdeal.nD Cert.GlasKernelIdeal.τ).loc Cert.GlasKernelIdeal.main_arg4))) = (fun _ => 1#1)

def Pre_GlasRefIdeal (m : (ℓ : Loc Cert.GlasRefIdeal.nD Cert.GlasRefIdeal.τ Cert.GlasRefIdeal.sig) → Buf (Elt Ideal) ℓ) : Prop :=
  True

def Pre_GlasRefIdeal_gates_open [hPre_gates_open : Cert.Pre_gates_open.Facts] (m : (ℓ : Loc Cert.GlasRefIdeal.nD Cert.GlasRefIdeal.τ Cert.GlasRefIdeal.sig) → Buf (Elt Ideal) ℓ) : Prop :=
  ∀ c : Dev Cert.GlasRefIdeal.nD,
    (Cert.Pre_gates_open.fn (F := Ideal) (m ((c.tc : Thread Cert.GlasRefIdeal.nD Cert.GlasRefIdeal.τ).loc Cert.GlasRefIdeal.main_arg0)) (m ((c.tc : Thread Cert.GlasRefIdeal.nD Cert.GlasRefIdeal.τ).loc Cert.GlasRefIdeal.main_arg1)) (m ((c.tc : Thread Cert.GlasRefIdeal.nD Cert.GlasRefIdeal.τ).loc Cert.GlasRefIdeal.main_arg2)) (m ((c.tc : Thread Cert.GlasRefIdeal.nD Cert.GlasRefIdeal.τ).loc Cert.GlasRefIdeal.main_arg3)) (m ((c.tc : Thread Cert.GlasRefIdeal.nD Cert.GlasRefIdeal.τ).loc Cert.GlasRefIdeal.main_arg4))) = (fun _ => 1#1)

def quiescent_WinKernel [hWinKernel : Cert.WinKernel.Facts] : Prop :=
  ∀ (m : (ℓ : Loc Cert.WinKernel.nD Cert.WinKernel.τ Cert.WinKernel.sig) → Buf (Elt Bits) ℓ) (g : Dev Cert.WinKernel.nD → PrngReg), Pre_WinKernel m →
    θ_run (Cert.WinKernel.defs (F := Bits)) (onTc (τ := Cert.WinKernel.τ) (Cert.WinKernel.main (F := Bits))) ⟨m, fun _ => 0, g⟩ (fun r => (∀ c : Dev Cert.WinKernel.nD,
      r.2.mem ((c.tc : Thread Cert.WinKernel.nD Cert.WinKernel.τ).loc Cert.WinKernel.main_arg0) = m ((c.tc : Thread Cert.WinKernel.nD Cert.WinKernel.τ).loc Cert.WinKernel.main_arg0)
      ∧ r.2.mem ((c.tc : Thread Cert.WinKernel.nD Cert.WinKernel.τ).loc Cert.WinKernel.main_arg1) = m ((c.tc : Thread Cert.WinKernel.nD Cert.WinKernel.τ).loc Cert.WinKernel.main_arg1)
      ∧ r.2.mem ((c.tc : Thread Cert.WinKernel.nD Cert.WinKernel.τ).loc Cert.WinKernel.main_arg2) = m ((c.tc : Thread Cert.WinKernel.nD Cert.WinKernel.τ).loc Cert.WinKernel.main_arg2))
      ∧ r.2.sem = fun _ => 0)

def quiescent_WinKernelIdeal [hWinKernelIdeal : Cert.WinKernelIdeal.Facts] : Prop :=
  ∀ (m : (ℓ : Loc Cert.WinKernelIdeal.nD Cert.WinKernelIdeal.τ Cert.WinKernelIdeal.sig) → Buf (Elt Ideal) ℓ) (g : Dev Cert.WinKernelIdeal.nD → PrngReg), Pre_WinKernelIdeal m →
    θ_run (Cert.WinKernelIdeal.defs (F := Ideal)) (onTc (τ := Cert.WinKernelIdeal.τ) (Cert.WinKernelIdeal.main (F := Ideal))) ⟨m, fun _ => 0, g⟩ (fun r => (∀ c : Dev Cert.WinKernelIdeal.nD,
      r.2.mem ((c.tc : Thread Cert.WinKernelIdeal.nD Cert.WinKernelIdeal.τ).loc Cert.WinKernelIdeal.main_arg0) = m ((c.tc : Thread Cert.WinKernelIdeal.nD Cert.WinKernelIdeal.τ).loc Cert.WinKernelIdeal.main_arg0)
      ∧ r.2.mem ((c.tc : Thread Cert.WinKernelIdeal.nD Cert.WinKernelIdeal.τ).loc Cert.WinKernelIdeal.main_arg1) = m ((c.tc : Thread Cert.WinKernelIdeal.nD Cert.WinKernelIdeal.τ).loc Cert.WinKernelIdeal.main_arg1)
      ∧ r.2.mem ((c.tc : Thread Cert.WinKernelIdeal.nD Cert.WinKernelIdeal.τ).loc Cert.WinKernelIdeal.main_arg2) = m ((c.tc : Thread Cert.WinKernelIdeal.nD Cert.WinKernelIdeal.τ).loc Cert.WinKernelIdeal.main_arg2))
      ∧ r.2.sem = fun _ => 0)

def quiescent_WinRefIdeal [hWinRefIdeal : Cert.WinRefIdeal.Facts] : Prop :=
  ∀ (m : (ℓ : Loc Cert.WinRefIdeal.nD Cert.WinRefIdeal.τ Cert.WinRefIdeal.sig) → Buf (Elt Ideal) ℓ) (g : Dev Cert.WinRefIdeal.nD → PrngReg), Pre_WinRefIdeal m →
    θ_run (Cert.WinRefIdeal.defs (F := Ideal)) (onTc (τ := Cert.WinRefIdeal.τ) (Cert.WinRefIdeal.main (F := Ideal))) ⟨m, fun _ => 0, g⟩ (fun r => (∀ c : Dev Cert.WinRefIdeal.nD,
      r.2.mem ((c.tc : Thread Cert.WinRefIdeal.nD Cert.WinRefIdeal.τ).loc Cert.WinRefIdeal.main_arg0) = m ((c.tc : Thread Cert.WinRefIdeal.nD Cert.WinRefIdeal.τ).loc Cert.WinRefIdeal.main_arg0)
      ∧ r.2.mem ((c.tc : Thread Cert.WinRefIdeal.nD Cert.WinRefIdeal.τ).loc Cert.WinRefIdeal.main_arg1) = m ((c.tc : Thread Cert.WinRefIdeal.nD Cert.WinRefIdeal.τ).loc Cert.WinRefIdeal.main_arg1)
      ∧ r.2.mem ((c.tc : Thread Cert.WinRefIdeal.nD Cert.WinRefIdeal.τ).loc Cert.WinRefIdeal.main_arg2) = m ((c.tc : Thread Cert.WinRefIdeal.nD Cert.WinRefIdeal.τ).loc Cert.WinRefIdeal.main_arg2))
      ∧ r.2.sem = fun _ => 0)

def quiescent_ProjKernel [hProjKernel : Cert.ProjKernel.Facts] : Prop :=
  ∀ (m : (ℓ : Loc Cert.ProjKernel.nD Cert.ProjKernel.τ Cert.ProjKernel.sig) → Buf (Elt Bits) ℓ) (g : Dev Cert.ProjKernel.nD → PrngReg), Pre_ProjKernel m →
    θ_run (Cert.ProjKernel.defs (F := Bits)) (onTc (τ := Cert.ProjKernel.τ) (Cert.ProjKernel.main (F := Bits))) ⟨m, fun _ => 0, g⟩ (fun r => (∀ c : Dev Cert.ProjKernel.nD,
      r.2.mem ((c.tc : Thread Cert.ProjKernel.nD Cert.ProjKernel.τ).loc Cert.ProjKernel.main_arg0) = m ((c.tc : Thread Cert.ProjKernel.nD Cert.ProjKernel.τ).loc Cert.ProjKernel.main_arg0)
      ∧ r.2.mem ((c.tc : Thread Cert.ProjKernel.nD Cert.ProjKernel.τ).loc Cert.ProjKernel.main_arg1) = m ((c.tc : Thread Cert.ProjKernel.nD Cert.ProjKernel.τ).loc Cert.ProjKernel.main_arg1)
      ∧ r.2.mem ((c.tc : Thread Cert.ProjKernel.nD Cert.ProjKernel.τ).loc Cert.ProjKernel.main_arg2) = m ((c.tc : Thread Cert.ProjKernel.nD Cert.ProjKernel.τ).loc Cert.ProjKernel.main_arg2))
      ∧ r.2.sem = fun _ => 0)

def quiescent_ProjKernelIdeal [hProjKernelIdeal : Cert.ProjKernelIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg), Pre_ProjKernelIdeal m →
    θ_run (Cert.ProjKernelIdeal.defs (F := Ideal)) (onTc (τ := Cert.ProjKernelIdeal.τ) (Cert.ProjKernelIdeal.main (F := Ideal))) ⟨m, fun _ => 0, g⟩ (fun r => (∀ c : Dev Cert.ProjKernelIdeal.nD,
      r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
      ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1)
      ∧ r.2.mem ((c.tc : Thread Cert.ProjKernelIdeal.nD Cert.ProjKernelIdeal.τ).loc Cert.ProjKernelIdeal.main_arg2) = m ((c.tc : Thread Cert.ProjKernelIdeal.nD Cert.ProjKernelIdeal.τ).loc Cert.ProjKernelIdeal.main_arg2))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2))
      ∧ r.2.sem = fun _ => 0)

def quiescent_MergeKernel [hMergeKernel : Cert.MergeKernel.Facts] : Prop :=
  ∀ (m : (ℓ : Loc Cert.MergeKernel.nD Cert.MergeKernel.τ Cert.MergeKernel.sig) → Buf (Elt Bits) ℓ) (g : Dev Cert.MergeKernel.nD → PrngReg), Pre_MergeKernel m →
    θ_run (Cert.MergeKernel.defs (F := Bits)) (onTc (τ := Cert.MergeKernel.τ) (Cert.MergeKernel.main (F := Bits))) ⟨m, fun _ => 0, g⟩ (fun r => (∀ c : Dev Cert.MergeKernel.nD,
      r.2.mem ((c.tc : Thread Cert.MergeKernel.nD Cert.MergeKernel.τ).loc Cert.MergeKernel.main_arg0) = m ((c.tc : Thread Cert.MergeKernel.nD Cert.MergeKernel.τ).loc Cert.MergeKernel.main_arg0)
      ∧ r.2.mem ((c.tc : Thread Cert.MergeKernel.nD Cert.MergeKernel.τ).loc Cert.MergeKernel.main_arg1) = m ((c.tc : Thread Cert.MergeKernel.nD Cert.MergeKernel.τ).loc Cert.MergeKernel.main_arg1)
      ∧ r.2.mem ((c.tc : Thread Cert.MergeKernel.nD Cert.MergeKernel.τ).loc Cert.MergeKernel.main_arg2) = m ((c.tc : Thread Cert.MergeKernel.nD Cert.MergeKernel.τ).loc Cert.MergeKernel.main_arg2)
      ∧ r.2.mem ((c.tc : Thread Cert.MergeKernel.nD Cert.MergeKernel.τ).loc Cert.MergeKernel.main_arg3) = m ((c.tc : Thread Cert.MergeKernel.nD Cert.MergeKernel.τ).loc Cert.MergeKernel.main_arg3)
      ∧ r.2.mem ((c.tc : Thread Cert.MergeKernel.nD Cert.MergeKernel.τ).loc Cert.MergeKernel.main_arg4) = m ((c.tc : Thread Cert.MergeKernel.nD Cert.MergeKernel.τ).loc Cert.MergeKernel.main_arg4)
      ∧ r.2.mem ((c.tc : Thread Cert.MergeKernel.nD Cert.MergeKernel.τ).loc Cert.MergeKernel.main_arg5) = m ((c.tc : Thread Cert.MergeKernel.nD Cert.MergeKernel.τ).loc Cert.MergeKernel.main_arg5)
      ∧ r.2.mem ((c.tc : Thread Cert.MergeKernel.nD Cert.MergeKernel.τ).loc Cert.MergeKernel.main_arg6) = m ((c.tc : Thread Cert.MergeKernel.nD Cert.MergeKernel.τ).loc Cert.MergeKernel.main_arg6)
      ∧ r.2.mem ((c.tc : Thread Cert.MergeKernel.nD Cert.MergeKernel.τ).loc Cert.MergeKernel.main_arg7) = m ((c.tc : Thread Cert.MergeKernel.nD Cert.MergeKernel.τ).loc Cert.MergeKernel.main_arg7)
      ∧ r.2.mem ((c.tc : Thread Cert.MergeKernel.nD Cert.MergeKernel.τ).loc Cert.MergeKernel.main_arg8) = m ((c.tc : Thread Cert.MergeKernel.nD Cert.MergeKernel.τ).loc Cert.MergeKernel.main_arg8)
      ∧ r.2.mem ((c.tc : Thread Cert.MergeKernel.nD Cert.MergeKernel.τ).loc Cert.MergeKernel.main_arg9) = m ((c.tc : Thread Cert.MergeKernel.nD Cert.MergeKernel.τ).loc Cert.MergeKernel.main_arg9)
      ∧ r.2.mem ((c.tc : Thread Cert.MergeKernel.nD Cert.MergeKernel.τ).loc Cert.MergeKernel.main_arg10) = m ((c.tc : Thread Cert.MergeKernel.nD Cert.MergeKernel.τ).loc Cert.MergeKernel.main_arg10))
      ∧ r.2.sem = fun _ => 0)

def quiescent_MergeKernelIdeal [hMergeKernelIdeal : Cert.MergeKernelIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg), Pre_MergeKernelIdeal m →
    θ_run (Cert.MergeKernelIdeal.defs (F := Ideal)) (onTc (τ := Cert.MergeKernelIdeal.τ) (Cert.MergeKernelIdeal.main (F := Ideal))) ⟨m, fun _ => 0, g⟩ (fun r => (∀ c : Dev Cert.MergeKernelIdeal.nD,
      r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
      ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
      ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
      ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
      ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4)
      ∧ r.2.mem ((c.tc : Thread Cert.MergeKernelIdeal.nD Cert.MergeKernelIdeal.τ).loc Cert.MergeKernelIdeal.main_arg5) = m ((c.tc : Thread Cert.MergeKernelIdeal.nD Cert.MergeKernelIdeal.τ).loc Cert.MergeKernelIdeal.main_arg5)
      ∧ r.2.mem ((c.tc : Thread Cert.MergeKernelIdeal.nD Cert.MergeKernelIdeal.τ).loc Cert.MergeKernelIdeal.main_arg6) = m ((c.tc : Thread Cert.MergeKernelIdeal.nD Cert.MergeKernelIdeal.τ).loc Cert.MergeKernelIdeal.main_arg6)
      ∧ r.2.mem ((c.tc : Thread Cert.MergeKernelIdeal.nD Cert.MergeKernelIdeal.τ).loc Cert.MergeKernelIdeal.main_arg7) = m ((c.tc : Thread Cert.MergeKernelIdeal.nD Cert.MergeKernelIdeal.τ).loc Cert.MergeKernelIdeal.main_arg7)
      ∧ r.2.mem ((c.tc : Thread Cert.MergeKernelIdeal.nD Cert.MergeKernelIdeal.τ).loc Cert.MergeKernelIdeal.main_arg8) = m ((c.tc : Thread Cert.MergeKernelIdeal.nD Cert.MergeKernelIdeal.τ).loc Cert.MergeKernelIdeal.main_arg8)
      ∧ r.2.mem ((c.tc : Thread Cert.MergeKernelIdeal.nD Cert.MergeKernelIdeal.τ).loc Cert.MergeKernelIdeal.main_arg9) = m ((c.tc : Thread Cert.MergeKernelIdeal.nD Cert.MergeKernelIdeal.τ).loc Cert.MergeKernelIdeal.main_arg9)
      ∧ r.2.mem ((c.tc : Thread Cert.MergeKernelIdeal.nD Cert.MergeKernelIdeal.τ).loc Cert.MergeKernelIdeal.main_arg10) = m ((c.tc : Thread Cert.MergeKernelIdeal.nD Cert.MergeKernelIdeal.τ).loc Cert.MergeKernelIdeal.main_arg10))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10))
      ∧ r.2.sem = fun _ => 0)

def quiescent_FfnKernel [hFfnKernel : Cert.FfnKernel.Facts] : Prop :=
  ∀ (m : (ℓ : Loc Cert.FfnKernel.nD Cert.FfnKernel.τ Cert.FfnKernel.sig) → Buf (Elt Bits) ℓ) (g : Dev Cert.FfnKernel.nD → PrngReg), Pre_FfnKernel m →
    θ_run (Cert.FfnKernel.defs (F := Bits)) (onTc (τ := Cert.FfnKernel.τ) (Cert.FfnKernel.main (F := Bits))) ⟨m, fun _ => 0, g⟩ (fun r => (∀ c : Dev Cert.FfnKernel.nD,
      r.2.mem ((c.tc : Thread Cert.FfnKernel.nD Cert.FfnKernel.τ).loc Cert.FfnKernel.main_arg0) = m ((c.tc : Thread Cert.FfnKernel.nD Cert.FfnKernel.τ).loc Cert.FfnKernel.main_arg0)
      ∧ r.2.mem ((c.tc : Thread Cert.FfnKernel.nD Cert.FfnKernel.τ).loc Cert.FfnKernel.main_arg1) = m ((c.tc : Thread Cert.FfnKernel.nD Cert.FfnKernel.τ).loc Cert.FfnKernel.main_arg1)
      ∧ r.2.mem ((c.tc : Thread Cert.FfnKernel.nD Cert.FfnKernel.τ).loc Cert.FfnKernel.main_arg2) = m ((c.tc : Thread Cert.FfnKernel.nD Cert.FfnKernel.τ).loc Cert.FfnKernel.main_arg2)
      ∧ r.2.mem ((c.tc : Thread Cert.FfnKernel.nD Cert.FfnKernel.τ).loc Cert.FfnKernel.main_arg3) = m ((c.tc : Thread Cert.FfnKernel.nD Cert.FfnKernel.τ).loc Cert.FfnKernel.main_arg3)
      ∧ r.2.mem ((c.tc : Thread Cert.FfnKernel.nD Cert.FfnKernel.τ).loc Cert.FfnKernel.main_arg4) = m ((c.tc : Thread Cert.FfnKernel.nD Cert.FfnKernel.τ).loc Cert.FfnKernel.main_arg4))
      ∧ r.2.sem = fun _ => 0)

def quiescent_FfnKernelIdeal [hFfnKernelIdeal : Cert.FfnKernelIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
      ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_ProjsKernel [hProjsKernel : Cert.ProjsKernel.Facts] : Prop :=
  ∀ (m : (ℓ : Loc Cert.ProjsKernel.nD Cert.ProjsKernel.τ Cert.ProjsKernel.sig) → Buf (Elt Bits) ℓ) (g : Dev Cert.ProjsKernel.nD → PrngReg), Pre_ProjsKernel m →
    θ_run (Cert.ProjsKernel.defs (F := Bits)) (onTc (τ := Cert.ProjsKernel.τ) (Cert.ProjsKernel.main (F := Bits))) ⟨m, fun _ => 0, g⟩ (fun r => (∀ c : Dev Cert.ProjsKernel.nD,
      r.2.mem ((c.tc : Thread Cert.ProjsKernel.nD Cert.ProjsKernel.τ).loc Cert.ProjsKernel.main_arg0) = m ((c.tc : Thread Cert.ProjsKernel.nD Cert.ProjsKernel.τ).loc Cert.ProjsKernel.main_arg0)
      ∧ r.2.mem ((c.tc : Thread Cert.ProjsKernel.nD Cert.ProjsKernel.τ).loc Cert.ProjsKernel.main_arg1) = m ((c.tc : Thread Cert.ProjsKernel.nD Cert.ProjsKernel.τ).loc Cert.ProjsKernel.main_arg1)
      ∧ r.2.mem ((c.tc : Thread Cert.ProjsKernel.nD Cert.ProjsKernel.τ).loc Cert.ProjsKernel.main_arg2) = m ((c.tc : Thread Cert.ProjsKernel.nD Cert.ProjsKernel.τ).loc Cert.ProjsKernel.main_arg2))
      ∧ r.2.sem = fun _ => 0)

def quiescent_ProjsKernelIdeal [hProjsKernelIdeal : Cert.ProjsKernelIdeal.Facts] : Prop :=
  ∀ (m : (ℓ : Loc Cert.ProjsKernelIdeal.nD Cert.ProjsKernelIdeal.τ Cert.ProjsKernelIdeal.sig) → Buf (Elt Ideal) ℓ) (g : Dev Cert.ProjsKernelIdeal.nD → PrngReg), Pre_ProjsKernelIdeal m →
    θ_run (Cert.ProjsKernelIdeal.defs (F := Ideal)) (onTc (τ := Cert.ProjsKernelIdeal.τ) (Cert.ProjsKernelIdeal.main (F := Ideal))) ⟨m, fun _ => 0, g⟩ (fun r => (∀ c : Dev Cert.ProjsKernelIdeal.nD,
      r.2.mem ((c.tc : Thread Cert.ProjsKernelIdeal.nD Cert.ProjsKernelIdeal.τ).loc Cert.ProjsKernelIdeal.main_arg0) = m ((c.tc : Thread Cert.ProjsKernelIdeal.nD Cert.ProjsKernelIdeal.τ).loc Cert.ProjsKernelIdeal.main_arg0)
      ∧ r.2.mem ((c.tc : Thread Cert.ProjsKernelIdeal.nD Cert.ProjsKernelIdeal.τ).loc Cert.ProjsKernelIdeal.main_arg1) = m ((c.tc : Thread Cert.ProjsKernelIdeal.nD Cert.ProjsKernelIdeal.τ).loc Cert.ProjsKernelIdeal.main_arg1)
      ∧ r.2.mem ((c.tc : Thread Cert.ProjsKernelIdeal.nD Cert.ProjsKernelIdeal.τ).loc Cert.ProjsKernelIdeal.main_arg2) = m ((c.tc : Thread Cert.ProjsKernelIdeal.nD Cert.ProjsKernelIdeal.τ).loc Cert.ProjsKernelIdeal.main_arg2))
      ∧ r.2.sem = fun _ => 0)

def quiescent_ProjsRefIdeal [hProjsRefIdeal : Cert.ProjsRefIdeal.Facts] : Prop :=
  ∀ (m : (ℓ : Loc Cert.ProjsRefIdeal.nD Cert.ProjsRefIdeal.τ Cert.ProjsRefIdeal.sig) → Buf (Elt Ideal) ℓ) (g : Dev Cert.ProjsRefIdeal.nD → PrngReg), Pre_ProjsRefIdeal m →
    θ_run (Cert.ProjsRefIdeal.defs (F := Ideal)) (onTc (τ := Cert.ProjsRefIdeal.τ) (Cert.ProjsRefIdeal.main (F := Ideal))) ⟨m, fun _ => 0, g⟩ (fun r => (∀ c : Dev Cert.ProjsRefIdeal.nD,
      r.2.mem ((c.tc : Thread Cert.ProjsRefIdeal.nD Cert.ProjsRefIdeal.τ).loc Cert.ProjsRefIdeal.main_arg0) = m ((c.tc : Thread Cert.ProjsRefIdeal.nD Cert.ProjsRefIdeal.τ).loc Cert.ProjsRefIdeal.main_arg0)
      ∧ r.2.mem ((c.tc : Thread Cert.ProjsRefIdeal.nD Cert.ProjsRefIdeal.τ).loc Cert.ProjsRefIdeal.main_arg1) = m ((c.tc : Thread Cert.ProjsRefIdeal.nD Cert.ProjsRefIdeal.τ).loc Cert.ProjsRefIdeal.main_arg1)
      ∧ r.2.mem ((c.tc : Thread Cert.ProjsRefIdeal.nD Cert.ProjsRefIdeal.τ).loc Cert.ProjsRefIdeal.main_arg2) = m ((c.tc : Thread Cert.ProjsRefIdeal.nD Cert.ProjsRefIdeal.τ).loc Cert.ProjsRefIdeal.main_arg2))
      ∧ r.2.sem = fun _ => 0)

def quiescent_MergesKernel [hMergesKernel : Cert.MergesKernel.Facts] : Prop :=
  ∀ (m : (ℓ : Loc Cert.MergesKernel.nD Cert.MergesKernel.τ Cert.MergesKernel.sig) → Buf (Elt Bits) ℓ) (g : Dev Cert.MergesKernel.nD → PrngReg), Pre_MergesKernel m →
    θ_run (Cert.MergesKernel.defs (F := Bits)) (onTc (τ := Cert.MergesKernel.τ) (Cert.MergesKernel.main (F := Bits))) ⟨m, fun _ => 0, g⟩ (fun r => (∀ c : Dev Cert.MergesKernel.nD,
      r.2.mem ((c.tc : Thread Cert.MergesKernel.nD Cert.MergesKernel.τ).loc Cert.MergesKernel.main_arg0) = m ((c.tc : Thread Cert.MergesKernel.nD Cert.MergesKernel.τ).loc Cert.MergesKernel.main_arg0)
      ∧ r.2.mem ((c.tc : Thread Cert.MergesKernel.nD Cert.MergesKernel.τ).loc Cert.MergesKernel.main_arg1) = m ((c.tc : Thread Cert.MergesKernel.nD Cert.MergesKernel.τ).loc Cert.MergesKernel.main_arg1)
      ∧ r.2.mem ((c.tc : Thread Cert.MergesKernel.nD Cert.MergesKernel.τ).loc Cert.MergesKernel.main_arg2) = m ((c.tc : Thread Cert.MergesKernel.nD Cert.MergesKernel.τ).loc Cert.MergesKernel.main_arg2)
      ∧ r.2.mem ((c.tc : Thread Cert.MergesKernel.nD Cert.MergesKernel.τ).loc Cert.MergesKernel.main_arg3) = m ((c.tc : Thread Cert.MergesKernel.nD Cert.MergesKernel.τ).loc Cert.MergesKernel.main_arg3)
      ∧ r.2.mem ((c.tc : Thread Cert.MergesKernel.nD Cert.MergesKernel.τ).loc Cert.MergesKernel.main_arg4) = m ((c.tc : Thread Cert.MergesKernel.nD Cert.MergesKernel.τ).loc Cert.MergesKernel.main_arg4)
      ∧ r.2.mem ((c.tc : Thread Cert.MergesKernel.nD Cert.MergesKernel.τ).loc Cert.MergesKernel.main_arg5) = m ((c.tc : Thread Cert.MergesKernel.nD Cert.MergesKernel.τ).loc Cert.MergesKernel.main_arg5)
      ∧ r.2.mem ((c.tc : Thread Cert.MergesKernel.nD Cert.MergesKernel.τ).loc Cert.MergesKernel.main_arg6) = m ((c.tc : Thread Cert.MergesKernel.nD Cert.MergesKernel.τ).loc Cert.MergesKernel.main_arg6)
      ∧ r.2.mem ((c.tc : Thread Cert.MergesKernel.nD Cert.MergesKernel.τ).loc Cert.MergesKernel.main_arg7) = m ((c.tc : Thread Cert.MergesKernel.nD Cert.MergesKernel.τ).loc Cert.MergesKernel.main_arg7)
      ∧ r.2.mem ((c.tc : Thread Cert.MergesKernel.nD Cert.MergesKernel.τ).loc Cert.MergesKernel.main_arg8) = m ((c.tc : Thread Cert.MergesKernel.nD Cert.MergesKernel.τ).loc Cert.MergesKernel.main_arg8)
      ∧ r.2.mem ((c.tc : Thread Cert.MergesKernel.nD Cert.MergesKernel.τ).loc Cert.MergesKernel.main_arg9) = m ((c.tc : Thread Cert.MergesKernel.nD Cert.MergesKernel.τ).loc Cert.MergesKernel.main_arg9)
      ∧ r.2.mem ((c.tc : Thread Cert.MergesKernel.nD Cert.MergesKernel.τ).loc Cert.MergesKernel.main_arg10) = m ((c.tc : Thread Cert.MergesKernel.nD Cert.MergesKernel.τ).loc Cert.MergesKernel.main_arg10))
      ∧ r.2.sem = fun _ => 0)

def quiescent_MergesKernelIdeal [hMergesKernelIdeal : Cert.MergesKernelIdeal.Facts] : Prop :=
  ∀ (m : (ℓ : Loc Cert.MergesKernelIdeal.nD Cert.MergesKernelIdeal.τ Cert.MergesKernelIdeal.sig) → Buf (Elt Ideal) ℓ) (g : Dev Cert.MergesKernelIdeal.nD → PrngReg), Pre_MergesKernelIdeal m →
    θ_run (Cert.MergesKernelIdeal.defs (F := Ideal)) (onTc (τ := Cert.MergesKernelIdeal.τ) (Cert.MergesKernelIdeal.main (F := Ideal))) ⟨m, fun _ => 0, g⟩ (fun r => (∀ c : Dev Cert.MergesKernelIdeal.nD,
      r.2.mem ((c.tc : Thread Cert.MergesKernelIdeal.nD Cert.MergesKernelIdeal.τ).loc Cert.MergesKernelIdeal.main_arg0) = m ((c.tc : Thread Cert.MergesKernelIdeal.nD Cert.MergesKernelIdeal.τ).loc Cert.MergesKernelIdeal.main_arg0)
      ∧ r.2.mem ((c.tc : Thread Cert.MergesKernelIdeal.nD Cert.MergesKernelIdeal.τ).loc Cert.MergesKernelIdeal.main_arg1) = m ((c.tc : Thread Cert.MergesKernelIdeal.nD Cert.MergesKernelIdeal.τ).loc Cert.MergesKernelIdeal.main_arg1)
      ∧ r.2.mem ((c.tc : Thread Cert.MergesKernelIdeal.nD Cert.MergesKernelIdeal.τ).loc Cert.MergesKernelIdeal.main_arg2) = m ((c.tc : Thread Cert.MergesKernelIdeal.nD Cert.MergesKernelIdeal.τ).loc Cert.MergesKernelIdeal.main_arg2)
      ∧ r.2.mem ((c.tc : Thread Cert.MergesKernelIdeal.nD Cert.MergesKernelIdeal.τ).loc Cert.MergesKernelIdeal.main_arg3) = m ((c.tc : Thread Cert.MergesKernelIdeal.nD Cert.MergesKernelIdeal.τ).loc Cert.MergesKernelIdeal.main_arg3)
      ∧ r.2.mem ((c.tc : Thread Cert.MergesKernelIdeal.nD Cert.MergesKernelIdeal.τ).loc Cert.MergesKernelIdeal.main_arg4) = m ((c.tc : Thread Cert.MergesKernelIdeal.nD Cert.MergesKernelIdeal.τ).loc Cert.MergesKernelIdeal.main_arg4)
      ∧ r.2.mem ((c.tc : Thread Cert.MergesKernelIdeal.nD Cert.MergesKernelIdeal.τ).loc Cert.MergesKernelIdeal.main_arg5) = m ((c.tc : Thread Cert.MergesKernelIdeal.nD Cert.MergesKernelIdeal.τ).loc Cert.MergesKernelIdeal.main_arg5)
      ∧ r.2.mem ((c.tc : Thread Cert.MergesKernelIdeal.nD Cert.MergesKernelIdeal.τ).loc Cert.MergesKernelIdeal.main_arg6) = m ((c.tc : Thread Cert.MergesKernelIdeal.nD Cert.MergesKernelIdeal.τ).loc Cert.MergesKernelIdeal.main_arg6)
      ∧ r.2.mem ((c.tc : Thread Cert.MergesKernelIdeal.nD Cert.MergesKernelIdeal.τ).loc Cert.MergesKernelIdeal.main_arg7) = m ((c.tc : Thread Cert.MergesKernelIdeal.nD Cert.MergesKernelIdeal.τ).loc Cert.MergesKernelIdeal.main_arg7)
      ∧ r.2.mem ((c.tc : Thread Cert.MergesKernelIdeal.nD Cert.MergesKernelIdeal.τ).loc Cert.MergesKernelIdeal.main_arg8) = m ((c.tc : Thread Cert.MergesKernelIdeal.nD Cert.MergesKernelIdeal.τ).loc Cert.MergesKernelIdeal.main_arg8)
      ∧ r.2.mem ((c.tc : Thread Cert.MergesKernelIdeal.nD Cert.MergesKernelIdeal.τ).loc Cert.MergesKernelIdeal.main_arg9) = m ((c.tc : Thread Cert.MergesKernelIdeal.nD Cert.MergesKernelIdeal.τ).loc Cert.MergesKernelIdeal.main_arg9)
      ∧ r.2.mem ((c.tc : Thread Cert.MergesKernelIdeal.nD Cert.MergesKernelIdeal.τ).loc Cert.MergesKernelIdeal.main_arg10) = m ((c.tc : Thread Cert.MergesKernelIdeal.nD Cert.MergesKernelIdeal.τ).loc Cert.MergesKernelIdeal.main_arg10))
      ∧ r.2.sem = fun _ => 0)

def quiescent_MergesRefIdeal [hMergesRefIdeal : Cert.MergesRefIdeal.Facts] : Prop :=
  ∀ (m : (ℓ : Loc Cert.MergesRefIdeal.nD Cert.MergesRefIdeal.τ Cert.MergesRefIdeal.sig) → Buf (Elt Ideal) ℓ) (g : Dev Cert.MergesRefIdeal.nD → PrngReg), Pre_MergesRefIdeal m →
    θ_run (Cert.MergesRefIdeal.defs (F := Ideal)) (onTc (τ := Cert.MergesRefIdeal.τ) (Cert.MergesRefIdeal.main (F := Ideal))) ⟨m, fun _ => 0, g⟩ (fun r => (∀ c : Dev Cert.MergesRefIdeal.nD,
      r.2.mem ((c.tc : Thread Cert.MergesRefIdeal.nD Cert.MergesRefIdeal.τ).loc Cert.MergesRefIdeal.main_arg0) = m ((c.tc : Thread Cert.MergesRefIdeal.nD Cert.MergesRefIdeal.τ).loc Cert.MergesRefIdeal.main_arg0)
      ∧ r.2.mem ((c.tc : Thread Cert.MergesRefIdeal.nD Cert.MergesRefIdeal.τ).loc Cert.MergesRefIdeal.main_arg1) = m ((c.tc : Thread Cert.MergesRefIdeal.nD Cert.MergesRefIdeal.τ).loc Cert.MergesRefIdeal.main_arg1)
      ∧ r.2.mem ((c.tc : Thread Cert.MergesRefIdeal.nD Cert.MergesRefIdeal.τ).loc Cert.MergesRefIdeal.main_arg2) = m ((c.tc : Thread Cert.MergesRefIdeal.nD Cert.MergesRefIdeal.τ).loc Cert.MergesRefIdeal.main_arg2)
      ∧ r.2.mem ((c.tc : Thread Cert.MergesRefIdeal.nD Cert.MergesRefIdeal.τ).loc Cert.MergesRefIdeal.main_arg3) = m ((c.tc : Thread Cert.MergesRefIdeal.nD Cert.MergesRefIdeal.τ).loc Cert.MergesRefIdeal.main_arg3)
      ∧ r.2.mem ((c.tc : Thread Cert.MergesRefIdeal.nD Cert.MergesRefIdeal.τ).loc Cert.MergesRefIdeal.main_arg4) = m ((c.tc : Thread Cert.MergesRefIdeal.nD Cert.MergesRefIdeal.τ).loc Cert.MergesRefIdeal.main_arg4)
      ∧ r.2.mem ((c.tc : Thread Cert.MergesRefIdeal.nD Cert.MergesRefIdeal.τ).loc Cert.MergesRefIdeal.main_arg5) = m ((c.tc : Thread Cert.MergesRefIdeal.nD Cert.MergesRefIdeal.τ).loc Cert.MergesRefIdeal.main_arg5)
      ∧ r.2.mem ((c.tc : Thread Cert.MergesRefIdeal.nD Cert.MergesRefIdeal.τ).loc Cert.MergesRefIdeal.main_arg6) = m ((c.tc : Thread Cert.MergesRefIdeal.nD Cert.MergesRefIdeal.τ).loc Cert.MergesRefIdeal.main_arg6)
      ∧ r.2.mem ((c.tc : Thread Cert.MergesRefIdeal.nD Cert.MergesRefIdeal.τ).loc Cert.MergesRefIdeal.main_arg7) = m ((c.tc : Thread Cert.MergesRefIdeal.nD Cert.MergesRefIdeal.τ).loc Cert.MergesRefIdeal.main_arg7)
      ∧ r.2.mem ((c.tc : Thread Cert.MergesRefIdeal.nD Cert.MergesRefIdeal.τ).loc Cert.MergesRefIdeal.main_arg8) = m ((c.tc : Thread Cert.MergesRefIdeal.nD Cert.MergesRefIdeal.τ).loc Cert.MergesRefIdeal.main_arg8)
      ∧ r.2.mem ((c.tc : Thread Cert.MergesRefIdeal.nD Cert.MergesRefIdeal.τ).loc Cert.MergesRefIdeal.main_arg9) = m ((c.tc : Thread Cert.MergesRefIdeal.nD Cert.MergesRefIdeal.τ).loc Cert.MergesRefIdeal.main_arg9)
      ∧ r.2.mem ((c.tc : Thread Cert.MergesRefIdeal.nD Cert.MergesRefIdeal.τ).loc Cert.MergesRefIdeal.main_arg10) = m ((c.tc : Thread Cert.MergesRefIdeal.nD Cert.MergesRefIdeal.τ).loc Cert.MergesRefIdeal.main_arg10))
      ∧ r.2.sem = fun _ => 0)

def quiescent_FfnsKernel [hFfnsKernel : Cert.FfnsKernel.Facts] : Prop :=
  ∀ (m : (ℓ : Loc Cert.FfnsKernel.nD Cert.FfnsKernel.τ Cert.FfnsKernel.sig) → Buf (Elt Bits) ℓ) (g : Dev Cert.FfnsKernel.nD → PrngReg), Pre_FfnsKernel m →
    θ_run (Cert.FfnsKernel.defs (F := Bits)) (onTc (τ := Cert.FfnsKernel.τ) (Cert.FfnsKernel.main (F := Bits))) ⟨m, fun _ => 0, g⟩ (fun r => (∀ c : Dev Cert.FfnsKernel.nD,
      r.2.mem ((c.tc : Thread Cert.FfnsKernel.nD Cert.FfnsKernel.τ).loc Cert.FfnsKernel.main_arg0) = m ((c.tc : Thread Cert.FfnsKernel.nD Cert.FfnsKernel.τ).loc Cert.FfnsKernel.main_arg0)
      ∧ r.2.mem ((c.tc : Thread Cert.FfnsKernel.nD Cert.FfnsKernel.τ).loc Cert.FfnsKernel.main_arg1) = m ((c.tc : Thread Cert.FfnsKernel.nD Cert.FfnsKernel.τ).loc Cert.FfnsKernel.main_arg1)
      ∧ r.2.mem ((c.tc : Thread Cert.FfnsKernel.nD Cert.FfnsKernel.τ).loc Cert.FfnsKernel.main_arg2) = m ((c.tc : Thread Cert.FfnsKernel.nD Cert.FfnsKernel.τ).loc Cert.FfnsKernel.main_arg2)
      ∧ r.2.mem ((c.tc : Thread Cert.FfnsKernel.nD Cert.FfnsKernel.τ).loc Cert.FfnsKernel.main_arg3) = m ((c.tc : Thread Cert.FfnsKernel.nD Cert.FfnsKernel.τ).loc Cert.FfnsKernel.main_arg3)
      ∧ r.2.mem ((c.tc : Thread Cert.FfnsKernel.nD Cert.FfnsKernel.τ).loc Cert.FfnsKernel.main_arg4) = m ((c.tc : Thread Cert.FfnsKernel.nD Cert.FfnsKernel.τ).loc Cert.FfnsKernel.main_arg4))
      ∧ r.2.sem = fun _ => 0)

def quiescent_FfnsKernelIdeal [hFfnsKernelIdeal : Cert.FfnsKernelIdeal.Facts] : Prop :=
  ∀ (m : (ℓ : Loc Cert.FfnsKernelIdeal.nD Cert.FfnsKernelIdeal.τ Cert.FfnsKernelIdeal.sig) → Buf (Elt Ideal) ℓ) (g : Dev Cert.FfnsKernelIdeal.nD → PrngReg), Pre_FfnsKernelIdeal m →
    θ_run (Cert.FfnsKernelIdeal.defs (F := Ideal)) (onTc (τ := Cert.FfnsKernelIdeal.τ) (Cert.FfnsKernelIdeal.main (F := Ideal))) ⟨m, fun _ => 0, g⟩ (fun r => (∀ c : Dev Cert.FfnsKernelIdeal.nD,
      r.2.mem ((c.tc : Thread Cert.FfnsKernelIdeal.nD Cert.FfnsKernelIdeal.τ).loc Cert.FfnsKernelIdeal.main_arg0) = m ((c.tc : Thread Cert.FfnsKernelIdeal.nD Cert.FfnsKernelIdeal.τ).loc Cert.FfnsKernelIdeal.main_arg0)
      ∧ r.2.mem ((c.tc : Thread Cert.FfnsKernelIdeal.nD Cert.FfnsKernelIdeal.τ).loc Cert.FfnsKernelIdeal.main_arg1) = m ((c.tc : Thread Cert.FfnsKernelIdeal.nD Cert.FfnsKernelIdeal.τ).loc Cert.FfnsKernelIdeal.main_arg1)
      ∧ r.2.mem ((c.tc : Thread Cert.FfnsKernelIdeal.nD Cert.FfnsKernelIdeal.τ).loc Cert.FfnsKernelIdeal.main_arg2) = m ((c.tc : Thread Cert.FfnsKernelIdeal.nD Cert.FfnsKernelIdeal.τ).loc Cert.FfnsKernelIdeal.main_arg2)
      ∧ r.2.mem ((c.tc : Thread Cert.FfnsKernelIdeal.nD Cert.FfnsKernelIdeal.τ).loc Cert.FfnsKernelIdeal.main_arg3) = m ((c.tc : Thread Cert.FfnsKernelIdeal.nD Cert.FfnsKernelIdeal.τ).loc Cert.FfnsKernelIdeal.main_arg3)
      ∧ r.2.mem ((c.tc : Thread Cert.FfnsKernelIdeal.nD Cert.FfnsKernelIdeal.τ).loc Cert.FfnsKernelIdeal.main_arg4) = m ((c.tc : Thread Cert.FfnsKernelIdeal.nD Cert.FfnsKernelIdeal.τ).loc Cert.FfnsKernelIdeal.main_arg4))
      ∧ r.2.sem = fun _ => 0)

def quiescent_FfnsRefIdeal [hFfnsRefIdeal : Cert.FfnsRefIdeal.Facts] : Prop :=
  ∀ (m : (ℓ : Loc Cert.FfnsRefIdeal.nD Cert.FfnsRefIdeal.τ Cert.FfnsRefIdeal.sig) → Buf (Elt Ideal) ℓ) (g : Dev Cert.FfnsRefIdeal.nD → PrngReg), Pre_FfnsRefIdeal m →
    θ_run (Cert.FfnsRefIdeal.defs (F := Ideal)) (onTc (τ := Cert.FfnsRefIdeal.τ) (Cert.FfnsRefIdeal.main (F := Ideal))) ⟨m, fun _ => 0, g⟩ (fun r => (∀ c : Dev Cert.FfnsRefIdeal.nD,
      r.2.mem ((c.tc : Thread Cert.FfnsRefIdeal.nD Cert.FfnsRefIdeal.τ).loc Cert.FfnsRefIdeal.main_arg0) = m ((c.tc : Thread Cert.FfnsRefIdeal.nD Cert.FfnsRefIdeal.τ).loc Cert.FfnsRefIdeal.main_arg0)
      ∧ r.2.mem ((c.tc : Thread Cert.FfnsRefIdeal.nD Cert.FfnsRefIdeal.τ).loc Cert.FfnsRefIdeal.main_arg1) = m ((c.tc : Thread Cert.FfnsRefIdeal.nD Cert.FfnsRefIdeal.τ).loc Cert.FfnsRefIdeal.main_arg1)
      ∧ r.2.mem ((c.tc : Thread Cert.FfnsRefIdeal.nD Cert.FfnsRefIdeal.τ).loc Cert.FfnsRefIdeal.main_arg2) = m ((c.tc : Thread Cert.FfnsRefIdeal.nD Cert.FfnsRefIdeal.τ).loc Cert.FfnsRefIdeal.main_arg2)
      ∧ r.2.mem ((c.tc : Thread Cert.FfnsRefIdeal.nD Cert.FfnsRefIdeal.τ).loc Cert.FfnsRefIdeal.main_arg3) = m ((c.tc : Thread Cert.FfnsRefIdeal.nD Cert.FfnsRefIdeal.τ).loc Cert.FfnsRefIdeal.main_arg3)
      ∧ r.2.mem ((c.tc : Thread Cert.FfnsRefIdeal.nD Cert.FfnsRefIdeal.τ).loc Cert.FfnsRefIdeal.main_arg4) = m ((c.tc : Thread Cert.FfnsRefIdeal.nD Cert.FfnsRefIdeal.τ).loc Cert.FfnsRefIdeal.main_arg4))
      ∧ r.2.sem = fun _ => 0)

def quiescent_RgsKernel [hRgsKernel : Cert.RgsKernel.Facts] : Prop :=
  ∀ (m : (ℓ : Loc Cert.RgsKernel.nD Cert.RgsKernel.τ Cert.RgsKernel.sig) → Buf (Elt Bits) ℓ) (g : Dev Cert.RgsKernel.nD → PrngReg), Pre_RgsKernel m →
    θ_run (Cert.RgsKernel.defs (F := Bits)) (onTc (τ := Cert.RgsKernel.τ) (Cert.RgsKernel.main (F := Bits))) ⟨m, fun _ => 0, g⟩ (fun r => (∀ c : Dev Cert.RgsKernel.nD,
      r.2.mem ((c.tc : Thread Cert.RgsKernel.nD Cert.RgsKernel.τ).loc Cert.RgsKernel.main_arg0) = m ((c.tc : Thread Cert.RgsKernel.nD Cert.RgsKernel.τ).loc Cert.RgsKernel.main_arg0)
      ∧ r.2.mem ((c.tc : Thread Cert.RgsKernel.nD Cert.RgsKernel.τ).loc Cert.RgsKernel.main_arg1) = m ((c.tc : Thread Cert.RgsKernel.nD Cert.RgsKernel.τ).loc Cert.RgsKernel.main_arg1)
      ∧ r.2.mem ((c.tc : Thread Cert.RgsKernel.nD Cert.RgsKernel.τ).loc Cert.RgsKernel.main_arg2) = m ((c.tc : Thread Cert.RgsKernel.nD Cert.RgsKernel.τ).loc Cert.RgsKernel.main_arg2)
      ∧ r.2.mem ((c.tc : Thread Cert.RgsKernel.nD Cert.RgsKernel.τ).loc Cert.RgsKernel.main_arg3) = m ((c.tc : Thread Cert.RgsKernel.nD Cert.RgsKernel.τ).loc Cert.RgsKernel.main_arg3)
      ∧ r.2.mem ((c.tc : Thread Cert.RgsKernel.nD Cert.RgsKernel.τ).loc Cert.RgsKernel.main_arg4) = m ((c.tc : Thread Cert.RgsKernel.nD Cert.RgsKernel.τ).loc Cert.RgsKernel.main_arg4)
      ∧ r.2.mem ((c.tc : Thread Cert.RgsKernel.nD Cert.RgsKernel.τ).loc Cert.RgsKernel.main_arg5) = m ((c.tc : Thread Cert.RgsKernel.nD Cert.RgsKernel.τ).loc Cert.RgsKernel.main_arg5)
      ∧ r.2.mem ((c.tc : Thread Cert.RgsKernel.nD Cert.RgsKernel.τ).loc Cert.RgsKernel.main_arg6) = m ((c.tc : Thread Cert.RgsKernel.nD Cert.RgsKernel.τ).loc Cert.RgsKernel.main_arg6)
      ∧ r.2.mem ((c.tc : Thread Cert.RgsKernel.nD Cert.RgsKernel.τ).loc Cert.RgsKernel.main_arg7) = m ((c.tc : Thread Cert.RgsKernel.nD Cert.RgsKernel.τ).loc Cert.RgsKernel.main_arg7)
      ∧ r.2.mem ((c.tc : Thread Cert.RgsKernel.nD Cert.RgsKernel.τ).loc Cert.RgsKernel.main_arg8) = m ((c.tc : Thread Cert.RgsKernel.nD Cert.RgsKernel.τ).loc Cert.RgsKernel.main_arg8)
      ∧ r.2.mem ((c.tc : Thread Cert.RgsKernel.nD Cert.RgsKernel.τ).loc Cert.RgsKernel.main_arg9) = m ((c.tc : Thread Cert.RgsKernel.nD Cert.RgsKernel.τ).loc Cert.RgsKernel.main_arg9))
      ∧ r.2.sem = fun _ => 0)

def quiescent_RgsKernelIdeal [hRgsKernelIdeal : Cert.RgsKernelIdeal.Facts] : Prop :=
  ∀ (m : (ℓ : Loc Cert.RgsKernelIdeal.nD Cert.RgsKernelIdeal.τ Cert.RgsKernelIdeal.sig) → Buf (Elt Ideal) ℓ) (g : Dev Cert.RgsKernelIdeal.nD → PrngReg), Pre_RgsKernelIdeal m →
    θ_run (Cert.RgsKernelIdeal.defs (F := Ideal)) (onTc (τ := Cert.RgsKernelIdeal.τ) (Cert.RgsKernelIdeal.main (F := Ideal))) ⟨m, fun _ => 0, g⟩ (fun r => (∀ c : Dev Cert.RgsKernelIdeal.nD,
      r.2.mem ((c.tc : Thread Cert.RgsKernelIdeal.nD Cert.RgsKernelIdeal.τ).loc Cert.RgsKernelIdeal.main_arg0) = m ((c.tc : Thread Cert.RgsKernelIdeal.nD Cert.RgsKernelIdeal.τ).loc Cert.RgsKernelIdeal.main_arg0)
      ∧ r.2.mem ((c.tc : Thread Cert.RgsKernelIdeal.nD Cert.RgsKernelIdeal.τ).loc Cert.RgsKernelIdeal.main_arg1) = m ((c.tc : Thread Cert.RgsKernelIdeal.nD Cert.RgsKernelIdeal.τ).loc Cert.RgsKernelIdeal.main_arg1)
      ∧ r.2.mem ((c.tc : Thread Cert.RgsKernelIdeal.nD Cert.RgsKernelIdeal.τ).loc Cert.RgsKernelIdeal.main_arg2) = m ((c.tc : Thread Cert.RgsKernelIdeal.nD Cert.RgsKernelIdeal.τ).loc Cert.RgsKernelIdeal.main_arg2)
      ∧ r.2.mem ((c.tc : Thread Cert.RgsKernelIdeal.nD Cert.RgsKernelIdeal.τ).loc Cert.RgsKernelIdeal.main_arg3) = m ((c.tc : Thread Cert.RgsKernelIdeal.nD Cert.RgsKernelIdeal.τ).loc Cert.RgsKernelIdeal.main_arg3)
      ∧ r.2.mem ((c.tc : Thread Cert.RgsKernelIdeal.nD Cert.RgsKernelIdeal.τ).loc Cert.RgsKernelIdeal.main_arg4) = m ((c.tc : Thread Cert.RgsKernelIdeal.nD Cert.RgsKernelIdeal.τ).loc Cert.RgsKernelIdeal.main_arg4)
      ∧ r.2.mem ((c.tc : Thread Cert.RgsKernelIdeal.nD Cert.RgsKernelIdeal.τ).loc Cert.RgsKernelIdeal.main_arg5) = m ((c.tc : Thread Cert.RgsKernelIdeal.nD Cert.RgsKernelIdeal.τ).loc Cert.RgsKernelIdeal.main_arg5)
      ∧ r.2.mem ((c.tc : Thread Cert.RgsKernelIdeal.nD Cert.RgsKernelIdeal.τ).loc Cert.RgsKernelIdeal.main_arg6) = m ((c.tc : Thread Cert.RgsKernelIdeal.nD Cert.RgsKernelIdeal.τ).loc Cert.RgsKernelIdeal.main_arg6)
      ∧ r.2.mem ((c.tc : Thread Cert.RgsKernelIdeal.nD Cert.RgsKernelIdeal.τ).loc Cert.RgsKernelIdeal.main_arg7) = m ((c.tc : Thread Cert.RgsKernelIdeal.nD Cert.RgsKernelIdeal.τ).loc Cert.RgsKernelIdeal.main_arg7)
      ∧ r.2.mem ((c.tc : Thread Cert.RgsKernelIdeal.nD Cert.RgsKernelIdeal.τ).loc Cert.RgsKernelIdeal.main_arg8) = m ((c.tc : Thread Cert.RgsKernelIdeal.nD Cert.RgsKernelIdeal.τ).loc Cert.RgsKernelIdeal.main_arg8)
      ∧ r.2.mem ((c.tc : Thread Cert.RgsKernelIdeal.nD Cert.RgsKernelIdeal.τ).loc Cert.RgsKernelIdeal.main_arg9) = m ((c.tc : Thread Cert.RgsKernelIdeal.nD Cert.RgsKernelIdeal.τ).loc Cert.RgsKernelIdeal.main_arg9))
      ∧ r.2.sem = fun _ => 0)

def quiescent_RgsRefIdeal [hRgsRefIdeal : Cert.RgsRefIdeal.Facts] : Prop :=
  ∀ (m : (ℓ : Loc Cert.RgsRefIdeal.nD Cert.RgsRefIdeal.τ Cert.RgsRefIdeal.sig) → Buf (Elt Ideal) ℓ) (g : Dev Cert.RgsRefIdeal.nD → PrngReg), Pre_RgsRefIdeal m →
    θ_run (Cert.RgsRefIdeal.defs (F := Ideal)) (onTc (τ := Cert.RgsRefIdeal.τ) (Cert.RgsRefIdeal.main (F := Ideal))) ⟨m, fun _ => 0, g⟩ (fun r => (∀ c : Dev Cert.RgsRefIdeal.nD,
      r.2.mem ((c.tc : Thread Cert.RgsRefIdeal.nD Cert.RgsRefIdeal.τ).loc Cert.RgsRefIdeal.main_arg0) = m ((c.tc : Thread Cert.RgsRefIdeal.nD Cert.RgsRefIdeal.τ).loc Cert.RgsRefIdeal.main_arg0)
      ∧ r.2.mem ((c.tc : Thread Cert.RgsRefIdeal.nD Cert.RgsRefIdeal.τ).loc Cert.RgsRefIdeal.main_arg1) = m ((c.tc : Thread Cert.RgsRefIdeal.nD Cert.RgsRefIdeal.τ).loc Cert.RgsRefIdeal.main_arg1)
      ∧ r.2.mem ((c.tc : Thread Cert.RgsRefIdeal.nD Cert.RgsRefIdeal.τ).loc Cert.RgsRefIdeal.main_arg2) = m ((c.tc : Thread Cert.RgsRefIdeal.nD Cert.RgsRefIdeal.τ).loc Cert.RgsRefIdeal.main_arg2)
      ∧ r.2.mem ((c.tc : Thread Cert.RgsRefIdeal.nD Cert.RgsRefIdeal.τ).loc Cert.RgsRefIdeal.main_arg3) = m ((c.tc : Thread Cert.RgsRefIdeal.nD Cert.RgsRefIdeal.τ).loc Cert.RgsRefIdeal.main_arg3)
      ∧ r.2.mem ((c.tc : Thread Cert.RgsRefIdeal.nD Cert.RgsRefIdeal.τ).loc Cert.RgsRefIdeal.main_arg4) = m ((c.tc : Thread Cert.RgsRefIdeal.nD Cert.RgsRefIdeal.τ).loc Cert.RgsRefIdeal.main_arg4)
      ∧ r.2.mem ((c.tc : Thread Cert.RgsRefIdeal.nD Cert.RgsRefIdeal.τ).loc Cert.RgsRefIdeal.main_arg5) = m ((c.tc : Thread Cert.RgsRefIdeal.nD Cert.RgsRefIdeal.τ).loc Cert.RgsRefIdeal.main_arg5)
      ∧ r.2.mem ((c.tc : Thread Cert.RgsRefIdeal.nD Cert.RgsRefIdeal.τ).loc Cert.RgsRefIdeal.main_arg6) = m ((c.tc : Thread Cert.RgsRefIdeal.nD Cert.RgsRefIdeal.τ).loc Cert.RgsRefIdeal.main_arg6)
      ∧ r.2.mem ((c.tc : Thread Cert.RgsRefIdeal.nD Cert.RgsRefIdeal.τ).loc Cert.RgsRefIdeal.main_arg7) = m ((c.tc : Thread Cert.RgsRefIdeal.nD Cert.RgsRefIdeal.τ).loc Cert.RgsRefIdeal.main_arg7)
      ∧ r.2.mem ((c.tc : Thread Cert.RgsRefIdeal.nD Cert.RgsRefIdeal.τ).loc Cert.RgsRefIdeal.main_arg8) = m ((c.tc : Thread Cert.RgsRefIdeal.nD Cert.RgsRefIdeal.τ).loc Cert.RgsRefIdeal.main_arg8)
      ∧ r.2.mem ((c.tc : Thread Cert.RgsRefIdeal.nD Cert.RgsRefIdeal.τ).loc Cert.RgsRefIdeal.main_arg9) = m ((c.tc : Thread Cert.RgsRefIdeal.nD Cert.RgsRefIdeal.τ).loc Cert.RgsRefIdeal.main_arg9))
      ∧ r.2.sem = fun _ => 0)

def quiescent_GlasKernel [hGlasKernel : Cert.GlasKernel.Facts] : Prop :=
  ∀ (m : (ℓ : Loc Cert.GlasKernel.nD Cert.GlasKernel.τ Cert.GlasKernel.sig) → Buf (Elt Bits) ℓ) (g : Dev Cert.GlasKernel.nD → PrngReg), Pre_GlasKernel m →
    θ_run (Cert.GlasKernel.defs (F := Bits)) (onTc (τ := Cert.GlasKernel.τ) (Cert.GlasKernel.main (F := Bits))) ⟨m, fun _ => 0, g⟩ (fun r => (∀ c : Dev Cert.GlasKernel.nD,
      r.2.mem ((c.tc : Thread Cert.GlasKernel.nD Cert.GlasKernel.τ).loc Cert.GlasKernel.main_arg0) = m ((c.tc : Thread Cert.GlasKernel.nD Cert.GlasKernel.τ).loc Cert.GlasKernel.main_arg0)
      ∧ r.2.mem ((c.tc : Thread Cert.GlasKernel.nD Cert.GlasKernel.τ).loc Cert.GlasKernel.main_arg1) = m ((c.tc : Thread Cert.GlasKernel.nD Cert.GlasKernel.τ).loc Cert.GlasKernel.main_arg1)
      ∧ r.2.mem ((c.tc : Thread Cert.GlasKernel.nD Cert.GlasKernel.τ).loc Cert.GlasKernel.main_arg2) = m ((c.tc : Thread Cert.GlasKernel.nD Cert.GlasKernel.τ).loc Cert.GlasKernel.main_arg2)
      ∧ r.2.mem ((c.tc : Thread Cert.GlasKernel.nD Cert.GlasKernel.τ).loc Cert.GlasKernel.main_arg3) = m ((c.tc : Thread Cert.GlasKernel.nD Cert.GlasKernel.τ).loc Cert.GlasKernel.main_arg3)
      ∧ r.2.mem ((c.tc : Thread Cert.GlasKernel.nD Cert.GlasKernel.τ).loc Cert.GlasKernel.main_arg4) = m ((c.tc : Thread Cert.GlasKernel.nD Cert.GlasKernel.τ).loc Cert.GlasKernel.main_arg4))
      ∧ r.2.sem = fun _ => 0)

def quiescent_GlasKernelIdeal [hGlasKernelIdeal : Cert.GlasKernelIdeal.Facts] : Prop :=
  ∀ (m : (ℓ : Loc Cert.GlasKernelIdeal.nD Cert.GlasKernelIdeal.τ Cert.GlasKernelIdeal.sig) → Buf (Elt Ideal) ℓ) (g : Dev Cert.GlasKernelIdeal.nD → PrngReg), Pre_GlasKernelIdeal m →
    θ_run (Cert.GlasKernelIdeal.defs (F := Ideal)) (onTc (τ := Cert.GlasKernelIdeal.τ) (Cert.GlasKernelIdeal.main (F := Ideal))) ⟨m, fun _ => 0, g⟩ (fun r => (∀ c : Dev Cert.GlasKernelIdeal.nD,
      r.2.mem ((c.tc : Thread Cert.GlasKernelIdeal.nD Cert.GlasKernelIdeal.τ).loc Cert.GlasKernelIdeal.main_arg0) = m ((c.tc : Thread Cert.GlasKernelIdeal.nD Cert.GlasKernelIdeal.τ).loc Cert.GlasKernelIdeal.main_arg0)
      ∧ r.2.mem ((c.tc : Thread Cert.GlasKernelIdeal.nD Cert.GlasKernelIdeal.τ).loc Cert.GlasKernelIdeal.main_arg1) = m ((c.tc : Thread Cert.GlasKernelIdeal.nD Cert.GlasKernelIdeal.τ).loc Cert.GlasKernelIdeal.main_arg1)
      ∧ r.2.mem ((c.tc : Thread Cert.GlasKernelIdeal.nD Cert.GlasKernelIdeal.τ).loc Cert.GlasKernelIdeal.main_arg2) = m ((c.tc : Thread Cert.GlasKernelIdeal.nD Cert.GlasKernelIdeal.τ).loc Cert.GlasKernelIdeal.main_arg2)
      ∧ r.2.mem ((c.tc : Thread Cert.GlasKernelIdeal.nD Cert.GlasKernelIdeal.τ).loc Cert.GlasKernelIdeal.main_arg3) = m ((c.tc : Thread Cert.GlasKernelIdeal.nD Cert.GlasKernelIdeal.τ).loc Cert.GlasKernelIdeal.main_arg3)
      ∧ r.2.mem ((c.tc : Thread Cert.GlasKernelIdeal.nD Cert.GlasKernelIdeal.τ).loc Cert.GlasKernelIdeal.main_arg4) = m ((c.tc : Thread Cert.GlasKernelIdeal.nD Cert.GlasKernelIdeal.τ).loc Cert.GlasKernelIdeal.main_arg4))
      ∧ r.2.sem = fun _ => 0)

def quiescent_GlasKernelIdeal_pre_gates_open [hGlasKernelIdeal : Cert.GlasKernelIdeal.Facts] [hPre_gates_open : Cert.Pre_gates_open.Facts] : Prop :=
  ∀ (m : (ℓ : Loc Cert.GlasKernelIdeal.nD Cert.GlasKernelIdeal.τ Cert.GlasKernelIdeal.sig) → Buf (Elt Ideal) ℓ) (g : Dev Cert.GlasKernelIdeal.nD → PrngReg), Pre_GlasKernelIdeal_gates_open m →
    θ_run (Cert.GlasKernelIdeal.defs (F := Ideal)) (onTc (τ := Cert.GlasKernelIdeal.τ) (Cert.GlasKernelIdeal.main (F := Ideal))) ⟨m, fun _ => 0, g⟩ (fun r => (∀ c : Dev Cert.GlasKernelIdeal.nD,
      r.2.mem ((c.tc : Thread Cert.GlasKernelIdeal.nD Cert.GlasKernelIdeal.τ).loc Cert.GlasKernelIdeal.main_arg0) = m ((c.tc : Thread Cert.GlasKernelIdeal.nD Cert.GlasKernelIdeal.τ).loc Cert.GlasKernelIdeal.main_arg0)
      ∧ r.2.mem ((c.tc : Thread Cert.GlasKernelIdeal.nD Cert.GlasKernelIdeal.τ).loc Cert.GlasKernelIdeal.main_arg1) = m ((c.tc : Thread Cert.GlasKernelIdeal.nD Cert.GlasKernelIdeal.τ).loc Cert.GlasKernelIdeal.main_arg1)
      ∧ r.2.mem ((c.tc : Thread Cert.GlasKernelIdeal.nD Cert.GlasKernelIdeal.τ).loc Cert.GlasKernelIdeal.main_arg2) = m ((c.tc : Thread Cert.GlasKernelIdeal.nD Cert.GlasKernelIdeal.τ).loc Cert.GlasKernelIdeal.main_arg2)
      ∧ r.2.mem ((c.tc : Thread Cert.GlasKernelIdeal.nD Cert.GlasKernelIdeal.τ).loc Cert.GlasKernelIdeal.main_arg3) = m ((c.tc : Thread Cert.GlasKernelIdeal.nD Cert.GlasKernelIdeal.τ).loc Cert.GlasKernelIdeal.main_arg3)
      ∧ r.2.mem ((c.tc : Thread Cert.GlasKernelIdeal.nD Cert.GlasKernelIdeal.τ).loc Cert.GlasKernelIdeal.main_arg4) = m ((c.tc : Thread Cert.GlasKernelIdeal.nD Cert.GlasKernelIdeal.τ).loc Cert.GlasKernelIdeal.main_arg4))
      ∧ r.2.sem = fun _ => 0)

def quiescent_GlasRefIdeal [hGlasRefIdeal : Cert.GlasRefIdeal.Facts] : Prop :=
  ∀ (m : (ℓ : Loc Cert.GlasRefIdeal.nD Cert.GlasRefIdeal.τ Cert.GlasRefIdeal.sig) → Buf (Elt Ideal) ℓ) (g : Dev Cert.GlasRefIdeal.nD → PrngReg), Pre_GlasRefIdeal m →
    θ_run (Cert.GlasRefIdeal.defs (F := Ideal)) (onTc (τ := Cert.GlasRefIdeal.τ) (Cert.GlasRefIdeal.main (F := Ideal))) ⟨m, fun _ => 0, g⟩ (fun r => (∀ c : Dev Cert.GlasRefIdeal.nD,
      r.2.mem ((c.tc : Thread Cert.GlasRefIdeal.nD Cert.GlasRefIdeal.τ).loc Cert.GlasRefIdeal.main_arg0) = m ((c.tc : Thread Cert.GlasRefIdeal.nD Cert.GlasRefIdeal.τ).loc Cert.GlasRefIdeal.main_arg0)
      ∧ r.2.mem ((c.tc : Thread Cert.GlasRefIdeal.nD Cert.GlasRefIdeal.τ).loc Cert.GlasRefIdeal.main_arg1) = m ((c.tc : Thread Cert.GlasRefIdeal.nD Cert.GlasRefIdeal.τ).loc Cert.GlasRefIdeal.main_arg1)
      ∧ r.2.mem ((c.tc : Thread Cert.GlasRefIdeal.nD Cert.GlasRefIdeal.τ).loc Cert.GlasRefIdeal.main_arg2) = m ((c.tc : Thread Cert.GlasRefIdeal.nD Cert.GlasRefIdeal.τ).loc Cert.GlasRefIdeal.main_arg2)
      ∧ r.2.mem ((c.tc : Thread Cert.GlasRefIdeal.nD Cert.GlasRefIdeal.τ).loc Cert.GlasRefIdeal.main_arg3) = m ((c.tc : Thread Cert.GlasRefIdeal.nD Cert.GlasRefIdeal.τ).loc Cert.GlasRefIdeal.main_arg3)
      ∧ r.2.mem ((c.tc : Thread Cert.GlasRefIdeal.nD Cert.GlasRefIdeal.τ).loc Cert.GlasRefIdeal.main_arg4) = m ((c.tc : Thread Cert.GlasRefIdeal.nD Cert.GlasRefIdeal.τ).loc Cert.GlasRefIdeal.main_arg4))
      ∧ r.2.sem = fun _ => 0)

def quiescent_GlasRefIdeal_pre_gates_open [hGlasRefIdeal : Cert.GlasRefIdeal.Facts] [hPre_gates_open : Cert.Pre_gates_open.Facts] : Prop :=
  ∀ (m : (ℓ : Loc Cert.GlasRefIdeal.nD Cert.GlasRefIdeal.τ Cert.GlasRefIdeal.sig) → Buf (Elt Ideal) ℓ) (g : Dev Cert.GlasRefIdeal.nD → PrngReg), Pre_GlasRefIdeal_gates_open m →
    θ_run (Cert.GlasRefIdeal.defs (F := Ideal)) (onTc (τ := Cert.GlasRefIdeal.τ) (Cert.GlasRefIdeal.main (F := Ideal))) ⟨m, fun _ => 0, g⟩ (fun r => (∀ c : Dev Cert.GlasRefIdeal.nD,
      r.2.mem ((c.tc : Thread Cert.GlasRefIdeal.nD Cert.GlasRefIdeal.τ).loc Cert.GlasRefIdeal.main_arg0) = m ((c.tc : Thread Cert.GlasRefIdeal.nD Cert.GlasRefIdeal.τ).loc Cert.GlasRefIdeal.main_arg0)
      ∧ r.2.mem ((c.tc : Thread Cert.GlasRefIdeal.nD Cert.GlasRefIdeal.τ).loc Cert.GlasRefIdeal.main_arg1) = m ((c.tc : Thread Cert.GlasRefIdeal.nD Cert.GlasRefIdeal.τ).loc Cert.GlasRefIdeal.main_arg1)
      ∧ r.2.mem ((c.tc : Thread Cert.GlasRefIdeal.nD Cert.GlasRefIdeal.τ).loc Cert.GlasRefIdeal.main_arg2) = m ((c.tc : Thread Cert.GlasRefIdeal.nD Cert.GlasRefIdeal.τ).loc Cert.GlasRefIdeal.main_arg2)
      ∧ r.2.mem ((c.tc : Thread Cert.GlasRefIdeal.nD Cert.GlasRefIdeal.τ).loc Cert.GlasRefIdeal.main_arg3) = m ((c.tc : Thread Cert.GlasRefIdeal.nD Cert.GlasRefIdeal.τ).loc Cert.GlasRefIdeal.main_arg3)
      ∧ r.2.mem ((c.tc : Thread Cert.GlasRefIdeal.nD Cert.GlasRefIdeal.τ).loc Cert.GlasRefIdeal.main_arg4) = m ((c.tc : Thread Cert.GlasRefIdeal.nD Cert.GlasRefIdeal.τ).loc Cert.GlasRefIdeal.main_arg4))
      ∧ r.2.sem = fun _ => 0)

def preserves_WinKernel_WinKernelIdeal : Prop :=
  IdealRules.named_const.Statement Cert.WinKernelIdeal.κ "mask" .f32 0xF149F2CA#32 ⊥

def algebraic_WinKernelIdeal_WinRefIdeal [hWinKernelIdeal : Cert.WinKernelIdeal.Facts] [hWinRefIdeal : Cert.WinRefIdeal.Facts] : Prop :=
  ∀ (m : (ℓ : Loc Cert.WinKernelIdeal.nD Cert.WinKernelIdeal.τ Cert.WinKernelIdeal.sig) → Buf (Elt Ideal) ℓ) (g : Dev Cert.WinKernelIdeal.nD → PrngReg)
    (m' : (ℓ : Loc Cert.WinRefIdeal.nD Cert.WinRefIdeal.τ Cert.WinRefIdeal.sig) → Buf (Elt Ideal) ℓ) (g' : Dev Cert.WinRefIdeal.nD → PrngReg), Pre_WinKernelIdeal m →
    (∀ c : Dev Cert.WinKernelIdeal.nD,
      m' ((c.tc : Thread Cert.WinRefIdeal.nD Cert.WinRefIdeal.τ).loc Cert.WinRefIdeal.main_arg0) = m ((c.tc : Thread Cert.WinKernelIdeal.nD Cert.WinKernelIdeal.τ).loc Cert.WinKernelIdeal.main_arg0)
      ∧ m' ((c.tc : Thread Cert.WinRefIdeal.nD Cert.WinRefIdeal.τ).loc Cert.WinRefIdeal.main_arg1) = m ((c.tc : Thread Cert.WinKernelIdeal.nD Cert.WinKernelIdeal.τ).loc Cert.WinKernelIdeal.main_arg1)
      ∧ m' ((c.tc : Thread Cert.WinRefIdeal.nD Cert.WinRefIdeal.τ).loc Cert.WinRefIdeal.main_arg2) = m ((c.tc : Thread Cert.WinKernelIdeal.nD Cert.WinKernelIdeal.τ).loc Cert.WinKernelIdeal.main_arg2)) →
    ∃ (v0 : (c : Dev Cert.WinKernelIdeal.nD) → Buf (Elt Ideal) ((c.tc : Thread Cert.WinKernelIdeal.nD Cert.WinKernelIdeal.τ).loc Cert.WinKernelIdeal.main_v26)),
      θ_run (Cert.WinKernelIdeal.defs (F := Ideal)) (onTc (τ := Cert.WinKernelIdeal.τ) (Cert.WinKernelIdeal.main (F := Ideal))) ⟨m, fun _ => 0, g⟩ (fun r => ∀ c : Dev Cert.WinKernelIdeal.nD,
          r.2.mem ((c.tc : Thread Cert.WinKernelIdeal.nD Cert.WinKernelIdeal.τ).loc Cert.WinKernelIdeal.main_v26) = v0 c
          ∧ r.2.mem ((c.tc : Thread Cert.WinKernelIdeal.nD Cert.WinKernelIdeal.τ).loc Cert.WinKernelIdeal.main_arg0) = m ((c.tc : Thread Cert.WinKernelIdeal.nD Cert.WinKernelIdeal.τ).loc Cert.WinKernelIdeal.main_arg0)
          ∧ r.2.mem ((c.tc : Thread Cert.WinKernelIdeal.nD Cert.WinKernelIdeal.τ).loc Cert.WinKernelIdeal.main_arg1) = m ((c.tc : Thread Cert.WinKernelIdeal.nD Cert.WinKernelIdeal.τ).loc Cert.WinKernelIdeal.main_arg1)
          ∧ r.2.mem ((c.tc : Thread Cert.WinKernelIdeal.nD Cert.WinKernelIdeal.τ).loc Cert.WinKernelIdeal.main_arg2) = m ((c.tc : Thread Cert.WinKernelIdeal.nD Cert.WinKernelIdeal.τ).loc Cert.WinKernelIdeal.main_arg2))
      ∧ θ_run (Cert.WinRefIdeal.defs (F := Ideal)) (onTc (τ := Cert.WinRefIdeal.τ) (Cert.WinRefIdeal.main (F := Ideal))) ⟨m', fun _ => 0, g'⟩ (fun r => ∀ c : Dev Cert.WinRefIdeal.nD,
          r.2.mem ((c.tc : Thread Cert.WinRefIdeal.nD Cert.WinRefIdeal.τ).loc Cert.WinRefIdeal.main_v53) = v0 c
          ∧ r.2.mem ((c.tc : Thread Cert.WinRefIdeal.nD Cert.WinRefIdeal.τ).loc Cert.WinRefIdeal.main_arg0) = m' ((c.tc : Thread Cert.WinRefIdeal.nD Cert.WinRefIdeal.τ).loc Cert.WinRefIdeal.main_arg0)
          ∧ r.2.mem ((c.tc : Thread Cert.WinRefIdeal.nD Cert.WinRefIdeal.τ).loc Cert.WinRefIdeal.main_arg1) = m' ((c.tc : Thread Cert.WinRefIdeal.nD Cert.WinRefIdeal.τ).loc Cert.WinRefIdeal.main_arg1)
          ∧ r.2.mem ((c.tc : Thread Cert.WinRefIdeal.nD Cert.WinRefIdeal.τ).loc Cert.WinRefIdeal.main_arg2) = m' ((c.tc : Thread Cert.WinRefIdeal.nD Cert.WinRefIdeal.τ).loc Cert.WinRefIdeal.main_arg2))

def preserves_ProjKernel_ProjKernelIdeal : Prop :=
  True

def algebraic_ProjKernelIdeal_ProjRefIdeal [hProjKernelIdeal : Cert.ProjKernelIdeal.Facts] [hProjRefIdeal : Cert.ProjRefIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjKernelIdeal m →
    (∀ c : Dev Cert.ProjKernelIdeal.nD,
      m' ((c.tc : Thread Cert.ProjRefIdeal.nD Cert.ProjRefIdeal.τ).loc Cert.ProjRefIdeal.main_arg0) = m ((c.tc : Thread Cert.ProjKernelIdeal.nD Cert.ProjKernelIdeal.τ).loc Cert.ProjKernelIdeal.main_arg0)
      ∧ m' ((c.tc : Thread Cert.ProjRefIdeal.nD Cert.ProjRefIdeal.τ).loc Cert.ProjRefIdeal.main_arg1) = m ((c.tc : Thread Cert.ProjKernelIdeal.nD Cert.ProjKernelIdeal.τ).loc Cert.ProjKernelIdeal.main_arg1)
      ∧ m' ((c.tc : Thread Cert.ProjRefIdeal.nD Cert.ProjRefIdeal.τ).loc Cert.ProjRefIdeal.main_arg2) = m ((c.tc : Thread Cert.ProjKernelIdeal.nD Cert.ProjKernelIdeal.τ).loc Cert.ProjKernelIdeal.main_arg2)) →
    ∃ (v0 : (c : Dev Cert.ProjKernelIdeal.nD) → Buf (Elt Ideal) ((c.tc : Thread Cert.ProjKernelIdeal.nD Cert.ProjKernelIdeal.τ).loc Cert.ProjKernelIdeal.main_v18)),
      θ_run (Cert.ProjKernelIdeal.defs (F := Ideal)) (onTc (τ := Cert.ProjKernelIdeal.τ) (Cert.ProjKernelIdeal.main (F := Ideal))) ⟨m, fun _ => 0, g⟩ (fun r => ∀ c : Dev Cert.ProjKernelIdeal.nD,
          r.2.mem ((c.tc : Thread Cert.ProjKernelIdeal.nD Cert.ProjKernelIdeal.τ).loc Cert.ProjKernelIdeal.main_v18) = v0 c
          ∧ r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
          ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1)
          ∧ r.2.mem ((c.tc : Thread Cert.ProjKernelIdeal.nD Cert.ProjKernelIdeal.τ).loc Cert.ProjKernelIdeal.main_arg2) = m ((c.tc : Thread Cert.ProjKernelIdeal.nD Cert.ProjKernelIdeal.τ).loc Cert.ProjKernelIdeal.main_arg2))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v29) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2))

def preserves_MergeKernel_MergeKernelIdeal : Prop :=
  True

def algebraic_MergeKernelIdeal_MergeRefIdeal [hMergeKernelIdeal : Cert.MergeKernelIdeal.Facts] [hMergeRefIdeal : Cert.MergeRefIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeKernelIdeal m →
    (∀ c : Dev Cert.MergeKernelIdeal.nD,
      m' ((c.tc : Thread Cert.MergeRefIdeal.nD Cert.MergeRefIdeal.τ).loc Cert.MergeRefIdeal.main_arg0) = m ((c.tc : Thread Cert.MergeKernelIdeal.nD Cert.MergeKernelIdeal.τ).loc Cert.MergeKernelIdeal.main_arg0)
      ∧ m' ((c.tc : Thread Cert.MergeRefIdeal.nD Cert.MergeRefIdeal.τ).loc Cert.MergeRefIdeal.main_arg1) = m ((c.tc : Thread Cert.MergeKernelIdeal.nD Cert.MergeKernelIdeal.τ).loc Cert.MergeKernelIdeal.main_arg1)
      ∧ m' ((c.tc : Thread Cert.MergeRefIdeal.nD Cert.MergeRefIdeal.τ).loc Cert.MergeRefIdeal.main_arg2) = m ((c.tc : Thread Cert.MergeKernelIdeal.nD Cert.MergeKernelIdeal.τ).loc Cert.MergeKernelIdeal.main_arg2)
      ∧ m' ((c.tc : Thread Cert.MergeRefIdeal.nD Cert.MergeRefIdeal.τ).loc Cert.MergeRefIdeal.main_arg3) = m ((c.tc : Thread Cert.MergeKernelIdeal.nD Cert.MergeKernelIdeal.τ).loc Cert.MergeKernelIdeal.main_arg3)
      ∧ m' ((c.tc : Thread Cert.MergeRefIdeal.nD Cert.MergeRefIdeal.τ).loc Cert.MergeRefIdeal.main_arg4) = m ((c.tc : Thread Cert.MergeKernelIdeal.nD Cert.MergeKernelIdeal.τ).loc Cert.MergeKernelIdeal.main_arg4)
      ∧ m' ((c.tc : Thread Cert.MergeRefIdeal.nD Cert.MergeRefIdeal.τ).loc Cert.MergeRefIdeal.main_arg5) = m ((c.tc : Thread Cert.MergeKernelIdeal.nD Cert.MergeKernelIdeal.τ).loc Cert.MergeKernelIdeal.main_arg5)
      ∧ m' ((c.tc : Thread Cert.MergeRefIdeal.nD Cert.MergeRefIdeal.τ).loc Cert.MergeRefIdeal.main_arg6) = m ((c.tc : Thread Cert.MergeKernelIdeal.nD Cert.MergeKernelIdeal.τ).loc Cert.MergeKernelIdeal.main_arg6)
      ∧ m' ((c.tc : Thread Cert.MergeRefIdeal.nD Cert.MergeRefIdeal.τ).loc Cert.MergeRefIdeal.main_arg7) = m ((c.tc : Thread Cert.MergeKernelIdeal.nD Cert.MergeKernelIdeal.τ).loc Cert.MergeKernelIdeal.main_arg7)
      ∧ m' ((c.tc : Thread Cert.MergeRefIdeal.nD Cert.MergeRefIdeal.τ).loc Cert.MergeRefIdeal.main_arg8) = m ((c.tc : Thread Cert.MergeKernelIdeal.nD Cert.MergeKernelIdeal.τ).loc Cert.MergeKernelIdeal.main_arg8)
      ∧ m' ((c.tc : Thread Cert.MergeRefIdeal.nD Cert.MergeRefIdeal.τ).loc Cert.MergeRefIdeal.main_arg9) = m ((c.tc : Thread Cert.MergeKernelIdeal.nD Cert.MergeKernelIdeal.τ).loc Cert.MergeKernelIdeal.main_arg9)
      ∧ m' ((c.tc : Thread Cert.MergeRefIdeal.nD Cert.MergeRefIdeal.τ).loc Cert.MergeRefIdeal.main_arg10) = m ((c.tc : Thread Cert.MergeKernelIdeal.nD Cert.MergeKernelIdeal.τ).loc Cert.MergeKernelIdeal.main_arg10)) →
    ∃ (v0 : (c : Dev Cert.MergeKernelIdeal.nD) → Buf (Elt Ideal) ((c.tc : Thread Cert.MergeKernelIdeal.nD Cert.MergeKernelIdeal.τ).loc Cert.MergeKernelIdeal.main_v11)),
      θ_run (Cert.MergeKernelIdeal.defs (F := Ideal)) (onTc (τ := Cert.MergeKernelIdeal.τ) (Cert.MergeKernelIdeal.main (F := Ideal))) ⟨m, fun _ => 0, g⟩ (fun r => ∀ c : Dev Cert.MergeKernelIdeal.nD,
          r.2.mem ((c.tc : Thread Cert.MergeKernelIdeal.nD Cert.MergeKernelIdeal.τ).loc Cert.MergeKernelIdeal.main_v11) = v0 c
          ∧ r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
          ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
          ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
          ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
          ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4)
          ∧ r.2.mem ((c.tc : Thread Cert.MergeKernelIdeal.nD Cert.MergeKernelIdeal.τ).loc Cert.MergeKernelIdeal.main_arg5) = m ((c.tc : Thread Cert.MergeKernelIdeal.nD Cert.MergeKernelIdeal.τ).loc Cert.MergeKernelIdeal.main_arg5)
          ∧ r.2.mem ((c.tc : Thread Cert.MergeKernelIdeal.nD Cert.MergeKernelIdeal.τ).loc Cert.MergeKernelIdeal.main_arg6) = m ((c.tc : Thread Cert.MergeKernelIdeal.nD Cert.MergeKernelIdeal.τ).loc Cert.MergeKernelIdeal.main_arg6)
          ∧ r.2.mem ((c.tc : Thread Cert.MergeKernelIdeal.nD Cert.MergeKernelIdeal.τ).loc Cert.MergeKernelIdeal.main_arg7) = m ((c.tc : Thread Cert.MergeKernelIdeal.nD Cert.MergeKernelIdeal.τ).loc Cert.MergeKernelIdeal.main_arg7)
          ∧ r.2.mem ((c.tc : Thread Cert.MergeKernelIdeal.nD Cert.MergeKernelIdeal.τ).loc Cert.MergeKernelIdeal.main_arg8) = m ((c.tc : Thread Cert.MergeKernelIdeal.nD Cert.MergeKernelIdeal.τ).loc Cert.MergeKernelIdeal.main_arg8)
          ∧ r.2.mem ((c.tc : Thread Cert.MergeKernelIdeal.nD Cert.MergeKernelIdeal.τ).loc Cert.MergeKernelIdeal.main_arg9) = m ((c.tc : Thread Cert.MergeKernelIdeal.nD Cert.MergeKernelIdeal.τ).loc Cert.MergeKernelIdeal.main_arg9)
          ∧ r.2.mem ((c.tc : Thread Cert.MergeKernelIdeal.nD Cert.MergeKernelIdeal.τ).loc Cert.MergeKernelIdeal.main_arg10) = m ((c.tc : Thread Cert.MergeKernelIdeal.nD Cert.MergeKernelIdeal.τ).loc Cert.MergeKernelIdeal.main_arg10))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v22) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10))

def preserves_FfnKernel_FfnKernelIdeal : Prop :=
  True

def algebraic_FfnKernelIdeal_FfnRefIdeal [hFfnKernelIdeal : Cert.FfnKernelIdeal.Facts] [hFfnRefIdeal : Cert.FfnRefIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnKernelIdeal m →
    (∀ c : Dev Cert.FfnKernelIdeal.nD,
      m' ((c.tc : Thread Cert.FfnRefIdeal.nD Cert.FfnRefIdeal.τ).loc Cert.FfnRefIdeal.main_arg0) = m ((c.tc : Thread Cert.FfnKernelIdeal.nD Cert.FfnKernelIdeal.τ).loc Cert.FfnKernelIdeal.main_arg0)
      ∧ m' ((c.tc : Thread Cert.FfnRefIdeal.nD Cert.FfnRefIdeal.τ).loc Cert.FfnRefIdeal.main_arg1) = m ((c.tc : Thread Cert.FfnKernelIdeal.nD Cert.FfnKernelIdeal.τ).loc Cert.FfnKernelIdeal.main_arg1)
      ∧ m' ((c.tc : Thread Cert.FfnRefIdeal.nD Cert.FfnRefIdeal.τ).loc Cert.FfnRefIdeal.main_arg2) = m ((c.tc : Thread Cert.FfnKernelIdeal.nD Cert.FfnKernelIdeal.τ).loc Cert.FfnKernelIdeal.main_arg2)
      ∧ m' ((c.tc : Thread Cert.FfnRefIdeal.nD Cert.FfnRefIdeal.τ).loc Cert.FfnRefIdeal.main_arg3) = m ((c.tc : Thread Cert.FfnKernelIdeal.nD Cert.FfnKernelIdeal.τ).loc Cert.FfnKernelIdeal.main_arg3)
      ∧ m' ((c.tc : Thread Cert.FfnRefIdeal.nD Cert.FfnRefIdeal.τ).loc Cert.FfnRefIdeal.main_arg4) = m ((c.tc : Thread Cert.FfnKernelIdeal.nD Cert.FfnKernelIdeal.τ).loc Cert.FfnKernelIdeal.main_arg4)) →
    ∃ (v0 : (c : Dev Cert.FfnKernelIdeal.nD) → Buf (Elt Ideal) ((c.tc : Thread Cert.FfnKernelIdeal.nD Cert.FfnKernelIdeal.τ).loc Cert.FfnKernelIdeal.main_v5)),
      θ_run (Cert.FfnKernelIdeal.defs (F := Ideal)) (onTc (τ := Cert.FfnKernelIdeal.τ) (Cert.FfnKernelIdeal.main (F := Ideal))) ⟨m, fun _ => 0, g⟩ (fun r => ∀ c : Dev Cert.FfnKernelIdeal.nD,
          r.2.mem ((c.tc : Thread Cert.FfnKernelIdeal.nD Cert.FfnKernelIdeal.τ).loc Cert.FfnKernelIdeal.main_v5) = v0 c
          ∧ r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
          ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
          ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
          ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
          ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v19) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_ProjsKernel_ProjsKernelIdeal : Prop :=
  True

def algebraic_ProjsKernelIdeal_ProjsRefIdeal [hProjsKernelIdeal : Cert.ProjsKernelIdeal.Facts] [hProjsRefIdeal : Cert.ProjsRefIdeal.Facts] : Prop :=
  ∀ (m : (ℓ : Loc Cert.ProjsKernelIdeal.nD Cert.ProjsKernelIdeal.τ Cert.ProjsKernelIdeal.sig) → Buf (Elt Ideal) ℓ) (g : Dev Cert.ProjsKernelIdeal.nD → PrngReg)
    (m' : (ℓ : Loc Cert.ProjsRefIdeal.nD Cert.ProjsRefIdeal.τ Cert.ProjsRefIdeal.sig) → Buf (Elt Ideal) ℓ) (g' : Dev Cert.ProjsRefIdeal.nD → PrngReg), Pre_ProjsKernelIdeal m →
    (∀ c : Dev Cert.ProjsKernelIdeal.nD,
      m' ((c.tc : Thread Cert.ProjsRefIdeal.nD Cert.ProjsRefIdeal.τ).loc Cert.ProjsRefIdeal.main_arg0) = m ((c.tc : Thread Cert.ProjsKernelIdeal.nD Cert.ProjsKernelIdeal.τ).loc Cert.ProjsKernelIdeal.main_arg0)
      ∧ m' ((c.tc : Thread Cert.ProjsRefIdeal.nD Cert.ProjsRefIdeal.τ).loc Cert.ProjsRefIdeal.main_arg1) = m ((c.tc : Thread Cert.ProjsKernelIdeal.nD Cert.ProjsKernelIdeal.τ).loc Cert.ProjsKernelIdeal.main_arg1)
      ∧ m' ((c.tc : Thread Cert.ProjsRefIdeal.nD Cert.ProjsRefIdeal.τ).loc Cert.ProjsRefIdeal.main_arg2) = m ((c.tc : Thread Cert.ProjsKernelIdeal.nD Cert.ProjsKernelIdeal.τ).loc Cert.ProjsKernelIdeal.main_arg2)) →
    ∃ (v0 : (c : Dev Cert.ProjsKernelIdeal.nD) → Buf (Elt Ideal) ((c.tc : Thread Cert.ProjsKernelIdeal.nD Cert.ProjsKernelIdeal.τ).loc Cert.ProjsKernelIdeal.main_v18)),
      θ_run (Cert.ProjsKernelIdeal.defs (F := Ideal)) (onTc (τ := Cert.ProjsKernelIdeal.τ) (Cert.ProjsKernelIdeal.main (F := Ideal))) ⟨m, fun _ => 0, g⟩ (fun r => ∀ c : Dev Cert.ProjsKernelIdeal.nD,
          r.2.mem ((c.tc : Thread Cert.ProjsKernelIdeal.nD Cert.ProjsKernelIdeal.τ).loc Cert.ProjsKernelIdeal.main_v18) = v0 c
          ∧ r.2.mem ((c.tc : Thread Cert.ProjsKernelIdeal.nD Cert.ProjsKernelIdeal.τ).loc Cert.ProjsKernelIdeal.main_arg0) = m ((c.tc : Thread Cert.ProjsKernelIdeal.nD Cert.ProjsKernelIdeal.τ).loc Cert.ProjsKernelIdeal.main_arg0)
          ∧ r.2.mem ((c.tc : Thread Cert.ProjsKernelIdeal.nD Cert.ProjsKernelIdeal.τ).loc Cert.ProjsKernelIdeal.main_arg1) = m ((c.tc : Thread Cert.ProjsKernelIdeal.nD Cert.ProjsKernelIdeal.τ).loc Cert.ProjsKernelIdeal.main_arg1)
          ∧ r.2.mem ((c.tc : Thread Cert.ProjsKernelIdeal.nD Cert.ProjsKernelIdeal.τ).loc Cert.ProjsKernelIdeal.main_arg2) = m ((c.tc : Thread Cert.ProjsKernelIdeal.nD Cert.ProjsKernelIdeal.τ).loc Cert.ProjsKernelIdeal.main_arg2))
      ∧ θ_run (Cert.ProjsRefIdeal.defs (F := Ideal)) (onTc (τ := Cert.ProjsRefIdeal.τ) (Cert.ProjsRefIdeal.main (F := Ideal))) ⟨m', fun _ => 0, g'⟩ (fun r => ∀ c : Dev Cert.ProjsRefIdeal.nD,
          r.2.mem ((c.tc : Thread Cert.ProjsRefIdeal.nD Cert.ProjsRefIdeal.τ).loc Cert.ProjsRefIdeal.main_v29) = v0 c
          ∧ r.2.mem ((c.tc : Thread Cert.ProjsRefIdeal.nD Cert.ProjsRefIdeal.τ).loc Cert.ProjsRefIdeal.main_arg0) = m' ((c.tc : Thread Cert.ProjsRefIdeal.nD Cert.ProjsRefIdeal.τ).loc Cert.ProjsRefIdeal.main_arg0)
          ∧ r.2.mem ((c.tc : Thread Cert.ProjsRefIdeal.nD Cert.ProjsRefIdeal.τ).loc Cert.ProjsRefIdeal.main_arg1) = m' ((c.tc : Thread Cert.ProjsRefIdeal.nD Cert.ProjsRefIdeal.τ).loc Cert.ProjsRefIdeal.main_arg1)
          ∧ r.2.mem ((c.tc : Thread Cert.ProjsRefIdeal.nD Cert.ProjsRefIdeal.τ).loc Cert.ProjsRefIdeal.main_arg2) = m' ((c.tc : Thread Cert.ProjsRefIdeal.nD Cert.ProjsRefIdeal.τ).loc Cert.ProjsRefIdeal.main_arg2))

def preserves_MergesKernel_MergesKernelIdeal : Prop :=
  True

def algebraic_MergesKernelIdeal_MergesRefIdeal [hMergesKernelIdeal : Cert.MergesKernelIdeal.Facts] [hMergesRefIdeal : Cert.MergesRefIdeal.Facts] : Prop :=
  ∀ (m : (ℓ : Loc Cert.MergesKernelIdeal.nD Cert.MergesKernelIdeal.τ Cert.MergesKernelIdeal.sig) → Buf (Elt Ideal) ℓ) (g : Dev Cert.MergesKernelIdeal.nD → PrngReg)
    (m' : (ℓ : Loc Cert.MergesRefIdeal.nD Cert.MergesRefIdeal.τ Cert.MergesRefIdeal.sig) → Buf (Elt Ideal) ℓ) (g' : Dev Cert.MergesRefIdeal.nD → PrngReg), Pre_MergesKernelIdeal m →
    (∀ c : Dev Cert.MergesKernelIdeal.nD,
      m' ((c.tc : Thread Cert.MergesRefIdeal.nD Cert.MergesRefIdeal.τ).loc Cert.MergesRefIdeal.main_arg0) = m ((c.tc : Thread Cert.MergesKernelIdeal.nD Cert.MergesKernelIdeal.τ).loc Cert.MergesKernelIdeal.main_arg0)
      ∧ m' ((c.tc : Thread Cert.MergesRefIdeal.nD Cert.MergesRefIdeal.τ).loc Cert.MergesRefIdeal.main_arg1) = m ((c.tc : Thread Cert.MergesKernelIdeal.nD Cert.MergesKernelIdeal.τ).loc Cert.MergesKernelIdeal.main_arg1)
      ∧ m' ((c.tc : Thread Cert.MergesRefIdeal.nD Cert.MergesRefIdeal.τ).loc Cert.MergesRefIdeal.main_arg2) = m ((c.tc : Thread Cert.MergesKernelIdeal.nD Cert.MergesKernelIdeal.τ).loc Cert.MergesKernelIdeal.main_arg2)
      ∧ m' ((c.tc : Thread Cert.MergesRefIdeal.nD Cert.MergesRefIdeal.τ).loc Cert.MergesRefIdeal.main_arg3) = m ((c.tc : Thread Cert.MergesKernelIdeal.nD Cert.MergesKernelIdeal.τ).loc Cert.MergesKernelIdeal.main_arg3)
      ∧ m' ((c.tc : Thread Cert.MergesRefIdeal.nD Cert.MergesRefIdeal.τ).loc Cert.MergesRefIdeal.main_arg4) = m ((c.tc : Thread Cert.MergesKernelIdeal.nD Cert.MergesKernelIdeal.τ).loc Cert.MergesKernelIdeal.main_arg4)
      ∧ m' ((c.tc : Thread Cert.MergesRefIdeal.nD Cert.MergesRefIdeal.τ).loc Cert.MergesRefIdeal.main_arg5) = m ((c.tc : Thread Cert.MergesKernelIdeal.nD Cert.MergesKernelIdeal.τ).loc Cert.MergesKernelIdeal.main_arg5)
      ∧ m' ((c.tc : Thread Cert.MergesRefIdeal.nD Cert.MergesRefIdeal.τ).loc Cert.MergesRefIdeal.main_arg6) = m ((c.tc : Thread Cert.MergesKernelIdeal.nD Cert.MergesKernelIdeal.τ).loc Cert.MergesKernelIdeal.main_arg6)
      ∧ m' ((c.tc : Thread Cert.MergesRefIdeal.nD Cert.MergesRefIdeal.τ).loc Cert.MergesRefIdeal.main_arg7) = m ((c.tc : Thread Cert.MergesKernelIdeal.nD Cert.MergesKernelIdeal.τ).loc Cert.MergesKernelIdeal.main_arg7)
      ∧ m' ((c.tc : Thread Cert.MergesRefIdeal.nD Cert.MergesRefIdeal.τ).loc Cert.MergesRefIdeal.main_arg8) = m ((c.tc : Thread Cert.MergesKernelIdeal.nD Cert.MergesKernelIdeal.τ).loc Cert.MergesKernelIdeal.main_arg8)
      ∧ m' ((c.tc : Thread Cert.MergesRefIdeal.nD Cert.MergesRefIdeal.τ).loc Cert.MergesRefIdeal.main_arg9) = m ((c.tc : Thread Cert.MergesKernelIdeal.nD Cert.MergesKernelIdeal.τ).loc Cert.MergesKernelIdeal.main_arg9)
      ∧ m' ((c.tc : Thread Cert.MergesRefIdeal.nD Cert.MergesRefIdeal.τ).loc Cert.MergesRefIdeal.main_arg10) = m ((c.tc : Thread Cert.MergesKernelIdeal.nD Cert.MergesKernelIdeal.τ).loc Cert.MergesKernelIdeal.main_arg10)) →
    ∃ (v0 : (c : Dev Cert.MergesKernelIdeal.nD) → Buf (Elt Ideal) ((c.tc : Thread Cert.MergesKernelIdeal.nD Cert.MergesKernelIdeal.τ).loc Cert.MergesKernelIdeal.main_v11)),
      θ_run (Cert.MergesKernelIdeal.defs (F := Ideal)) (onTc (τ := Cert.MergesKernelIdeal.τ) (Cert.MergesKernelIdeal.main (F := Ideal))) ⟨m, fun _ => 0, g⟩ (fun r => ∀ c : Dev Cert.MergesKernelIdeal.nD,
          r.2.mem ((c.tc : Thread Cert.MergesKernelIdeal.nD Cert.MergesKernelIdeal.τ).loc Cert.MergesKernelIdeal.main_v11) = v0 c
          ∧ r.2.mem ((c.tc : Thread Cert.MergesKernelIdeal.nD Cert.MergesKernelIdeal.τ).loc Cert.MergesKernelIdeal.main_arg0) = m ((c.tc : Thread Cert.MergesKernelIdeal.nD Cert.MergesKernelIdeal.τ).loc Cert.MergesKernelIdeal.main_arg0)
          ∧ r.2.mem ((c.tc : Thread Cert.MergesKernelIdeal.nD Cert.MergesKernelIdeal.τ).loc Cert.MergesKernelIdeal.main_arg1) = m ((c.tc : Thread Cert.MergesKernelIdeal.nD Cert.MergesKernelIdeal.τ).loc Cert.MergesKernelIdeal.main_arg1)
          ∧ r.2.mem ((c.tc : Thread Cert.MergesKernelIdeal.nD Cert.MergesKernelIdeal.τ).loc Cert.MergesKernelIdeal.main_arg2) = m ((c.tc : Thread Cert.MergesKernelIdeal.nD Cert.MergesKernelIdeal.τ).loc Cert.MergesKernelIdeal.main_arg2)
          ∧ r.2.mem ((c.tc : Thread Cert.MergesKernelIdeal.nD Cert.MergesKernelIdeal.τ).loc Cert.MergesKernelIdeal.main_arg3) = m ((c.tc : Thread Cert.MergesKernelIdeal.nD Cert.MergesKernelIdeal.τ).loc Cert.MergesKernelIdeal.main_arg3)
          ∧ r.2.mem ((c.tc : Thread Cert.MergesKernelIdeal.nD Cert.MergesKernelIdeal.τ).loc Cert.MergesKernelIdeal.main_arg4) = m ((c.tc : Thread Cert.MergesKernelIdeal.nD Cert.MergesKernelIdeal.τ).loc Cert.MergesKernelIdeal.main_arg4)
          ∧ r.2.mem ((c.tc : Thread Cert.MergesKernelIdeal.nD Cert.MergesKernelIdeal.τ).loc Cert.MergesKernelIdeal.main_arg5) = m ((c.tc : Thread Cert.MergesKernelIdeal.nD Cert.MergesKernelIdeal.τ).loc Cert.MergesKernelIdeal.main_arg5)
          ∧ r.2.mem ((c.tc : Thread Cert.MergesKernelIdeal.nD Cert.MergesKernelIdeal.τ).loc Cert.MergesKernelIdeal.main_arg6) = m ((c.tc : Thread Cert.MergesKernelIdeal.nD Cert.MergesKernelIdeal.τ).loc Cert.MergesKernelIdeal.main_arg6)
          ∧ r.2.mem ((c.tc : Thread Cert.MergesKernelIdeal.nD Cert.MergesKernelIdeal.τ).loc Cert.MergesKernelIdeal.main_arg7) = m ((c.tc : Thread Cert.MergesKernelIdeal.nD Cert.MergesKernelIdeal.τ).loc Cert.MergesKernelIdeal.main_arg7)
          ∧ r.2.mem ((c.tc : Thread Cert.MergesKernelIdeal.nD Cert.MergesKernelIdeal.τ).loc Cert.MergesKernelIdeal.main_arg8) = m ((c.tc : Thread Cert.MergesKernelIdeal.nD Cert.MergesKernelIdeal.τ).loc Cert.MergesKernelIdeal.main_arg8)
          ∧ r.2.mem ((c.tc : Thread Cert.MergesKernelIdeal.nD Cert.MergesKernelIdeal.τ).loc Cert.MergesKernelIdeal.main_arg9) = m ((c.tc : Thread Cert.MergesKernelIdeal.nD Cert.MergesKernelIdeal.τ).loc Cert.MergesKernelIdeal.main_arg9)
          ∧ r.2.mem ((c.tc : Thread Cert.MergesKernelIdeal.nD Cert.MergesKernelIdeal.τ).loc Cert.MergesKernelIdeal.main_arg10) = m ((c.tc : Thread Cert.MergesKernelIdeal.nD Cert.MergesKernelIdeal.τ).loc Cert.MergesKernelIdeal.main_arg10))
      ∧ θ_run (Cert.MergesRefIdeal.defs (F := Ideal)) (onTc (τ := Cert.MergesRefIdeal.τ) (Cert.MergesRefIdeal.main (F := Ideal))) ⟨m', fun _ => 0, g'⟩ (fun r => ∀ c : Dev Cert.MergesRefIdeal.nD,
          r.2.mem ((c.tc : Thread Cert.MergesRefIdeal.nD Cert.MergesRefIdeal.τ).loc Cert.MergesRefIdeal.main_v22) = v0 c
          ∧ r.2.mem ((c.tc : Thread Cert.MergesRefIdeal.nD Cert.MergesRefIdeal.τ).loc Cert.MergesRefIdeal.main_arg0) = m' ((c.tc : Thread Cert.MergesRefIdeal.nD Cert.MergesRefIdeal.τ).loc Cert.MergesRefIdeal.main_arg0)
          ∧ r.2.mem ((c.tc : Thread Cert.MergesRefIdeal.nD Cert.MergesRefIdeal.τ).loc Cert.MergesRefIdeal.main_arg1) = m' ((c.tc : Thread Cert.MergesRefIdeal.nD Cert.MergesRefIdeal.τ).loc Cert.MergesRefIdeal.main_arg1)
          ∧ r.2.mem ((c.tc : Thread Cert.MergesRefIdeal.nD Cert.MergesRefIdeal.τ).loc Cert.MergesRefIdeal.main_arg2) = m' ((c.tc : Thread Cert.MergesRefIdeal.nD Cert.MergesRefIdeal.τ).loc Cert.MergesRefIdeal.main_arg2)
          ∧ r.2.mem ((c.tc : Thread Cert.MergesRefIdeal.nD Cert.MergesRefIdeal.τ).loc Cert.MergesRefIdeal.main_arg3) = m' ((c.tc : Thread Cert.MergesRefIdeal.nD Cert.MergesRefIdeal.τ).loc Cert.MergesRefIdeal.main_arg3)
          ∧ r.2.mem ((c.tc : Thread Cert.MergesRefIdeal.nD Cert.MergesRefIdeal.τ).loc Cert.MergesRefIdeal.main_arg4) = m' ((c.tc : Thread Cert.MergesRefIdeal.nD Cert.MergesRefIdeal.τ).loc Cert.MergesRefIdeal.main_arg4)
          ∧ r.2.mem ((c.tc : Thread Cert.MergesRefIdeal.nD Cert.MergesRefIdeal.τ).loc Cert.MergesRefIdeal.main_arg5) = m' ((c.tc : Thread Cert.MergesRefIdeal.nD Cert.MergesRefIdeal.τ).loc Cert.MergesRefIdeal.main_arg5)
          ∧ r.2.mem ((c.tc : Thread Cert.MergesRefIdeal.nD Cert.MergesRefIdeal.τ).loc Cert.MergesRefIdeal.main_arg6) = m' ((c.tc : Thread Cert.MergesRefIdeal.nD Cert.MergesRefIdeal.τ).loc Cert.MergesRefIdeal.main_arg6)
          ∧ r.2.mem ((c.tc : Thread Cert.MergesRefIdeal.nD Cert.MergesRefIdeal.τ).loc Cert.MergesRefIdeal.main_arg7) = m' ((c.tc : Thread Cert.MergesRefIdeal.nD Cert.MergesRefIdeal.τ).loc Cert.MergesRefIdeal.main_arg7)
          ∧ r.2.mem ((c.tc : Thread Cert.MergesRefIdeal.nD Cert.MergesRefIdeal.τ).loc Cert.MergesRefIdeal.main_arg8) = m' ((c.tc : Thread Cert.MergesRefIdeal.nD Cert.MergesRefIdeal.τ).loc Cert.MergesRefIdeal.main_arg8)
          ∧ r.2.mem ((c.tc : Thread Cert.MergesRefIdeal.nD Cert.MergesRefIdeal.τ).loc Cert.MergesRefIdeal.main_arg9) = m' ((c.tc : Thread Cert.MergesRefIdeal.nD Cert.MergesRefIdeal.τ).loc Cert.MergesRefIdeal.main_arg9)
          ∧ r.2.mem ((c.tc : Thread Cert.MergesRefIdeal.nD Cert.MergesRefIdeal.τ).loc Cert.MergesRefIdeal.main_arg10) = m' ((c.tc : Thread Cert.MergesRefIdeal.nD Cert.MergesRefIdeal.τ).loc Cert.MergesRefIdeal.main_arg10))

def preserves_FfnsKernel_FfnsKernelIdeal : Prop :=
  True

def algebraic_FfnsKernelIdeal_FfnsRefIdeal [hFfnsKernelIdeal : Cert.FfnsKernelIdeal.Facts] [hFfnsRefIdeal : Cert.FfnsRefIdeal.Facts] : Prop :=
  ∀ (m : (ℓ : Loc Cert.FfnsKernelIdeal.nD Cert.FfnsKernelIdeal.τ Cert.FfnsKernelIdeal.sig) → Buf (Elt Ideal) ℓ) (g : Dev Cert.FfnsKernelIdeal.nD → PrngReg)
    (m' : (ℓ : Loc Cert.FfnsRefIdeal.nD Cert.FfnsRefIdeal.τ Cert.FfnsRefIdeal.sig) → Buf (Elt Ideal) ℓ) (g' : Dev Cert.FfnsRefIdeal.nD → PrngReg), Pre_FfnsKernelIdeal m →
    (∀ c : Dev Cert.FfnsKernelIdeal.nD,
      m' ((c.tc : Thread Cert.FfnsRefIdeal.nD Cert.FfnsRefIdeal.τ).loc Cert.FfnsRefIdeal.main_arg0) = m ((c.tc : Thread Cert.FfnsKernelIdeal.nD Cert.FfnsKernelIdeal.τ).loc Cert.FfnsKernelIdeal.main_arg0)
      ∧ m' ((c.tc : Thread Cert.FfnsRefIdeal.nD Cert.FfnsRefIdeal.τ).loc Cert.FfnsRefIdeal.main_arg1) = m ((c.tc : Thread Cert.FfnsKernelIdeal.nD Cert.FfnsKernelIdeal.τ).loc Cert.FfnsKernelIdeal.main_arg1)
      ∧ m' ((c.tc : Thread Cert.FfnsRefIdeal.nD Cert.FfnsRefIdeal.τ).loc Cert.FfnsRefIdeal.main_arg2) = m ((c.tc : Thread Cert.FfnsKernelIdeal.nD Cert.FfnsKernelIdeal.τ).loc Cert.FfnsKernelIdeal.main_arg2)
      ∧ m' ((c.tc : Thread Cert.FfnsRefIdeal.nD Cert.FfnsRefIdeal.τ).loc Cert.FfnsRefIdeal.main_arg3) = m ((c.tc : Thread Cert.FfnsKernelIdeal.nD Cert.FfnsKernelIdeal.τ).loc Cert.FfnsKernelIdeal.main_arg3)
      ∧ m' ((c.tc : Thread Cert.FfnsRefIdeal.nD Cert.FfnsRefIdeal.τ).loc Cert.FfnsRefIdeal.main_arg4) = m ((c.tc : Thread Cert.FfnsKernelIdeal.nD Cert.FfnsKernelIdeal.τ).loc Cert.FfnsKernelIdeal.main_arg4)) →
    ∃ (v0 : (c : Dev Cert.FfnsKernelIdeal.nD) → Buf (Elt Ideal) ((c.tc : Thread Cert.FfnsKernelIdeal.nD Cert.FfnsKernelIdeal.τ).loc Cert.FfnsKernelIdeal.main_v5)),
      θ_run (Cert.FfnsKernelIdeal.defs (F := Ideal)) (onTc (τ := Cert.FfnsKernelIdeal.τ) (Cert.FfnsKernelIdeal.main (F := Ideal))) ⟨m, fun _ => 0, g⟩ (fun r => ∀ c : Dev Cert.FfnsKernelIdeal.nD,
          r.2.mem ((c.tc : Thread Cert.FfnsKernelIdeal.nD Cert.FfnsKernelIdeal.τ).loc Cert.FfnsKernelIdeal.main_v5) = v0 c
          ∧ r.2.mem ((c.tc : Thread Cert.FfnsKernelIdeal.nD Cert.FfnsKernelIdeal.τ).loc Cert.FfnsKernelIdeal.main_arg0) = m ((c.tc : Thread Cert.FfnsKernelIdeal.nD Cert.FfnsKernelIdeal.τ).loc Cert.FfnsKernelIdeal.main_arg0)
          ∧ r.2.mem ((c.tc : Thread Cert.FfnsKernelIdeal.nD Cert.FfnsKernelIdeal.τ).loc Cert.FfnsKernelIdeal.main_arg1) = m ((c.tc : Thread Cert.FfnsKernelIdeal.nD Cert.FfnsKernelIdeal.τ).loc Cert.FfnsKernelIdeal.main_arg1)
          ∧ r.2.mem ((c.tc : Thread Cert.FfnsKernelIdeal.nD Cert.FfnsKernelIdeal.τ).loc Cert.FfnsKernelIdeal.main_arg2) = m ((c.tc : Thread Cert.FfnsKernelIdeal.nD Cert.FfnsKernelIdeal.τ).loc Cert.FfnsKernelIdeal.main_arg2)
          ∧ r.2.mem ((c.tc : Thread Cert.FfnsKernelIdeal.nD Cert.FfnsKernelIdeal.τ).loc Cert.FfnsKernelIdeal.main_arg3) = m ((c.tc : Thread Cert.FfnsKernelIdeal.nD Cert.FfnsKernelIdeal.τ).loc Cert.FfnsKernelIdeal.main_arg3)
          ∧ r.2.mem ((c.tc : Thread Cert.FfnsKernelIdeal.nD Cert.FfnsKernelIdeal.τ).loc Cert.FfnsKernelIdeal.main_arg4) = m ((c.tc : Thread Cert.FfnsKernelIdeal.nD Cert.FfnsKernelIdeal.τ).loc Cert.FfnsKernelIdeal.main_arg4))
      ∧ θ_run (Cert.FfnsRefIdeal.defs (F := Ideal)) (onTc (τ := Cert.FfnsRefIdeal.τ) (Cert.FfnsRefIdeal.main (F := Ideal))) ⟨m', fun _ => 0, g'⟩ (fun r => ∀ c : Dev Cert.FfnsRefIdeal.nD,
          r.2.mem ((c.tc : Thread Cert.FfnsRefIdeal.nD Cert.FfnsRefIdeal.τ).loc Cert.FfnsRefIdeal.main_v19) = v0 c
          ∧ r.2.mem ((c.tc : Thread Cert.FfnsRefIdeal.nD Cert.FfnsRefIdeal.τ).loc Cert.FfnsRefIdeal.main_arg0) = m' ((c.tc : Thread Cert.FfnsRefIdeal.nD Cert.FfnsRefIdeal.τ).loc Cert.FfnsRefIdeal.main_arg0)
          ∧ r.2.mem ((c.tc : Thread Cert.FfnsRefIdeal.nD Cert.FfnsRefIdeal.τ).loc Cert.FfnsRefIdeal.main_arg1) = m' ((c.tc : Thread Cert.FfnsRefIdeal.nD Cert.FfnsRefIdeal.τ).loc Cert.FfnsRefIdeal.main_arg1)
          ∧ r.2.mem ((c.tc : Thread Cert.FfnsRefIdeal.nD Cert.FfnsRefIdeal.τ).loc Cert.FfnsRefIdeal.main_arg2) = m' ((c.tc : Thread Cert.FfnsRefIdeal.nD Cert.FfnsRefIdeal.τ).loc Cert.FfnsRefIdeal.main_arg2)
          ∧ r.2.mem ((c.tc : Thread Cert.FfnsRefIdeal.nD Cert.FfnsRefIdeal.τ).loc Cert.FfnsRefIdeal.main_arg3) = m' ((c.tc : Thread Cert.FfnsRefIdeal.nD Cert.FfnsRefIdeal.τ).loc Cert.FfnsRefIdeal.main_arg3)
          ∧ r.2.mem ((c.tc : Thread Cert.FfnsRefIdeal.nD Cert.FfnsRefIdeal.τ).loc Cert.FfnsRefIdeal.main_arg4) = m' ((c.tc : Thread Cert.FfnsRefIdeal.nD Cert.FfnsRefIdeal.τ).loc Cert.FfnsRefIdeal.main_arg4))

def preserves_RgsKernel_RgsKernelIdeal : Prop :=
  True

def algebraic_RgsKernelIdeal_RgsRefIdeal [hRgsKernelIdeal : Cert.RgsKernelIdeal.Facts] [hRgsRefIdeal : Cert.RgsRefIdeal.Facts] : Prop :=
  ∀ (m : (ℓ : Loc Cert.RgsKernelIdeal.nD Cert.RgsKernelIdeal.τ Cert.RgsKernelIdeal.sig) → Buf (Elt Ideal) ℓ) (g : Dev Cert.RgsKernelIdeal.nD → PrngReg)
    (m' : (ℓ : Loc Cert.RgsRefIdeal.nD Cert.RgsRefIdeal.τ Cert.RgsRefIdeal.sig) → Buf (Elt Ideal) ℓ) (g' : Dev Cert.RgsRefIdeal.nD → PrngReg), Pre_RgsKernelIdeal m →
    (∀ c : Dev Cert.RgsKernelIdeal.nD,
      m' ((c.tc : Thread Cert.RgsRefIdeal.nD Cert.RgsRefIdeal.τ).loc Cert.RgsRefIdeal.main_arg0) = m ((c.tc : Thread Cert.RgsKernelIdeal.nD Cert.RgsKernelIdeal.τ).loc Cert.RgsKernelIdeal.main_arg0)
      ∧ m' ((c.tc : Thread Cert.RgsRefIdeal.nD Cert.RgsRefIdeal.τ).loc Cert.RgsRefIdeal.main_arg1) = m ((c.tc : Thread Cert.RgsKernelIdeal.nD Cert.RgsKernelIdeal.τ).loc Cert.RgsKernelIdeal.main_arg1)
      ∧ m' ((c.tc : Thread Cert.RgsRefIdeal.nD Cert.RgsRefIdeal.τ).loc Cert.RgsRefIdeal.main_arg2) = m ((c.tc : Thread Cert.RgsKernelIdeal.nD Cert.RgsKernelIdeal.τ).loc Cert.RgsKernelIdeal.main_arg2)
      ∧ m' ((c.tc : Thread Cert.RgsRefIdeal.nD Cert.RgsRefIdeal.τ).loc Cert.RgsRefIdeal.main_arg3) = m ((c.tc : Thread Cert.RgsKernelIdeal.nD Cert.RgsKernelIdeal.τ).loc Cert.RgsKernelIdeal.main_arg3)
      ∧ m' ((c.tc : Thread Cert.RgsRefIdeal.nD Cert.RgsRefIdeal.τ).loc Cert.RgsRefIdeal.main_arg4) = m ((c.tc : Thread Cert.RgsKernelIdeal.nD Cert.RgsKernelIdeal.τ).loc Cert.RgsKernelIdeal.main_arg4)
      ∧ m' ((c.tc : Thread Cert.RgsRefIdeal.nD Cert.RgsRefIdeal.τ).loc Cert.RgsRefIdeal.main_arg5) = m ((c.tc : Thread Cert.RgsKernelIdeal.nD Cert.RgsKernelIdeal.τ).loc Cert.RgsKernelIdeal.main_arg5)
      ∧ m' ((c.tc : Thread Cert.RgsRefIdeal.nD Cert.RgsRefIdeal.τ).loc Cert.RgsRefIdeal.main_arg6) = m ((c.tc : Thread Cert.RgsKernelIdeal.nD Cert.RgsKernelIdeal.τ).loc Cert.RgsKernelIdeal.main_arg6)
      ∧ m' ((c.tc : Thread Cert.RgsRefIdeal.nD Cert.RgsRefIdeal.τ).loc Cert.RgsRefIdeal.main_arg7) = m ((c.tc : Thread Cert.RgsKernelIdeal.nD Cert.RgsKernelIdeal.τ).loc Cert.RgsKernelIdeal.main_arg7)
      ∧ m' ((c.tc : Thread Cert.RgsRefIdeal.nD Cert.RgsRefIdeal.τ).loc Cert.RgsRefIdeal.main_arg8) = m ((c.tc : Thread Cert.RgsKernelIdeal.nD Cert.RgsKernelIdeal.τ).loc Cert.RgsKernelIdeal.main_arg8)
      ∧ m' ((c.tc : Thread Cert.RgsRefIdeal.nD Cert.RgsRefIdeal.τ).loc Cert.RgsRefIdeal.main_arg9) = m ((c.tc : Thread Cert.RgsKernelIdeal.nD Cert.RgsKernelIdeal.τ).loc Cert.RgsKernelIdeal.main_arg9)) →
    ∃ (v0 : (c : Dev Cert.RgsKernelIdeal.nD) → Buf (Elt Ideal) ((c.tc : Thread Cert.RgsKernelIdeal.nD Cert.RgsKernelIdeal.τ).loc Cert.RgsKernelIdeal.main_v13_0)) (v1 : (c : Dev Cert.RgsKernelIdeal.nD) → Buf (Elt Ideal) ((c.tc : Thread Cert.RgsKernelIdeal.nD Cert.RgsKernelIdeal.τ).loc Cert.RgsKernelIdeal.main_v13_1)),
      θ_run (Cert.RgsKernelIdeal.defs (F := Ideal)) (onTc (τ := Cert.RgsKernelIdeal.τ) (Cert.RgsKernelIdeal.main (F := Ideal))) ⟨m, fun _ => 0, g⟩ (fun r => ∀ c : Dev Cert.RgsKernelIdeal.nD,
          r.2.mem ((c.tc : Thread Cert.RgsKernelIdeal.nD Cert.RgsKernelIdeal.τ).loc Cert.RgsKernelIdeal.main_v13_0) = v0 c
          ∧ r.2.mem ((c.tc : Thread Cert.RgsKernelIdeal.nD Cert.RgsKernelIdeal.τ).loc Cert.RgsKernelIdeal.main_v13_1) = v1 c
          ∧ r.2.mem ((c.tc : Thread Cert.RgsKernelIdeal.nD Cert.RgsKernelIdeal.τ).loc Cert.RgsKernelIdeal.main_arg0) = m ((c.tc : Thread Cert.RgsKernelIdeal.nD Cert.RgsKernelIdeal.τ).loc Cert.RgsKernelIdeal.main_arg0)
          ∧ r.2.mem ((c.tc : Thread Cert.RgsKernelIdeal.nD Cert.RgsKernelIdeal.τ).loc Cert.RgsKernelIdeal.main_arg1) = m ((c.tc : Thread Cert.RgsKernelIdeal.nD Cert.RgsKernelIdeal.τ).loc Cert.RgsKernelIdeal.main_arg1)
          ∧ r.2.mem ((c.tc : Thread Cert.RgsKernelIdeal.nD Cert.RgsKernelIdeal.τ).loc Cert.RgsKernelIdeal.main_arg2) = m ((c.tc : Thread Cert.RgsKernelIdeal.nD Cert.RgsKernelIdeal.τ).loc Cert.RgsKernelIdeal.main_arg2)
          ∧ r.2.mem ((c.tc : Thread Cert.RgsKernelIdeal.nD Cert.RgsKernelIdeal.τ).loc Cert.RgsKernelIdeal.main_arg3) = m ((c.tc : Thread Cert.RgsKernelIdeal.nD Cert.RgsKernelIdeal.τ).loc Cert.RgsKernelIdeal.main_arg3)
          ∧ r.2.mem ((c.tc : Thread Cert.RgsKernelIdeal.nD Cert.RgsKernelIdeal.τ).loc Cert.RgsKernelIdeal.main_arg4) = m ((c.tc : Thread Cert.RgsKernelIdeal.nD Cert.RgsKernelIdeal.τ).loc Cert.RgsKernelIdeal.main_arg4)
          ∧ r.2.mem ((c.tc : Thread Cert.RgsKernelIdeal.nD Cert.RgsKernelIdeal.τ).loc Cert.RgsKernelIdeal.main_arg5) = m ((c.tc : Thread Cert.RgsKernelIdeal.nD Cert.RgsKernelIdeal.τ).loc Cert.RgsKernelIdeal.main_arg5)
          ∧ r.2.mem ((c.tc : Thread Cert.RgsKernelIdeal.nD Cert.RgsKernelIdeal.τ).loc Cert.RgsKernelIdeal.main_arg6) = m ((c.tc : Thread Cert.RgsKernelIdeal.nD Cert.RgsKernelIdeal.τ).loc Cert.RgsKernelIdeal.main_arg6)
          ∧ r.2.mem ((c.tc : Thread Cert.RgsKernelIdeal.nD Cert.RgsKernelIdeal.τ).loc Cert.RgsKernelIdeal.main_arg7) = m ((c.tc : Thread Cert.RgsKernelIdeal.nD Cert.RgsKernelIdeal.τ).loc Cert.RgsKernelIdeal.main_arg7)
          ∧ r.2.mem ((c.tc : Thread Cert.RgsKernelIdeal.nD Cert.RgsKernelIdeal.τ).loc Cert.RgsKernelIdeal.main_arg8) = m ((c.tc : Thread Cert.RgsKernelIdeal.nD Cert.RgsKernelIdeal.τ).loc Cert.RgsKernelIdeal.main_arg8)
          ∧ r.2.mem ((c.tc : Thread Cert.RgsKernelIdeal.nD Cert.RgsKernelIdeal.τ).loc Cert.RgsKernelIdeal.main_arg9) = m ((c.tc : Thread Cert.RgsKernelIdeal.nD Cert.RgsKernelIdeal.τ).loc Cert.RgsKernelIdeal.main_arg9))
      ∧ θ_run (Cert.RgsRefIdeal.defs (F := Ideal)) (onTc (τ := Cert.RgsRefIdeal.τ) (Cert.RgsRefIdeal.main (F := Ideal))) ⟨m', fun _ => 0, g'⟩ (fun r => ∀ c : Dev Cert.RgsRefIdeal.nD,
          r.2.mem ((c.tc : Thread Cert.RgsRefIdeal.nD Cert.RgsRefIdeal.τ).loc Cert.RgsRefIdeal.main_v93) = v0 c
          ∧ r.2.mem ((c.tc : Thread Cert.RgsRefIdeal.nD Cert.RgsRefIdeal.τ).loc Cert.RgsRefIdeal.main_v78) = v1 c
          ∧ r.2.mem ((c.tc : Thread Cert.RgsRefIdeal.nD Cert.RgsRefIdeal.τ).loc Cert.RgsRefIdeal.main_arg0) = m' ((c.tc : Thread Cert.RgsRefIdeal.nD Cert.RgsRefIdeal.τ).loc Cert.RgsRefIdeal.main_arg0)
          ∧ r.2.mem ((c.tc : Thread Cert.RgsRefIdeal.nD Cert.RgsRefIdeal.τ).loc Cert.RgsRefIdeal.main_arg1) = m' ((c.tc : Thread Cert.RgsRefIdeal.nD Cert.RgsRefIdeal.τ).loc Cert.RgsRefIdeal.main_arg1)
          ∧ r.2.mem ((c.tc : Thread Cert.RgsRefIdeal.nD Cert.RgsRefIdeal.τ).loc Cert.RgsRefIdeal.main_arg2) = m' ((c.tc : Thread Cert.RgsRefIdeal.nD Cert.RgsRefIdeal.τ).loc Cert.RgsRefIdeal.main_arg2)
          ∧ r.2.mem ((c.tc : Thread Cert.RgsRefIdeal.nD Cert.RgsRefIdeal.τ).loc Cert.RgsRefIdeal.main_arg3) = m' ((c.tc : Thread Cert.RgsRefIdeal.nD Cert.RgsRefIdeal.τ).loc Cert.RgsRefIdeal.main_arg3)
          ∧ r.2.mem ((c.tc : Thread Cert.RgsRefIdeal.nD Cert.RgsRefIdeal.τ).loc Cert.RgsRefIdeal.main_arg4) = m' ((c.tc : Thread Cert.RgsRefIdeal.nD Cert.RgsRefIdeal.τ).loc Cert.RgsRefIdeal.main_arg4)
          ∧ r.2.mem ((c.tc : Thread Cert.RgsRefIdeal.nD Cert.RgsRefIdeal.τ).loc Cert.RgsRefIdeal.main_arg5) = m' ((c.tc : Thread Cert.RgsRefIdeal.nD Cert.RgsRefIdeal.τ).loc Cert.RgsRefIdeal.main_arg5)
          ∧ r.2.mem ((c.tc : Thread Cert.RgsRefIdeal.nD Cert.RgsRefIdeal.τ).loc Cert.RgsRefIdeal.main_arg6) = m' ((c.tc : Thread Cert.RgsRefIdeal.nD Cert.RgsRefIdeal.τ).loc Cert.RgsRefIdeal.main_arg6)
          ∧ r.2.mem ((c.tc : Thread Cert.RgsRefIdeal.nD Cert.RgsRefIdeal.τ).loc Cert.RgsRefIdeal.main_arg7) = m' ((c.tc : Thread Cert.RgsRefIdeal.nD Cert.RgsRefIdeal.τ).loc Cert.RgsRefIdeal.main_arg7)
          ∧ r.2.mem ((c.tc : Thread Cert.RgsRefIdeal.nD Cert.RgsRefIdeal.τ).loc Cert.RgsRefIdeal.main_arg8) = m' ((c.tc : Thread Cert.RgsRefIdeal.nD Cert.RgsRefIdeal.τ).loc Cert.RgsRefIdeal.main_arg8)
          ∧ r.2.mem ((c.tc : Thread Cert.RgsRefIdeal.nD Cert.RgsRefIdeal.τ).loc Cert.RgsRefIdeal.main_arg9) = m' ((c.tc : Thread Cert.RgsRefIdeal.nD Cert.RgsRefIdeal.τ).loc Cert.RgsRefIdeal.main_arg9))

def preserves_GlasKernel_GlasKernelIdeal : Prop :=
  True

def algebraic_GlasKernelIdeal_GlasRefIdeal_pre_gates_open [hGlasKernelIdeal : Cert.GlasKernelIdeal.Facts] [hGlasRefIdeal : Cert.GlasRefIdeal.Facts] [hPre_gates_open : Cert.Pre_gates_open.Facts] : Prop :=
  ∀ (m : (ℓ : Loc Cert.GlasKernelIdeal.nD Cert.GlasKernelIdeal.τ Cert.GlasKernelIdeal.sig) → Buf (Elt Ideal) ℓ) (g : Dev Cert.GlasKernelIdeal.nD → PrngReg)
    (m' : (ℓ : Loc Cert.GlasRefIdeal.nD Cert.GlasRefIdeal.τ Cert.GlasRefIdeal.sig) → Buf (Elt Ideal) ℓ) (g' : Dev Cert.GlasRefIdeal.nD → PrngReg), Pre_GlasKernelIdeal_gates_open m →
    (∀ c : Dev Cert.GlasKernelIdeal.nD,
      m' ((c.tc : Thread Cert.GlasRefIdeal.nD Cert.GlasRefIdeal.τ).loc Cert.GlasRefIdeal.main_arg0) = m ((c.tc : Thread Cert.GlasKernelIdeal.nD Cert.GlasKernelIdeal.τ).loc Cert.GlasKernelIdeal.main_arg0)
      ∧ m' ((c.tc : Thread Cert.GlasRefIdeal.nD Cert.GlasRefIdeal.τ).loc Cert.GlasRefIdeal.main_arg1) = m ((c.tc : Thread Cert.GlasKernelIdeal.nD Cert.GlasKernelIdeal.τ).loc Cert.GlasKernelIdeal.main_arg1)
      ∧ m' ((c.tc : Thread Cert.GlasRefIdeal.nD Cert.GlasRefIdeal.τ).loc Cert.GlasRefIdeal.main_arg2) = m ((c.tc : Thread Cert.GlasKernelIdeal.nD Cert.GlasKernelIdeal.τ).loc Cert.GlasKernelIdeal.main_arg2)
      ∧ m' ((c.tc : Thread Cert.GlasRefIdeal.nD Cert.GlasRefIdeal.τ).loc Cert.GlasRefIdeal.main_arg3) = m ((c.tc : Thread Cert.GlasKernelIdeal.nD Cert.GlasKernelIdeal.τ).loc Cert.GlasKernelIdeal.main_arg3)
      ∧ m' ((c.tc : Thread Cert.GlasRefIdeal.nD Cert.GlasRefIdeal.τ).loc Cert.GlasRefIdeal.main_arg4) = m ((c.tc : Thread Cert.GlasKernelIdeal.nD Cert.GlasKernelIdeal.τ).loc Cert.GlasKernelIdeal.main_arg4)) →
    ∃ (v0 : (c : Dev Cert.GlasKernelIdeal.nD) → Buf (Elt Ideal) ((c.tc : Thread Cert.GlasKernelIdeal.nD Cert.GlasKernelIdeal.τ).loc Cert.GlasKernelIdeal.main_v4_0)) (v1 : (c : Dev Cert.GlasKernelIdeal.nD) → Buf (Elt Ideal) ((c.tc : Thread Cert.GlasKernelIdeal.nD Cert.GlasKernelIdeal.τ).loc Cert.GlasKernelIdeal.main_v4_1)),
      θ_run (Cert.GlasKernelIdeal.defs (F := Ideal)) (onTc (τ := Cert.GlasKernelIdeal.τ) (Cert.GlasKernelIdeal.main (F := Ideal))) ⟨m, fun _ => 0, g⟩ (fun r => ∀ c : Dev Cert.GlasKernelIdeal.nD,
          r.2.mem ((c.tc : Thread Cert.GlasKernelIdeal.nD Cert.GlasKernelIdeal.τ).loc Cert.GlasKernelIdeal.main_v4_0) = v0 c
          ∧ r.2.mem ((c.tc : Thread Cert.GlasKernelIdeal.nD Cert.GlasKernelIdeal.τ).loc Cert.GlasKernelIdeal.main_v4_1) = v1 c
          ∧ r.2.mem ((c.tc : Thread Cert.GlasKernelIdeal.nD Cert.GlasKernelIdeal.τ).loc Cert.GlasKernelIdeal.main_arg0) = m ((c.tc : Thread Cert.GlasKernelIdeal.nD Cert.GlasKernelIdeal.τ).loc Cert.GlasKernelIdeal.main_arg0)
          ∧ r.2.mem ((c.tc : Thread Cert.GlasKernelIdeal.nD Cert.GlasKernelIdeal.τ).loc Cert.GlasKernelIdeal.main_arg1) = m ((c.tc : Thread Cert.GlasKernelIdeal.nD Cert.GlasKernelIdeal.τ).loc Cert.GlasKernelIdeal.main_arg1)
          ∧ r.2.mem ((c.tc : Thread Cert.GlasKernelIdeal.nD Cert.GlasKernelIdeal.τ).loc Cert.GlasKernelIdeal.main_arg2) = m ((c.tc : Thread Cert.GlasKernelIdeal.nD Cert.GlasKernelIdeal.τ).loc Cert.GlasKernelIdeal.main_arg2)
          ∧ r.2.mem ((c.tc : Thread Cert.GlasKernelIdeal.nD Cert.GlasKernelIdeal.τ).loc Cert.GlasKernelIdeal.main_arg3) = m ((c.tc : Thread Cert.GlasKernelIdeal.nD Cert.GlasKernelIdeal.τ).loc Cert.GlasKernelIdeal.main_arg3)
          ∧ r.2.mem ((c.tc : Thread Cert.GlasKernelIdeal.nD Cert.GlasKernelIdeal.τ).loc Cert.GlasKernelIdeal.main_arg4) = m ((c.tc : Thread Cert.GlasKernelIdeal.nD Cert.GlasKernelIdeal.τ).loc Cert.GlasKernelIdeal.main_arg4))
      ∧ θ_run (Cert.GlasRefIdeal.defs (F := Ideal)) (onTc (τ := Cert.GlasRefIdeal.τ) (Cert.GlasRefIdeal.main (F := Ideal))) ⟨m', fun _ => 0, g'⟩ (fun r => ∀ c : Dev Cert.GlasRefIdeal.nD,
          r.2.mem ((c.tc : Thread Cert.GlasRefIdeal.nD Cert.GlasRefIdeal.τ).loc Cert.GlasRefIdeal.main_v82) = v0 c
          ∧ r.2.mem ((c.tc : Thread Cert.GlasRefIdeal.nD Cert.GlasRefIdeal.τ).loc Cert.GlasRefIdeal.main_v63) = v1 c
          ∧ r.2.mem ((c.tc : Thread Cert.GlasRefIdeal.nD Cert.GlasRefIdeal.τ).loc Cert.GlasRefIdeal.main_arg0) = m' ((c.tc : Thread Cert.GlasRefIdeal.nD Cert.GlasRefIdeal.τ).loc Cert.GlasRefIdeal.main_arg0)
          ∧ r.2.mem ((c.tc : Thread Cert.GlasRefIdeal.nD Cert.GlasRefIdeal.τ).loc Cert.GlasRefIdeal.main_arg1) = m' ((c.tc : Thread Cert.GlasRefIdeal.nD Cert.GlasRefIdeal.τ).loc Cert.GlasRefIdeal.main_arg1)
          ∧ r.2.mem ((c.tc : Thread Cert.GlasRefIdeal.nD Cert.GlasRefIdeal.τ).loc Cert.GlasRefIdeal.main_arg2) = m' ((c.tc : Thread Cert.GlasRefIdeal.nD Cert.GlasRefIdeal.τ).loc Cert.GlasRefIdeal.main_arg2)
          ∧ r.2.mem ((c.tc : Thread Cert.GlasRefIdeal.nD Cert.GlasRefIdeal.τ).loc Cert.GlasRefIdeal.main_arg3) = m' ((c.tc : Thread Cert.GlasRefIdeal.nD Cert.GlasRefIdeal.τ).loc Cert.GlasRefIdeal.main_arg3)
          ∧ r.2.mem ((c.tc : Thread Cert.GlasRefIdeal.nD Cert.GlasRefIdeal.τ).loc Cert.GlasRefIdeal.main_arg4) = m' ((c.tc : Thread Cert.GlasRefIdeal.nD Cert.GlasRefIdeal.τ).loc Cert.GlasRefIdeal.main_arg4))

def Claim : Prop :=
  ∃ (hWinKernel : Cert.WinKernel.Facts) (hWinKernelIdeal : Cert.WinKernelIdeal.Facts) (hWinRefIdeal : Cert.WinRefIdeal.Facts) (hProjKernel : Cert.ProjKernel.Facts) (hProjKernelIdeal : Cert.ProjKernelIdeal.Facts) (hProjRefIdeal : Cert.ProjRefIdeal.Facts) (hMergeKernel : Cert.MergeKernel.Facts) (hMergeKernelIdeal : Cert.MergeKernelIdeal.Facts) (hMergeRefIdeal : Cert.MergeRefIdeal.Facts) (hFfnKernel : Cert.FfnKernel.Facts) (hFfnKernelIdeal : Cert.FfnKernelIdeal.Facts) (hFfnRefIdeal : Cert.FfnRefIdeal.Facts) (hProjsKernel : Cert.ProjsKernel.Facts) (hProjsKernelIdeal : Cert.ProjsKernelIdeal.Facts) (hProjsRefIdeal : Cert.ProjsRefIdeal.Facts) (hMergesKernel : Cert.MergesKernel.Facts) (hMergesKernelIdeal : Cert.MergesKernelIdeal.Facts) (hMergesRefIdeal : Cert.MergesRefIdeal.Facts) (hFfnsKernel : Cert.FfnsKernel.Facts) (hFfnsKernelIdeal : Cert.FfnsKernelIdeal.Facts) (hFfnsRefIdeal : Cert.FfnsRefIdeal.Facts) (hRgsKernel : Cert.RgsKernel.Facts) (hRgsKernelIdeal : Cert.RgsKernelIdeal.Facts) (hRgsRefIdeal : Cert.RgsRefIdeal.Facts) (hGlasKernel : Cert.GlasKernel.Facts) (hGlasKernelIdeal : Cert.GlasKernelIdeal.Facts) (hGlasRefIdeal : Cert.GlasRefIdeal.Facts) (hPre_gates_open : Cert.Pre_gates_open.Facts),
    quiescent_WinKernel (hWinKernel := hWinKernel)
    ∧ quiescent_WinKernelIdeal (hWinKernelIdeal := hWinKernelIdeal)
    ∧ quiescent_WinRefIdeal (hWinRefIdeal := hWinRefIdeal)
    ∧ quiescent_ProjKernel (hProjKernel := hProjKernel)
    ∧ quiescent_ProjKernelIdeal (hProjKernelIdeal := hProjKernelIdeal)
    ∧ quiescent_ProjRefIdeal (hProjRefIdeal := hProjRefIdeal)
    ∧ quiescent_MergeKernel (hMergeKernel := hMergeKernel)
    ∧ quiescent_MergeKernelIdeal (hMergeKernelIdeal := hMergeKernelIdeal)
    ∧ quiescent_MergeRefIdeal (hMergeRefIdeal := hMergeRefIdeal)
    ∧ quiescent_FfnKernel (hFfnKernel := hFfnKernel)
    ∧ quiescent_FfnKernelIdeal (hFfnKernelIdeal := hFfnKernelIdeal)
    ∧ quiescent_FfnRefIdeal (hFfnRefIdeal := hFfnRefIdeal)
    ∧ quiescent_ProjsKernel (hProjsKernel := hProjsKernel)
    ∧ quiescent_ProjsKernelIdeal (hProjsKernelIdeal := hProjsKernelIdeal)
    ∧ quiescent_ProjsRefIdeal (hProjsRefIdeal := hProjsRefIdeal)
    ∧ quiescent_MergesKernel (hMergesKernel := hMergesKernel)
    ∧ quiescent_MergesKernelIdeal (hMergesKernelIdeal := hMergesKernelIdeal)
    ∧ quiescent_MergesRefIdeal (hMergesRefIdeal := hMergesRefIdeal)
    ∧ quiescent_FfnsKernel (hFfnsKernel := hFfnsKernel)
    ∧ quiescent_FfnsKernelIdeal (hFfnsKernelIdeal := hFfnsKernelIdeal)
    ∧ quiescent_FfnsRefIdeal (hFfnsRefIdeal := hFfnsRefIdeal)
    ∧ quiescent_RgsKernel (hRgsKernel := hRgsKernel)
    ∧ quiescent_RgsKernelIdeal (hRgsKernelIdeal := hRgsKernelIdeal)
    ∧ quiescent_RgsRefIdeal (hRgsRefIdeal := hRgsRefIdeal)
    ∧ quiescent_GlasKernel (hGlasKernel := hGlasKernel)
    ∧ quiescent_GlasKernelIdeal (hGlasKernelIdeal := hGlasKernelIdeal)
    ∧ quiescent_GlasKernelIdeal_pre_gates_open (hGlasKernelIdeal := hGlasKernelIdeal) (hPre_gates_open := hPre_gates_open)
    ∧ quiescent_GlasRefIdeal (hGlasRefIdeal := hGlasRefIdeal)
    ∧ quiescent_GlasRefIdeal_pre_gates_open (hGlasRefIdeal := hGlasRefIdeal) (hPre_gates_open := hPre_gates_open)
    ∧ preserves_WinKernel_WinKernelIdeal
    ∧ algebraic_WinKernelIdeal_WinRefIdeal (hWinKernelIdeal := hWinKernelIdeal) (hWinRefIdeal := hWinRefIdeal)
    ∧ preserves_ProjKernel_ProjKernelIdeal
    ∧ algebraic_ProjKernelIdeal_ProjRefIdeal (hProjKernelIdeal := hProjKernelIdeal) (hProjRefIdeal := hProjRefIdeal)
    ∧ preserves_MergeKernel_MergeKernelIdeal
    ∧ algebraic_MergeKernelIdeal_MergeRefIdeal (hMergeKernelIdeal := hMergeKernelIdeal) (hMergeRefIdeal := hMergeRefIdeal)
    ∧ preserves_FfnKernel_FfnKernelIdeal
    ∧ algebraic_FfnKernelIdeal_FfnRefIdeal (hFfnKernelIdeal := hFfnKernelIdeal) (hFfnRefIdeal := hFfnRefIdeal)
    ∧ preserves_ProjsKernel_ProjsKernelIdeal
    ∧ algebraic_ProjsKernelIdeal_ProjsRefIdeal (hProjsKernelIdeal := hProjsKernelIdeal) (hProjsRefIdeal := hProjsRefIdeal)
    ∧ preserves_MergesKernel_MergesKernelIdeal
    ∧ algebraic_MergesKernelIdeal_MergesRefIdeal (hMergesKernelIdeal := hMergesKernelIdeal) (hMergesRefIdeal := hMergesRefIdeal)
    ∧ preserves_FfnsKernel_FfnsKernelIdeal
    ∧ algebraic_FfnsKernelIdeal_FfnsRefIdeal (hFfnsKernelIdeal := hFfnsKernelIdeal) (hFfnsRefIdeal := hFfnsRefIdeal)
    ∧ preserves_RgsKernel_RgsKernelIdeal
    ∧ algebraic_RgsKernelIdeal_RgsRefIdeal (hRgsKernelIdeal := hRgsKernelIdeal) (hRgsRefIdeal := hRgsRefIdeal)
    ∧ preserves_GlasKernel_GlasKernelIdeal
    ∧ algebraic_GlasKernelIdeal_GlasRefIdeal_pre_gates_open (hGlasKernelIdeal := hGlasKernelIdeal) (hGlasRefIdeal := hGlasRefIdeal) (hPre_gates_open := hPre_gates_open)
-- ==== Pre_gates_open.lean ====
abbrev S32x1x11264 : Shape := ⟨3, ![32, 1, 11264]⟩
abbrev S32x4x128x256 : Shape := ⟨4, ![32, 4, 128, 256]⟩
abbrev S16x512 : Shape := ⟨2, ![16, 512]⟩
abbrev S512 : Shape := ⟨1, ![512]⟩
abbrev S256 : Shape := ⟨1, ![256]⟩
abbrev S32x1x16 : Shape := ⟨3, ![32, 1, 16]⟩
abbrev S32x1x512 : Shape := ⟨3, ![32, 1, 512]⟩
abbrev S1x1x512 : Shape := ⟨3, ![1, 1, 512]⟩
abbrev S_ : Shape := ⟨0, ![]⟩

class Facts : Prop where
  slices_S32x1x11264_S32x1x16_0_0_10752 : S32x1x11264.Slices ![0, 0, 10752] S32x1x16
  bcast_S512_S1x1x512_2 : S512.BroadcastsInDim S1x1x512 (![2] : Fin 1 → Fin S1x1x512.rank)
  bcast_S1x1x512_S32x1x512_0_1_2 : S1x1x512.BroadcastsInDim S32x1x512 (![0, 1, 2] : Fin 3 → Fin S32x1x512.rank)
  bcast_S_S32x1x512 : S_.BroadcastsInDim S32x1x512 (![] : Fin 0 → Fin S32x1x512.rank)
  dot_S32x1x16_S16x512_S32x1x512_2_0_01_1_n_n_wf : DotDims.WF S32x1x16 S16x512 S32x1x512 [2] [0] [0, 1] [1] [] []

variable [Facts]

def dot_S32x1x16_S16x512_S32x1x512_2_0_01_1_n_n : DotDims S32x1x16 S16x512 S32x1x512 where
  lhsContracting := [2]
  rhsContracting := [0]
  lhsNonContracting := [0, 1]
  rhsNonContracting := [1]
  lhsBatch := []
  rhsBatch := []
  wf := dot_S32x1x16_S16x512_S32x1x512_2_0_01_1_n_n_wf
def fn {F : FTy → Type} [FloatOps F] (main_arg0 : FVec F S32x1x11264 .f32) (main_arg1 : FVec F S32x4x128x256 .f32) (main_arg2 : FVec F S16x512 .f32) (main_arg3 : FVec F S512 .f32) (main_arg4 : FVec F S256 .f32) : IVec S32x1x512 1 :=
  let main_v0 : FVec F S32x1x16 .f32 := (extractStridedSlice S32x1x16 ![0, 0, 10752] · slices_S32x1x11264_S32x1x16_0_0_10752) main_arg0
  let main_v1 : FVec F S32x1x512 .f32 := (fun l r => Host.dotGeneral dot_S32x1x16_S16x512_S32x1x512_2_0_01_1_n_n none l r) main_v0 main_arg2
  let main_v2 : FVec F S1x1x512 .f32 := broadcastInDim S1x1x512 ![2] bcast_S512_S1x1x512_2 main_arg3
  let main_v3 : FVec F S32x1x512 .f32 := broadcastInDim S32x1x512 ![0, 1, 2] bcast_S1x1x512_S32x1x512_0_1_2 main_v2
  let main_v4 : FVec F S32x1x512 .f32 := addf main_v1 main_v3
  let main_cst : FVec F S_ .f32 := constant S_ .f32 0xFF800000#32
  let main_v5 : FVec F S32x1x512 .f32 := broadcastInDim S32x1x512 ![] bcast_S_S32x1x512 main_cst
  let main_v6 : IVec S32x1x512 1 := cmpf .ogt main_v4 main_v5
  main_v6
-- ==== WinKernel.lean ====
abbrev S4x4096x4x4x64 : Shape := ⟨5, ![4, 4096, 4, 4, 64]⟩
abbrev S4x4096x2x4x64 : Shape := ⟨5, ![4, 4096, 2, 4, 64]⟩
abbrev S4x4096x4x4x3 : Shape := ⟨5, ![4, 4096, 4, 4, 3]⟩
abbrev S4x4096x16x64 : Shape := ⟨4, ![4, 4096, 16, 64]⟩
abbrev S4x16x4096x64 : Shape := ⟨4, ![4, 16, 4096, 64]⟩
abbrev S4x4096x1x4x64 : Shape := ⟨5, ![4, 4096, 1, 4, 64]⟩
abbrev S4x4096x4x64 : Shape := ⟨4, ![4, 4096, 4, 64]⟩
abbrev S4x4x4096x64 : Shape := ⟨4, ![4, 4, 4096, 64]⟩
abbrev S4x4096x4x12 : Shape := ⟨4, ![4, 4096, 4, 12]⟩
abbrev S4x4x4096x12 : Shape := ⟨4, ![4, 4, 4096, 12]⟩
abbrev S16 : Shape := ⟨1, ![16]⟩
abbrev S_ : Shape := ⟨0, ![]⟩
abbrev S4x4 : Shape := ⟨2, ![4, 4]⟩
abbrev S4x4x128 : Shape := ⟨3, ![4, 4, 128]⟩
abbrev S4x512 : Shape := ⟨2, ![4, 512]⟩
abbrev S4x512x1 : Shape := ⟨3, ![4, 512, 1]⟩
abbrev S4x4096x1024 : Shape := ⟨3, ![4, 4096, 1024]⟩
abbrev S1x4x128x64 : Shape := ⟨4, ![1, 4, 128, 64]⟩
abbrev S1x1x4096x64 : Shape := ⟨4, ![1, 1, 4096, 64]⟩
abbrev S1x1x128x12 : Shape := ⟨4, ![1, 1, 128, 12]⟩
abbrev S1x512x1 : Shape := ⟨3, ![1, 512, 1]⟩
abbrev S1x128x256 : Shape := ⟨3, ![1, 128, 256]⟩
abbrev S1x1x640x64 : Shape := ⟨4, ![1, 1, 640, 64]⟩
abbrev S640x64 : Shape := ⟨2, ![640, 64]⟩
abbrev S128x640 : Shape := ⟨2, ![128, 640]⟩
abbrev S1x640 : Shape := ⟨2, ![1, 640]⟩
abbrev S4x128x64 : Shape := ⟨3, ![4, 128, 64]⟩
abbrev S512x64 : Shape := ⟨2, ![512, 64]⟩
abbrev S512x640 : Shape := ⟨2, ![512, 640]⟩
abbrev S1x1x1 : Shape := ⟨3, ![1, 1, 1]⟩
abbrev S1x1 : Shape := ⟨2, ![1, 1]⟩
abbrev S128 : Shape := ⟨1, ![128]⟩
abbrev S128x1 : Shape := ⟨2, ![128, 1]⟩
abbrev S512x1 : Shape := ⟨2, ![512, 1]⟩
abbrev S128x12 : Shape := ⟨2, ![128, 12]⟩
abbrev S128x64 : Shape := ⟨2, ![128, 64]⟩
abbrev S128x256 : Shape := ⟨2, ![128, 256]⟩

abbrev nBuf : Space → Nat
  | .hbm => 34
  | .vmem => 12
  | .smem => 0
  | _ => 0

abbrev bufTy : (tb : Table) → Fin (tcTables nBuf tb) → BufTy
  | .hbm, ⟨0, _⟩ => ⟨S4x4096x4x4x64, .f32⟩
  | .hbm, ⟨1, _⟩ => ⟨S4x4096x2x4x64, .f32⟩
  | .hbm, ⟨2, _⟩ => ⟨S4x4096x4x4x3, .f32⟩
  | .hbm, ⟨3, _⟩ => ⟨S4x4096x16x64, .f32⟩
  | .hbm, ⟨4, _⟩ => ⟨S4x16x4096x64, .f32⟩
  | .hbm, ⟨5, _⟩ => ⟨S4x16x4096x64, .bf16⟩
  | .hbm, ⟨6, _⟩ => ⟨S4x4096x1x4x64, .f32⟩
  | .hbm, ⟨7, _⟩ => ⟨S4x4096x4x64, .f32⟩
  | .hbm, ⟨8, _⟩ => ⟨S4x4x4096x64, .f32⟩
  | .hbm, ⟨9, _⟩ => ⟨S4x4x4096x64, .bf16⟩
  | .hbm, ⟨10, _⟩ => ⟨S4x4096x1x4x64, .f32⟩
  | .hbm, ⟨11, _⟩ => ⟨S4x4096x4x64, .f32⟩
  | .hbm, ⟨12, _⟩ => ⟨S4x4x4096x64, .f32⟩
  | .hbm, ⟨13, _⟩ => ⟨S4x4x4096x64, .bf16⟩
  | .hbm, ⟨14, _⟩ => ⟨S4x4096x4x12, .f32⟩
  | .hbm, ⟨15, _⟩ => ⟨S4x4x4096x12, .f32⟩
  | .hbm, ⟨16, _⟩ => ⟨S16, .f32⟩
  | .hbm, ⟨17, _⟩ => ⟨S_, .f32⟩
  | .hbm, ⟨18, _⟩ => ⟨S16, .f32⟩
  | .hbm, ⟨19, _⟩ => ⟨S16, .f32⟩
  | .hbm, ⟨20, _⟩ => ⟨S_, .f32⟩
  | .hbm, ⟨21, _⟩ => ⟨S16, .f32⟩
  | .hbm, ⟨22, _⟩ => ⟨S16, .f32⟩
  | .hbm, ⟨23, _⟩ => ⟨S_, .f32⟩
  | .hbm, ⟨24, _⟩ => ⟨S16, .f32⟩
  | .hbm, ⟨25, _⟩ => ⟨S16, .f32⟩
  | .hbm, ⟨26, _⟩ => ⟨S_, .f32⟩
  | .hbm, ⟨27, _⟩ => ⟨S16, .f32⟩
  | .hbm, ⟨28, _⟩ => ⟨S16, .f32⟩
  | .hbm, ⟨29, _⟩ => ⟨S4x4, .f32⟩
  | .hbm, ⟨30, _⟩ => ⟨S4x4x128, .f32⟩
  | .hbm, ⟨31, _⟩ => ⟨S4x512, .f32⟩
  | .hbm, ⟨32, _⟩ => ⟨S4x512x1, .f32⟩
  | .hbm, ⟨33, _⟩ => ⟨S4x4096x1024, .f32⟩
  | .local _ .vmem, ⟨0, _⟩ => ⟨S1x4x128x64, .bf16⟩
  | .local _ .vmem, ⟨1, _⟩ => ⟨S1x4x128x64, .bf16⟩
  | .local _ .vmem, ⟨2, _⟩ => ⟨S1x1x4096x64, .bf16⟩
  | .local _ .vmem, ⟨3, _⟩ => ⟨S1x1x4096x64, .bf16⟩
  | .local _ .vmem, ⟨4, _⟩ => ⟨S1x1x4096x64, .bf16⟩
  | .local _ .vmem, ⟨5, _⟩ => ⟨S1x1x4096x64, .bf16⟩
  | .local _ .vmem, ⟨6, _⟩ => ⟨S1x1x128x12, .f32⟩
  | .local _ .vmem, ⟨7, _⟩ => ⟨S1x1x128x12, .f32⟩
  | .local _ .vmem, ⟨8, _⟩ => ⟨S1x512x1, .f32⟩
  | .local _ .vmem, ⟨9, _⟩ => ⟨S1x512x1, .f32⟩
  | .local _ .vmem, ⟨10, _⟩ => ⟨S1x128x256, .f32⟩
  | .local _ .vmem, ⟨11, _⟩ => ⟨S1x128x256, .f32⟩
  | _, _ => ⟨S4x4096x4x4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst : Ref sig .tc := ⟨.hbm, 17, rfl⟩
abbrev main_v14 : Ref sig .tc := ⟨.hbm, 18, rfl⟩
abbrev main_v15 : Ref sig .tc := ⟨.hbm, 19, rfl⟩
abbrev main_cst_0 : Ref sig .tc := ⟨.hbm, 20, rfl⟩
abbrev main_v16 : Ref sig .tc := ⟨.hbm, 21, rfl⟩
abbrev main_v17 : Ref sig .tc := ⟨.hbm, 22, rfl⟩
abbrev main_cst_1 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 4, 32], ![false, false, false]⟩

def k0_mult1 (i : grid0.Coords) : BitVec 32 :=
  let arg2 : BitVec 32 := BitVec.ofNat 32 (i 2).val
  let c128_i32 : BitVec 32 := 128#32
  let v0 : BitVec 32 := Scalar.muli arg2 c128_i32
  let c512_i32 : BitVec 32 := 512#32
  let v1 : BitVec 32 := Scalar.subi v0 c512_i32
  let c0_i32 : BitVec 32 := 0#32
  let v2 : BitVec 32 := Scalar.maxsi v1 c0_i32
  v2
def k0_off1 (i : grid0.Coords) : Fin 4 → Nat :=
  let c0 : Index := 0#32
  let c0_0 : Index := 0#32
  let arg2 : BitVec 32 := BitVec.ofNat 32 (i 2).val
  let c128_i32 : BitVec 32 := 128#32
  let v0 : BitVec 32 := Scalar.muli arg2 c128_i32
  let c512_i32 : BitVec 32 := 512#32
  let v1 : BitVec 32 := Scalar.subi v0 c512_i32
  let c0_i32 : BitVec 32 := 0#32
  let v2 : BitVec 32 := Scalar.maxsi v1 c0_i32
  let v3 : BitVec 32 := v2
  let v4 : Index := Scalar.indexCast v3
  let c0_1 : Index := 0#32
  ![0, 0, v4.toNat, 0]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x4x128x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x4096x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x4096x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x128x12 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1x128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== WinKernelIdeal.lean ====
variable {F : FTy → Type} [FloatOps F] [Named F]
def κ : String → Option EReal := fun
  | "mask" => some ⊥
  | _ => none
-- ==== WinRefIdeal.lean ====
abbrev S4x4096x4x4x64 : Shape := ⟨5, ![4, 4096, 4, 4, 64]⟩
abbrev S4x4096x2x4x64 : Shape := ⟨5, ![4, 4096, 2, 4, 64]⟩
abbrev S4x4096x4x4x3 : Shape := ⟨5, ![4, 4096, 4, 4, 3]⟩
abbrev S4x4096x1x4x64 : Shape := ⟨5, ![4, 4096, 1, 4, 64]⟩
abbrev S4x4096x4x64 : Shape := ⟨4, ![4, 4096, 4, 64]⟩
abbrev S4096 : Shape := ⟨1, ![4096]⟩
abbrev S4x4x4096x4096x4 : Shape := ⟨5, ![4, 4, 4096, 4096, 4]⟩
abbrev S4x4x4x4096x4096 : Shape := ⟨5, ![4, 4, 4, 4096, 4096]⟩
abbrev S4096x1 : Shape := ⟨2, ![4096, 1]⟩
abbrev S1x4096 : Shape := ⟨2, ![1, 4096]⟩
abbrev S4096x4096 : Shape := ⟨2, ![4096, 4096]⟩
abbrev S_ : Shape := ⟨0, ![]⟩
abbrev S16 : Shape := ⟨1, ![16]⟩
abbrev S4x4 : Shape := ⟨2, ![4, 4]⟩
abbrev S1x4x4x1x1 : Shape := ⟨5, ![1, 4, 4, 1, 1]⟩
abbrev S1x1x1x4096x4096 : Shape := ⟨5, ![1, 1, 1, 4096, 4096]⟩
abbrev S1x4x4x4096x4096 : Shape := ⟨5, ![1, 4, 4, 4096, 4096]⟩
abbrev S4x4x4x4096 : Shape := ⟨4, ![4, 4, 4, 4096]⟩
abbrev S4x4x4x4096x1 : Shape := ⟨5, ![4, 4, 4, 4096, 1]⟩
abbrev S4x4x64x4x4096 : Shape := ⟨5, ![4, 4, 64, 4, 4096]⟩
abbrev S4x4096x4x4x1 : Shape := ⟨5, ![4, 4096, 4, 4, 1]⟩
abbrev S4x4096x1024 : Shape := ⟨3, ![4, 4096, 1024]⟩

abbrev nBuf : Space → Nat
  | .hbm => 74
  | .vmem => 0
  | .smem => 0
  | _ => 0

abbrev bufTy : (tb : Table) → Fin (tcTables nBuf tb) → BufTy
  | .hbm, ⟨0, _⟩ => ⟨S4x4096x4x4x64, .f32⟩
  | .hbm, ⟨1, _⟩ => ⟨S4x4096x2x4x64, .f32⟩
  | .hbm, ⟨2, _⟩ => ⟨S4x4096x4x4x3, .f32⟩
  | .hbm, ⟨3, _⟩ => ⟨S4x4096x1x4x64, .f32⟩
  | .hbm, ⟨4, _⟩ => ⟨S4x4096x4x64, .f32⟩
  | .hbm, ⟨5, _⟩ => ⟨S4x4096x1x4x64, .f32⟩
  | .hbm, ⟨6, _⟩ => ⟨S4x4096x4x64, .f32⟩
  | .hbm, ⟨7, _⟩ => ⟨S4096, .i32⟩
  | .hbm, ⟨8, _⟩ => ⟨S4x4x4096x4096x4, .f32⟩
  | .hbm, ⟨9, _⟩ => ⟨S4x4x4x4096x4096, .f32⟩
  | .hbm, ⟨10, _⟩ => ⟨S4096x1, .i32⟩
  | .hbm, ⟨11, _⟩ => ⟨S1x4096, .i32⟩
  | .hbm, ⟨12, _⟩ => ⟨S4096x4096, .i32⟩
  | .hbm, ⟨13, _⟩ => ⟨S4096x4096, .i32⟩
  | .hbm, ⟨14, _⟩ => ⟨S4096x4096, .i32⟩
  | .hbm, ⟨15, _⟩ => ⟨S_, .i32⟩
  | .hbm, ⟨16, _⟩ => ⟨S4096x4096, .i32⟩
  | .hbm, ⟨17, _⟩ => ⟨S4096x4096, .i1⟩
  | .hbm, ⟨18, _⟩ => ⟨S_, .i32⟩
  | .hbm, ⟨19, _⟩ => ⟨S4096x4096, .i32⟩
  | .hbm, ⟨20, _⟩ => ⟨S4096x4096, .i1⟩
  | .hbm, ⟨21, _⟩ => ⟨S4096x4096, .i1⟩
  | .hbm, ⟨22, _⟩ => ⟨S16, .f32⟩
  | .hbm, ⟨23, _⟩ => ⟨S_, .f32⟩
  | .hbm, ⟨24, _⟩ => ⟨S16, .f32⟩
  | .hbm, ⟨25, _⟩ => ⟨S16, .f32⟩
  | .hbm, ⟨26, _⟩ => ⟨S_, .f32⟩
  | .hbm, ⟨27, _⟩ => ⟨S16, .f32⟩
  | .hbm, ⟨28, _⟩ => ⟨S16, .f32⟩
  | .hbm, ⟨29, _⟩ => ⟨S_, .f32⟩
  | .hbm, ⟨30, _⟩ => ⟨S16, .f32⟩
  | .hbm, ⟨31, _⟩ => ⟨S16, .f32⟩
  | .hbm, ⟨32, _⟩ => ⟨S_, .f32⟩
  | .hbm, ⟨33, _⟩ => ⟨S16, .f32⟩
  | .hbm, ⟨34, _⟩ => ⟨S16, .f32⟩
  | .hbm, ⟨35, _⟩ => ⟨S4x4, .f32⟩
  | .hbm, ⟨36, _⟩ => ⟨S1x4x4x1x1, .f32⟩
  | .hbm, ⟨37, _⟩ => ⟨S4096x4096, .f32⟩
  | .hbm, ⟨38, _⟩ => ⟨S1x1x1x4096x4096, .f32⟩
  | .hbm, ⟨39, _⟩ => ⟨S1x4x4x4096x4096, .f32⟩
  | .hbm, ⟨40, _⟩ => ⟨S1x4x4x4096x4096, .f32⟩
  | .hbm, ⟨41, _⟩ => ⟨S1x4x4x4096x4096, .f32⟩
  | .hbm, ⟨42, _⟩ => ⟨S4x4x4x4096x4096, .f32⟩
  | .hbm, ⟨43, _⟩ => ⟨S4x4x4x4096x4096, .f32⟩
  | .hbm, ⟨44, _⟩ => ⟨S_, .f32⟩
  | .hbm, ⟨45, _⟩ => ⟨S_, .f32⟩
  | .hbm, ⟨46, _⟩ => ⟨S4x4x4x4096x4096, .i1⟩
  | .hbm, ⟨47, _⟩ => ⟨S4x4x4x4096x4096, .f32⟩
  | .hbm, ⟨48, _⟩ => ⟨S4x4x4x4096x4096, .f32⟩
  | .hbm, ⟨49, _⟩ => ⟨S_, .f32⟩
  | .hbm, ⟨50, _⟩ => ⟨S4x4x4x4096, .f32⟩
  | .hbm, ⟨51, _⟩ => ⟨S4x4x4x4096x1, .f32⟩
  | .hbm, ⟨52, _⟩ => ⟨S4x4x4x4096x4096, .f32⟩
  | .hbm, ⟨53, _⟩ => ⟨S4x4x4x4096x4096, .f32⟩
  | .hbm, ⟨54, _⟩ => ⟨S4x4x4x4096x4096, .f32⟩
  | .hbm, ⟨55, _⟩ => ⟨S_, .f32⟩
  | .hbm, ⟨56, _⟩ => ⟨S_, .f32⟩
  | .hbm, ⟨57, _⟩ => ⟨S4x4x4x4096x4096, .i1⟩
  | .hbm, ⟨58, _⟩ => ⟨S4x4x4x4096x4096, .f32⟩
  | .hbm, ⟨59, _⟩ => ⟨S4x4x4x4096x4096, .f32⟩
  | .hbm, ⟨60, _⟩ => ⟨S_, .f32⟩
  | .hbm, ⟨61, _⟩ => ⟨S4x4x4x4096, .f32⟩
  | .hbm, ⟨62, _⟩ => ⟨S4x4x4x4096x1, .f32⟩
  | .hbm, ⟨63, _⟩ => ⟨S_, .f32⟩
  | .hbm, ⟨64, _⟩ => ⟨S4x4x4x4096x1, .f32⟩
  | .hbm, ⟨65, _⟩ => ⟨S4x4x4x4096x1, .f32⟩
  | .hbm, ⟨66, _⟩ => ⟨S4x4x4x4096x4096, .f32⟩
  | .hbm, ⟨67, _⟩ => ⟨S4x4x4x4096x4096, .f32⟩
  | .hbm, ⟨68, _⟩ => ⟨S4x4x64x4x4096, .f32⟩
  | .hbm, ⟨69, _⟩ => ⟨S4x4096x4x4x64, .f32⟩
  | .hbm, ⟨70, _⟩ => ⟨S4x4096x4x4x1, .f32⟩
  | .hbm, ⟨71, _⟩ => ⟨S4x4096x4x4x64, .f32⟩
  | .hbm, ⟨72, _⟩ => ⟨S4x4096x4x4x64, .f32⟩
  | .hbm, ⟨73, _⟩ => ⟨S4x4096x1024, .f32⟩
  | _, _ => ⟨S4x4096x4x4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_c : Ref sig .tc := ⟨.hbm, 15, rfl⟩
abbrev main_v12 : Ref sig .tc := ⟨.hbm, 16, rfl⟩
abbrev main_v13 : Ref sig .tc := ⟨.hbm, 17, rfl⟩
abbrev main_c_0 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst : Ref sig .tc := ⟨.hbm, 23, rfl⟩
abbrev main_v18 : Ref sig .tc := ⟨.hbm, 24, rfl⟩
abbrev main_v19 : Ref sig .tc := ⟨.hbm, 25, rfl⟩
abbrev main_cst_1 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_4 : Ref sig .tc := ⟨.hbm, 44, rfl⟩
abbrev main_call0_v0 : Ref sig .tc := ⟨.hbm, 45, rfl⟩
abbrev main_call0_v1 : Ref sig .tc := ⟨.hbm, 46, rfl⟩
abbrev main_call0_v2 : Ref sig .tc := ⟨.hbm, 47, rfl⟩
abbrev main_v35 : Ref sig .tc := ⟨.hbm, 48, rfl⟩
abbrev main_cst_5 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_6 : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_v41 : Ref sig .tc := ⟨.hbm, 59, rfl⟩
abbrev main_cst_7 : Ref sig .tc := ⟨.hbm, 60, rfl⟩
abbrev main_v42 : Ref sig .tc := ⟨.hbm, 61, rfl⟩
abbrev main_v43 : Ref sig .tc := ⟨.hbm, 62, rfl⟩
abbrev main_cst_8 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]
-- ==== ProjKernel.lean ====
abbrev S4x4096x1024 : Shape := ⟨3, ![4, 4096, 1024]⟩
abbrev S1024 : Shape := ⟨1, ![1024]⟩
abbrev S1024x10816 : Shape := ⟨2, ![1024, 10816]⟩
abbrev S16384x1024 : Shape := ⟨2, ![16384, 1024]⟩
abbrev S1x1024 : Shape := ⟨2, ![1, 1024]⟩
abbrev S1024x1024 : Shape := ⟨2, ![1024, 1024]⟩
abbrev S1024x512 : Shape := ⟨2, ![1024, 512]⟩
abbrev S1024x16 : Shape := ⟨2, ![1024, 16]⟩
abbrev S1024x48 : Shape := ⟨2, ![1024, 48]⟩
abbrev S1024x3072 : Shape := ⟨2, ![1024, 3072]⟩
abbrev S_ : Shape := ⟨0, ![]⟩
abbrev S1024x448 : Shape := ⟨2, ![1024, 448]⟩
abbrev S1024x11264 : Shape := ⟨2, ![1024, 11264]⟩
abbrev S16384x11264 : Shape := ⟨2, ![16384, 11264]⟩
abbrev S1024x1 : Shape := ⟨2, ![1024, 1]⟩

abbrev nBuf : Space → Nat
  | .hbm => 23
  | .vmem => 8
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x10816, .f32⟩
  | .hbm, ⟨3, _⟩ => ⟨S16384x1024, .f32⟩
  | .hbm, ⟨4, _⟩ => ⟨S1x1024, .f32⟩
  | .hbm, ⟨5, _⟩ => ⟨S1024x1024, .f32⟩
  | .hbm, ⟨6, _⟩ => ⟨S1024x1024, .f32⟩
  | .hbm, ⟨7, _⟩ => ⟨S1024x512, .f32⟩
  | .hbm, ⟨8, _⟩ => ⟨S1024x512, .f32⟩
  | .hbm, ⟨9, _⟩ => ⟨S1024x1024, .f32⟩
  | .hbm, ⟨10, _⟩ => ⟨S1024x1024, .f32⟩
  | .hbm, ⟨11, _⟩ => ⟨S1024x16, .f32⟩
  | .hbm, ⟨12, _⟩ => ⟨S1024x1024, .f32⟩
  | .hbm, ⟨13, _⟩ => ⟨S1024x512, .f32⟩
  | .hbm, ⟨14, _⟩ => ⟨S1024x512, .f32⟩
  | .hbm, ⟨15, _⟩ => ⟨S1024x512, .f32⟩
  | .hbm, ⟨16, _⟩ => ⟨S1024x48, .f32⟩
  | .hbm, ⟨17, _⟩ => ⟨S1024x3072, .f32⟩
  | .hbm, ⟨18, _⟩ => ⟨S_, .f32⟩
  | .hbm, ⟨19, _⟩ => ⟨S1024x448, .f32⟩
  | .hbm, ⟨20, _⟩ => ⟨S1024x11264, .f32⟩
  | .hbm, ⟨21, _⟩ => ⟨S1024x11264, .bf16⟩
  | .hbm, ⟨22, _⟩ => ⟨S16384x11264, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x512, .bf16⟩
  | .local _ .vmem, ⟨4, _⟩ => ⟨S1024x512, .bf16⟩
  | .local _ .vmem, ⟨5, _⟩ => ⟨S1024x512, .f32⟩
  | .local _ .vmem, ⟨6, _⟩ => ⟨S1024x512, .f32⟩
  | .local _ .vmem, ⟨7, _⟩ => ⟨S1024x1024, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 22], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ProjKernelIdeal.lean ====
abbrev S4x4096x1024 : Shape := ⟨3, ![4, 4096, 1024]⟩
abbrev S1024 : Shape := ⟨1, ![1024]⟩
abbrev S1024x10816 : Shape := ⟨2, ![1024, 10816]⟩
abbrev S16384x1024 : Shape := ⟨2, ![16384, 1024]⟩
abbrev S1x1024 : Shape := ⟨2, ![1, 1024]⟩
abbrev S1024x1024 : Shape := ⟨2, ![1024, 1024]⟩
abbrev S1024x512 : Shape := ⟨2, ![1024, 512]⟩
abbrev S1024x16 : Shape := ⟨2, ![1024, 16]⟩
abbrev S1024x48 : Shape := ⟨2, ![1024, 48]⟩
abbrev S1024x3072 : Shape := ⟨2, ![1024, 3072]⟩
abbrev S_ : Shape := ⟨0, ![]⟩
abbrev S1024x448 : Shape := ⟨2, ![1024, 448]⟩
abbrev S1024x11264 : Shape := ⟨2, ![1024, 11264]⟩
abbrev S16384x11264 : Shape := ⟨2, ![16384, 11264]⟩
abbrev S1024x1 : Shape := ⟨2, ![1024, 1]⟩

abbrev nBuf : Space → Nat
  | .hbm => 23
  | .vmem => 8
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x10816, .f32⟩
  | .hbm, ⟨3, _⟩ => ⟨S16384x1024, .f32⟩
  | .hbm, ⟨4, _⟩ => ⟨S1x1024, .f32⟩
  | .hbm, ⟨5, _⟩ => ⟨S1024x1024, .f32⟩
  | .hbm, ⟨6, _⟩ => ⟨S1024x1024, .f32⟩
  | .hbm, ⟨7, _⟩ => ⟨S1024x512, .f32⟩
  | .hbm, ⟨8, _⟩ => ⟨S1024x512, .f32⟩
  | .hbm, ⟨9, _⟩ => ⟨S1024x1024, .f32⟩
  | .hbm, ⟨10, _⟩ => ⟨S1024x1024, .f32⟩
  | .hbm, ⟨11, _⟩ => ⟨S1024x16, .f32⟩
  | .hbm, ⟨12, _⟩ => ⟨S1024x1024, .f32⟩
  | .hbm, ⟨13, _⟩ => ⟨S1024x512, .f32⟩
  | .hbm, ⟨14, _⟩ => ⟨S1024x512, .f32⟩
  | .hbm, ⟨15, _⟩ => ⟨S1024x512, .f32⟩
  | .hbm, ⟨16, _⟩ => ⟨S1024x48, .f32⟩
  | .hbm, ⟨17, _⟩ => ⟨S1024x3072, .f32⟩
  | .hbm, ⟨18, _⟩ => ⟨S_, .f32⟩
  | .hbm, ⟨19, _⟩ => ⟨S1024x448, .f32⟩
  | .hbm, ⟨20, _⟩ => ⟨S1024x11264, .f32⟩
  | .hbm, ⟨21, _⟩ => ⟨S1024x11264, .bf16⟩
  | .hbm, ⟨22, _⟩ => ⟨S16384x11264, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x512, .bf16⟩
  | .local _ .vmem, ⟨4, _⟩ => ⟨S1024x512, .bf16⟩
  | .local _ .vmem, ⟨5, _⟩ => ⟨S1024x512, .f32⟩
  | .local _ .vmem, ⟨6, _⟩ => ⟨S1024x512, .f32⟩
  | .local _ .vmem, ⟨7, _⟩ => ⟨S1024x1024, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 22], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ProjRefIdeal.lean ====
abbrev S4x4096x1024 : Shape := ⟨3, ![4, 4096, 1024]⟩
abbrev S1024 : Shape := ⟨1, ![1024]⟩
abbrev S1024x10816 : Shape := ⟨2, ![1024, 10816]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x10816 : Shape := ⟨3, ![4, 4096, 10816]⟩
abbrev S4x4096x512 : Shape := ⟨3, ![4, 4096, 512]⟩
abbrev S4x4096x16 : Shape := ⟨3, ![4, 4096, 16]⟩
abbrev S4x4096x48 : Shape := ⟨3, ![4, 4096, 48]⟩
abbrev S4x4096x3072 : Shape := ⟨3, ![4, 4096, 3072]⟩
abbrev S4x4096x448 : Shape := ⟨3, ![4, 4096, 448]⟩
abbrev S4x4096x11264 : Shape := ⟨3, ![4, 4096, 11264]⟩
abbrev S16384x11264 : Shape := ⟨2, ![16384, 11264]⟩

abbrev nBuf : Space → Nat
  | .hbm => 37
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x10816, .f32⟩
  | .hbm, ⟨3, _⟩ => ⟨S4x4096x1024, .f32⟩
  | .hbm, ⟨4, _⟩ => ⟨S_, .f32⟩
  | .hbm, ⟨5, _⟩ => ⟨S4x4096, .f32⟩
  | .hbm, ⟨6, _⟩ => ⟨S4x4096x1, .f32⟩
  | .hbm, ⟨7, _⟩ => ⟨S_, .f32⟩
  | .hbm, ⟨8, _⟩ => ⟨S4x4096x1, .f32⟩
  | .hbm, ⟨9, _⟩ => ⟨S4x4096x1, .f32⟩
  | .hbm, ⟨10, _⟩ => ⟨S_, .f32⟩
  | .hbm, ⟨11, _⟩ => ⟨S4x4096x1, .f32⟩
  | .hbm, ⟨12, _⟩ => ⟨S4x4096x1, .f32⟩
  | .hbm, ⟨13, _⟩ => ⟨S4x4096x1, .f32⟩
  | .hbm, ⟨14, _⟩ => ⟨S4x4096x1024, .f32⟩
  | .hbm, ⟨15, _⟩ => ⟨S4x4096x1024, .f32⟩
  | .hbm, ⟨16, _⟩ => ⟨S1x1x1024, .f32⟩
  | .hbm, ⟨17, _⟩ => ⟨S4x4096x1024, .f32⟩
  | .hbm, ⟨18, _⟩ => ⟨S4x4096x1024, .f32⟩
  | .hbm, ⟨19, _⟩ => ⟨S4x4096x10816, .f32⟩
  | .hbm, ⟨20, _⟩ => ⟨S4x4096x1024, .f32⟩
  | .hbm, ⟨21, _⟩ => ⟨S4x4096x1024, .f32⟩
  | .hbm, ⟨22, _⟩ => ⟨S4x4096x512, .f32⟩
  | .hbm, ⟨23, _⟩ => ⟨S4x4096x512, .f32⟩
  | .hbm, ⟨24, _⟩ => ⟨S4x4096x1024, .f32⟩
  | .hbm, ⟨25, _⟩ => ⟨S4x4096x1024, .f32⟩
  | .hbm, ⟨26, _⟩ => ⟨S4x4096x16, .f32⟩
  | .hbm, ⟨27, _⟩ => ⟨S4x4096x1024, .f32⟩
  | .hbm, ⟨28, _⟩ => ⟨S4x4096x512, .f32⟩
  | .hbm, ⟨29, _⟩ => ⟨S4x4096x512, .f32⟩
  | .hbm, ⟨30, _⟩ => ⟨S4x4096x512, .f32⟩
  | .hbm, ⟨31, _⟩ => ⟨S4x4096x48, .f32⟩
  | .hbm, ⟨32, _⟩ => ⟨S4x4096x3072, .f32⟩
  | .hbm, ⟨33, _⟩ => ⟨S_, .f32⟩
  | .hbm, ⟨34, _⟩ => ⟨S4x4096x448, .f32⟩
  | .hbm, ⟨35, _⟩ => ⟨S4x4096x11264, .f32⟩
  | .hbm, ⟨36, _⟩ => ⟨S16384x11264, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_2 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩

abbrev nD : Nat := 1
abbrev τ : Topo := Topo.v7x

variable {F : FTy → Type} [FloatOps F]
-- ==== MergeKernel.lean ====
abbrev S4x4096x1024 : Shape := ⟨3, ![4, 4096, 1024]⟩
abbrev S4x4096x11264 : Shape := ⟨3, ![4, 4096, 11264]⟩
abbrev S1024x1024 : Shape := ⟨2, ![1024, 1024]⟩
abbrev S16384x1024 : Shape := ⟨2, ![16384, 1024]⟩
abbrev S16384x11264 : Shape := ⟨2, ![16384, 11264]⟩
abbrev S256x1024 : Shape := ⟨2, ![256, 1024]⟩

abbrev nBuf : Space → Nat
  | .hbm => 23
  | .vmem => 24
  | .smem => 0
  | _ => 0

abbrev bufTy : (tb : Table) → Fin (tcTables nBuf tb) → BufTy
  | .hbm, ⟨0, _⟩ => ⟨S4x4096x1024, .f32⟩
  | .hbm, ⟨1, _⟩ => ⟨S4x4096x11264, .f32⟩
  | .hbm, ⟨2, _⟩ => ⟨S4x4096x1024, .f32⟩
  | .hbm, ⟨3, _⟩ => ⟨S4x4096x1024, .f32⟩
  | .hbm, ⟨4, _⟩ => ⟨S4x4096x1024, .f32⟩
  | .hbm, ⟨5, _⟩ => ⟨S4x4096x1024, .f32⟩
  | .hbm, ⟨6, _⟩ => ⟨S4x4096x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S16384x1024, .f32⟩
  | .hbm, ⟨12, _⟩ => ⟨S16384x11264, .f32⟩
  | .hbm, ⟨13, _⟩ => ⟨S16384x1024, .f32⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S1024x1024, .bf16⟩
  | .hbm, ⟨19, _⟩ => ⟨S1024x1024, .bf16⟩
  | .hbm, ⟨20, _⟩ => ⟨S1024x1024, .bf16⟩
  | .hbm, ⟨21, _⟩ => ⟨S1024x1024, .bf16⟩
  | .hbm, ⟨22, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S1024x1024, .bf16⟩
  | .local _ .vmem, ⟨19, _⟩ => ⟨S1024x1024, .bf16⟩
  | .local _ .vmem, ⟨20, _⟩ => ⟨S1024x1024, .bf16⟩
  | .local _ .vmem, ⟨21, _⟩ => ⟨S1024x1024, .bf16⟩
  | .local _ .vmem, ⟨22, _⟩ => ⟨S256x1024, .f32⟩
  | .local _ .vmem, ⟨23, _⟩ => ⟨S256x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg13_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem13_1 : DmaSem sig := 23

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_8 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== MergeKernelIdeal.lean ====
abbrev S4x4096x1024 : Shape := ⟨3, ![4, 4096, 1024]⟩
abbrev S4x4096x11264 : Shape := ⟨3, ![4, 4096, 11264]⟩
abbrev S1024x1024 : Shape := ⟨2, ![1024, 1024]⟩
abbrev S16384x1024 : Shape := ⟨2, ![16384, 1024]⟩
abbrev S16384x11264 : Shape := ⟨2, ![16384, 11264]⟩
abbrev S256x1024 : Shape := ⟨2, ![256, 1024]⟩

abbrev nBuf : Space → Nat
  | .hbm => 23
  | .vmem => 24
  | .smem => 0
  | _ => 0

abbrev bufTy : (tb : Table) → Fin (tcTables nBuf tb) → BufTy
  | .hbm, ⟨0, _⟩ => ⟨S4x4096x1024, .f32⟩
  | .hbm, ⟨1, _⟩ => ⟨S4x4096x11264, .f32⟩
  | .hbm, ⟨2, _⟩ => ⟨S4x4096x1024, .f32⟩
  | .hbm, ⟨3, _⟩ => ⟨S4x4096x1024, .f32⟩
  | .hbm, ⟨4, _⟩ => ⟨S4x4096x1024, .f32⟩
  | .hbm, ⟨5, _⟩ => ⟨S4x4096x1024, .f32⟩
  | .hbm, ⟨6, _⟩ => ⟨S4x4096x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S16384x1024, .f32⟩
  | .hbm, ⟨12, _⟩ => ⟨S16384x11264, .f32⟩
  | .hbm, ⟨13, _⟩ => ⟨S16384x1024, .f32⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S1024x1024, .bf16⟩
  | .hbm, ⟨19, _⟩ => ⟨S1024x1024, .bf16⟩
  | .hbm, ⟨20, _⟩ => ⟨S1024x1024, .bf16⟩
  | .hbm, ⟨21, _⟩ => ⟨S1024x1024, .bf16⟩
  | .hbm, ⟨22, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S1024x1024, .bf16⟩
  | .local _ .vmem, ⟨19, _⟩ => ⟨S1024x1024, .bf16⟩
  | .local _ .vmem, ⟨20, _⟩ => ⟨S1024x1024, .bf16⟩
  | .local _ .vmem, ⟨21, _⟩ => ⟨S1024x1024, .bf16⟩
  | .local _ .vmem, ⟨22, _⟩ => ⟨S256x1024, .f32⟩
  | .local _ .vmem, ⟨23, _⟩ => ⟨S256x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg13_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem13_1 : DmaSem sig := 23

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_8 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== MergeRefIdeal.lean ====
abbrev S4x4096x1024 : Shape := ⟨3, ![4, 4096, 1024]⟩
abbrev S4x4096x11264 : Shape := ⟨3, ![4, 4096, 11264]⟩
abbrev S1024x1024 : Shape := ⟨2, ![1024, 1024]⟩
abbrev S4x4096x3072 : Shape := ⟨3, ![4, 4096, 3072]⟩
abbrev S_ : Shape := ⟨0, ![]⟩
abbrev S16384x1024 : Shape := ⟨2, ![16384, 1024]⟩

abbrev nBuf : Space → Nat
  | .hbm => 36
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x11264, .f32⟩
  | .hbm, ⟨2, _⟩ => ⟨S4x4096x1024, .f32⟩
  | .hbm, ⟨3, _⟩ => ⟨S4x4096x1024, .f32⟩
  | .hbm, ⟨4, _⟩ => ⟨S4x4096x1024, .f32⟩
  | .hbm, ⟨5, _⟩ => ⟨S4x4096x1024, .f32⟩
  | .hbm, ⟨6, _⟩ => ⟨S4x4096x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S4x4096x3072, .f32⟩
  | .hbm, ⟨12, _⟩ => ⟨S4x4096x1024, .f32⟩
  | .hbm, ⟨13, _⟩ => ⟨S4x4096x1024, .f32⟩
  | .hbm, ⟨14, _⟩ => ⟨S4x4096x3072, .f32⟩
  | .hbm, ⟨15, _⟩ => ⟨S4x4096x3072, .f32⟩
  | .hbm, ⟨16, _⟩ => ⟨S_, .f32⟩
  | .hbm, ⟨17, _⟩ => ⟨S4x4096x3072, .f32⟩
  | .hbm, ⟨18, _⟩ => ⟨S4x4096x3072, .f32⟩
  | .hbm, ⟨19, _⟩ => ⟨S_, .f32⟩
  | .hbm, ⟨20, _⟩ => ⟨S4x4096x3072, .f32⟩
  | .hbm, ⟨21, _⟩ => ⟨S4x4096x3072, .f32⟩
  | .hbm, ⟨22, _⟩ => ⟨S4x4096x1024, .f32⟩
  | .hbm, ⟨23, _⟩ => ⟨S4x4096x1024, .f32⟩
  | .hbm, ⟨24, _⟩ => ⟨S4x4096x1024, .f32⟩
  | .hbm, ⟨25, _⟩ => ⟨S4x4096x1024, .f32⟩
  | .hbm, ⟨26, _⟩ => ⟨S4x4096x1024, .f32⟩
  | .hbm, ⟨27, _⟩ => ⟨S4x4096x1024, .f32⟩
  | .hbm, ⟨28, _⟩ => ⟨S4x4096x1024, .f32⟩
  | .hbm, ⟨29, _⟩ => ⟨S4x4096x1024, .f32⟩
  | .hbm, ⟨30, _⟩ => ⟨S4x4096x1024, .f32⟩
  | .hbm, ⟨31, _⟩ => ⟨S4x4096x1024, .f32⟩
  | .hbm, ⟨32, _⟩ => ⟨S4x4096x1024, .f32⟩
  | .hbm, ⟨33, _⟩ => ⟨S4x4096x1024, .f32⟩
  | .hbm, ⟨34, _⟩ => ⟨S4x4096x1024, .f32⟩
  | .hbm, ⟨35, _⟩ => ⟨S16384x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩

abbrev nD : Nat := 1
abbrev τ : Topo := Topo.v7x

variable {F : FTy → Type} [FloatOps F]
-- ==== FfnKernel.lean ====
abbrev S4x4096x1024 : Shape := ⟨3, ![4, 4096, 1024]⟩
abbrev S1024 : Shape := ⟨1, ![1024]⟩
abbrev S1024x2816 : Shape := ⟨2, ![1024, 2816]⟩
abbrev S2816x1024 : Shape := ⟨2, ![2816, 1024]⟩
abbrev S16384x1024 : Shape := ⟨2, ![16384, 1024]⟩
abbrev S1x1024 : Shape := ⟨2, ![1, 1024]⟩
abbrev S512x1024 : Shape := ⟨2, ![512, 1024]⟩
abbrev S1024x1408 : Shape := ⟨2, ![1024, 1408]⟩
abbrev S1408x1024 : Shape := ⟨2, ![1408, 1024]⟩
abbrev S512 : Shape := ⟨1, ![512]⟩
abbrev S512x1 : Shape := ⟨2, ![512, 1]⟩
abbrev S512x1408 : Shape := ⟨2, ![512, 1408]⟩

abbrev nBuf : Space → Nat
  | .hbm => 11
  | .vmem => 13
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S16384x1024, .f32⟩
  | .hbm, ⟨6, _⟩ => ⟨S1x1024, .f32⟩
  | .hbm, ⟨7, _⟩ => ⟨S1024x2816, .bf16⟩
  | .hbm, ⟨8, _⟩ => ⟨S1024x2816, .bf16⟩
  | .hbm, ⟨9, _⟩ => ⟨S2816x1024, .bf16⟩
  | .hbm, ⟨10, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1408x1024, .bf16⟩
  | .local _ .vmem, ⟨8, _⟩ => ⟨S1408x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![32, 2], ![false, false]⟩

def k0_cond2 (i : grid0.Coords) : BitVec 1 :=
  let arg1 : BitVec 32 := BitVec.ofNat 32 (i 1).val
  let c1_i32 : BitVec 32 := 1#32
  let v22 : BitVec 1 := Scalar.cmpi .eq arg1 c1_i32
  let v23 : BitVec 32 := Scalar.extui v22
  let c0_i32_14 : BitVec 32 := 0#32
  let v24 : BitVec 1 := Scalar.cmpi .ne v23 c0_i32_14
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1408x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== FfnKernelIdeal.lean ====
abbrev S4x4096x1024 : Shape := ⟨3, ![4, 4096, 1024]⟩
abbrev S1024 : Shape := ⟨1, ![1024]⟩
abbrev S1024x2816 : Shape := ⟨2, ![1024, 2816]⟩
abbrev S2816x1024 : Shape := ⟨2, ![2816, 1024]⟩
abbrev S16384x1024 : Shape := ⟨2, ![16384, 1024]⟩
abbrev S1x1024 : Shape := ⟨2, ![1, 1024]⟩
abbrev S512x1024 : Shape := ⟨2, ![512, 1024]⟩
abbrev S1024x1408 : Shape := ⟨2, ![1024, 1408]⟩
abbrev S1408x1024 : Shape := ⟨2, ![1408, 1024]⟩
abbrev S512 : Shape := ⟨1, ![512]⟩
abbrev S512x1 : Shape := ⟨2, ![512, 1]⟩
abbrev S512x1408 : Shape := ⟨2, ![512, 1408]⟩

abbrev nBuf : Space → Nat
  | .hbm => 11
  | .vmem => 13
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S16384x1024, .f32⟩
  | .hbm, ⟨6, _⟩ => ⟨S1x1024, .f32⟩
  | .hbm, ⟨7, _⟩ => ⟨S1024x2816, .bf16⟩
  | .hbm, ⟨8, _⟩ => ⟨S1024x2816, .bf16⟩
  | .hbm, ⟨9, _⟩ => ⟨S2816x1024, .bf16⟩
  | .hbm, ⟨10, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1408x1024, .bf16⟩
  | .local _ .vmem, ⟨8, _⟩ => ⟨S1408x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![32, 2], ![false, false]⟩

def k0_cond2 (i : grid0.Coords) : BitVec 1 :=
  let arg1 : BitVec 32 := BitVec.ofNat 32 (i 1).val
  let c1_i32 : BitVec 32 := 1#32
  let v22 : BitVec 1 := Scalar.cmpi .eq arg1 c1_i32
  let v23 : BitVec 32 := Scalar.extui v22
  let c0_i32_14 : BitVec 32 := 0#32
  let v24 : BitVec 1 := Scalar.cmpi .ne v23 c0_i32_14
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1408x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== FfnRefIdeal.lean ====
abbrev S4x4096x1024 : Shape := ⟨3, ![4, 4096, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x2816 : Shape := ⟨3, ![4, 4096, 2816]⟩
abbrev S16384x1024 : Shape := ⟨2, ![16384, 1024]⟩

abbrev nBuf : Space → Nat
  | .hbm => 36
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S4x4096x1024, .f32⟩
  | .hbm, ⟨6, _⟩ => ⟨S_, .f32⟩
  | .hbm, ⟨7, _⟩ => ⟨S4x4096, .f32⟩
  | .hbm, ⟨8, _⟩ => ⟨S4x4096x1, .f32⟩
  | .hbm, ⟨9, _⟩ => ⟨S_, .f32⟩
  | .hbm, ⟨10, _⟩ => ⟨S4x4096x1, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S4x4096x1, .f32⟩
  | .hbm, ⟨16, _⟩ => ⟨S4x4096x1024, .f32⟩
  | .hbm, ⟨17, _⟩ => ⟨S4x4096x1024, .f32⟩
  | .hbm, ⟨18, _⟩ => ⟨S1x1x1024, .f32⟩
  | .hbm, ⟨19, _⟩ => ⟨S4x4096x1024, .f32⟩
  | .hbm, ⟨20, _⟩ => ⟨S4x4096x1024, .f32⟩
  | .hbm, ⟨21, _⟩ => ⟨S4x4096x2816, .f32⟩
  | .hbm, ⟨22, _⟩ => ⟨S4x4096x2816, .f32⟩
  | .hbm, ⟨23, _⟩ => ⟨S4x4096x2816, .f32⟩
  | .hbm, ⟨24, _⟩ => ⟨S_, .f32⟩
  | .hbm, ⟨25, _⟩ => ⟨S4x4096x2816, .f32⟩
  | .hbm, ⟨26, _⟩ => ⟨S4x4096x2816, .f32⟩
  | .hbm, ⟨27, _⟩ => ⟨S_, .f32⟩
  | .hbm, ⟨28, _⟩ => ⟨S4x4096x2816, .f32⟩
  | .hbm, ⟨29, _⟩ => ⟨S4x4096x2816, .f32⟩
  | .hbm, ⟨30, _⟩ => ⟨S4x4096x2816, .f32⟩
  | .hbm, ⟨31, _⟩ => ⟨S4x4096x2816, .f32⟩
  | .hbm, ⟨32, _⟩ => ⟨S4x4096x2816, .f32⟩
  | .hbm, ⟨33, _⟩ => ⟨S4x4096x1024, .f32⟩
  | .hbm, ⟨34, _⟩ => ⟨S4x4096x1024, .f32⟩
  | .hbm, ⟨35, _⟩ => ⟨S16384x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩

abbrev nD : Nat := 1
abbrev τ : Topo := Topo.v7x

variable {F : FTy → Type} [FloatOps F]
-- ==== ProjsKernel.lean ====
abbrev S32x1x1024 : Shape := ⟨3, ![32, 1, 1024]⟩
abbrev S1024 : Shape := ⟨1, ![1024]⟩
abbrev S1024x10816 : Shape := ⟨2, ![1024, 10816]⟩
abbrev S32x1024 : Shape := ⟨2, ![32, 1024]⟩
abbrev S1x1024 : Shape := ⟨2, ![1, 1024]⟩
abbrev S1024x1024 : Shape := ⟨2, ![1024, 1024]⟩
abbrev S1024x512 : Shape := ⟨2, ![1024, 512]⟩
abbrev S1024x16 : Shape := ⟨2, ![1024, 16]⟩
abbrev S1024x48 : Shape := ⟨2, ![1024, 48]⟩
abbrev S1024x3072 : Shape := ⟨2, ![1024, 3072]⟩
abbrev S_ : Shape := ⟨0, ![]⟩
abbrev S1024x448 : Shape := ⟨2, ![1024, 448]⟩
abbrev S1024x11264 : Shape := ⟨2, ![1024, 11264]⟩
abbrev S32x11264 : Shape := ⟨2, ![32, 11264]⟩
abbrev S32x512 : Shape := ⟨2, ![32, 512]⟩
abbrev S32 : Shape := ⟨1, ![32]⟩
abbrev S32x1 : Shape := ⟨2, ![32, 1]⟩

abbrev nBuf : Space → Nat
  | .hbm => 23
  | .vmem => 7
  | .smem => 0
  | _ => 0

abbrev bufTy : (tb : Table) → Fin (tcTables nBuf tb) → BufTy
  | .hbm, ⟨0, _⟩ => ⟨S32x1x1024, .f32⟩
  | .hbm, ⟨1, _⟩ => ⟨S1024, .f32⟩
  | .hbm, ⟨2, _⟩ => ⟨S1024x10816, .f32⟩
  | .hbm, ⟨3, _⟩ => ⟨S32x1024, .f32⟩
  | .hbm, ⟨4, _⟩ => ⟨S1x1024, .f32⟩
  | .hbm, ⟨5, _⟩ => ⟨S1024x1024, .f32⟩
  | .hbm, ⟨6, _⟩ => ⟨S1024x1024, .f32⟩
  | .hbm, ⟨7, _⟩ => ⟨S1024x512, .f32⟩
  | .hbm, ⟨8, _⟩ => ⟨S1024x512, .f32⟩
  | .hbm, ⟨9, _⟩ => ⟨S1024x1024, .f32⟩
  | .hbm, ⟨10, _⟩ => ⟨S1024x1024, .f32⟩
  | .hbm, ⟨11, _⟩ => ⟨S1024x16, .f32⟩
  | .hbm, ⟨12, _⟩ => ⟨S1024x1024, .f32⟩
  | .hbm, ⟨13, _⟩ => ⟨S1024x512, .f32⟩
  | .hbm, ⟨14, _⟩ => ⟨S1024x512, .f32⟩
  | .hbm, ⟨15, _⟩ => ⟨S1024x512, .f32⟩
  | .hbm, ⟨16, _⟩ => ⟨S1024x48, .f32⟩
  | .hbm, ⟨17, _⟩ => ⟨S1024x3072, .f32⟩
  | .hbm, ⟨18, _⟩ => ⟨S_, .f32⟩
  | .hbm, ⟨19, _⟩ => ⟨S1024x448, .f32⟩
  | .hbm, ⟨20, _⟩ => ⟨S1024x11264, .f32⟩
  | .hbm, ⟨21, _⟩ => ⟨S1024x11264, .bf16⟩
  | .hbm, ⟨22, _⟩ => ⟨S32x11264, .f32⟩
  | .local _ .vmem, ⟨0, _⟩ => ⟨S32x1024, .f32⟩
  | .local _ .vmem, ⟨1, _⟩ => ⟨S1x1024, .f32⟩
  | .local _ .vmem, ⟨2, _⟩ => ⟨S1024x512, .bf16⟩
  | .local _ .vmem, ⟨3, _⟩ => ⟨S1024x512, .bf16⟩
  | .local _ .vmem, ⟨4, _⟩ => ⟨S32x512, .f32⟩
  | .local _ .vmem, ⟨5, _⟩ => ⟨S32x512, .f32⟩
  | .local _ .vmem, ⟨6, _⟩ => ⟨S32x1024, .bf16⟩
  | _, _ => ⟨S32x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 22], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S32x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ProjsRefIdeal.lean ====
abbrev S32x1x1024 : Shape := ⟨3, ![32, 1, 1024]⟩
abbrev S1024 : Shape := ⟨1, ![1024]⟩
abbrev S1024x10816 : Shape := ⟨2, ![1024, 10816]⟩
abbrev S_ : Shape := ⟨0, ![]⟩
abbrev S32x1 : Shape := ⟨2, ![32, 1]⟩
abbrev S32x1x1 : Shape := ⟨3, ![32, 1, 1]⟩
abbrev S1x1x1024 : Shape := ⟨3, ![1, 1, 1024]⟩
abbrev S32x1x10816 : Shape := ⟨3, ![32, 1, 10816]⟩
abbrev S32x1x512 : Shape := ⟨3, ![32, 1, 512]⟩
abbrev S32x1x16 : Shape := ⟨3, ![32, 1, 16]⟩
abbrev S32x1x48 : Shape := ⟨3, ![32, 1, 48]⟩
abbrev S32x1x3072 : Shape := ⟨3, ![32, 1, 3072]⟩
abbrev S32x1x448 : Shape := ⟨3, ![32, 1, 448]⟩
abbrev S32x1x11264 : Shape := ⟨3, ![32, 1, 11264]⟩
abbrev S32x11264 : Shape := ⟨2, ![32, 11264]⟩

abbrev nBuf : Space → Nat
  | .hbm => 37
  | .vmem => 0
  | .smem => 0
  | _ => 0

abbrev bufTy : (tb : Table) → Fin (tcTables nBuf tb) → BufTy
  | .hbm, ⟨0, _⟩ => ⟨S32x1x1024, .f32⟩
  | .hbm, ⟨1, _⟩ => ⟨S1024, .f32⟩
  | .hbm, ⟨2, _⟩ => ⟨S1024x10816, .f32⟩
  | .hbm, ⟨3, _⟩ => ⟨S32x1x1024, .f32⟩
  | .hbm, ⟨4, _⟩ => ⟨S_, .f32⟩
  | .hbm, ⟨5, _⟩ => ⟨S32x1, .f32⟩
  | .hbm, ⟨6, _⟩ => ⟨S32x1x1, .f32⟩
  | .hbm, ⟨7, _⟩ => ⟨S_, .f32⟩
  | .hbm, ⟨8, _⟩ => ⟨S32x1x1, .f32⟩
  | .hbm, ⟨9, _⟩ => ⟨S32x1x1, .f32⟩
  | .hbm, ⟨10, _⟩ => ⟨S_, .f32⟩
  | .hbm, ⟨11, _⟩ => ⟨S32x1x1, .f32⟩
  | .hbm, ⟨12, _⟩ => ⟨S32x1x1, .f32⟩
  | .hbm, ⟨13, _⟩ => ⟨S32x1x1, .f32⟩
  | .hbm, ⟨14, _⟩ => ⟨S32x1x1024, .f32⟩
  | .hbm, ⟨15, _⟩ => ⟨S32x1x1024, .f32⟩
  | .hbm, ⟨16, _⟩ => ⟨S1x1x1024, .f32⟩
  | .hbm, ⟨17, _⟩ => ⟨S32x1x1024, .f32⟩
  | .hbm, ⟨18, _⟩ => ⟨S32x1x1024, .f32⟩
  | .hbm, ⟨19, _⟩ => ⟨S32x1x10816, .f32⟩
  | .hbm, ⟨20, _⟩ => ⟨S32x1x1024, .f32⟩
  | .hbm, ⟨21, _⟩ => ⟨S32x1x1024, .f32⟩
  | .hbm, ⟨22, _⟩ => ⟨S32x1x512, .f32⟩
  | .hbm, ⟨23, _⟩ => ⟨S32x1x512, .f32⟩
  | .hbm, ⟨24, _⟩ => ⟨S32x1x1024, .f32⟩
  | .hbm, ⟨25, _⟩ => ⟨S32x1x1024, .f32⟩
  | .hbm, ⟨26, _⟩ => ⟨S32x1x16, .f32⟩
  | .hbm, ⟨27, _⟩ => ⟨S32x1x1024, .f32⟩
  | .hbm, ⟨28, _⟩ => ⟨S32x1x512, .f32⟩
  | .hbm, ⟨29, _⟩ => ⟨S32x1x512, .f32⟩
  | .hbm, ⟨30, _⟩ => ⟨S32x1x512, .f32⟩
  | .hbm, ⟨31, _⟩ => ⟨S32x1x48, .f32⟩
  | .hbm, ⟨32, _⟩ => ⟨S32x1x3072, .f32⟩
  | .hbm, ⟨33, _⟩ => ⟨S_, .f32⟩
  | .hbm, ⟨34, _⟩ => ⟨S32x1x448, .f32⟩
  | .hbm, ⟨35, _⟩ => ⟨S32x1x11264, .f32⟩
  | .hbm, ⟨36, _⟩ => ⟨S32x11264, .f32⟩
  | _, _ => ⟨S32x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_2 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩

abbrev nD : Nat := 1
abbrev τ : Topo := Topo.v7x

variable {F : FTy → Type} [FloatOps F]
-- ==== MergesKernel.lean ====
abbrev S32x1x1024 : Shape := ⟨3, ![32, 1, 1024]⟩
abbrev S32x1x11264 : Shape := ⟨3, ![32, 1, 11264]⟩
abbrev S1024x1024 : Shape := ⟨2, ![1024, 1024]⟩
abbrev S32x1024 : Shape := ⟨2, ![32, 1024]⟩
abbrev S32x11264 : Shape := ⟨2, ![32, 11264]⟩

abbrev nBuf : Space → Nat
  | .hbm => 23
  | .vmem => 14
  | .smem => 0
  | _ => 0

abbrev bufTy : (tb : Table) → Fin (tcTables nBuf tb) → BufTy
  | .hbm, ⟨0, _⟩ => ⟨S32x1x1024, .f32⟩
  | .hbm, ⟨1, _⟩ => ⟨S32x1x11264, .f32⟩
  | .hbm, ⟨2, _⟩ => ⟨S32x1x1024, .f32⟩
  | .hbm, ⟨3, _⟩ => ⟨S32x1x1024, .f32⟩
  | .hbm, ⟨4, _⟩ => ⟨S32x1x1024, .f32⟩
  | .hbm, ⟨5, _⟩ => ⟨S32x1x1024, .f32⟩
  | .hbm, ⟨6, _⟩ => ⟨S32x1x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S32x1024, .f32⟩
  | .hbm, ⟨12, _⟩ => ⟨S32x11264, .f32⟩
  | .hbm, ⟨13, _⟩ => ⟨S32x1024, .f32⟩
  | .hbm, ⟨14, _⟩ => ⟨S32x1024, .f32⟩
  | .hbm, ⟨15, _⟩ => ⟨S32x1024, .f32⟩
  | .hbm, ⟨16, _⟩ => ⟨S32x1024, .f32⟩
  | .hbm, ⟨17, _⟩ => ⟨S32x1024, .f32⟩
  | .hbm, ⟨18, _⟩ => ⟨S1024x1024, .bf16⟩
  | .hbm, ⟨19, _⟩ => ⟨S1024x1024, .bf16⟩
  | .hbm, ⟨20, _⟩ => ⟨S1024x1024, .bf16⟩
  | .hbm, ⟨21, _⟩ => ⟨S1024x1024, .bf16⟩
  | .hbm, ⟨22, _⟩ => ⟨S32x1024, .f32⟩
  | .local _ .vmem, ⟨0, _⟩ => ⟨S32x1024, .f32⟩
  | .local _ .vmem, ⟨1, _⟩ => ⟨S32x1024, .f32⟩
  | .local _ .vmem, ⟨2, _⟩ => ⟨S32x1024, .f32⟩
  | .local _ .vmem, ⟨3, _⟩ => ⟨S32x1024, .f32⟩
  | .local _ .vmem, ⟨4, _⟩ => ⟨S32x1024, .f32⟩
  | .local _ .vmem, ⟨5, _⟩ => ⟨S32x1024, .f32⟩
  | .local _ .vmem, ⟨6, _⟩ => ⟨S32x1024, .f32⟩
  | .local _ .vmem, ⟨7, _⟩ => ⟨S32x1024, .f32⟩
  | .local _ .vmem, ⟨8, _⟩ => ⟨S32x1024, .f32⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S32x1024, .f32⟩
  | _, _ => ⟨S32x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_8 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S32x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S32x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S32x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S32x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S32x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S32x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S32x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S32x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S32x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]
-- ==== MergesRefIdeal.lean ====
abbrev S32x1x1024 : Shape := ⟨3, ![32, 1, 1024]⟩
abbrev S32x1x11264 : Shape := ⟨3, ![32, 1, 11264]⟩
abbrev S1024x1024 : Shape := ⟨2, ![1024, 1024]⟩
abbrev S32x1x3072 : Shape := ⟨3, ![32, 1, 3072]⟩
abbrev S_ : Shape := ⟨0, ![]⟩
abbrev S32x1024 : Shape := ⟨2, ![32, 1024]⟩

abbrev nBuf : Space → Nat
  | .hbm => 36
  | .vmem => 0
  | .smem => 0
  | _ => 0

abbrev bufTy : (tb : Table) → Fin (tcTables nBuf tb) → BufTy
  | .hbm, ⟨0, _⟩ => ⟨S32x1x1024, .f32⟩
  | .hbm, ⟨1, _⟩ => ⟨S32x1x11264, .f32⟩
  | .hbm, ⟨2, _⟩ => ⟨S32x1x1024, .f32⟩
  | .hbm, ⟨3, _⟩ => ⟨S32x1x1024, .f32⟩
  | .hbm, ⟨4, _⟩ => ⟨S32x1x1024, .f32⟩
  | .hbm, ⟨5, _⟩ => ⟨S32x1x1024, .f32⟩
  | .hbm, ⟨6, _⟩ => ⟨S32x1x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S32x1x3072, .f32⟩
  | .hbm, ⟨12, _⟩ => ⟨S32x1x1024, .f32⟩
  | .hbm, ⟨13, _⟩ => ⟨S32x1x1024, .f32⟩
  | .hbm, ⟨14, _⟩ => ⟨S32x1x3072, .f32⟩
  | .hbm, ⟨15, _⟩ => ⟨S32x1x3072, .f32⟩
  | .hbm, ⟨16, _⟩ => ⟨S_, .f32⟩
  | .hbm, ⟨17, _⟩ => ⟨S32x1x3072, .f32⟩
  | .hbm, ⟨18, _⟩ => ⟨S32x1x3072, .f32⟩
  | .hbm, ⟨19, _⟩ => ⟨S_, .f32⟩
  | .hbm, ⟨20, _⟩ => ⟨S32x1x3072, .f32⟩
  | .hbm, ⟨21, _⟩ => ⟨S32x1x3072, .f32⟩
  | .hbm, ⟨22, _⟩ => ⟨S32x1x1024, .f32⟩
  | .hbm, ⟨23, _⟩ => ⟨S32x1x1024, .f32⟩
  | .hbm, ⟨24, _⟩ => ⟨S32x1x1024, .f32⟩
  | .hbm, ⟨25, _⟩ => ⟨S32x1x1024, .f32⟩
  | .hbm, ⟨26, _⟩ => ⟨S32x1x1024, .f32⟩
  | .hbm, ⟨27, _⟩ => ⟨S32x1x1024, .f32⟩
  | .hbm, ⟨28, _⟩ => ⟨S32x1x1024, .f32⟩
  | .hbm, ⟨29, _⟩ => ⟨S32x1x1024, .f32⟩
  | .hbm, ⟨30, _⟩ => ⟨S32x1x1024, .f32⟩
  | .hbm, ⟨31, _⟩ => ⟨S32x1x1024, .f32⟩
  | .hbm, ⟨32, _⟩ => ⟨S32x1x1024, .f32⟩
  | .hbm, ⟨33, _⟩ => ⟨S32x1x1024, .f32⟩
  | .hbm, ⟨34, _⟩ => ⟨S32x1x1024, .f32⟩
  | .hbm, ⟨35, _⟩ => ⟨S32x1024, .f32⟩
  | _, _ => ⟨S32x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩

abbrev nD : Nat := 1
abbrev τ : Topo := Topo.v7x

variable {F : FTy → Type} [FloatOps F]
-- ==== FfnsKernel.lean ====
abbrev S32x1x1024 : Shape := ⟨3, ![32, 1, 1024]⟩
abbrev S1024 : Shape := ⟨1, ![1024]⟩
abbrev S1024x2816 : Shape := ⟨2, ![1024, 2816]⟩
abbrev S2816x1024 : Shape := ⟨2, ![2816, 1024]⟩
abbrev S32x1024 : Shape := ⟨2, ![32, 1024]⟩
abbrev S1x1024 : Shape := ⟨2, ![1, 1024]⟩
abbrev S1024x1408 : Shape := ⟨2, ![1024, 1408]⟩
abbrev S1408x1024 : Shape := ⟨2, ![1408, 1024]⟩
abbrev S32 : Shape := ⟨1, ![32]⟩
abbrev S32x1 : Shape := ⟨2, ![32, 1]⟩
abbrev S32x1408 : Shape := ⟨2, ![32, 1408]⟩

abbrev nBuf : Space → Nat
  | .hbm => 11
  | .vmem => 11
  | .smem => 0
  | _ => 0

abbrev bufTy : (tb : Table) → Fin (tcTables nBuf tb) → BufTy
  | .hbm, ⟨0, _⟩ => ⟨S32x1x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S32x1024, .f32⟩
  | .hbm, ⟨6, _⟩ => ⟨S1x1024, .f32⟩
  | .hbm, ⟨7, _⟩ => ⟨S1024x2816, .bf16⟩
  | .hbm, ⟨8, _⟩ => ⟨S1024x2816, .bf16⟩
  | .hbm, ⟨9, _⟩ => ⟨S2816x1024, .bf16⟩
  | .hbm, ⟨10, _⟩ => ⟨S32x1024, .f32⟩
  | .local _ .vmem, ⟨0, _⟩ => ⟨S32x1024, .f32⟩
  | .local _ .vmem, ⟨1, _⟩ => ⟨S1x1024, .f32⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1408x1024, .bf16⟩
  | .local _ .vmem, ⟨7, _⟩ => ⟨S1408x1024, .bf16⟩
  | .local _ .vmem, ⟨8, _⟩ => ⟨S32x1024, .f32⟩
  | .local _ .vmem, ⟨9, _⟩ => ⟨S32x1024, .bf16⟩
  | .local _ .vmem, ⟨10, _⟩ => ⟨S32x1024, .f32⟩
  | _, _ => ⟨S32x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨2, ![1, 2], ![false, false]⟩

def k0_cond2 (i : grid0.Coords) : BitVec 1 :=
  let arg1 : BitVec 32 := BitVec.ofNat 32 (i 1).val
  let c1_i32 : BitVec 32 := 1#32
  let v22 : BitVec 1 := Scalar.cmpi .eq arg1 c1_i32
  let v23 : BitVec 32 := Scalar.extui v22
  let c0_i32_14 : BitVec 32 := 0#32
  let v24 : BitVec 1 := Scalar.cmpi .ne v23 c0_i32_14
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1408x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S32x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]
-- ==== FfnsRefIdeal.lean ====
abbrev S32x1x1024 : Shape := ⟨3, ![32, 1, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S32x1 : Shape := ⟨2, ![32, 1]⟩
abbrev S32x1x1 : Shape := ⟨3, ![32, 1, 1]⟩
abbrev S1x1x1024 : Shape := ⟨3, ![1, 1, 1024]⟩
abbrev S32x1x2816 : Shape := ⟨3, ![32, 1, 2816]⟩
abbrev S32x1024 : Shape := ⟨2, ![32, 1024]⟩

abbrev nBuf : Space → Nat
  | .hbm => 36
  | .vmem => 0
  | .smem => 0
  | _ => 0

abbrev bufTy : (tb : Table) → Fin (tcTables nBuf tb) → BufTy
  | .hbm, ⟨0, _⟩ => ⟨S32x1x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S32x1x1024, .f32⟩
  | .hbm, ⟨6, _⟩ => ⟨S_, .f32⟩
  | .hbm, ⟨7, _⟩ => ⟨S32x1, .f32⟩
  | .hbm, ⟨8, _⟩ => ⟨S32x1x1, .f32⟩
  | .hbm, ⟨9, _⟩ => ⟨S_, .f32⟩
  | .hbm, ⟨10, _⟩ => ⟨S32x1x1, .f32⟩
  | .hbm, ⟨11, _⟩ => ⟨S32x1x1, .f32⟩
  | .hbm, ⟨12, _⟩ => ⟨S_, .f32⟩
  | .hbm, ⟨13, _⟩ => ⟨S32x1x1, .f32⟩
  | .hbm, ⟨14, _⟩ => ⟨S32x1x1, .f32⟩
  | .hbm, ⟨15, _⟩ => ⟨S32x1x1, .f32⟩
  | .hbm, ⟨16, _⟩ => ⟨S32x1x1024, .f32⟩
  | .hbm, ⟨17, _⟩ => ⟨S32x1x1024, .f32⟩
  | .hbm, ⟨18, _⟩ => ⟨S1x1x1024, .f32⟩
  | .hbm, ⟨19, _⟩ => ⟨S32x1x1024, .f32⟩
  | .hbm, ⟨20, _⟩ => ⟨S32x1x1024, .f32⟩
  | .hbm, ⟨21, _⟩ => ⟨S32x1x2816, .f32⟩
  | .hbm, ⟨22, _⟩ => ⟨S32x1x2816, .f32⟩
  | .hbm, ⟨23, _⟩ => ⟨S32x1x2816, .f32⟩
  | .hbm, ⟨24, _⟩ => ⟨S_, .f32⟩
  | .hbm, ⟨25, _⟩ => ⟨S32x1x2816, .f32⟩
  | .hbm, ⟨26, _⟩ => ⟨S32x1x2816, .f32⟩
  | .hbm, ⟨27, _⟩ => ⟨S_, .f32⟩
  | .hbm, ⟨28, _⟩ => ⟨S32x1x2816, .f32⟩
  | .hbm, ⟨29, _⟩ => ⟨S32x1x2816, .f32⟩
  | .hbm, ⟨30, _⟩ => ⟨S32x1x2816, .f32⟩
  | .hbm, ⟨31, _⟩ => ⟨S32x1x2816, .f32⟩
  | .hbm, ⟨32, _⟩ => ⟨S32x1x2816, .f32⟩
  | .hbm, ⟨33, _⟩ => ⟨S32x1x1024, .f32⟩
  | .hbm, ⟨34, _⟩ => ⟨S32x1x1024, .f32⟩
  | .hbm, ⟨35, _⟩ => ⟨S32x1024, .f32⟩
  | _, _ => ⟨S32x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩

abbrev nD : Nat := 1
abbrev τ : Topo := Topo.v7x

variable {F : FTy → Type} [FloatOps F]
-- ==== RgsKernel.lean ====
abbrev S32x1x11264 : Shape := ⟨3, ![32, 1, 11264]⟩
abbrev S32x3x1024 : Shape := ⟨3, ![32, 3, 1024]⟩
abbrev S32x1024 : Shape := ⟨2, ![32, 1024]⟩
abbrev S4x1024 : Shape := ⟨2, ![4, 1024]⟩
abbrev S1024 : Shape := ⟨1, ![1024]⟩
abbrev S8x128x128 : Shape := ⟨3, ![8, 128, 128]⟩
abbrev S32x11264 : Shape := ⟨2, ![32, 11264]⟩
abbrev S1x1024 : Shape := ⟨2, ![1, 1024]⟩
abbrev S8x128x256 : Shape := ⟨3, ![8, 128, 256]⟩
abbrev S32x1x1024 : Shape := ⟨3, ![32, 1, 1024]⟩
abbrev S32x128 : Shape := ⟨2, ![32, 128]⟩
abbrev S1x128x256 : Shape := ⟨3, ![1, 128, 256]⟩
abbrev S128x256 : Shape := ⟨2, ![128, 256]⟩
abbrev S32x256 : Shape := ⟨2, ![32, 256]⟩
abbrev S1x128 : Shape := ⟨2, ![1, 128]⟩

abbrev nBuf : Space → Nat
  | .hbm => 25
  | .vmem => 14
  | .smem => 0
  | _ => 0

abbrev bufTy : (tb : Table) → Fin (tcTables nBuf tb) → BufTy
  | .hbm, ⟨0, _⟩ => ⟨S32x1x11264, .f32⟩
  | .hbm, ⟨1, _⟩ => ⟨S32x3x1024, .f32⟩
  | .hbm, ⟨2, _⟩ => ⟨S32x1024, .f32⟩
  | .hbm, ⟨3, _⟩ => ⟨S4x1024, .f32⟩
  | .hbm, ⟨4, _⟩ => ⟨S1024, .f32⟩
  | .hbm, ⟨5, _⟩ => ⟨S8x128x128, .f32⟩
  | .hbm, ⟨6, _⟩ => ⟨S1024, .f32⟩
  | .hbm, ⟨7, _⟩ => ⟨S8x128x128, .f32⟩
  | .hbm, ⟨8, _⟩ => ⟨S1024, .f32⟩
  | .hbm, ⟨9, _⟩ => ⟨S1024, .f32⟩
  | .hbm, ⟨10, _⟩ => ⟨S32x11264, .f32⟩
  | .hbm, ⟨11, _⟩ => ⟨S1x1024, .f32⟩
  | .hbm, ⟨12, _⟩ => ⟨S8x128x256, .f32⟩
  | .hbm, ⟨13, _⟩ => ⟨S8x128x256, .bf16⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S32x1x1024, .f32⟩
  | .hbm, ⟨18, _⟩ => ⟨S32x1024, .f32⟩
  | .hbm, ⟨19, _⟩ => ⟨S32x1x1024, .f32⟩
  | .hbm, ⟨20, _⟩ => ⟨S32x1024, .f32⟩
  | .hbm, ⟨21, _⟩ => ⟨S32x1x1024, .f32⟩
  | .hbm, ⟨22, _⟩ => ⟨S32x1024, .f32⟩
  | .hbm, ⟨23, _⟩ => ⟨S32x1024, .f32⟩
  | .hbm, ⟨24, _⟩ => ⟨S32x1024, .f32⟩
  | .local _ .vmem, ⟨0, _⟩ => ⟨S32x1024, .f32⟩
  | .local _ .vmem, ⟨1, _⟩ => ⟨S32x1024, .f32⟩
  | .local _ .vmem, ⟨2, _⟩ => ⟨S32x1024, .f32⟩
  | .local _ .vmem, ⟨3, _⟩ => ⟨S32x1024, .f32⟩
  | .local _ .vmem, ⟨4, _⟩ => ⟨S32x1024, .f32⟩
  | .local _ .vmem, ⟨5, _⟩ => ⟨S32x1024, .f32⟩
  | .local _ .vmem, ⟨6, _⟩ => ⟨S4x1024, .f32⟩
  | .local _ .vmem, ⟨7, _⟩ => ⟨S1x1024, .f32⟩
  | .local _ .vmem, ⟨8, _⟩ => ⟨S8x128x256, .bf16⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S32x1024, .f32⟩
  | .local _ .vmem, ⟨13, _⟩ => ⟨S32x1024, .f32⟩
  | _, _ => ⟨S32x1x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13_0 : Ref sig .tc := ⟨.hbm, 23, rfl⟩
abbrev main_v13_1 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c3_i32 : BitVec 32 := 3#32
  let c0_i32_0 : BitVec 32 := 0#32
  ![c0_i32.toNat, c3_i32.toNat]

def cc0_transform_1 (i : grid0.Coords) : Fin 2 → Nat :=
  let arg0 : BitVec 32 := BitVec.ofNat 32 (i 0).val
  let c0_i32 : BitVec 32 := 0#32
  let c4_i32 : BitVec 32 := 4#32
  let c0_i32_0 : BitVec 32 := 0#32
  ![c0_i32.toNat, c4_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S32x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x128x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S32x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S32x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== RgsRefIdeal.lean ====
abbrev S32x1x11264 : Shape := ⟨3, ![32, 1, 11264]⟩
abbrev S32x3x1024 : Shape := ⟨3, ![32, 3, 1024]⟩
abbrev S32x1024 : Shape := ⟨2, ![32, 1024]⟩
abbrev S4x1024 : Shape := ⟨2, ![4, 1024]⟩
abbrev S1024 : Shape := ⟨1, ![1024]⟩
abbrev S8x128x128 : Shape := ⟨3, ![8, 128, 128]⟩
abbrev S32x1x1024 : Shape := ⟨3, ![32, 1, 1024]⟩
abbrev S32x4x1024 : Shape := ⟨3, ![32, 4, 1024]⟩
abbrev S1x1024 : Shape := ⟨2, ![1, 1024]⟩
abbrev S1x1x1024 : Shape := ⟨3, ![1, 1, 1024]⟩
abbrev S32x1x8x128 : Shape := ⟨4, ![32, 1, 8, 128]⟩
abbrev S8x128x32x1 : Shape := ⟨4, ![8, 128, 32, 1]⟩
abbrev S_ : Shape := ⟨0, ![]⟩
abbrev S1 : Shape := ⟨1, ![1]⟩

abbrev nBuf : Space → Nat
  | .hbm => 128
  | .vmem => 0
  | .smem => 0
  | _ => 0

abbrev bufTy : (tb : Table) → Fin (tcTables nBuf tb) → BufTy
  | .hbm, ⟨0, _⟩ => ⟨S32x1x11264, .f32⟩
  | .hbm, ⟨1, _⟩ => ⟨S32x3x1024, .f32⟩
  | .hbm, ⟨2, _⟩ => ⟨S32x1024, .f32⟩
  | .hbm, ⟨3, _⟩ => ⟨S4x1024, .f32⟩
  | .hbm, ⟨4, _⟩ => ⟨S1024, .f32⟩
  | .hbm, ⟨5, _⟩ => ⟨S8x128x128, .f32⟩
  | .hbm, ⟨6, _⟩ => ⟨S1024, .f32⟩
  | .hbm, ⟨7, _⟩ => ⟨S8x128x128, .f32⟩
  | .hbm, ⟨8, _⟩ => ⟨S1024, .f32⟩
  | .hbm, ⟨9, _⟩ => ⟨S1024, .f32⟩
  | .hbm, ⟨10, _⟩ => ⟨S32x1x1024, .f32⟩
  | .hbm, ⟨11, _⟩ => ⟨S32x1x1024, .f32⟩
  | .hbm, ⟨12, _⟩ => ⟨S32x4x1024, .f32⟩
  | .hbm, ⟨13, _⟩ => ⟨S32x1x1024, .f32⟩
  | .hbm, ⟨14, _⟩ => ⟨S1x1024, .f32⟩
  | .hbm, ⟨15, _⟩ => ⟨S1024, .f32⟩
  | .hbm, ⟨16, _⟩ => ⟨S1x1x1024, .f32⟩
  | .hbm, ⟨17, _⟩ => ⟨S32x1x1024, .f32⟩
  | .hbm, ⟨18, _⟩ => ⟨S32x1x1024, .f32⟩
  | .hbm, ⟨19, _⟩ => ⟨S1x1x1024, .f32⟩
  | .hbm, ⟨20, _⟩ => ⟨S32x1x1024, .f32⟩
  | .hbm, ⟨21, _⟩ => ⟨S32x1x1024, .f32⟩
  | .hbm, ⟨22, _⟩ => ⟨S32x1x1024, .f32⟩
  | .hbm, ⟨23, _⟩ => ⟨S1x1024, .f32⟩
  | .hbm, ⟨24, _⟩ => ⟨S1024, .f32⟩
  | .hbm, ⟨25, _⟩ => ⟨S1x1x1024, .f32⟩
  | .hbm, ⟨26, _⟩ => ⟨S32x1x1024, .f32⟩
  | .hbm, ⟨27, _⟩ => ⟨S32x1x1024, .f32⟩
  | .hbm, ⟨28, _⟩ => ⟨S32x1x1024, .f32⟩
  | .hbm, ⟨29, _⟩ => ⟨S32x1x1024, .f32⟩
  | .hbm, ⟨30, _⟩ => ⟨S1x1024, .f32⟩
  | .hbm, ⟨31, _⟩ => ⟨S1024, .f32⟩
  | .hbm, ⟨32, _⟩ => ⟨S1x1x1024, .f32⟩
  | .hbm, ⟨33, _⟩ => ⟨S32x1x1024, .f32⟩
  | .hbm, ⟨34, _⟩ => ⟨S32x1x1024, .f32⟩
  | .hbm, ⟨35, _⟩ => ⟨S32x1x1024, .f32⟩
  | .hbm, ⟨36, _⟩ => ⟨S32x1x1024, .f32⟩
  | .hbm, ⟨37, _⟩ => ⟨S1x1024, .f32⟩
  | .hbm, ⟨38, _⟩ => ⟨S1024, .f32⟩
  | .hbm, ⟨39, _⟩ => ⟨S1x1x1024, .f32⟩
  | .hbm, ⟨40, _⟩ => ⟨S32x1x1024, .f32⟩
  | .hbm, ⟨41, _⟩ => ⟨S32x1x1024, .f32⟩
  | .hbm, ⟨42, _⟩ => ⟨S32x1x1024, .f32⟩
  | .hbm, ⟨43, _⟩ => ⟨S32x3x1024, .f32⟩
  | .hbm, ⟨44, _⟩ => ⟨S32x1x8x128, .f32⟩
  | .hbm, ⟨45, _⟩ => ⟨S8x128x32x1, .f32⟩
  | .hbm, ⟨46, _⟩ => ⟨S32x1x8x128, .f32⟩
  | .hbm, ⟨47, _⟩ => ⟨S32x1x1024, .f32⟩
  | .hbm, ⟨48, _⟩ => ⟨S1x1x1024, .f32⟩
  | .hbm, ⟨49, _⟩ => ⟨S32x1x1024, .f32⟩
  | .hbm, ⟨50, _⟩ => ⟨S32x1x1024, .f32⟩
  | .hbm, ⟨51, _⟩ => ⟨S32x1x1024, .f32⟩
  | .hbm, ⟨52, _⟩ => ⟨S32x1x1024, .f32⟩
  | .hbm, ⟨53, _⟩ => ⟨S_, .f32⟩
  | .hbm, ⟨54, _⟩ => ⟨S32x1x1024, .f32⟩
  | .hbm, ⟨55, _⟩ => ⟨S32x1x1024, .f32⟩
  | .hbm, ⟨56, _⟩ => ⟨S_, .f32⟩
  | .hbm, ⟨57, _⟩ => ⟨S32x1x1024, .f32⟩
  | .hbm, ⟨58, _⟩ => ⟨S32x1x1024, .f32⟩
  | .hbm, ⟨59, _⟩ => ⟨S8x128x32x1, .f32⟩
  | .hbm, ⟨60, _⟩ => ⟨S32x1x8x128, .f32⟩
  | .hbm, ⟨61, _⟩ => ⟨S32x1x1024, .f32⟩
  | .hbm, ⟨62, _⟩ => ⟨S1x1x1024, .f32⟩
  | .hbm, ⟨63, _⟩ => ⟨S32x1x1024, .f32⟩
  | .hbm, ⟨64, _⟩ => ⟨S32x1x1024, .f32⟩
  | .hbm, ⟨65, _⟩ => ⟨S32x1x1024, .f32⟩
  | .hbm, ⟨66, _⟩ => ⟨S32x1x1024, .f32⟩
  | .hbm, ⟨67, _⟩ => ⟨S_, .f32⟩
  | .hbm, ⟨68, _⟩ => ⟨S32x1x1024, .f32⟩
  | .hbm, ⟨69, _⟩ => ⟨S32x1x1024, .f32⟩
  | .hbm, ⟨70, _⟩ => ⟨S_, .f32⟩
  | .hbm, ⟨71, _⟩ => ⟨S32x1x1024, .f32⟩
  | .hbm, ⟨72, _⟩ => ⟨S32x1x1024, .f32⟩
  | .hbm, ⟨73, _⟩ => ⟨S_, .f32⟩
  | .hbm, ⟨74, _⟩ => ⟨S32x1x1024, .f32⟩
  | .hbm, ⟨75, _⟩ => ⟨S32x1x1024, .f32⟩
  | .hbm, ⟨76, _⟩ => ⟨S1024, .f32⟩
  | .hbm, ⟨77, _⟩ => ⟨S_, .f32⟩
  | .hbm, ⟨78, _⟩ => ⟨S1024, .f32⟩
  | .hbm, ⟨79, _⟩ => ⟨S1024, .f32⟩
  | .hbm, ⟨80, _⟩ => ⟨S1024, .f32⟩
  | .hbm, ⟨81, _⟩ => ⟨S1024, .f32⟩
  | .hbm, ⟨82, _⟩ => ⟨S1024, .i1⟩
  | .hbm, ⟨83, _⟩ => ⟨S1024, .f32⟩
  | .hbm, ⟨84, _⟩ => ⟨S1024, .f32⟩
  | .hbm, ⟨85, _⟩ => ⟨S1024, .f32⟩
  | .hbm, ⟨86, _⟩ => ⟨S1024, .f32⟩
  | .hbm, ⟨87, _⟩ => ⟨S1024, .f32⟩
  | .hbm, ⟨88, _⟩ => ⟨S1024, .f32⟩
  | .hbm, ⟨89, _⟩ => ⟨S1024, .f32⟩
  | .hbm, ⟨90, _⟩ => ⟨S1024, .f32⟩
  | .hbm, ⟨91, _⟩ => ⟨S1x1x1024, .f32⟩
  | .hbm, ⟨92, _⟩ => ⟨S32x1x1024, .f32⟩
  | .hbm, ⟨93, _⟩ => ⟨S32x1x1024, .f32⟩
  | .hbm, ⟨94, _⟩ => ⟨S32x1x1024, .f32⟩
  | .hbm, ⟨95, _⟩ => ⟨S_, .f32⟩
  | .hbm, ⟨96, _⟩ => ⟨S32x1x1024, .f32⟩
  | .hbm, ⟨97, _⟩ => ⟨S32x1x1024, .f32⟩
  | .hbm, ⟨98, _⟩ => ⟨S32x1x1024, .f32⟩
  | .hbm, ⟨99, _⟩ => ⟨S32x1x1024, .f32⟩
  | .hbm, ⟨100, _⟩ => ⟨S32x1x1024, .f32⟩
  | .hbm, ⟨101, _⟩ => ⟨S32x1x1024, .f32⟩
  | .hbm, ⟨102, _⟩ => ⟨S32x1x1024, .f32⟩
  | .hbm, ⟨103, _⟩ => ⟨S32x1024, .f32⟩
  | .hbm, ⟨104, _⟩ => ⟨S32x1024, .f32⟩
  | .hbm, ⟨105, _⟩ => ⟨S_, .i32⟩
  | .hbm, ⟨106, _⟩ => ⟨S1, .i32⟩
  | .hbm, ⟨107, _⟩ => ⟨S32x1x1024, .f32⟩
  | .hbm, ⟨108, _⟩ => ⟨S32x1024, .f32⟩
  | .hbm, ⟨109, _⟩ => ⟨S32x1x1024, .f32⟩
  | .hbm, ⟨110, _⟩ => ⟨S32x1x1024, .f32⟩
  | .hbm, ⟨111, _⟩ => ⟨S_, .f32⟩
  | .hbm, ⟨112, _⟩ => ⟨S32x1x1024, .f32⟩
  | .hbm, ⟨113, _⟩ => ⟨S32x1x1024, .f32⟩
  | .hbm, ⟨114, _⟩ => ⟨S32x1x1024, .f32⟩
  | .hbm, ⟨115, _⟩ => ⟨S_, .f32⟩
  | .hbm, ⟨116, _⟩ => ⟨S32x1x1024, .f32⟩
  | .hbm, ⟨117, _⟩ => ⟨S32x1x1024, .f32⟩
  | .hbm, ⟨118, _⟩ => ⟨S32x1x1024, .f32⟩
  | .hbm, ⟨119, _⟩ => ⟨S_, .f32⟩
  | .hbm, ⟨120, _⟩ => ⟨S32x1x1024, .f32⟩
  | .hbm, ⟨121, _⟩ => ⟨S32x1x1024, .f32⟩
  | .hbm, ⟨122, _⟩ => ⟨S_, .f32⟩
  | .hbm, ⟨123, _⟩ => ⟨S32x1x1024, .f32⟩
  | .hbm, ⟨124, _⟩ => ⟨S32x1x1024, .f32⟩
  | .hbm, ⟨125, _⟩ => ⟨S32x1x1024, .f32⟩
  | .hbm, ⟨126, _⟩ => ⟨S32x1x1024, .f32⟩
  | .hbm, ⟨127, _⟩ => ⟨S32x1024, .f32⟩
  | _, _ => ⟨S32x1x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_cst : Ref sig .tc := ⟨.hbm, 53, rfl⟩
abbrev main_v43 : Ref sig .tc := ⟨.hbm, 54, rfl⟩
abbrev main_v44 : Ref sig .tc := ⟨.hbm, 55, rfl⟩
abbrev main_cst_0 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_cst_1 : Ref sig .tc := ⟨.hbm, 67, rfl⟩
abbrev main_v55 : Ref sig .tc := ⟨.hbm, 68, rfl⟩
abbrev main_v56 : Ref sig .tc := ⟨.hbm, 69, rfl⟩
abbrev main_cst_2 : Ref sig .tc := ⟨.hbm, 70, rfl⟩
abbrev main_v57 : Ref sig .tc := ⟨.hbm, 71, rfl⟩
abbrev main_v58 : Ref sig .tc := ⟨.hbm, 72, rfl⟩
abbrev main_cst_3 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_call0_cst : Ref sig .tc := ⟨.hbm, 77, rfl⟩
abbrev main_call0_v0 : Ref sig .tc := ⟨.hbm, 78, rfl⟩
abbrev main_call0_v1 : Ref sig .tc := ⟨.hbm, 79, rfl⟩
abbrev main_call0_v2 : Ref sig .tc := ⟨.hbm, 80, rfl⟩
abbrev main_call0_v3 : Ref sig .tc := ⟨.hbm, 81, rfl⟩
abbrev main_call0_v4 : Ref sig .tc := ⟨.hbm, 82, rfl⟩
abbrev main_call0_v5 : Ref sig .tc := ⟨.hbm, 83, rfl⟩
abbrev main_call0_v6 : Ref sig .tc := ⟨.hbm, 84, rfl⟩
abbrev main_call0_v7 : Ref sig .tc := ⟨.hbm, 85, rfl⟩
abbrev main_call0_v8 : Ref sig .tc := ⟨.hbm, 86, rfl⟩
abbrev main_call0_v9 : Ref sig .tc := ⟨.hbm, 87, rfl⟩
abbrev main_call0_v10 : Ref sig .tc := ⟨.hbm, 88, rfl⟩
abbrev main_call0_v11 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_cst_4 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_c : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_cst_5 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_cst_6 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_cst_7 : Ref sig .tc := ⟨.hbm, 119, rfl⟩
abbrev main_v87 : Ref sig .tc := ⟨.hbm, 120, rfl⟩
abbrev main_v88 : Ref sig .tc := ⟨.hbm, 121, rfl⟩
abbrev main_cst_8 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩

abbrev nD : Nat := 1
abbrev τ : Topo := Topo.v7x

variable {F : FTy → Type} [FloatOps F]
-- ==== GlasKernel.lean ====
abbrev S32x1x11264 : Shape := ⟨3, ![32, 1, 11264]⟩
abbrev S32x4x128x256 : Shape := ⟨4, ![32, 4, 128, 256]⟩
abbrev S16x512 : Shape := ⟨2, ![16, 512]⟩
abbrev S512 : Shape := ⟨1, ![512]⟩
abbrev S256 : Shape := ⟨1, ![256]⟩
abbrev S_ : Shape := ⟨0, ![]⟩
abbrev S128x512 : Shape := ⟨2, ![128, 512]⟩
abbrev S1x512 : Shape := ⟨2, ![1, 512]⟩
abbrev S1x256 : Shape := ⟨2, ![1, 256]⟩
abbrev S32x1x1024 : Shape := ⟨3, ![32, 1, 1024]⟩
abbrev S1x1x512 : Shape := ⟨3, ![1, 1, 512]⟩
abbrev S1x1x1024 : Shape := ⟨3, ![1, 1, 1024]⟩
abbrev S1x1x128 : Shape := ⟨3, ![1, 1, 128]⟩
abbrev S1x4x128x256 : Shape := ⟨4, ![1, 4, 128, 256]⟩
abbrev S1x128 : Shape := ⟨2, ![1, 128]⟩
abbrev S8x128 : Shape := ⟨2, ![8, 128]⟩
abbrev S8x512 : Shape := ⟨2, ![8, 512]⟩
abbrev S1x1x256 : Shape := ⟨3, ![1, 1, 256]⟩
abbrev S1x1x128x256 : Shape := ⟨4, ![1, 1, 128, 256]⟩
abbrev S128x256 : Shape := ⟨2, ![128, 256]⟩
abbrev S1 : Shape := ⟨1, ![1]⟩
abbrev S1x1 : Shape := ⟨2, ![1, 1]⟩
abbrev S8x256 : Shape := ⟨2, ![8, 256]⟩
abbrev S128x128 : Shape := ⟨2, ![128, 128]⟩
abbrev S128 : Shape := ⟨1, ![128]⟩
abbrev S128x1 : Shape := ⟨2, ![128, 1]⟩

abbrev nBuf : Space → Nat
  | .hbm => 13
  | .vmem => 19
  | .smem => 0
  | _ => 0

abbrev bufTy : (tb : Table) → Fin (tcTables nBuf tb) → BufTy
  | .hbm, ⟨0, _⟩ => ⟨S32x1x11264, .f32⟩
  | .hbm, ⟨1, _⟩ => ⟨S32x4x128x256, .f32⟩
  | .hbm, ⟨2, _⟩ => ⟨S16x512, .f32⟩
  | .hbm, ⟨3, _⟩ => ⟨S512, .f32⟩
  | .hbm, ⟨4, _⟩ => ⟨S256, .f32⟩
  | .hbm, ⟨5, _⟩ => ⟨S_, .i32⟩
  | .hbm, ⟨6, _⟩ => ⟨S_, .f32⟩
  | .hbm, ⟨7, _⟩ => ⟨S128x512, .f32⟩
  | .hbm, ⟨8, _⟩ => ⟨S128x512, .bf16⟩
  | .hbm, ⟨9, _⟩ => ⟨S1x512, .f32⟩
  | .hbm, ⟨10, _⟩ => ⟨S1x256, .f32⟩
  | .hbm, ⟨11, _⟩ => ⟨S32x1x1024, .f32⟩
  | .hbm, ⟨12, _⟩ => ⟨S32x4x128x256, .f32⟩
  | .local _ .vmem, ⟨0, _⟩ => ⟨S1x1x512, .f32⟩
  | .local _ .vmem, ⟨1, _⟩ => ⟨S1x1x512, .f32⟩
  | .local _ .vmem, ⟨2, _⟩ => ⟨S1x1x512, .f32⟩
  | .local _ .vmem, ⟨3, _⟩ => ⟨S1x1x512, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x128, .f32⟩
  | .local _ .vmem, ⟨9, _⟩ => ⟨S1x1x128, .f32⟩
  | .local _ .vmem, ⟨10, _⟩ => ⟨S1x4x128x256, .f32⟩
  | .local _ .vmem, ⟨11, _⟩ => ⟨S1x4x128x256, .f32⟩
  | .local _ .vmem, ⟨12, _⟩ => ⟨S128x512, .bf16⟩
  | .local _ .vmem, ⟨13, _⟩ => ⟨S1x512, .f32⟩
  | .local _ .vmem, ⟨14, _⟩ => ⟨S1x256, .f32⟩
  | .local _ .vmem, ⟨15, _⟩ => ⟨S1x1x1024, .f32⟩
  | .local _ .vmem, ⟨16, _⟩ => ⟨S1x1x1024, .f32⟩
  | .local _ .vmem, ⟨17, _⟩ => ⟨S1x4x128x256, .f32⟩
  | .local _ .vmem, ⟨18, _⟩ => ⟨S1x4x128x256, .f32⟩
  | _, _ => ⟨S32x1x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c10_i32 : BitVec 32 := 10#32
  let c0_i32_0 : BitVec 32 := 0#32
  ![arg0.toNat, c0_i32.toNat, c10_i32.toNat]

def cc0_transform_1 (i : grid0.Coords) : Fin 3 → Nat :=
  let arg0 : BitVec 32 := BitVec.ofNat 32 (i 0).val
  let c0_i32 : BitVec 32 := 0#32
  let c11_i32 : BitVec 32 := 11#32
  let c0_i32_0 : BitVec 32 := 0#32
  ![arg0.toNat, c0_i32.toNat, c11_i32.toNat]

def cc0_transform_2 (i : grid0.Coords) : Fin 3 → Nat :=
  let arg0 : BitVec 32 := BitVec.ofNat 32 (i 0).val
  let c0_i32 : BitVec 32 := 0#32
  let c6_i32 : BitVec 32 := 6#32
  let c0_i32_0 : BitVec 32 := 0#32
  ![arg0.toNat, c0_i32.toNat, c6_i32.toNat]

def cc0_transform_3 (i : grid0.Coords) : Fin 3 → Nat :=
  let arg0 : BitVec 32 := BitVec.ofNat 32 (i 0).val
  let c0_i32 : BitVec 32 := 0#32
  let c7_i32 : BitVec 32 := 7#32
  let c0_i32_0 : BitVec 32 := 0#32
  ![arg0.toNat, c0_i32.toNat, c7_i32.toNat]

def cc0_transform_4 (i : grid0.Coords) : Fin 3 → Nat :=
  let arg0 : BitVec 32 := BitVec.ofNat 32 (i 0).val
  let c0_i32 : BitVec 32 := 0#32
  let c84_i32 : BitVec 32 := 84#32
  let c0_i32_0 : BitVec 32 := 0#32
  ![arg0.toNat, c0_i32.toNat, c84_i32.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x1x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x4x128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S128x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x4x128x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== GlasRefIdeal.lean ====
abbrev S32x1x11264 : Shape := ⟨3, ![32, 1, 11264]⟩
abbrev S32x4x128x256 : Shape := ⟨4, ![32, 4, 128, 256]⟩
abbrev S16x512 : Shape := ⟨2, ![16, 512]⟩
abbrev S512 : Shape := ⟨1, ![512]⟩
abbrev S256 : Shape := ⟨1, ![256]⟩
abbrev S32x1x512 : Shape := ⟨3, ![32, 1, 512]⟩
abbrev S32x1x1024 : Shape := ⟨3, ![32, 1, 1024]⟩
abbrev S32x1x16 : Shape := ⟨3, ![32, 1, 16]⟩
abbrev S32x1x4x128 : Shape := ⟨4, ![32, 1, 4, 128]⟩
abbrev S_ : Shape := ⟨0, ![]⟩
abbrev S32x1x4x256 : Shape := ⟨4, ![32, 1, 4, 256]⟩
abbrev S1x1x512 : Shape := ⟨3, ![1, 1, 512]⟩
abbrev S1x1 : Shape := ⟨2, ![1, 1]⟩
abbrev S32x1x1x4x128 : Shape := ⟨5, ![32, 1, 1, 4, 128]⟩
abbrev S1x32x4x1x128 : Shape := ⟨5, ![1, 32, 4, 1, 128]⟩
abbrev S32x4x1x128 : Shape := ⟨4, ![32, 4, 1, 128]⟩
abbrev S32x1x1x4x256 : Shape := ⟨5, ![32, 1, 1, 4, 256]⟩
abbrev S1x32x4x1x256 : Shape := ⟨5, ![1, 32, 4, 1, 256]⟩
abbrev S32x4x1x256 : Shape := ⟨4, ![32, 4, 1, 256]⟩
abbrev S32x4x1x1x128 : Shape := ⟨5, ![32, 4, 1, 1, 128]⟩
abbrev S1x1x1 : Shape := ⟨3, ![1, 1, 1]⟩
abbrev S32x4x1x1 : Shape := ⟨4, ![32, 4, 1, 1]⟩
abbrev S32x4x128 : Shape := ⟨3, ![32, 4, 128]⟩
abbrev S32x4x128x1 : Shape := ⟨4, ![32, 4, 128, 1]⟩
abbrev S32x1x4 : Shape := ⟨3, ![32, 1, 4]⟩
abbrev S32x1x4x1 : Shape := ⟨4, ![32, 1, 4, 1]⟩
abbrev S1x1x1x256 : Shape := ⟨4, ![1, 1, 1, 256]⟩

abbrev nBuf : Space → Nat
  | .hbm => 140
  | .vmem => 0
  | .smem => 0
  | _ => 0

abbrev hbmTy0_0 (i : Nat) : BufTy := match i % 128 with
  | 0 => ⟨S32x1x11264, .f32⟩
  | 1 => ⟨S32x4x128x256, .f32⟩
  | 2 => ⟨S16x512, .f32⟩
  | 3 => ⟨S512, .f32⟩
  | 4 => ⟨S256, .f32⟩
  | 5 => ⟨S32x1x512, .f32⟩
  | 6 => ⟨S32x1x512, .f32⟩
  | 7 => ⟨S32x1x1024, .f32⟩
  | 8 => ⟨S32x1x1024, .f32⟩
  | 9 => ⟨S32x1x16, .f32⟩
  | 10 => ⟨S32x1x4x128, .f32⟩
  | 11 => ⟨S_, .f32⟩
  | 12 => ⟨S32x1x4x128, .f32⟩
  | 13 => ⟨S32x1x4x128, .f32⟩
  | 14 => ⟨S32x1x4x128, .f32⟩
  | 15 => ⟨S32x1x4x256, .f32⟩
  | 16 => ⟨S32x1x512, .f32⟩
  | 17 => ⟨S1x1x512, .f32⟩
  | 18 => ⟨S32x1x512, .f32⟩
  | 19 => ⟨S32x1x512, .f32⟩
  | 20 => ⟨S32x1x512, .f32⟩
  | 21 => ⟨S_, .f32⟩
  | 22 => ⟨S32x1x512, .f32⟩
  | 23 => ⟨S32x1x512, .f32⟩
  | 24 => ⟨S32x1x512, .f32⟩
  | 25 => ⟨S32x1x512, .f32⟩
  | 26 => ⟨S32x1x512, .i1⟩
  | 27 => ⟨S32x1x512, .f32⟩
  | 28 => ⟨S32x1x512, .f32⟩
  | 29 => ⟨S32x1x512, .f32⟩
  | 30 => ⟨S32x1x512, .f32⟩
  | 31 => ⟨S32x1x512, .f32⟩
  | 32 => ⟨S32x1x512, .f32⟩
  | 33 => ⟨S32x1x512, .f32⟩
  | 34 => ⟨S32x1x512, .f32⟩
  | 35 => ⟨S32x1x512, .f32⟩
  | 36 => ⟨S_, .f32⟩
  | 37 => ⟨S32x1x512, .f32⟩
  | 38 => ⟨S32x1x512, .f32⟩
  | 39 => ⟨S32x1x4x128, .f32⟩
  | 40 => ⟨S_, .i1⟩
  | 41 => ⟨S1x1, .i1⟩
  | 42 => ⟨S1x1, .i32⟩
  | 43 => ⟨S_, .i32⟩
  | 44 => ⟨S1x1, .i32⟩
  | 45 => ⟨S1x1, .i32⟩
  | 46 => ⟨S1x1, .i32⟩
  | 47 => ⟨S1x1, .i1⟩
  | 48 => ⟨S_, .i1⟩
  | 49 => ⟨S1x1, .i1⟩
  | 50 => ⟨S1x1, .i1⟩
  | 51 => ⟨S_, .i32⟩
  | 52 => ⟨S_, .f32⟩
  | 53 => ⟨S32x1x4x128, .f32⟩
  | 54 => ⟨S32x1x1x4x128, .f32⟩
  | 55 => ⟨S1x32x4x1x128, .f32⟩
  | 56 => ⟨S32x4x1x128, .f32⟩
  | 57 => ⟨S_, .i32⟩
  | 58 => ⟨S_, .f32⟩
  | 59 => ⟨S32x1x4x128, .f32⟩
  | 60 => ⟨S32x1x1x4x128, .f32⟩
  | 61 => ⟨S1x32x4x1x128, .f32⟩
  | 62 => ⟨S32x4x1x128, .f32⟩
  | 63 => ⟨S_, .i32⟩
  | 64 => ⟨S_, .f32⟩
  | 65 => ⟨S32x1x4x256, .f32⟩
  | 66 => ⟨S32x1x1x4x256, .f32⟩
  | 67 => ⟨S1x32x4x1x256, .f32⟩
  | 68 => ⟨S32x4x1x256, .f32⟩
  | 69 => ⟨S_, .i32⟩
  | 70 => ⟨S_, .f32⟩
  | 71 => ⟨S32x1x4x128, .f32⟩
  | 72 => ⟨S32x1x1x4x128, .f32⟩
  | 73 => ⟨S1x32x4x1x128, .f32⟩
  | 74 => ⟨S32x4x1x128, .f32⟩
  | 75 => ⟨S_, .f32⟩
  | 76 => ⟨S_, .f32⟩
  | 77 => ⟨S32x4x1x128, .f32⟩
  | 78 => ⟨S32x4x1x1x128, .f32⟩
  | 79 => ⟨S32x4x1x1x128, .f32⟩
  | 80 => ⟨S32x4x1x1x128, .f32⟩
  | 81 => ⟨S1x1x1, .i1⟩
  | 82 => ⟨S_, .f32⟩
  | 83 => ⟨S_, .f32⟩
  | 84 => ⟨S32x4x1x1x128, .i1⟩
  | 85 => ⟨S32x4x1x1x128, .f32⟩
  | 86 => ⟨S32x4x1x1x128, .f32⟩
  | 87 => ⟨S32x4x1x1x128, .f32⟩
  | 88 => ⟨S32x4x1x1x128, .f32⟩
  | 89 => ⟨S32x4x1x1x128, .f32⟩
  | 90 => ⟨S32x4x1x1x128, .f32⟩
  | 91 => ⟨S32x4x1x1x128, .f32⟩
  | 92 => ⟨S_, .f32⟩
  | 93 => ⟨S32x4x1x1, .f32⟩
  | 94 => ⟨S32x4x1x256, .f32⟩
  | 95 => ⟨S32x4x1x128, .f32⟩
  | 96 => ⟨S32x4x1x128, .f32⟩
  | 97 => ⟨S32x4x1x256, .f32⟩
  | 98 => ⟨S32x4x1x256, .f32⟩
  | 99 => ⟨S32x4x128, .f32⟩
  | 100 => ⟨S32x4x128, .f32⟩
  | 101 => ⟨S32x4x128x1, .f32⟩
  | 102 => ⟨S32x4x128x256, .f32⟩
  | 103 => ⟨S32x4x128x256, .f32⟩
  | 104 => ⟨S32x4x1x128, .f32⟩
  | 105 => ⟨S32x4x1x128, .f32⟩
  | 106 => ⟨S32x4x1x128, .f32⟩
  | 107 => ⟨S32x4x1x128, .f32⟩
  | 108 => ⟨S32x4x128x256, .f32⟩
  | 109 => ⟨S32x4x128x256, .f32⟩
  | 110 => ⟨S1x32x4x1x256, .f32⟩
  | 111 => ⟨S32x1x1x4x256, .f32⟩
  | 112 => ⟨S32x1x4x256, .f32⟩
  | 113 => ⟨S32x1x4x256, .f32⟩
  | 114 => ⟨S_, .f32⟩
  | 115 => ⟨S32x1x4, .f32⟩
  | 116 => ⟨S32x1x4x1, .f32⟩
  | 117 => ⟨S_, .f32⟩
  | 118 => ⟨S32x1x4x1, .f32⟩
  | 119 => ⟨S32x1x4x1, .f32⟩
  | 120 => ⟨S_, .f32⟩
  | 121 => ⟨S32x1x4x1, .f32⟩
  | 122 => ⟨S32x1x4x1, .f32⟩
  | 123 => ⟨S32x1x4x1, .f32⟩
  | 124 => ⟨S32x1x4x256, .f32⟩
  | 125 => ⟨S32x1x4x256, .f32⟩
  | 126 => ⟨S1x1x1x256, .f32⟩
  | 127 => ⟨S32x1x4x256, .f32⟩
  | _ => ⟨S32x1x11264, .f32⟩

abbrev hbmTy0_1 (i : Nat) : BufTy := match i % 128 with
  | 0 => ⟨S32x1x4x256, .f32⟩
  | 1 => ⟨S32x1x1024, .f32⟩
  | 2 => ⟨S32x1x1024, .f32⟩
  | 3 => ⟨S32x1x1024, .f32⟩
  | 4 => ⟨S_, .f32⟩
  | 5 => ⟨S32x1x1024, .f32⟩
  | 6 => ⟨S32x1x1024, .f32⟩
  | 7 => ⟨S_, .f32⟩
  | 8 => ⟨S32x1x1024, .f32⟩
  | 9 => ⟨S32x1x1024, .f32⟩
  | 10 => ⟨S32x1x1024, .f32⟩
  | 11 => ⟨S32x1x1024, .f32⟩
  | _ => ⟨S32x1x11264, .f32⟩

abbrev hbmTy (i : Nat) : BufTy := match i / 128 with
  | 0 => hbmTy0_0 i
  | 1 => hbmTy0_1 i
  | _ => ⟨S32x1x11264, .f32⟩

abbrev bufTy : (tb : Table) → Fin (tcTables nBuf tb) → BufTy
  | .hbm, ⟨i, _⟩ => hbmTy i
  | _, _ => ⟨S32x1x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_call0_v0 : Ref sig .tc := ⟨.hbm, 20, rfl⟩
abbrev main_call0_call0_cst : Ref sig .tc := ⟨.hbm, 21, rfl⟩
abbrev main_call0_call0_v0 : Ref sig .tc := ⟨.hbm, 22, rfl⟩
abbrev main_call0_call0_v1 : Ref sig .tc := ⟨.hbm, 23, rfl⟩
abbrev main_call0_call0_v2 : Ref sig .tc := ⟨.hbm, 24, rfl⟩
abbrev main_call0_call0_v3 : Ref sig .tc := ⟨.hbm, 25, rfl⟩
abbrev main_call0_call0_v4 : Ref sig .tc := ⟨.hbm, 26, rfl⟩
abbrev main_call0_call0_v5 : Ref sig .tc := ⟨.hbm, 27, rfl⟩
abbrev main_call0_call0_v6 : Ref sig .tc := ⟨.hbm, 28, rfl⟩
abbrev main_call0_call0_v7 : Ref sig .tc := ⟨.hbm, 29, rfl⟩
abbrev main_call0_call0_v8 : Ref sig .tc := ⟨.hbm, 30, rfl⟩
abbrev main_call0_call0_v9 : Ref sig .tc := ⟨.hbm, 31, rfl⟩
abbrev main_call0_call0_v10 : Ref sig .tc := ⟨.hbm, 32, rfl⟩
abbrev main_call0_call0_v11 : Ref sig .tc := ⟨.hbm, 33, rfl⟩
abbrev main_call0_v1 : Ref sig .tc := ⟨.hbm, 34, rfl⟩
abbrev main_v14 : Ref sig .tc := ⟨.hbm, 35, rfl⟩
abbrev main_cst_0 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_c : Ref sig .tc := ⟨.hbm, 40, rfl⟩
abbrev main_v18 : Ref sig .tc := ⟨.hbm, 41, rfl⟩
abbrev main_call1_v0 : Ref sig .tc := ⟨.hbm, 42, rfl⟩
abbrev main_call1_c : Ref sig .tc := ⟨.hbm, 43, rfl⟩
abbrev main_call1_v1 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_call1_c_0 : Ref sig .tc := ⟨.hbm, 48, rfl⟩
abbrev main_call1_v5 : Ref sig .tc := ⟨.hbm, 49, rfl⟩
abbrev main_v19 : Ref sig .tc := ⟨.hbm, 50, rfl⟩
abbrev main_c_1 : Ref sig .tc := ⟨.hbm, 51, rfl⟩
abbrev main_call2_v0 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_c_2 : Ref sig .tc := ⟨.hbm, 57, rfl⟩
abbrev main_call3_v0 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_c_3 : Ref sig .tc := ⟨.hbm, 63, rfl⟩
abbrev main_call4_v0 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_c_4 : Ref sig .tc := ⟨.hbm, 69, rfl⟩
abbrev main_call5_v0 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_call6_call0_cst : Ref sig .tc := ⟨.hbm, 75, rfl⟩
abbrev main_call6_call0_v0 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_cst_5 : Ref sig .tc := ⟨.hbm, 82, rfl⟩
abbrev main_call7_v0 : Ref sig .tc := ⟨.hbm, 83, rfl⟩
abbrev main_call7_v1 : Ref sig .tc := ⟨.hbm, 84, rfl⟩
abbrev main_call7_v2 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_cst_6 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_cst_7 : Ref sig .tc := ⟨.hbm, 114, rfl⟩
abbrev main_v68 : Ref sig .tc := ⟨.hbm, 115, rfl⟩
abbrev main_v69 : Ref sig .tc := ⟨.hbm, 116, rfl⟩
abbrev main_cst_8 : Ref sig .tc := ⟨.hbm, 117, rfl⟩
abbrev main_v70 : Ref sig .tc := ⟨.hbm, 118, rfl⟩
abbrev main_v71 : Ref sig .tc := ⟨.hbm, 119, rfl⟩
abbrev main_cst_9 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_call8_v0 : Ref sig .tc := ⟨.hbm, 130, rfl⟩
abbrev main_call8_v1 : Ref sig .tc := ⟨.hbm, 131, rfl⟩
abbrev main_call8_cst : Ref sig .tc := ⟨.hbm, 132, rfl⟩
abbrev main_call8_v2 : Ref sig .tc := ⟨.hbm, 133, rfl⟩
abbrev main_call8_v3 : Ref sig .tc := ⟨.hbm, 134, rfl⟩
abbrev main_call8_cst_0 : Ref sig .tc := ⟨.hbm, 135, rfl⟩
abbrev main_call8_v4 : Ref sig .tc := ⟨.hbm, 136, rfl⟩
abbrev main_call8_v5 : Ref sig .tc := ⟨.hbm, 137, rfl⟩
abbrev main_v81 : Ref sig .tc := ⟨.hbm, 138, rfl⟩
abbrev main_v82 : Ref sig .tc := ⟨.hbm, 139, rfl⟩

abbrev nD : Nat := 1
abbrev τ : Topo := Topo.v7x

variable {F : FTy → Type} [FloatOps F]
-- ==== Proof.Win.Softmax.lean ====
/- The softmax over a window of keys, on the extended reals: shifting every score of a row by one real
   number does not change the row, and keys that are masked out may be left out of the sums. -/
module

public import Idealize.ShloMosaic.PureOps.Ideal.Laws

@[expose] public section

noncomputable section

namespace Cert.WinMath

open Idealize.ShloMosaic
open scoped BigOperators

/-- Adding one real number to both operands does not change their difference. -/
theorem add_real_sub (x y : EReal) (c : ℝ) : (x + c) - (y + c) = x - y := by
  induction x <;> induction y <;> simp [sub_eq_add_neg, ← EReal.coe_add, ← EReal.coe_neg]

/-- Adding a real number commutes with the larger of two. -/
theorem max_add_real (x y : EReal) (c : ℝ) : max x y + c = max (x + c) (y + c) :=
  Monotone.map_max (f := fun z : EReal => z + c) fun _ _ h => add_le_add h le_rfl

/-- The largest of a row that is shifted by one real number is the shifted largest. -/
theorem fold_max_add {ι : Type*} (s : Finset ι) (x : ι → EReal) (c : ℝ) :
    s.fold max ⊥ (fun i => x i + c) = s.fold max ⊥ x + c := by
  classical
  induction s using Finset.induction_on with
  | empty => simp
  | insert a s ha ih => rw [Finset.fold_insert ha, Finset.fold_insert ha, ih, max_add_real]

/-- The largest over all keys of a row whose masked keys count `-∞` is the largest over any keys that hold
    the unmasked ones. -/
theorem fold_max_window {n N : ℕ} (k : Fin n → Fin N) (M : Fin N → Prop) [DecidablePred M]
    (hM : ∀ j, M j → ∃ w, k w = j) (x : Fin N → EReal) :
    (Finset.univ : Finset (Fin n)).fold max ⊥ (fun w => if M (k w) then x (k w) else ⊥)
      = (Finset.univ : Finset (Fin N)).fold max ⊥ (fun j => if M j then x j else ⊥) := by
  show Finset.univ.sup _ = Finset.univ.sup _
  refine le_antisymm (Finset.sup_le fun w _ => ?_) (Finset.sup_le fun j _ => ?_)
  · exact Finset.le_sup (f := fun j => if M j then x j else ⊥) (Finset.mem_univ (k w))
  · by_cases h : M j
    · obtain ⟨w, rfl⟩ := hM j h
      exact Finset.le_sup (f := fun w => if M (k w) then x (k w) else ⊥) (Finset.mem_univ w)
    · rw [if_neg h]; exact bot_le

/-- A sum over all keys whose masked terms vanish is the sum over any keys that hold the unmasked ones once each. -/
theorem sum_window {n N : ℕ} (k : Fin n → Fin N) (hk : Function.Injective k) (M : Fin N → Prop) [DecidablePred M]
    (hM : ∀ j, M j → ∃ w, k w = j) (f : Fin N → EReal) (hf : ∀ j, ¬ M j → f j = 0) :
    ∑ w, f (k w) = ∑ j, f j := by
  rw [← Finset.sum_image (s := Finset.univ) (g := k) (f := f) (fun a _ b _ h => hk h)]
  refine Finset.sum_subset (Finset.subset_univ _) fun j _ hj => hf j fun h => hj ?_
  obtain ⟨w, rfl⟩ := hM j h
  exact Finset.mem_image_of_mem k (Finset.mem_univ w)

/-- Multiplying by a real number that is not negative distributes over a sum. -/
theorem sum_mul_real {ι : Type*} (s : Finset ι) (f : ι → EReal) (r : ℝ) (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha, ← ih]
    exact EReal.right_distrib_of_nonneg_of_ne_top (EReal.coe_nonneg.mpr hr) (EReal.coe_ne_top r) _ _

/-- Dividing by a positive extended real is multiplying by a real number that is not negative. -/
theorem div_eq_mul_real (L : EReal) (hL : 0 < L) : ∃ r : ℝ, 0 ≤ r ∧ ∀ x, Ideal.div x L = x * (r : EReal) := by
  refine ⟨(L⁻¹).toReal, ?_, fun x => ?_⟩
  · exact EReal.toReal_nonneg (EReal.inv_nonneg_of_nonneg hL.le)
  · unfold Ideal.div
    rw [if_neg hL.ne']
    congr 1
    induction L with
    | bot => exact absurd hL (by simp)
    | top => simp
    | coe r => rw [← EReal.coe_inv, EReal.toReal_coe]

/-- A row's weights with the masked keys' score `-∞`, computed over a span of keys from scores that are shifted by
    one real number and divided after the product with the values, and computed over all keys, divided before it. -/
theorem softmax_window {n N : ℕ} (k : Fin n → Fin N) (hk : Function.Injective k) (M : Fin N → Prop) [DecidablePred M]
    (hM : ∀ j, M j → ∃ w, k w = j) (x v : Fin N → EReal) (c : ℝ) (tiny : EReal) (ht : 0 < tiny)
    (sc : Fin n → EReal) (hsc : ∀ w, sc w = if M (k w) then x (k w) + c else ⊥) :
    Ideal.div (∑ w, Ideal.exp (sc w - Finset.univ.fold max ⊥ sc) * v (k w))
        (max (∑ w, Ideal.exp (sc w - Finset.univ.fold max ⊥ sc)) tiny)
      = ∑ j, Ideal.div (if M j then Ideal.exp ((if M j then x j else ⊥)
            - Finset.univ.fold max ⊥ fun j => if M j then x j else ⊥) else 0)
          (max (∑ j, if M j then Ideal.exp ((if M j then x j else ⊥)
            - Finset.univ.fold max ⊥ fun j => if M j then x j else ⊥) else 0) tiny) * v j := by
  set mx : EReal := Finset.univ.fold max ⊥ fun j => if M j then x j else ⊥ with hmx
  set e : Fin N → EReal := fun j => if M j then Ideal.exp ((if M j then x j else ⊥) - mx) else 0 with he
  have hm : Finset.univ.fold max ⊥ sc = mx + c := by
    rw [hmx, ← fold_max_window k M hM x, ← fold_max_add]
    congr 1
    funext w
    rw [hsc w]
    split
    · rfl
    · rw [EReal.bot_add]
  have hw : ∀ w, Ideal.exp (sc w - Finset.univ.fold max ⊥ sc) = e (k w) := fun w => by
    rw [hm, hsc w, he]
    by_cases h : M (k w)
    · simp only [if_pos h, add_real_sub]
    · simp only [if_neg h, sub_eq_add_neg, EReal.bot_add]; rfl
  have h0 : ∀ j, ¬ M j → e j = 0 := fun j h => if_neg h
  have hs : ∑ w, Ideal.exp (sc w - Finset.univ.fold max ⊥ sc) = ∑ j, e j := by
    rw [← sum_window k hk M hM e h0]
    exact Finset.sum_congr rfl fun w _ => hw w
  have hv : ∑ w, Ideal.exp (sc w - Finset.univ.fold max ⊥ sc) * v (k w) = ∑ j, e j * v j := by
    rw [← sum_window k hk M hM (fun j => e j * v j) fun j h => by simp only [h0 j h, zero_mul]]
    exact Finset.sum_congr rfl fun w _ => by rw [hw w]
  rw [hs, hv]
  obtain ⟨r, hr, hd⟩ := div_eq_mul_real (max (∑ j, e j) tiny) (lt_of_lt_of_le ht (le_max_right _ _))
  simp only [hd]
  rw [sum_mul_real _ _ r hr]
  exact Finset.sum_congr rfl fun j _ => mul_right_comm _ _ _

end Cert.WinMath

end
-- ==== Proof.Win.Words.lean ====
/- The position words of the windowed attention: distances between positions, and the window's mask, as words
   and as numbers. -/
module

public import Idealize.ShloMosaic.PureOps.Ideal.Laws
public import Idealize.ShloMosaic.Lib.Pointwise

@[expose] public section

noncomputable section

namespace Cert.WinMath

open Idealize.ShloMosaic

/-- The difference of two small position words, read signed, is the difference of the positions. -/
theorem toInt_sub_ofNat (a b : ℕ) (ha : a < 8192) (hb : b < 8192) :
    (BitVec.ofNat 32 a - BitVec.ofNat 32 b).toInt = (a : ℤ) - b := by
  rw [BitVec.toInt_sub, BitVec.toInt_ofNat', BitVec.toInt_ofNat']
  simp only [Int.bmod_def]
  omega

/-- As a float on the extended reals, the difference of two small position words is a real number. -/
theorem sitofp_sub_ofNat (a b : ℕ) (ha : a < 8192) (hb : b < 8192) :
    FloatOps.sitofp (F := Ideal) .f32 (BitVec.ofNat 32 a - BitVec.ofNat 32 b) = (((a : ℝ) - b : ℝ) : EReal) := by
  show (((BitVec.ofNat 32 a - BitVec.ofNat 32 b).toInt : ℝ) : EReal) = _
  rw [toInt_sub_ofNat a b ha hb]
  push_cast
  rfl

/-- The window's mask bit: the key is not after the query and at most 512 positions before it. -/
theorem mask_bit (a b : ℕ) (ha : a < 8192) (hb : b < 8192) :
    IntOp.andi (IntOp.cmpi .sge (BitVec.ofNat 32 a - BitVec.ofNat 32 b) 0#32)
      (IntOp.cmpi .sle (BitVec.ofNat 32 a - BitVec.ofNat 32 b) 512#32)
      = BitVec.ofBool (decide (b ≤ a ∧ a ≤ b + 512)) := by
  have h := toInt_sub_ofNat a b ha hb
  have h1 : IntOp.cmpi .sge (BitVec.ofNat 32 a - BitVec.ofNat 32 b) 0#32 = BitVec.ofBool (decide (b ≤ a)) := by
    show BitVec.ofBool (BitVec.sle 0#32 _) = _
    congr 1
    rw [BitVec.sle_eq_decide, h]
    simp
  have h2 : IntOp.cmpi .sle (BitVec.ofNat 32 a - BitVec.ofNat 32 b) 512#32 = BitVec.ofBool (decide (a ≤ b + 512)) := by
    show BitVec.ofBool (BitVec.sle _ 512#32) = _
    congr 1
    rw [BitVec.sle_eq_decide, h]
    have : (512#32).toInt = 512 := rfl
    rw [this]
    exact decide_eq_decide.mpr (by omega)
  rw [h1, h2]
  by_cases p : b ≤ a <;> by_cases q : a ≤ b + 512 <;> simp [p, q, IntOp.andi]

/-- Where a block of queries starts its keys: 512 positions before its first query, or at the first position. -/
theorem start_word : ∀ t : Fin 32, Scalar.maxsi (Scalar.subi (Scalar.muli (BitVec.ofNat 32 t.val) 128#32) 512#32) 0#32
    = BitVec.ofNat 32 (t.val * 128 - 512) := by decide

/-- The same start as an array index. -/
theorem start_index : ∀ t : Fin 32, (Scalar.indexCast (Scalar.maxsi (Scalar.subi (Scalar.muli (BitVec.ofNat 32 t.val) 128#32)
    512#32) 0#32)).toNat = t.val * 128 - 512 := by decide

end Cert.WinMath

end
-- ==== Proof.Win.Spec.lean ====
/- The window attention of one query row as a closed form, and the kernel's form of the same row: scores over a
   window of 640 keys that starts before the query's tile, against a softmax over all 4096 keys under the mask. -/
module

public import proofs.«01_k».proof.Proof.Win.Softmax
public import proofs.«01_k».proof.Proof.Win.Words

@[expose] public section

noncomputable section

namespace Cert.WinMath

open Idealize.ShloMosaic
open scoped BigOperators

/-- One query row's attention over a row of keys: the exponentials of the scores (shifted by the largest)
   weigh the values, and their sum, kept away from zero, divides. -/
def attend {n : ℕ} (sc v : Fin n → EReal) : EReal :=
  Ideal.div (∑ w, Ideal.exp (sc w - Finset.univ.fold max ⊥ sc) * v w)
    (max (∑ w, Ideal.exp (sc w - Finset.univ.fold max ⊥ sc)) (Ideal.ofBits .f32 0x0DA24260#32))

/-- The word that starts every row maximum is −∞. -/
theorem ofBits_neg_inf : Ideal.ofBits .f32 0xFF800000#32 = ⊥ := by
  simp [Ideal.ofBits, Ideal.ieee]

/-- The floor under the softmax's sum is positive. -/
theorem ofBits_tiny_pos : 0 < Ideal.ofBits .f32 0x0DA24260#32 := by
  simp [Ideal.ofBits, Ideal.ieee, -EReal.coe_mul]

/-- The head's slope, 2 to the power −8·(h+1)/16, as both programs write it. -/
def headSlope (h : ℕ) : EReal :=
  Ideal.pow (Ideal.ofBits .f32 0x40000000#32) (Ideal.div (Ideal.ofBits .f32 0xC1000000#32 *
    (1 + FloatOps.sitofp (F := Ideal) .f32 (BitVec.ofNat 32 h))) (Ideal.ofBits .f32 0x41800000#32))

/-- Every slope is a real number. -/
theorem headSlope_real (h : ℕ) : ∃ A : ℝ, headSlope h = (A : EReal) := by
  have h2 : Ideal.ofBits .f32 0x40000000#32 = ((2 : ℝ) : EReal) := by
    simp [Ideal.ofBits, Ideal.ieee, -EReal.coe_mul, -EReal.coe_neg]; try norm_num
  have h8 : Ideal.ofBits .f32 0xC1000000#32 = ((-8 : ℝ) : EReal) := by
    simp [Ideal.ofBits, Ideal.ieee, -EReal.coe_mul, -EReal.coe_neg]; try norm_num
  have h16 : Ideal.ofBits .f32 0x41800000#32 = ((16 : ℝ) : EReal) := by
    simp [Ideal.ofBits, Ideal.ieee, -EReal.coe_mul, -EReal.coe_neg]; try norm_num
  have hs : FloatOps.sitofp (F := Ideal) .f32 (BitVec.ofNat 32 h) = (((BitVec.ofNat 32 h).toInt : ℝ) : EReal) := rfl
  obtain ⟨r, -, hr⟩ := div_eq_mul_real (((16 : ℝ) : EReal)) (by norm_num)
  rw [headSlope, h2, h8, h16, hs, hr, ← EReal.coe_one, ← EReal.coe_add, ← EReal.coe_mul, ← EReal.coe_mul, Ideal.pow_coe_coe]
  exact ⟨_, rfl⟩

/-- The keys that query `t` attends to: its own and up to 512 before it. -/
abbrev near (t : ℕ) (j : Fin 4096) : Prop := j.val ≤ t ∧ t ≤ j.val + 512

/-- The masked softmax of the scores `x` of query `t` over all keys, weighing the values `v`. -/
def soft (t : ℕ) (x v : Fin 4096 → EReal) : EReal :=
  ∑ j, Ideal.div (if near t j then Ideal.exp ((if near t j then x j else ⊥)
        - Finset.univ.fold max ⊥ fun j => if near t j then x j else ⊥) else 0)
      (max (∑ j, if near t j then Ideal.exp ((if near t j then x j else ⊥)
        - Finset.univ.fold max ⊥ fun j => if near t j then x j else ⊥) else 0) (Ideal.ofBits .f32 0x0DA24260#32)) * v j

/-- The key that column `w` of tile `i`'s window stands for. -/
def key (i : Fin 32) (w : Fin 640) : Fin 4096 := ⟨i.val * 128 - 512 + w.val, by omega⟩

theorem key_injective (i : Fin 32) : Function.Injective (key i) := fun a b h => by
  have := congrArg Fin.val h
  simp only [key] at this
  exact Fin.ext (by omega)

/-- Attention over tile `i`'s window, with the bias measured from the tile's start, is the masked softmax over all
   keys with the bias measured from the query. -/
theorem attend_window (i : Fin 32) (r : Fin 128) (A : ℝ) (s v : Fin 4096 → EReal) :
    attend (fun w => s (key i w) + ((if near (i.val * 128 + r.val) (key i w) then 0 else ⊥)
        + (A : EReal) * (((((i.val * 128 - 512 + w.val : ℕ) : ℝ) - (i.val * 128 : ℕ) : ℝ)) : EReal))) (fun w => v (key i w))
      = soft (i.val * 128 + r.val) (fun j => s j - (A : EReal) * ((((i.val * 128 + r.val : ℕ) : ℝ) - j.val : ℝ) : EReal)) v := by
  refine softmax_window (key i) (key_injective i) (near (i.val * 128 + r.val)) ?_ _ v (A * r.val) _ ofBits_tiny_pos _ ?_
  · intro j hj
    exact ⟨⟨j.val - (i.val * 128 - 512), by have := hj.1; have := hj.2; omega⟩, Fin.ext (by
      have := hj.1; have := hj.2; simp only [key]; omega)⟩
  · intro w
    split_ifs with hw
    · show _ = s (key i w) + -((A : EReal) * _) + _
      rw [zero_add, add_assoc, ← EReal.coe_mul, ← EReal.coe_mul, ← EReal.coe_neg, ← EReal.coe_add]
      congr 2
      simp only [key]
      push_cast
      ring
    · rw [← EReal.coe_mul, EReal.bot_add, EReal.add_bot]

end Cert.WinMath

end
-- ==== Proof.Win.Heads.lean ====
/- What one block of the window attention writes, head by head. -/
module

public import proofs.«01_k».proof.Proof.Gen.WinKernelIdeal.Value
public import proofs.«01_k».proof.Proof.Win.Spec
public import Idealize.ShloMosaic.Lib.Pipeline.ValueKit
public import Idealize.ShloMosaic.Lib.Pointwise

@[expose] public section

set_option maxRecDepth 16384
noncomputable section

namespace Cert.WinKernelIdeal.Value

open Cert.WinKernelIdeal Cert.WinKernelIdeal.Gen Idealize.ShloMosaic Idealize.ShloMosaic.TcCoe Idealize.SL.Sem
open Idealize.ShloMosaic.Pipeline (Dat)
open scoped BigOperators

open Cert.WinMath

/-- The block's row `r`, head 0, lane `d`: that head's attention, times its gate. -/
theorem block_head0 (v : FVec Ideal S640x64 .bf16) (mb : FVec Ideal S128x640 .f32) (rel : FVec Ideal S1x640 .f32)
    (k : FVec Ideal S1x1x640x64 .bf16) (q : FVec Ideal S1x4x128x64 .bf16) (s0 s1 s2 s3 : FVec Ideal S1x1x1 .f32)
    (gt : FVec Ideal S1x1x128x12 .f32) (r : Fin 128) (d : Fin 64) :
    k0_pay1 (k0_pay15 v mb rel (k0_pay5 k q) (k0_pay8 mb rel (k0_pay6 k q) s0) (k0_pay9 mb rel (k0_pay6 k q) s0)
      (k0_pay11 mb rel (k0_pay5 k q) s1) (k0_pay12 mb rel (k0_pay5 k q) s1) (k0_pay13 mb rel (k0_pay5 k q) s2)
      (k0_pay14 mb rel (k0_pay5 k q) s2) s3 gt) (ix3 0 r (⟨d.val, by omega⟩ : Fin 256))
      = attend (fun w => k0_pay5 (F := Ideal) k q (ix2 (⟨r.val, by omega⟩ : Fin 512) w) + (mb (ix2 r w) + s0 (ix3 0 0 0) * rel (ix2 0 w)))
          (fun w => v (ix2 w d)) * gt (ix4 0 0 r 2) := by
  pointwise [k0_pay1, k0_pay15, k0_pay8, k0_pay9, k0_pay11, k0_pay12, k0_pay13, k0_pay14, k0_pay7, k0_pay10, k0_pay6]
  simp (disch := omega) only [dif_pos, dif_neg, ofBits_neg_inf]
  rfl

/-- The block's row `r`, head 1, lane `d`: that head's attention, times its gate. -/
theorem block_head1 (v : FVec Ideal S640x64 .bf16) (mb : FVec Ideal S128x640 .f32) (rel : FVec Ideal S1x640 .f32)
    (k : FVec Ideal S1x1x640x64 .bf16) (q : FVec Ideal S1x4x128x64 .bf16) (s0 s1 s2 s3 : FVec Ideal S1x1x1 .f32)
    (gt : FVec Ideal S1x1x128x12 .f32) (r : Fin 128) (d : Fin 64) :
    k0_pay1 (k0_pay15 v mb rel (k0_pay5 k q) (k0_pay8 mb rel (k0_pay6 k q) s0) (k0_pay9 mb rel (k0_pay6 k q) s0)
      (k0_pay11 mb rel (k0_pay5 k q) s1) (k0_pay12 mb rel (k0_pay5 k q) s1) (k0_pay13 mb rel (k0_pay5 k q) s2)
      (k0_pay14 mb rel (k0_pay5 k q) s2) s3 gt) (ix3 0 r (⟨64 + d.val, by omega⟩ : Fin 256))
      = attend (fun w => k0_pay5 (F := Ideal) k q (ix2 (⟨128 + r.val, by omega⟩ : Fin 512) w) + (mb (ix2 r w) + s1 (ix3 0 0 0) * rel (ix2 0 w)))
          (fun w => v (ix2 w d)) * gt (ix4 0 0 r 5) := by
  pointwise [k0_pay1, k0_pay15, k0_pay8, k0_pay9, k0_pay11, k0_pay12, k0_pay13, k0_pay14, k0_pay7, k0_pay10, k0_pay6]
  simp (disch := omega) only [dif_pos, dif_neg, ofBits_neg_inf, show 128 + r.val - 128 = r.val from by omega, show 64 + d.val - 64 = d.val from by omega]
  rfl

/-- The block's row `r`, head 2, lane `d`: that head's attention, times its gate. -/
theorem block_head2 (v : FVec Ideal S640x64 .bf16) (mb : FVec Ideal S128x640 .f32) (rel : FVec Ideal S1x640 .f32)
    (k : FVec Ideal S1x1x640x64 .bf16) (q : FVec Ideal S1x4x128x64 .bf16) (s0 s1 s2 s3 : FVec Ideal S1x1x1 .f32)
    (gt : FVec Ideal S1x1x128x12 .f32) (r : Fin 128) (d : Fin 64) :
    k0_pay1 (k0_pay15 v mb rel (k0_pay5 k q) (k0_pay8 mb rel (k0_pay6 k q) s0) (k0_pay9 mb rel (k0_pay6 k q) s0)
      (k0_pay11 mb rel (k0_pay5 k q) s1) (k0_pay12 mb rel (k0_pay5 k q) s1) (k0_pay13 mb rel (k0_pay5 k q) s2)
      (k0_pay14 mb rel (k0_pay5 k q) s2) s3 gt) (ix3 0 r (⟨128 + d.val, by omega⟩ : Fin 256))
      = attend (fun w => k0_pay5 (F := Ideal) k q (ix2 (⟨256 + r.val, by omega⟩ : Fin 512) w) + (mb (ix2 r w) + s2 (ix3 0 0 0) * rel (ix2 0 w)))
          (fun w => v (ix2 w d)) * gt (ix4 0 0 r 8) := by
  pointwise [k0_pay1, k0_pay15, k0_pay8, k0_pay9, k0_pay11, k0_pay12, k0_pay13, k0_pay14, k0_pay7, k0_pay10, k0_pay6]
  simp (disch := omega) only [dif_pos, dif_neg, ofBits_neg_inf, show 256 + r.val - 128 = 128 + r.val from by omega, show 128 + d.val - 64 = 64 + d.val from by omega, show 128 + r.val - 128 = r.val from by omega, show 64 + d.val - 64 = d.val from by omega]
  rfl

/-- The block's row `r`, head 3, lane `d`: that head's attention, times its gate. -/
theorem block_head3 (v : FVec Ideal S640x64 .bf16) (mb : FVec Ideal S128x640 .f32) (rel : FVec Ideal S1x640 .f32)
    (k : FVec Ideal S1x1x640x64 .bf16) (q : FVec Ideal S1x4x128x64 .bf16) (s0 s1 s2 s3 : FVec Ideal S1x1x1 .f32)
    (gt : FVec Ideal S1x1x128x12 .f32) (r : Fin 128) (d : Fin 64) :
    k0_pay1 (k0_pay15 v mb rel (k0_pay5 k q) (k0_pay8 mb rel (k0_pay6 k q) s0) (k0_pay9 mb rel (k0_pay6 k q) s0)
      (k0_pay11 mb rel (k0_pay5 k q) s1) (k0_pay12 mb rel (k0_pay5 k q) s1) (k0_pay13 mb rel (k0_pay5 k q) s2)
      (k0_pay14 mb rel (k0_pay5 k q) s2) s3 gt) (ix3 0 r (⟨192 + d.val, by omega⟩ : Fin 256))
      = attend (fun w => k0_pay5 (F := Ideal) k q (ix2 (⟨384 + r.val, by omega⟩ : Fin 512) w) + (mb (ix2 r w) + s3 (ix3 0 0 0) * rel (ix2 0 w)))
          (fun w => v (ix2 w d)) * gt (ix4 0 0 r 11) := by
  pointwise [k0_pay1, k0_pay15, k0_pay8, k0_pay9, k0_pay11, k0_pay12, k0_pay13, k0_pay14, k0_pay7, k0_pay10, k0_pay6]
  simp (disch := omega) only [dif_pos, dif_neg, ofBits_neg_inf, show 384 + r.val - 128 = 256 + r.val from by omega, show 192 + d.val - 64 = 128 + d.val from by omega, show 256 + r.val - 128 = 128 + r.val from by omega, show 128 + d.val - 64 = 64 + d.val from by omega, show 128 + r.val - 128 = r.val from by omega, show 64 + d.val - 64 = d.val from by omega]
  rfl

end Cert.WinKernelIdeal.Value

end
-- ==== Proof.Win.Ref.lean ====
/- What the reference's window attention holds at one index, in the closed form of `Spec`. -/
module

public import proofs.«01_k».proof.Proof.Gen.WinRefIdeal.Read
public import proofs.«01_k».proof.Proof.Win.Spec
public import Idealize.ShloMosaic.Lib.Pointwise

@[expose] public section

set_option maxRecDepth 16384
noncomputable section

namespace Cert.WinRefIdeal.Read

open Cert.WinRefIdeal Cert.WinRefIdeal.Gen Idealize.ShloMosaic Idealize.ShloMosaic.TcCoe Idealize.SL.Sem Cert.WinMath
open scoped BigOperators

/-- The biased score of query `t` and key `j`: their product less the slope times their distance. -/
theorem score_at (q : FVec Ideal S4x4096x4x4x64 .f32) (kv : FVec Ideal S4x4096x2x4x64 .f32)
    (b g p : Fin 4) (t j : Fin 4096) : val_main_v34 (F := Ideal) q kv (ix5 b g p t j)
      = ∑ x, q (ix5 b t g p x) * kv (ix5 b j 0 g x) - headSlope (g.val * 4 + p.val) * (((t.val : ℝ) - j.val : ℝ) : EReal) := by
  pointwise [val_main_v0, val_main_v1, val_main_v2, val_main_v3, val_main_v4, val_main_v5, val_main_v6, val_main_v7, val_main_v8, val_main_v9, val_main_v10, val_main_v11, val_main_c, val_main_v12, val_main_v13, val_main_c_0, val_main_v14, val_main_v15, val_main_v16, val_main_v17, val_main_cst, val_main_v18, val_main_v19, val_main_cst_1, val_main_v20, val_main_v21, val_main_cst_2, val_main_v22, val_main_v23, val_main_cst_3, val_main_v24, val_main_v25, val_main_v26, val_main_v27, val_main_v28, val_main_v29, val_main_v30, val_main_v31, val_main_v32, val_main_v33, val_main_v34]
  rw [show IntOp.subi (BitVec.ofNat 32 t.val) (BitVec.ofNat 32 j.val) = BitVec.ofNat 32 t.val - BitVec.ofNat 32 j.val from rfl,
    sitofp_sub_ofNat _ _ (by omega) (by omega)]
  exact congrArg₂ (· - ·) (Finset.sum_congr rfl fun x _ => mul_comm _ _) rfl

/-- Choosing by a decided bit is the conditional. -/
theorem select_decide (P : Prop) [Decidable P] (x y : EReal) :
    Scalar.select (BitVec.ofBool (decide P)) x y = if P then x else y := by
  by_cases h : P <;> simp [h, Scalar.select]

/-- The reference's result: the gate times the masked softmax's weighted values. -/
theorem result_at (q : FVec Ideal S4x4096x4x4x64 .f32) (kv : FVec Ideal S4x4096x2x4x64 .f32) (gt : FVec Ideal S4x4096x4x4x3 .f32)
    (b : Fin 4) (t : Fin 4096) (n : Fin 1024) : val_main_v53 (F := Ideal) q kv gt (ix3 b t n)
      = gt (ix5 b t (⟨n.val / 256, by omega⟩ : Fin 4) (⟨n.val / 64 % 4, by omega⟩ : Fin 4) 2) * soft t.val
          (fun j => ∑ x, q (ix5 b t (⟨n.val / 256, by omega⟩ : Fin 4) (⟨n.val / 64 % 4, by omega⟩ : Fin 4) x) * kv (ix5 b j 0 (⟨n.val / 256, by omega⟩ : Fin 4) x)
            - headSlope (n.val / 256 * 4 + n.val / 64 % 4) * (((t.val : ℝ) - j.val : ℝ) : EReal))
          (fun j => kv (ix5 b j 1 (⟨n.val / 256, by omega⟩ : Fin 4) (⟨n.val % 64, by omega⟩ : Fin 64))) := by
  pointwise [val_main_cst_4, val_main_call0_v0, val_main_call0_v1, val_main_call0_v2, val_main_v35, val_main_cst_5, val_main_v36, val_main_v37, val_main_v38, val_main_v39, val_main_v40, val_main_cst_6, val_main_call1_v0, val_main_call1_v1, val_main_call1_v2, val_main_v41, val_main_cst_7, val_main_v42, val_main_v43, val_main_cst_8, val_main_v44, val_main_v45, val_main_v46, val_main_v47, val_main_v48, val_main_v49, val_main_v50, val_main_v51, val_main_v52, val_main_v53, val_main_v3, val_main_v2, val_main_v4, val_main_v7, val_main_v8, val_main_v9, val_main_v10, val_main_v11, val_main_c, val_main_v12, val_main_v13, val_main_c_0, val_main_v14, val_main_v15, val_main_v16]
  have hM : ∀ j : Fin 4096, IntOp.andi
      (IntOp.cmpi .sge (IntOp.subi (BitVec.ofNat 32 t.val) (BitVec.ofNat 32 j.val)) 0#32)
      (IntOp.cmpi .sle (IntOp.subi (BitVec.ofNat 32 t.val) (BitVec.ofNat 32 j.val)) 512#32)
      = BitVec.ofBool (decide (near t.val j)) := fun j => mask_bit t.val j.val (by omega) (by omega)
  have hb : id (constant (F := Ideal) S_ FTy.f32 4286578688#32) ix0 = (⊥ : EReal) := ofBits_neg_inf
  have hz : id (constant (F := Ideal) S_ FTy.f32 0#32) ix0 = (0 : EReal) := Ideal.ofBits_zero_f32
  simp only [hM, hb, hz, select_decide, score_at, ofBits_neg_inf]
  simp only [soft, mul_comm (Ideal.div _ _)]

end Cert.WinRefIdeal.Read

end
-- ==== Proof.Win.Kernel.lean ====
/- The window attention's result array, as the kernel leaves it, is the reference's. -/
module

public import proofs.«01_k».proof.Proof.Win.Heads
public import proofs.«01_k».proof.Proof.Win.Ref

@[expose] public section

set_option maxRecDepth 16384
noncomputable section

namespace Cert.WinKernelIdeal.Value

open Cert.WinKernelIdeal Cert.WinKernelIdeal.Gen Idealize.ShloMosaic Idealize.ShloMosaic.TcCoe Idealize.SL.Sem Cert.WinMath
open Idealize.ShloMosaic.Pipeline (Dat)
open scoped BigOperators

/-- A tile's first position as a word. -/
theorem mul_word (e : Fin 32) : Scalar.muli (BitVec.ofNat 32 e.val) 128#32 = BitVec.ofNat 32 (e.val * 128) := by
  revert e; decide

/-- The mask's bias of row `r` and window column `w`: zero where the key is near the query, −∞ elsewhere. -/
theorem bias_at (i : grid0.Coords) (e : Fin 32) (he : (i 2).val = e.val) (r : Fin 128) (w : Fin 640) :
    k0_pay3 (F := Ideal) i (ix2 r w) = (if near (e.val * 128 + r.val) (key e w) then 0 else ⊥ : EReal) := by
  pointwise [k0_pay3]
  rw [he, start_word, mul_word]
  have hm : Named.named (F := Ideal) (φ := .f32) κ "mask" 4048155338#32 = (⊥ : EReal) := rfl
  rw [show IntOp.addi (BitVec.ofNat 32 (e.val * 128)) (BitVec.ofNat 32 r.val) = BitVec.ofNat 32 (e.val * 128 + r.val) from
      (BitVec.ofNat_add _ _).symm,
    show IntOp.addi (BitVec.ofNat 32 (e.val * 128 - 512)) (BitVec.ofNat 32 w.val) = BitVec.ofNat 32 (key e w).val from
      (BitVec.ofNat_add _ _).symm, hm]
  exact (congrArg (fun z => Scalar.select z (0 : EReal) ⊥)
    (mask_bit (e.val * 128 + r.val) (key e w).val (by omega) (by omega))).trans (Cert.WinRefIdeal.Read.select_decide _ _ _)

/-- The window column's position, measured from the tile's start. -/
theorem rel_at (i : grid0.Coords) (e : Fin 32) (he : (i 2).val = e.val) (w : Fin 640) :
    k0_pay4 (F := Ideal) i (ix2 0 w) = ((((e.val * 128 - 512 + w.val : ℕ) : ℝ) - (e.val * 128 : ℕ) : ℝ) : EReal) := by
  pointwise [k0_pay4]
  rw [he, start_word, mul_word]
  rw [show IntOp.addi (Scalar.subi (BitVec.ofNat 32 (e.val * 128 - 512)) (BitVec.ofNat 32 (e.val * 128))) (BitVec.ofNat 32 w.val)
      = BitVec.ofNat 32 (e.val * 128 - 512 + w.val) - BitVec.ofNat 32 (e.val * 128) from by
    rw [BitVec.ofNat_add]
    show BitVec.ofNat 32 (e.val * 128 - 512) - BitVec.ofNat 32 (e.val * 128) + BitVec.ofNat 32 w.val = _
    rw [BitVec.sub_eq_add_neg, BitVec.sub_eq_add_neg, BitVec.add_assoc, BitVec.add_comm (-_), ← BitVec.add_assoc]]
  exact sitofp_sub_ofNat _ _ (by omega) (by omega)

/-- The products of the block's queries and the window's keys. -/
theorem dot_at (k : FVec Ideal S1x1x640x64 .bf16) (q : FVec Ideal S1x4x128x64 .bf16) (p : Fin 4) (r : Fin 128) (w : Fin 640) :
    k0_pay5 (F := Ideal) k q (ix2 (⟨p.val * 128 + r.val, by omega⟩ : Fin 512) w)
      = ∑ x, q (ix4 0 p r x) * k (ix4 0 0 w x) := by
  pointwise [k0_pay5]

/-- One head's part of a block row, over what the block's windows read of the arguments, is the reference's result there. -/
theorem head_eq (q : FVec Ideal Cert.WinRefIdeal.S4x4096x4x4x64 .f32) (kv : FVec Ideal Cert.WinRefIdeal.S4x4096x2x4x64 .f32)
    (gt : FVec Ideal Cert.WinRefIdeal.S4x4096x4x4x3 .f32)
    (i : grid0.Coords) (b g p : Fin 4) (e : Fin 32) (he : (i 2).val = e.val) (r : Fin 128) (d : Fin 64)
    (kb : FVec Ideal S1x1x640x64 .bf16) (qb : FVec Ideal S1x4x128x64 .bf16) (vb : FVec Ideal S1x1x640x64 .bf16)
    (gb : FVec Ideal S1x1x128x12 .f32) (sb : FVec Ideal S1x1x1 .f32) (ρ : Fin 512) (γ : Fin 12) (n : Fin 1024)
    (hρ : ρ.val = p.val * 128 + r.val) (hγ : γ.val = p.val * 3 + 2) (hn : n.val = g.val * 256 + p.val * 64 + d.val)
    (hk : ∀ w x, kb (ix4 0 0 w x) = kv (ix5 b (key e w) 0 g x)) (hv : ∀ w x, vb (ix4 0 0 w x) = kv (ix5 b (key e w) 1 g x))
    (hq : ∀ p r x, qb (ix4 0 p r x) = q (ix5 b (⟨e.val * 128 + r.val, by omega⟩ : Fin 4096) g p x))
    (hg : ∀ (r : Fin 128) (γ : Fin 12), gb (ix4 0 0 r γ)
      = gt (ix5 b (⟨e.val * 128 + r.val, by omega⟩ : Fin 4096) g (⟨γ.val / 3, by omega⟩ : Fin 4) (⟨γ.val % 3, by omega⟩ : Fin 3)))
    (hs : sb (ix3 0 0 0) = headSlope (g.val * 4 + p.val)) :
    attend (fun w => k0_pay5 (F := Ideal) kb qb (ix2 ρ w) + (k0_pay3 (F := Ideal) i (ix2 r w)
        + sb (ix3 0 0 0) * k0_pay4 (F := Ideal) i (ix2 0 w))) (fun w => k0_pay2 (F := Ideal) vb (ix2 w d)) * gb (ix4 0 0 r γ)
      = Cert.WinRefIdeal.Read.val_main_v53 (F := Ideal) q kv gt (ix3 b (⟨e.val * 128 + r.val, by omega⟩ : Fin 4096) n) := by
  have hρ' : ∀ h, ρ = ⟨p.val * 128 + r.val, h⟩ := fun h => Fin.ext hρ
  obtain ⟨A, hA⟩ := headSlope_real (g.val * 4 + p.val)
  have hv2 : ∀ w, k0_pay2 (F := Ideal) vb (ix2 w d) = vb (ix4 0 0 w d) := fun w => by pointwise [k0_pay2]
  have h1 : (⟨n.val / 256, by omega⟩ : Fin 4) = g := Fin.ext (by show n.val / 256 = g.val; omega)
  have h2 : (⟨n.val / 64 % 4, by omega⟩ : Fin 4) = p := Fin.ext (by show n.val / 64 % 4 = p.val; omega)
  have h3 : (⟨n.val % 64, by omega⟩ : Fin 64) = d := Fin.ext (by show n.val % 64 = d.val; omega)
  have h4 : (⟨γ.val / 3, by omega⟩ : Fin 4) = p := Fin.ext (by show γ.val / 3 = p.val; omega)
  have h5 : (⟨γ.val % 3, by omega⟩ : Fin 3) = 2 := Fin.ext (by show γ.val % 3 = 2; omega)
  have h6 : n.val / 256 * 4 + n.val / 64 % 4 = g.val * 4 + p.val := by omega
  rw [Cert.WinRefIdeal.Read.result_at, h1, h2, h3, h6, hg, h4, h5, mul_comm, hρ' (by omega)]
  simp only [bias_at i e he, rel_at i e he, dot_at, hv2, hk, hv, hq, hs, hA]
  exact congrArg (gt _ * ·) (attend_window e r A
    (fun j => ∑ x, q (ix5 b (⟨e.val * 128 + r.val, by omega⟩ : Fin 4096) g p x) * kv (ix5 b j 0 g x)) (fun j => kv (ix5 b j 1 g d)))

variable (m : (ℓ : Loc nD τ sig) → Buf (Elt Ideal) ℓ)
/-- The keys of a group of heads, as the kernel is given them. -/
theorem keys_at (c : Dev nD) (b g : Fin 4) (j : Fin 4096) (x : Fin 64) :
    (V m c main_v6) (ix4 b g j x) = m ((c : Thread nD τ).loc main_arg1) (ix5 b j 0 g x) := by
  entry_read
  pointwise

/-- The values of a group of heads, as the kernel is given them. -/
theorem values_at (c : Dev nD) (b g : Fin 4) (j : Fin 4096) (x : Fin 64) :
    (V m c main_v10) (ix4 b g j x) = m ((c : Thread nD τ).loc main_arg1) (ix5 b j 1 g x) := by
  entry_read
  pointwise

/-- The queries of a head, as the kernel is given them. -/
theorem queries_at (c : Dev nD) (b : Fin 4) (h : Fin 16) (j : Fin 4096) (x : Fin 64) :
    (V m c main_v2) (ix4 b h j x) = m ((c : Thread nD τ).loc main_arg0)
      (ix5 b j (⟨h.val / 4, by omega⟩ : Fin 4) (⟨h.val % 4, by omega⟩ : Fin 4) x) := by
  entry_read
  pointwise

/-- The gates of a group of heads, as the kernel is given them. -/
theorem gates_at (c : Dev nD) (b g : Fin 4) (j : Fin 4096) (γ : Fin 12) :
    (V m c main_v12) (ix4 b g j γ) = m ((c : Thread nD τ).loc main_arg2)
      (ix5 b j g (⟨γ.val / 3, by omega⟩ : Fin 4) (⟨γ.val % 3, by omega⟩ : Fin 3)) := by
  entry_read
  pointwise

/-- The slope of each row of queries of a group of heads. -/
theorem slopes_at (c : Dev nD) (g : Fin 4) (j : Fin 512) : (V m c main_v25) (ix3 g j 0) = headSlope (g.val * 4 + j.val / 128) := by
  entry_read
  pointwise
  rfl

/-- Every window's block index at a grid point. -/
theorem idx : ∀ t : Fin cfg0.N, win0_0.index t = ![(grid0.coords t 0).val, (grid0.coords t 1).val, (grid0.coords t 2).val, 0]
    ∧ win0_1.index t = ![(grid0.coords t 0).val, (grid0.coords t 1).val, 0, 0]
    ∧ win0_2.index t = ![(grid0.coords t 0).val, (grid0.coords t 1).val, 0, 0]
    ∧ win0_3.index t = ![(grid0.coords t 0).val, (grid0.coords t 1).val, (grid0.coords t 2).val, 0]
    ∧ win0_4.index t = ![(grid0.coords t 1).val, 0, 0]
    ∧ win0_5.index t = ![(grid0.coords t 0).val, (grid0.coords t 2).val, (grid0.coords t 1).val] :=
  (by decide +kernel : ∀ t : Fin grid0.N, _)

/-- A grid point's coordinates, as a batch row, a group of heads and a tile of queries. -/
theorem coords_lt (t : Fin cfg0.N) : (grid0.coords t 0).val < 4 ∧ (grid0.coords t 1).val < 4 ∧ (grid0.coords t 2).val < 32 :=
  ⟨(grid0.coords t 0).isLt, (grid0.coords t 1).isLt, (grid0.coords t 2).isLt⟩

section Reads
variable (c : Dev nD) (t : Fin cfg0.N) (b g : Fin 4) (e : Fin 32)
  (hb : (grid0.coords t 0).val = b.val) (hg : (grid0.coords t 1).val = g.val)
include hb hg

/-- A block of queries, in the argument. -/
theorem query_read (he : (grid0.coords t 2).val = e.val) (p : Fin 4) (r : Fin 128) (x : Fin 64) : iblk m c 0 t (ix4 0 p r x)
    = m ((c : Thread nD τ).loc main_arg0) (ix5 b (⟨e.val * 128 + r.val, by omega⟩ : Fin 4096) g p x) := by
  have h := queries_at m c b (⟨g.val * 4 + p.val, by omega⟩ : Fin 16) (⟨e.val * 128 + r.val, by omega⟩ : Fin 4096) x
  rw [show (⟨(⟨g.val * 4 + p.val, by omega⟩ : Fin 16).val / 4, by omega⟩ : Fin 4) = g from Fin.ext (by show (g.val * 4 + p.val) / 4 = g.val; omega),
    show (⟨(⟨g.val * 4 + p.val, by omega⟩ : Fin 16).val % 4, by omega⟩ : Fin 4) = p from Fin.ext (by show (g.val * 4 + p.val) % 4 = p.val; omega)] at h
  rw [← h]
  show V m c main_v2 _ = V m c main_v2 _
  obtain ⟨e0, -⟩ := idx t
  blk_ext [e0, hb, hg, he]

/-- A group's keys, in the argument. -/
theorem key_read (j : Fin 4096) (x : Fin 64) : iblk m c 1 t (ix4 0 0 j x)
    = m ((c : Thread nD τ).loc main_arg1) (ix5 b j 0 g x) := by
  rw [← keys_at m c b g j x]
  show V m c main_v6 _ = V m c main_v6 _
  obtain ⟨-, e1, -⟩ := idx t
  blk_ext [e1, hb, hg]

/-- A group's values, in the argument. -/
theorem value_read (j : Fin 4096) (x : Fin 64) : iblk m c 2 t (ix4 0 0 j x)
    = m ((c : Thread nD τ).loc main_arg1) (ix5 b j 1 g x) := by
  rw [← values_at m c b g j x]
  show V m c main_v10 _ = V m c main_v10 _
  obtain ⟨-, -, e2, -⟩ := idx t
  blk_ext [e2, hb, hg]

/-- A block of gates, in the argument. -/
theorem gate_read (he : (grid0.coords t 2).val = e.val) (r : Fin 128) (γ : Fin 12) : iblk m c 3 t (ix4 0 0 r γ)
    = m ((c : Thread nD τ).loc main_arg2) (ix5 b (⟨e.val * 128 + r.val, by omega⟩ : Fin 4096) g
        (⟨γ.val / 3, by omega⟩ : Fin 4) (⟨γ.val % 3, by omega⟩ : Fin 3)) := by
  rw [← gates_at m c b g (⟨e.val * 128 + r.val, by omega⟩ : Fin 4096) γ]
  show V m c main_v12 _ = V m c main_v12 _
  obtain ⟨-, -, -, e3, -⟩ := idx t
  blk_ext [e3, hb, hg, he]

omit hb in
/-- A block of slopes. -/
theorem slope_read (j : Fin 512) : iblk m c 4 t (ix3 0 j 0) = headSlope (g.val * 4 + j.val / 128) := by
  rw [← slopes_at m c g j]
  show V m c main_v25 _ = V m c main_v25 _
  obtain ⟨-, -, -, -, e4, -⟩ := idx t
  blk_ext [e4, hg]

end Reads

/-- The start of a tile's window, as an offset of its loads. -/
theorem window_offset (i : grid0.Coords) (e : Fin 32) (he : (i 2).val = e.val) : k0_off1 i = ![0, 0, e.val * 128 - 512, 0] := by
  unfold k0_off1
  rw [he]
  show ![0, 0, (Scalar.indexCast (Scalar.maxsi (Scalar.subi (Scalar.muli (BitVec.ofNat 32 e.val) 128#32) 512#32) 0#32)).toNat, 0] = _
  rw [start_index]

/-- A tile's window of keys, in the group's keys. -/
theorem key_load (c : Dev nD) (t : Fin cfg0.N) (e : Fin 32) (he : (grid0.coords t 2).val = e.val) (h : _) (w : Fin 640) (x : Fin 64) :
    View.ld (iblk m c 1 t) (Rect.unit (k0_off1 (grid0.coords t)) ![1, 1, 640, 64] h) (ix4 0 0 w x)
      = iblk m c 1 t (ix4 0 0 (key e w) x) := by
  have ho := window_offset (grid0.coords t) e he
  generalize iblk m c 1 t = X
  pointwise
  blk_ext [ho]
  rfl

/-- A tile's window of values, in the group's values. -/
theorem value_load (c : Dev nD) (t : Fin cfg0.N) (e : Fin 32) (he : (grid0.coords t 2).val = e.val) (h : _) (w : Fin 640) (x : Fin 64) :
    View.ld (iblk m c 2 t) (Rect.unit (k0_off1 (grid0.coords t)) ![1, 1, 640, 64] h) (ix4 0 0 w x)
      = iblk m c 2 t (ix4 0 0 (key e w) x) := by
  have ho := window_offset (grid0.coords t) e he
  generalize iblk m c 2 t = X
  pointwise
  blk_ext [ho]
  rfl

/-- The kernel's result is the reference's. -/
theorem final (c : Dev nD) : (dats m 0 c).arrAt 5 (cfgs 0).N
    = Cert.WinRefIdeal.Read.val_main_v53 (F := Ideal) (m ((c : Thread nD τ).loc main_arg0)) (m ((c : Thread nD τ).loc main_arg1))
        (m ((c : Thread nD τ).loc main_arg2)) := by
  refine (dats m 0 c).arrAt_eq_of_covers 5 _ (by decide +kernel) fun t hf y => ?_
  blk_simp; rw [after0_5]
  unfold outsAt0
  frame_out
  obtain ⟨-, -, -, -, -, e5⟩ := idx t
  obtain ⟨l0, l1, l2⟩ := coords_lt t
  obtain ⟨b, hb⟩ : ∃ b : Fin 4, (grid0.coords t 0).val = b.val := ⟨⟨_, l0⟩, rfl⟩
  obtain ⟨g, hg⟩ : ∃ g : Fin 4, (grid0.coords t 1).val = g.val := ⟨⟨_, l1⟩, rfl⟩
  obtain ⟨e, he⟩ : ∃ e : Fin 32, (grid0.coords t 2).val = e.val := ⟨⟨_, l2⟩, rfl⟩
  idx_vars y
  have hy : ((View.whole main_v26).slice (win0_5.rect t)).emb (ix3 y0 y1 y2)
      = ix3 b (⟨e.val * 128 + y1.val, by omega⟩ : Fin 4096) (⟨g.val * 256 + y2.val, by omega⟩ : Fin 1024) := by
    blk_ext [e5, hb, hg, he]
  rw [hy]
  obtain rfl : y0 = 0 := Subsingleton.elim _ _
  have hq := query_read m c t b g e hb hg he
  have hgt := gate_read m c t b g e hb hg he
  have hk := fun h w x => (key_load m c t e he h w x).trans (key_read m c t b g hb hg (key e w) x)
  have hv := fun h w x => (value_load m c t e he h w x).trans (value_read m c t b g hb hg (key e w) x)
  have hs := slope_read m c t g hg
  have hcol : y2.val / 64 = 0 ∨ y2.val / 64 = 1 ∨ y2.val / 64 = 2 ∨ y2.val / 64 = 3 := by omega
  obtain ⟨d, hd⟩ : ∃ d : Fin 64, y2.val % 64 = d.val := ⟨⟨y2.val % 64, by omega⟩, rfl⟩
  rcases hcol with h | h | h | h
  · have hy2 : ∀ h, y2 = ⟨d.val, h⟩ := fun _ => Fin.ext (by show y2.val = d.val; omega)
    rw [hy2 (by omega), block_head0]
    refine head_eq _ _ _ (grid0.coords t) b g 0 e he y1 d _ _ _ _ _ _ _ _ (Nat.zero_add _).symm rfl ?_ (hk _) (hv _) hq hgt ?_
    · show g.val * 256 + (d.val) = g.val * 256 + 0 * 64 + d.val
      omega
    · refine Eq.trans ?_ (hs 0)
      generalize iblk m c 4 t = X
      pointwise
  · have hy2 : ∀ h, y2 = ⟨64 + d.val, h⟩ := fun _ => Fin.ext (by show y2.val = 64 + d.val; omega)
    rw [hy2 (by omega), block_head1]
    refine head_eq _ _ _ (grid0.coords t) b g 1 e he y1 d _ _ _ _ _ _ _ _ rfl rfl ?_ (hk _) (hv _) hq hgt ?_
    · show g.val * 256 + (64 + d.val) = g.val * 256 + 1 * 64 + d.val
      omega
    · refine Eq.trans ?_ (hs 128)
      generalize iblk m c 4 t = X
      pointwise
  · have hy2 : ∀ h, y2 = ⟨128 + d.val, h⟩ := fun _ => Fin.ext (by show y2.val = 128 + d.val; omega)
    rw [hy2 (by omega), block_head2]
    refine head_eq _ _ _ (grid0.coords t) b g 2 e he y1 d _ _ _ _ _ _ _ _ rfl rfl ?_ (hk _) (hv _) hq hgt ?_
    · show g.val * 256 + (128 + d.val) = g.val * 256 + 2 * 64 + d.val
      omega
    · refine Eq.trans ?_ (hs 256)
      generalize iblk m c 4 t = X
      pointwise
  · have hy2 : ∀ h, y2 = ⟨192 + d.val, h⟩ := fun _ => Fin.ext (by show y2.val = 192 + d.val; omega)
    rw [hy2 (by omega), block_head3]
    refine head_eq _ _ _ (grid0.coords t) b g 3 e he y1 d _ _ _ _ _ _ _ _ rfl rfl ?_ (hk _) (hv _) hq hgt ?_
    · show g.val * 256 + (192 + d.val) = g.val * 256 + 3 * 64 + d.val
      omega
    · refine Eq.trans ?_ (hs 384)
      generalize iblk m c 4 t = X
      pointwise

end Cert.WinKernelIdeal.Value

end
-- ==== Proof.Win.Claims.lean ====
/- The claims about the window attention: the kernel, its idealization and the reference run and leave their arguments
   as they were; the idealization names one literal; kernel and reference end with the same array over the extended reals. -/
module

public import proofs.«01_k».proof.Defs
public import proofs.«01_k».proof.Proof.Gen.WinKernel.Frame
public import proofs.«01_k».proof.Proof.Gen.WinKernelIdeal.Frame
public import proofs.«01_k».proof.Proof.Gen.WinKernelIdeal.Value
public import proofs.«01_k».proof.Proof.Gen.WinRefIdeal.Run
public import proofs.«01_k».proof.Proof.Gen.WinRefIdeal.Read
public import proofs.«01_k».proof.Proof.Win.Kernel

@[expose] public section

noncomputable section

namespace Cert.Proof.Win

open Idealize.ShloMosaic Idealize.SL.Sem

/-- The kernel terminates without fault, its arguments and semaphores end as they began. -/
theorem frame_kernel : Cert.quiescent_WinKernel (hWinKernel := Cert.WinKernel.Gen.facts) :=
  fun m ρ _ => Cert.WinKernel.Gen.frame m ρ

/-- The same of the idealized kernel. -/
theorem frame_ideal : Cert.quiescent_WinKernelIdeal (hWinKernelIdeal := Cert.WinKernelIdeal.Gen.facts) :=
  fun m ρ _ => Cert.WinKernelIdeal.Gen.frame m ρ

/-- The same of the reference, which declares no semaphore. -/
theorem frame_ref : Cert.quiescent_WinRefIdeal (hWinRefIdeal := Cert.WinRefIdeal.Gen.facts) :=
  fun m ρ _ => (θ_run _ _ _).mono (fun r h => ⟨fun c => (h c).2, sem_eq_zero_of_no_sems (by decide) r.2⟩)
    (Cert.WinRefIdeal.Value.run m ρ)

/-- The mask's literal is the named −∞. -/
theorem preserves : Cert.preserves_WinKernel_WinKernelIdeal :=
  IdealRules.named_const.statement Cert.WinKernelIdeal.κ "mask" .f32 0xF149F2CA#32 ⊥ rfl

/-- From equal arguments, the idealized kernel and the reference end with the same array. -/
theorem algebraic : Cert.algebraic_WinKernelIdeal_WinRefIdeal (hWinKernelIdeal := Cert.WinKernelIdeal.Gen.facts)
    (hWinRefIdeal := Cert.WinRefIdeal.Gen.facts) := by
  intro m g m' g' _ hag
  refine ⟨fun c => Cert.WinRefIdeal.Read.val_main_v53 (F := Ideal) (m (c.tc.loc Cert.WinKernelIdeal.main_arg0))
      (m (c.tc.loc Cert.WinKernelIdeal.main_arg1)) (m (c.tc.loc Cert.WinKernelIdeal.main_arg2)),
    (θ_run _ _ _).mono (fun r h c => ⟨(h c).1.trans (Cert.WinKernelIdeal.Value.final m c), (h c).2⟩) (Cert.WinKernelIdeal.Value.run_blocks m g),
    (θ_run _ _ _).mono (fun r h c => ⟨(h c).1.trans ?_, (h c).2⟩) (Cert.WinRefIdeal.Value.run m' g')⟩
  obtain ⟨h0, h1, h2⟩ := hag c
  rw [Cert.WinRefIdeal.Read.val_main_v53_eq, h0, h1, h2]

end Cert.Proof.Win

end
-- ==== Proof.Shared.Normed.lean ====
/- The rows that the input projection and the feed-forward part both start from. -/
module

public import Idealize.ShloMosaic.Lib.Pipeline.ValueKit

@[expose] public section

noncomputable section

namespace Cert.Proof

open Idealize.ShloMosaic
open scoped BigOperators

/-- An entry of a normalised row: the row over the root of its mean square, scaled. -/
def normed (x g : Fin 1024 → EReal) (k : Fin 1024) : EReal :=
  x k * Ideal.rsqrt (Ideal.div (∑ l, x l * x l) (Ideal.ofBits FTy.f32 1149239296#32) + Ideal.ofBits FTy.f32 897988541#32) * g k

end Cert.Proof

end
-- ==== Proof.Ffn.Kernel.lean ====
/- The feed-forward part: what the kernel leaves in its result array is the reference's result. -/
module

public import proofs.«01_k».proof.Proof.Gen.FfnKernelIdeal.Value
public import proofs.«01_k».proof.Proof.Gen.FfnRefIdeal.Read
public import proofs.«01_k».proof.Proof.Shared.Normed
public import Idealize.ShloMosaic.Lib.Pipeline.ValueKit
public import Idealize.ShloMosaic.Lib.Pipeline.ReadBack

@[expose] public section

set_option maxRecDepth 16384
noncomputable section

namespace Cert.FfnKernelIdeal.Value

open Cert.FfnKernelIdeal Cert.FfnKernelIdeal.Gen Idealize.ShloMosaic Idealize.ShloMosaic.TcCoe Idealize.SL.Sem
open Idealize.ShloMosaic.Pipeline (Dat)
open Cert.Proof (normed)
open scoped BigOperators

/-- A hidden unit: the gate's projection, its logistic and the other projection multiplied. -/
def unit (h wg wu : Fin 1024 → EReal) : EReal :=
  (∑ k, h k * wg k) * Ideal.logistic (∑ k, h k * wg k) * ∑ k, h k * wu k

/-- The sum over the hidden units is the sum over the first half and the sum over the second half. -/
theorem halves (f : Fin 2816 → EReal) : ∑ i, f i
    = ∑ i : Fin 1408, f (⟨0 * 1408 + i.val, by omega⟩ : Fin 2816) + ∑ i : Fin 1408, f (⟨1 * 1408 + i.val, by omega⟩ : Fin 2816) := by
  refine (Fin.sum_univ_add (a := 1408) (b := 1408) f).trans (congrArg₂ (· + ·) ?_ ?_)
  · exact Finset.sum_congr rfl fun i _ => congrArg f (Fin.ext (by show i.val = 0 * 1408 + i.val; omega))
  · exact Finset.sum_congr rfl fun i _ => congrArg f (Fin.ext (by show 1408 + i.val = 1 * 1408 + i.val; omega))

section

open Cert.FfnRefIdeal.Read

/-- The reference's result at row `r` and column `j`: the residual, and the hidden units projected. -/
theorem ref_at (x : FVec Ideal Cert.FfnRefIdeal.S4x4096x1024 .f32) (g : FVec Ideal Cert.FfnRefIdeal.S1024 .f32)
    (wg wu : FVec Ideal Cert.FfnRefIdeal.S1024x2816 .f32) (wd : FVec Ideal Cert.FfnRefIdeal.S2816x1024 .f32)
    (b : Fin 4) (s : Fin 4096) (r : Fin 16384) (hr : r.val = b.val * 4096 + s.val) (j : Fin 1024) :
    val_main_v19 (F := Ideal) x g wg wu wd (ix2 r j)
      = x (ix3 b s j) + ∑ f : Fin 2816, unit (normed (fun k => x (ix3 b s k)) fun k => g (ix1 k)) (fun k => wg (ix2 k f)) (fun k => wu (ix2 k f))
        * wd (ix2 f j) := by
  have hb : ∀ h, (⟨r.val / 4096, h⟩ : Fin 4) = b := fun _ => Fin.ext (by show r.val / 4096 = b.val; omega)
  have hs : ∀ h, (⟨r.val % 4096, h⟩ : Fin 4096) = s := fun _ => Fin.ext (by show r.val % 4096 = s.val; omega)
  pointwise [val_main_v19, val_main_v18, val_main_v17, val_main_v16, val_main_v15, val_main_v14, val_main_v13, val_main_v12,
    val_main_v11, val_main_v10, val_main_v9, val_main_v8, val_main_v7, val_main_v6, val_main_v5, val_main_v4, val_main_v3,
    val_main_v2, val_main_v1, val_main_v0, val_main_cst, val_main_cst_0, val_main_cst_1, val_main_call0_v5, val_main_call0_v4,
    val_main_call0_v3, val_main_call0_v2, val_main_call0_v1, val_main_call0_v0, val_main_call0_cst, val_main_call0_cst_0]
  simp only [hb, hs]
  rfl

end

/-- An entry of a block's normalised rows. -/
theorem normed_at (x : FVec Ideal S512x1024 .f32) (g : FVec Ideal S1x1024 .f32) (r : Fin 512) (k : Fin 1024) :
    k0_pay2 (F := Ideal) x g (ix2 r k) = normed (fun l => x (ix2 r l)) (fun l => g (ix2 0 l)) k := by
  pointwise [k0_pay2, k0_pay1]
  rfl

/-- A half of the hidden units, projected and added to what was there. -/
theorem half_at (h : FVec Ideal S512x1024 .bf16) (wg wu : FVec Ideal S1024x1408 .bf16) (a : FVec Ideal S512x1024 .f32)
    (wd : FVec Ideal S1408x1024 .bf16) (r : Fin 512) (j : Fin 1024) :
    k0_pay4 (F := Ideal) h wg wu a wd (ix2 r j)
      = a (ix2 r j) + ∑ f : Fin 1408, unit (fun k => h (ix2 r k)) (fun k => wg (ix2 k f)) (fun k => wu (ix2 k f)) * wd (ix2 f j) := by
  pointwise [k0_pay4]
  rfl

/-- The sum starts at the residual. -/
theorem start_at (x : FVec Ideal S512x1024 .f32) (r : Fin 512) (j : Fin 1024) : k0_pay3 (F := Ideal) x (ix2 r j) = x (ix2 r j) := by
  pointwise [k0_pay3, k0_pay1]

/-- The windows' block indices: two points a block of rows, one for each half of the hidden units. -/
theorem idx : ∀ t : Fin cfg0.N, (win0_0.index t = ![t.val / 2, 0] ∧ win0_1.index t = ![0, 0])
    ∧ (win0_2.index t = ![0, t.val % 2] ∧ win0_3.index t = ![0, t.val % 2] ∧ win0_4.index t = ![t.val % 2, 0])
    ∧ win0_5.index t = ![t.val / 2, 0] :=
  (by decide +kernel : ∀ t : Fin grid0.N, _)

variable (m : (ℓ : Loc nD τ sig) → Buf (Elt Ideal) ℓ)

section Outs

variable (c : Dev nD) (t : Fin cfg0.N)

/-- At a block's first point the normalised rows are stored. -/
theorem first_normed (h0 : t.val % 2 = 0) (i) :
    (outsAt0 m c t.val t.isLt).2.1 i = k0_pay2 (F := Ideal) (iblk m c 0 t) (iblk m c 1 t) i := by
  rw [outsAt0_A m c t h0 (by omega)]
  frame_out

/-- At a block's first point the residual and the first half of the hidden units are summed. -/
theorem first_sum (h0 : t.val % 2 = 0) (i) :
    (outsAt0 m c t.val t.isLt).2.2 i = k0_pay4 (F := Ideal) (k0_pay2 (F := Ideal) (iblk m c 0 t) (iblk m c 1 t)) (iblk m c 2 t)
      (iblk m c 3 t) (k0_pay3 (F := Ideal) (iblk m c 0 t)) (iblk m c 4 t) i := by
  rw [outsAt0_A m c t h0 (by omega)]
  frame_out

/-- At a block's second point the second half is added to the first point's sum and the result is written. -/
theorem second_sum (h1 : t.val % 2 = 1) (i) (p : Fin cfg0.N) (hp : p.val = t.val - 1) :
    (outsAt0 m c t.val t.isLt).1 i = k0_pay4 (F := Ideal) (outsAt0 m c p.val p.isLt).2.1 (iblk m c 2 t) (iblk m c 3 t)
      (outsAt0 m c p.val p.isLt).2.2 (iblk m c 4 t) i := by
  rw [outsAt0_B m c t (by omega) h1]
  obtain rfl : p = ⟨t.val - 1, Nat.lt_of_le_of_lt (Nat.sub_le _ _) t.isLt⟩ := Fin.ext hp
  frame_out
  simp only [read_unread_whole]

end Outs

section Reads

variable (c : Dev nD) (t : Fin cfg0.N)

/-- A block of the residual, in the argument. -/
theorem rows (b : Fin 4) (s : Fin 4096) (r : Fin 512) (hr : t.val / 2 * 512 + r.val = b.val * 4096 + s.val) (k : Fin 1024) :
    iblk m c 0 t (ix2 r k) = m ((c : Thread nD τ).loc main_arg0) (ix3 b s k) := by
  have ht : t.val < 64 := lt_of_lt_of_eq t.isLt N_0
  have h : (V m c main_v0) (ix2 (⟨t.val / 2 * 512 + r.val, by omega⟩ : Fin 16384) k) = m ((c : Thread nD τ).loc main_arg0) (ix3 b s k) := by
    entry_read; pointwise; blk_ext
  rw [← h]
  show V m c main_v0 _ = V m c main_v0 _
  obtain ⟨⟨e, -⟩, -⟩ := idx t
  blk_ext [e]

/-- The scales, in the argument. -/
theorem scales (k : Fin 1024) : iblk m c 1 t (ix2 0 k) = m ((c : Thread nD τ).loc main_arg1) (ix1 k) := by
  have h : (V m c main_v1) (ix2 0 k) = m ((c : Thread nD τ).loc main_arg1) (ix1 k) := by
    entry_read; pointwise
  rw [← h]
  show V m c main_v1 _ = V m c main_v1 _
  obtain ⟨⟨-, e⟩, -⟩ := idx t
  blk_ext [e]

/-- A half of the gate's weights, in the argument. -/
theorem weights2 (q : Fin 2) (hq : t.val % 2 = q.val) (k : Fin 1024) (f : Fin 1408) :
    iblk m c 2 t (ix2 k f) = m ((c : Thread nD τ).loc main_arg2) (ix2 k (⟨q.val * 1408 + f.val, by omega⟩ : Fin 2816)) := by
  have h : (V m c main_v2) (ix2 k (⟨q.val * 1408 + f.val, by omega⟩ : Fin 2816))
      = m ((c : Thread nD τ).loc main_arg2) (ix2 k (⟨q.val * 1408 + f.val, by omega⟩ : Fin 2816)) := by
    entry_read; pointwise
  rw [← h]
  show V m c main_v2 _ = V m c main_v2 _
  obtain ⟨-, ⟨e, -⟩, -⟩ := idx t
  rw [hq] at e
  blk_ext [e]

/-- A half of the other projection's weights, in the argument. -/
theorem weights3 (q : Fin 2) (hq : t.val % 2 = q.val) (k : Fin 1024) (f : Fin 1408) :
    iblk m c 3 t (ix2 k f) = m ((c : Thread nD τ).loc main_arg3) (ix2 k (⟨q.val * 1408 + f.val, by omega⟩ : Fin 2816)) := by
  have h : (V m c main_v3) (ix2 k (⟨q.val * 1408 + f.val, by omega⟩ : Fin 2816))
      = m ((c : Thread nD τ).loc main_arg3) (ix2 k (⟨q.val * 1408 + f.val, by omega⟩ : Fin 2816)) := by
    entry_read; pointwise
  rw [← h]
  show V m c main_v3 _ = V m c main_v3 _
  obtain ⟨-, ⟨-, e, -⟩, -⟩ := idx t
  rw [hq] at e
  blk_ext [e]

/-- A half of the last projection's weights, in the argument. -/
theorem weights4 (q : Fin 2) (hq : t.val % 2 = q.val) (f : Fin 1408) (j : Fin 1024) :
    iblk m c 4 t (ix2 f j) = m ((c : Thread nD τ).loc main_arg4) (ix2 (⟨q.val * 1408 + f.val, by omega⟩ : Fin 2816) j) := by
  have h : (V m c main_v4) (ix2 (⟨q.val * 1408 + f.val, by omega⟩ : Fin 2816) j)
      = m ((c : Thread nD τ).loc main_arg4) (ix2 (⟨q.val * 1408 + f.val, by omega⟩ : Fin 2816) j) := by
    entry_read; pointwise
  rw [← h]
  show V m c main_v4 _ = V m c main_v4 _
  obtain ⟨-, ⟨-, -, e⟩, -⟩ := idx t
  rw [hq] at e
  blk_ext [e]

end Reads

/-- The kernel's result is the reference's. -/
theorem final (c : Dev nD) : (dats m 0 c).arrAt 5 (cfgs 0).N
    = Cert.FfnRefIdeal.Read.val_main_v19 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 5 _ (by decide +kernel) fun t hf y => ?_
  have h1 : t.val % 2 = 1 := (flush0_5 t).mp hf
  have ht : t.val < 64 := lt_of_lt_of_eq t.isLt N_0
  blk_simp; rw [after0_5]
  obtain ⟨-, -, e⟩ := idx t
  idx_vars y
  have hy : ((View.whole main_v5).slice (win0_5.rect t)).emb (ix2 y0 y1) = ix2 (⟨t.val / 2 * 512 + y0.val, by omega⟩ : Fin 16384) y1 := by
    blk_ext [e]
  obtain ⟨b, s, hr⟩ : ∃ (b : Fin 4) (s : Fin 4096), t.val / 2 * 512 + y0.val = b.val * 4096 + s.val :=
    ⟨⟨(t.val / 2 * 512 + y0.val) / 4096, by omega⟩, ⟨(t.val / 2 * 512 + y0.val) % 4096, by omega⟩,
      by show t.val / 2 * 512 + y0.val = (t.val / 2 * 512 + y0.val) / 4096 * 4096 + (t.val / 2 * 512 + y0.val) % 4096; omega⟩
  obtain ⟨p, hp⟩ : ∃ p : Fin cfg0.N, p.val = t.val - 1 := ⟨⟨t.val - 1, Nat.lt_of_le_of_lt (Nat.sub_le _ _) t.isLt⟩, rfl⟩
  have p0 : p.val % 2 = 0 := by omega
  have hr' : p.val / 2 * 512 + y0.val = b.val * 4096 + s.val := by omega
  rw [hy, ref_at _ _ _ _ _ b s _ hr, halves, ← add_assoc]
  refine (second_sum m c t h1 (ix2 y0 y1) p hp).trans ((half_at _ _ _ _ _ y0 y1).trans ?_)
  simp only [first_normed m c p p0, first_sum m c p p0, half_at, normed_at, start_at, rows m c p b s y0 hr', scales,
    weights2 m c p 0 p0, weights3 m c p 0 p0, weights4 m c p 0 p0, weights2 m c t 1 h1, weights3 m c t 1 h1, weights4 m c t 1 h1]
  rfl

end Cert.FfnKernelIdeal.Value

end
-- ==== Proof.Ffn.Claims.lean ====
/- The claims about the feed-forward part: the kernel, its idealization and the reference run and leave their arguments
   as they were; the idealization changes nothing; kernel and reference end with the same array over the extended reals. -/
module

public import proofs.«01_k».proof.Defs
public import proofs.«01_k».proof.Proof.Gen.FfnKernel.Frame
public import proofs.«01_k».proof.Proof.Gen.FfnKernelIdeal.Frame
public import proofs.«01_k».proof.Proof.Gen.FfnKernelIdeal.Value
public import proofs.«01_k».proof.Proof.Gen.FfnRefIdeal.Run
public import proofs.«01_k».proof.Proof.Gen.FfnRefIdeal.Read
public import proofs.«01_k».proof.Proof.Ffn.Kernel

@[expose] public section

noncomputable section

namespace Cert.Proof.Ffn

open Idealize.ShloMosaic Idealize.SL.Sem

/-- The kernel terminates without fault, its arguments and semaphores end as they began. -/
theorem frame_kernel : Cert.quiescent_FfnKernel (hFfnKernel := Cert.FfnKernel.Gen.facts) :=
  fun m ρ _ => Cert.FfnKernel.Gen.frame m ρ

/-- The same of the idealized kernel. -/
theorem frame_ideal : Cert.quiescent_FfnKernelIdeal (hFfnKernelIdeal := Cert.FfnKernelIdeal.Gen.facts) :=
  fun m ρ _ => Cert.FfnKernelIdeal.Gen.frame m ρ

/-- The same of the reference, which declares no semaphore. -/
theorem frame_ref : Cert.quiescent_FfnRefIdeal (hFfnRefIdeal := Cert.FfnRefIdeal.Gen.facts) :=
  fun m ρ _ => (θ_run _ _ _).mono (fun r h => ⟨fun c => (h c).2, sem_eq_zero_of_no_sems (by decide) r.2⟩)
    (Cert.FfnRefIdeal.Value.run m ρ)

/-- The idealization names no literal and replaces no operation. -/
theorem preserves : Cert.preserves_FfnKernel_FfnKernelIdeal := trivial

/-- From equal arguments, the idealized kernel and the reference end with the same array. -/
theorem algebraic : Cert.algebraic_FfnKernelIdeal_FfnRefIdeal (hFfnKernelIdeal := Cert.FfnKernelIdeal.Gen.facts)
    (hFfnRefIdeal := Cert.FfnRefIdeal.Gen.facts) := by
  intro m g m' g' _ hag
  refine ⟨fun c => Cert.FfnRefIdeal.Read.val_main_v19 (F := Ideal) (m (c.tc.loc Cert.FfnKernelIdeal.main_arg0)) (m (c.tc.loc Cert.FfnKernelIdeal.main_arg1))
      (m (c.tc.loc Cert.FfnKernelIdeal.main_arg2)) (m (c.tc.loc Cert.FfnKernelIdeal.main_arg3))
      (m (c.tc.loc Cert.FfnKernelIdeal.main_arg4)),
    (θ_run _ _ _).mono (fun r h c => ⟨(h c).1.trans (Cert.FfnKernelIdeal.Value.final m c), (h c).2⟩) (Cert.FfnKernelIdeal.Value.run_blocks m g),
    (θ_run _ _ _).mono (fun r h c => ⟨(h c).1.trans ?_, (h c).2⟩) (Cert.FfnRefIdeal.Value.run m' g')⟩
  obtain ⟨h0, h1, h2, h3, h4⟩ := hag c
  rw [Cert.FfnRefIdeal.Read.val_main_v19_eq, h0, h1, h2, h3, h4]

end Cert.Proof.Ffn

end
-- ==== Proof.Merge.Kernel.lean ====
/- The merge of the three branches: what the kernel leaves in its result array is the reference's result. -/
module

public import proofs.«01_k».proof.Proof.Gen.MergeKernelIdeal.Value
public import proofs.«01_k».proof.Proof.Gen.MergeRefIdeal.Read
public import Idealize.ShloMosaic.Lib.Pipeline.ValueKit

@[expose] public section

set_option maxRecDepth 16384
noncomputable section

namespace Cert.MergeKernelIdeal.Value

open Cert.MergeKernelIdeal Cert.MergeKernelIdeal.Gen Idealize.ShloMosaic Idealize.ShloMosaic.TcCoe Idealize.SL.Sem
open Idealize.ShloMosaic.Pipeline (Dat)
open scoped BigOperators

section

open Cert.MergeRefIdeal.Read

/-- The reference's result at row `r` and column `j`: the residual, and the gated branches' projections projected once more. -/
theorem ref_at (x : FVec Ideal Cert.MergeRefIdeal.S4x4096x1024 .f32) (z : FVec Ideal Cert.MergeRefIdeal.S4x4096x11264 .f32)
    (oa ob c1 c2 c3 : FVec Ideal Cert.MergeRefIdeal.S4x4096x1024 .f32) (wa wb wc wo : FVec Ideal Cert.MergeRefIdeal.S1024x1024 .f32)
    (b : Fin 4) (s : Fin 4096) (r : Fin 16384) (hr : r.val = b.val * 4096 + s.val) (j : Fin 1024) :
    val_main_v22 (F := Ideal) x z oa ob c1 c2 c3 wa wb wc wo (ix2 r j)
      = x (ix3 b s j) + ∑ k : Fin 1024,
        (Ideal.logistic (z (ix3 b s (⟨k.val, by omega⟩ : Fin 11264))) * ∑ l : Fin 1024, oa (ix3 b s l) * wa (ix2 l k)
          + Ideal.logistic (z (ix3 b s (⟨1024 + k.val, by omega⟩ : Fin 11264))) * ∑ l : Fin 1024, ob (ix3 b s l) * wb (ix2 l k)
          + Ideal.logistic (z (ix3 b s (⟨2048 + k.val, by omega⟩ : Fin 11264)))
            * ∑ l : Fin 1024, (c1 (ix3 b s l) + c2 (ix3 b s l) + c3 (ix3 b s l)) * wc (ix2 l k)) * wo (ix2 k j) := by
  have hb : ∀ h, (⟨r.val / 4096, h⟩ : Fin 4) = b := fun _ => Fin.ext (by show r.val / 4096 = b.val; omega)
  have hs : ∀ h, (⟨r.val % 4096, h⟩ : Fin 4096) = s := fun _ => Fin.ext (by show r.val % 4096 = s.val; omega)
  pointwise [val_main_v22, val_main_v21, val_main_v20, val_main_v19, val_main_v18, val_main_v17, val_main_v16, val_main_v15,
    val_main_v14, val_main_v13, val_main_v12, val_main_v11, val_main_v10, val_main_v9, val_main_v8, val_main_v7, val_main_v6,
    val_main_v5, val_main_v4, val_main_v3, val_main_v2, val_main_v1, val_main_v0, val_main_cst, val_main_cst_0]
  simp only [hb, hs]
  rfl

end

/-- A block's result at row `r` and column `j`, from the blocks it reads. -/
theorem block_at (oa ob x c1 c2 c3 za zb zc : FVec Ideal S256x1024 .f32) (wa wb wc wo : FVec Ideal S1024x1024 .bf16)
    (r : Fin 256) (j : Fin 1024) :
    k0_pay1 (F := Ideal) (k0_pay2 za oa wa zb ob wb) (k0_pay3 zc) (k0_pay4 c1 c2 c3) (k0_pay5 wc) x wo (ix2 r j)
      = x (ix2 r j) + ∑ k : Fin 1024,
        (Ideal.logistic (za (ix2 r k)) * ∑ l : Fin 1024, oa (ix2 r l) * wa (ix2 l k)
          + Ideal.logistic (zb (ix2 r k)) * ∑ l : Fin 1024, ob (ix2 r l) * wb (ix2 l k)
          + Ideal.logistic (zc (ix2 r k)) * ∑ l : Fin 1024, (c1 (ix2 r l) + c2 (ix2 r l) + c3 (ix2 r l)) * wc (ix2 l k)) * wo (ix2 k j) := by
  pointwise [k0_pay1, k0_pay2, k0_pay3, k0_pay4, k0_pay5]

/-- The windows' block indices: one block of rows a grid point, the gates' three columns of blocks, the weights whole. -/
theorem idx : ∀ t : Fin cfg0.N, (win0_0.index t = ![t.val, 0] ∧ win0_1.index t = ![t.val, 0] ∧ win0_2.index t = ![t.val, 0]
    ∧ win0_3.index t = ![t.val, 0] ∧ win0_4.index t = ![t.val, 0] ∧ win0_5.index t = ![t.val, 0])
    ∧ (win0_6.index t = ![t.val, 0] ∧ win0_7.index t = ![t.val, 1] ∧ win0_8.index t = ![t.val, 2])
    ∧ (win0_9.index t = ![0, 0] ∧ win0_10.index t = ![0, 0] ∧ win0_11.index t = ![0, 0] ∧ win0_12.index t = ![0, 0])
    ∧ win0_13.index t = ![t.val, 0] :=
  (by decide +kernel : ∀ t : Fin grid0.N, _)

variable (m : (ℓ : Loc nD τ sig) → Buf (Elt Ideal) ℓ)

section Reads

variable (c : Dev nD) (t : Fin cfg0.N) (b : Fin 4) (s : Fin 4096) (r : Fin 256) (hr : t.val * 256 + r.val = b.val * 4096 + s.val)
include hr

/-- A block of the residual, in the argument. -/
theorem rows0 (k : Fin 1024) : iblk m c 0 t (ix2 r k) = m ((c : Thread nD τ).loc main_arg0) (ix3 b s k) := by
  have ht : t.val < 64 := lt_of_lt_of_eq t.isLt N_0
  have h : (V m c main_v0) (ix2 (⟨t.val * 256 + r.val, by omega⟩ : Fin 16384) k) = m ((c : Thread nD τ).loc main_arg0) (ix3 b s k) := by
    entry_read; pointwise; blk_ext
  rw [← h]
  show V m c main_v0 _ = V m c main_v0 _
  obtain ⟨⟨e, -⟩, -⟩ := idx t
  blk_ext [e]

/-- A block of the first branch, in the argument. -/
theorem rows1 (k : Fin 1024) : iblk m c 1 t (ix2 r k) = m ((c : Thread nD τ).loc main_arg2) (ix3 b s k) := by
  have ht : t.val < 64 := lt_of_lt_of_eq t.isLt N_0
  have h : (V m c main_v2) (ix2 (⟨t.val * 256 + r.val, by omega⟩ : Fin 16384) k) = m ((c : Thread nD τ).loc main_arg2) (ix3 b s k) := by
    entry_read; pointwise; blk_ext
  rw [← h]
  show V m c main_v2 _ = V m c main_v2 _
  obtain ⟨⟨-, e, -⟩, -⟩ := idx t
  blk_ext [e]

/-- A block of the second branch, in the argument. -/
theorem rows2 (k : Fin 1024) : iblk m c 2 t (ix2 r k) = m ((c : Thread nD τ).loc main_arg3) (ix3 b s k) := by
  have ht : t.val < 64 := lt_of_lt_of_eq t.isLt N_0
  have h : (V m c main_v3) (ix2 (⟨t.val * 256 + r.val, by omega⟩ : Fin 16384) k) = m ((c : Thread nD τ).loc main_arg3) (ix3 b s k) := by
    entry_read; pointwise; blk_ext
  rw [← h]
  show V m c main_v3 _ = V m c main_v3 _
  obtain ⟨⟨-, -, e, -⟩, -⟩ := idx t
  blk_ext [e]

/-- A block of the third branch's compressed part, in the argument. -/
theorem rows3 (k : Fin 1024) : iblk m c 3 t (ix2 r k) = m ((c : Thread nD τ).loc main_arg4) (ix3 b s k) := by
  have ht : t.val < 64 := lt_of_lt_of_eq t.isLt N_0
  have h : (V m c main_v4) (ix2 (⟨t.val * 256 + r.val, by omega⟩ : Fin 16384) k) = m ((c : Thread nD τ).loc main_arg4) (ix3 b s k) := by
    entry_read; pointwise; blk_ext
  rw [← h]
  show V m c main_v4 _ = V m c main_v4 _
  obtain ⟨⟨-, -, -, e, -⟩, -⟩ := idx t
  blk_ext [e]

/-- A block of the third branch's selected part, in the argument. -/
theorem rows4 (k : Fin 1024) : iblk m c 4 t (ix2 r k) = m ((c : Thread nD τ).loc main_arg5) (ix3 b s k) := by
  have ht : t.val < 64 := lt_of_lt_of_eq t.isLt N_0
  have h : (V m c main_v5) (ix2 (⟨t.val * 256 + r.val, by omega⟩ : Fin 16384) k) = m ((c : Thread nD τ).loc main_arg5) (ix3 b s k) := by
    entry_read; pointwise; blk_ext
  rw [← h]
  show V m c main_v5 _ = V m c main_v5 _
  obtain ⟨⟨-, -, -, -, e, -⟩, -⟩ := idx t
  blk_ext [e]

/-- A block of the third branch's window part, in the argument. -/
theorem rows5 (k : Fin 1024) : iblk m c 5 t (ix2 r k) = m ((c : Thread nD τ).loc main_arg6) (ix3 b s k) := by
  have ht : t.val < 64 := lt_of_lt_of_eq t.isLt N_0
  have h : (V m c main_v6) (ix2 (⟨t.val * 256 + r.val, by omega⟩ : Fin 16384) k) = m ((c : Thread nD τ).loc main_arg6) (ix3 b s k) := by
    entry_read; pointwise; blk_ext
  rw [← h]
  show V m c main_v6 _ = V m c main_v6 _
  obtain ⟨⟨-, -, -, -, -, e⟩, -⟩ := idx t
  blk_ext [e]

/-- A block of the first gate's columns, in the argument. -/
theorem gates6 (k : Fin 1024) : iblk m c 6 t (ix2 r k) = m ((c : Thread nD τ).loc main_arg1) (ix3 b s (⟨k.val, by omega⟩ : Fin 11264)) := by
  have ht : t.val < 64 := lt_of_lt_of_eq t.isLt N_0
  have h : (V m c main_v1) (ix2 (⟨t.val * 256 + r.val, by omega⟩ : Fin 16384) (⟨k.val, by omega⟩ : Fin 11264))
      = m ((c : Thread nD τ).loc main_arg1) (ix3 b s (⟨k.val, by omega⟩ : Fin 11264)) := by
    entry_read; pointwise; blk_ext
  rw [← h]
  show V m c main_v1 _ = V m c main_v1 _
  obtain ⟨-, ⟨e, -⟩, -⟩ := idx t
  blk_ext [e]

/-- A block of the second gate's columns, in the argument. -/
theorem gates7 (k : Fin 1024) : iblk m c 7 t (ix2 r k) = m ((c : Thread nD τ).loc main_arg1) (ix3 b s (⟨1024 + k.val, by omega⟩ : Fin 11264)) := by
  have ht : t.val < 64 := lt_of_lt_of_eq t.isLt N_0
  have h : (V m c main_v1) (ix2 (⟨t.val * 256 + r.val, by omega⟩ : Fin 16384) (⟨1024 + k.val, by omega⟩ : Fin 11264))
      = m ((c : Thread nD τ).loc main_arg1) (ix3 b s (⟨1024 + k.val, by omega⟩ : Fin 11264)) := by
    entry_read; pointwise; blk_ext
  rw [← h]
  show V m c main_v1 _ = V m c main_v1 _
  obtain ⟨-, ⟨-, e, -⟩, -⟩ := idx t
  blk_ext [e]

/-- A block of the third gate's columns, in the argument. -/
theorem gates8 (k : Fin 1024) : iblk m c 8 t (ix2 r k) = m ((c : Thread nD τ).loc main_arg1) (ix3 b s (⟨2048 + k.val, by omega⟩ : Fin 11264)) := by
  have ht : t.val < 64 := lt_of_lt_of_eq t.isLt N_0
  have h : (V m c main_v1) (ix2 (⟨t.val * 256 + r.val, by omega⟩ : Fin 16384) (⟨2048 + k.val, by omega⟩ : Fin 11264))
      = m ((c : Thread nD τ).loc main_arg1) (ix3 b s (⟨2048 + k.val, by omega⟩ : Fin 11264)) := by
    entry_read; pointwise; blk_ext
  rw [← h]
  show V m c main_v1 _ = V m c main_v1 _
  obtain ⟨-, ⟨-, -, e⟩, -⟩ := idx t
  blk_ext [e]

end Reads

section Weights

variable (c : Dev nD) (t : Fin cfg0.N)

/-- The first branch's weights, in the argument. -/
theorem weights9 (l k : Fin 1024) : iblk m c 9 t (ix2 l k) = m ((c : Thread nD τ).loc main_arg7) (ix2 l k) := by
  have h : (V m c main_v7) (ix2 l k) = m ((c : Thread nD τ).loc main_arg7) (ix2 l k) := by
    entry_read; pointwise
  rw [← h]
  show V m c main_v7 _ = V m c main_v7 _
  obtain ⟨-, -, ⟨e, -⟩, -⟩ := idx t
  blk_ext [e]

/-- The second branch's weights, in the argument. -/
theorem weights10 (l k : Fin 1024) : iblk m c 10 t (ix2 l k) = m ((c : Thread nD τ).loc main_arg8) (ix2 l k) := by
  have h : (V m c main_v8) (ix2 l k) = m ((c : Thread nD τ).loc main_arg8) (ix2 l k) := by
    entry_read; pointwise
  rw [← h]
  show V m c main_v8 _ = V m c main_v8 _
  obtain ⟨-, -, ⟨-, e, -⟩, -⟩ := idx t
  blk_ext [e]

/-- The third branch's weights, in the argument. -/
theorem weights11 (l k : Fin 1024) : iblk m c 11 t (ix2 l k) = m ((c : Thread nD τ).loc main_arg9) (ix2 l k) := by
  have h : (V m c main_v9) (ix2 l k) = m ((c : Thread nD τ).loc main_arg9) (ix2 l k) := by
    entry_read; pointwise
  rw [← h]
  show V m c main_v9 _ = V m c main_v9 _
  obtain ⟨-, -, ⟨-, -, e, -⟩, -⟩ := idx t
  blk_ext [e]

/-- The last weights, in the argument. -/
theorem weights12 (l k : Fin 1024) : iblk m c 12 t (ix2 l k) = m ((c : Thread nD τ).loc main_arg10) (ix2 l k) := by
  have h : (V m c main_v10) (ix2 l k) = m ((c : Thread nD τ).loc main_arg10) (ix2 l k) := by
    entry_read; pointwise
  rw [← h]
  show V m c main_v10 _ = V m c main_v10 _
  obtain ⟨-, -, ⟨-, -, -, e⟩, -⟩ := idx t
  blk_ext [e]

end Weights

/-- The kernel's result is the reference's. -/
theorem final (c : Dev nD) : (dats m 0 c).arrAt 13 (cfgs 0).N
    = Cert.MergeRefIdeal.Read.val_main_v22 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))
        (m ((c : Thread nD τ).loc main_arg8)) (m ((c : Thread nD τ).loc main_arg9)) (m ((c : Thread nD τ).loc main_arg10)) := by
  refine (dats m 0 c).arrAt_eq_of_covers 13 _ (by decide +kernel) fun t hf y => ?_
  blk_simp; rw [after0_13]
  frame_out
  have ht : t.val < 64 := lt_of_lt_of_eq t.isLt N_0
  obtain ⟨-, -, -, e⟩ := idx t
  idx_vars y
  have hy : ((View.whole main_v11).slice (win0_13.rect t)).emb (ix2 y0 y1) = ix2 (⟨t.val * 256 + y0.val, by omega⟩ : Fin 16384) y1 := by
    blk_ext [e]
  obtain ⟨b, s, hr⟩ : ∃ (b : Fin 4) (s : Fin 4096), t.val * 256 + y0.val = b.val * 4096 + s.val :=
    ⟨⟨(t.val * 256 + y0.val) / 4096, by omega⟩, ⟨(t.val * 256 + y0.val) % 4096, by omega⟩,
      by show t.val * 256 + y0.val = (t.val * 256 + y0.val) / 4096 * 4096 + (t.val * 256 + y0.val) % 4096; omega⟩
  rw [hy, ref_at _ _ _ _ _ _ _ _ _ _ _ b s _ hr]
  pointwise
  refine (block_at _ _ _ _ _ _ _ _ _ _ _ _ _ y0 y1).trans ?_
  simp only [rows0 m c t b s y0 hr, rows1 m c t b s y0 hr, rows2 m c t b s y0 hr, rows3 m c t b s y0 hr, rows4 m c t b s y0 hr,
    rows5 m c t b s y0 hr, gates6 m c t b s y0 hr, gates7 m c t b s y0 hr, gates8 m c t b s y0 hr, weights9, weights10, weights11,
    weights12]

end Cert.MergeKernelIdeal.Value

end
-- ==== Proof.Merge.Claims.lean ====
/- The claims about the merge of the three branches: the kernel, its idealization and the reference run and leave their arguments
   as they were; the idealization changes nothing; kernel and reference end with the same array over the extended reals. -/
module

public import proofs.«01_k».proof.Defs
public import proofs.«01_k».proof.Proof.Gen.MergeKernel.Frame
public import proofs.«01_k».proof.Proof.Gen.MergeKernelIdeal.Frame
public import proofs.«01_k».proof.Proof.Gen.MergeKernelIdeal.Value
public import proofs.«01_k».proof.Proof.Gen.MergeRefIdeal.Run
public import proofs.«01_k».proof.Proof.Gen.MergeRefIdeal.Read
public import proofs.«01_k».proof.Proof.Merge.Kernel

@[expose] public section

noncomputable section

namespace Cert.Proof.Merge

open Idealize.ShloMosaic Idealize.SL.Sem

/-- The kernel terminates without fault, its arguments and semaphores end as they began. -/
theorem frame_kernel : Cert.quiescent_MergeKernel (hMergeKernel := Cert.MergeKernel.Gen.facts) :=
  fun m ρ _ => Cert.MergeKernel.Gen.frame m ρ

/-- The same of the idealized kernel. -/
theorem frame_ideal : Cert.quiescent_MergeKernelIdeal (hMergeKernelIdeal := Cert.MergeKernelIdeal.Gen.facts) :=
  fun m ρ _ => Cert.MergeKernelIdeal.Gen.frame m ρ

/-- The same of the reference, which declares no semaphore. -/
theorem frame_ref : Cert.quiescent_MergeRefIdeal (hMergeRefIdeal := Cert.MergeRefIdeal.Gen.facts) :=
  fun m ρ _ => (θ_run _ _ _).mono (fun r h => ⟨fun c => (h c).2, sem_eq_zero_of_no_sems (by decide) r.2⟩)
    (Cert.MergeRefIdeal.Value.run m ρ)

/-- The idealization names no literal and replaces no operation. -/
theorem preserves : Cert.preserves_MergeKernel_MergeKernelIdeal := trivial

/-- From equal arguments, the idealized kernel and the reference end with the same array. -/
theorem algebraic : Cert.algebraic_MergeKernelIdeal_MergeRefIdeal (hMergeKernelIdeal := Cert.MergeKernelIdeal.Gen.facts)
    (hMergeRefIdeal := Cert.MergeRefIdeal.Gen.facts) := by
  intro m g m' g' _ hag
  refine ⟨fun c => Cert.MergeRefIdeal.Read.val_main_v22 (F := Ideal) (m (c.tc.loc Cert.MergeKernelIdeal.main_arg0)) (m (c.tc.loc Cert.MergeKernelIdeal.main_arg1))
      (m (c.tc.loc Cert.MergeKernelIdeal.main_arg2)) (m (c.tc.loc Cert.MergeKernelIdeal.main_arg3))
      (m (c.tc.loc Cert.MergeKernelIdeal.main_arg4)) (m (c.tc.loc Cert.MergeKernelIdeal.main_arg5))
      (m (c.tc.loc Cert.MergeKernelIdeal.main_arg6)) (m (c.tc.loc Cert.MergeKernelIdeal.main_arg7))
      (m (c.tc.loc Cert.MergeKernelIdeal.main_arg8)) (m (c.tc.loc Cert.MergeKernelIdeal.main_arg9))
      (m (c.tc.loc Cert.MergeKernelIdeal.main_arg10)),
    (θ_run _ _ _).mono (fun r h c => ⟨(h c).1.trans (Cert.MergeKernelIdeal.Value.final m c), (h c).2⟩) (Cert.MergeKernelIdeal.Value.run_blocks m g),
    (θ_run _ _ _).mono (fun r h c => ⟨(h c).1.trans ?_, (h c).2⟩) (Cert.MergeRefIdeal.Value.run m' g')⟩
  obtain ⟨h0, h1, h2, h3, h4, h5, h6, h7, h8, h9, h10⟩ := hag c
  rw [Cert.MergeRefIdeal.Read.val_main_v22_eq, h0, h1, h2, h3, h4, h5, h6, h7, h8, h9, h10]

end Cert.Proof.Merge

end
-- ==== Proof.Proj.Kernel.lean ====
/- The input projection: what the kernel leaves in its result array is the reference's result. -/
module

public import proofs.«01_k».proof.Proof.Gen.ProjKernelIdeal.Value
public import proofs.«01_k».proof.Proof.Gen.ProjRefIdeal.Read
public import proofs.«01_k».proof.Proof.Shared.Normed
public import Idealize.ShloMosaic.Lib.Pipeline.ValueKit
public import Idealize.ShloMosaic.Lib.Pipeline.ReadBack

@[expose] public section

set_option maxRecDepth 16384
noncomputable section

namespace Cert.ProjKernelIdeal.Value

open Cert.ProjKernelIdeal Cert.ProjKernelIdeal.Gen Idealize.ShloMosaic Idealize.ShloMosaic.TcCoe Idealize.SL.Sem
open Idealize.ShloMosaic.Pipeline (Dat)
open Cert.Proof (normed)
open scoped BigOperators

/-- Columns laid out as the projection's result has them: the merge's gates first, the small ones and unused zeros last. -/
def laid (w : Fin 10816 → EReal) (j : Fin 11264) : EReal :=
  if h : j.val < 3072 then w ⟨7744 + (j.val), by omega⟩ else
  if h : j.val - 3072 < 1024 then w ⟨j.val - 3072, by omega⟩ else
  if h : j.val - 3072 - 1024 < 1024 then w ⟨1024 + (j.val - 3072 - 1024), by omega⟩ else
  if h : j.val - 3072 - 1024 - 1024 < 512 then w ⟨2048 + (j.val - 3072 - 1024 - 1024), by omega⟩ else
  if h : j.val - 3072 - 1024 - 1024 - 512 < 512 then w ⟨2560 + (j.val - 3072 - 1024 - 1024 - 512), by omega⟩ else
  if h : j.val - 3072 - 1024 - 1024 - 512 - 512 < 1024 then w ⟨3072 + (j.val - 3072 - 1024 - 1024 - 512 - 512), by omega⟩ else
  if h : j.val - 3072 - 1024 - 1024 - 512 - 512 - 1024 < 1024 then w ⟨4096 + (j.val - 3072 - 1024 - 1024 - 512 - 512 - 1024), by omega⟩ else
  if h : j.val - 3072 - 1024 - 1024 - 512 - 512 - 1024 - 1024 < 1024 then w ⟨5136 + (j.val - 3072 - 1024 - 1024 - 512 - 512 - 1024 - 1024), by omega⟩ else
  if h : j.val - 3072 - 1024 - 1024 - 512 - 512 - 1024 - 1024 - 1024 < 512 then w ⟨6160 + (j.val - 3072 - 1024 - 1024 - 512 - 512 - 1024 - 1024 - 1024), by omega⟩ else
  if h : j.val - 3072 - 1024 - 1024 - 512 - 512 - 1024 - 1024 - 1024 - 512 < 512 then w ⟨6672 + (j.val - 3072 - 1024 - 1024 - 512 - 512 - 1024 - 1024 - 1024 - 512), by omega⟩ else
  if h : j.val - 3072 - 1024 - 1024 - 512 - 512 - 1024 - 1024 - 1024 - 512 - 512 < 512 then w ⟨7184 + (j.val - 3072 - 1024 - 1024 - 512 - 512 - 1024 - 1024 - 1024 - 512 - 512), by omega⟩ else
  if h : j.val - 3072 - 1024 - 1024 - 512 - 512 - 1024 - 1024 - 1024 - 512 - 512 - 512 < 16 then w ⟨5120 + (j.val - 3072 - 1024 - 1024 - 512 - 512 - 1024 - 1024 - 1024 - 512 - 512 - 512), by omega⟩ else
  if h : j.val - 3072 - 1024 - 1024 - 512 - 512 - 1024 - 1024 - 1024 - 512 - 512 - 512 - 16 < 48 then w ⟨7696 + (j.val - 3072 - 1024 - 1024 - 512 - 512 - 1024 - 1024 - 1024 - 512 - 512 - 512 - 16), by omega⟩ else
  0

section

open Cert.ProjRefIdeal.Read

/-- The reference's result at row `r` and column `j`: the normalised row times the column laid there. -/
theorem ref_at (x : FVec Ideal Cert.ProjRefIdeal.S4x4096x1024 .f32) (g : FVec Ideal Cert.ProjRefIdeal.S1024 .f32)
    (w : FVec Ideal Cert.ProjRefIdeal.S1024x10816 .f32)
    (b : Fin 4) (s : Fin 4096) (r : Fin 16384) (hr : r.val = b.val * 4096 + s.val) (j : Fin 11264) :
    val_main_v29 (F := Ideal) x g w (ix2 r j)
      = ∑ k, normed (fun l => x (ix3 b s l)) (fun l => g (ix1 l)) k * laid (fun q => w (ix2 k q)) j := by
  have hb : ∀ h, (⟨r.val / 4096, h⟩ : Fin 4) = b := fun _ => Fin.ext (by show r.val / 4096 = b.val; omega)
  have hs : ∀ h, (⟨r.val % 4096, h⟩ : Fin 4096) = s := fun _ => Fin.ext (by show r.val % 4096 = s.val; omega)
  pointwise [val_main_v29, val_main_v28, val_main_v27, val_main_v26, val_main_v25, val_main_v24, val_main_v23, val_main_v22,
    val_main_v21, val_main_v20, val_main_v19, val_main_v18, val_main_v17, val_main_v16, val_main_v15, val_main_v14, val_main_v13,
    val_main_v12, val_main_v11, val_main_v10, val_main_v9, val_main_v8, val_main_v7, val_main_v6, val_main_v5, val_main_v4,
    val_main_v3, val_main_v2, val_main_v1, val_main_v0, val_main_cst, val_main_cst_0, val_main_cst_1, val_main_cst_2]
  simp only [hb, hs]
  unfold laid
  simp only [mul_dite, mul_zero, Finset.sum_dite_irrel, Finset.sum_const_zero]
  rfl

end

/-- The kernel's weights: the columns sliced, laid out anew and padded with zeros. -/
def permuted (w : FVec Ideal S1024x10816 .f32) : FVec Ideal S1024x11264 .bf16 :=
  truncf .bf16 (concatenate S1024x11264 1 [⟨S1024x3072, extractStridedSlice S1024x3072 ![0, 7744] w slices_S1024x10816_S1024x3072_0_7744⟩,
    ⟨S1024x1024, extractStridedSlice S1024x1024 ![0, 0] w slices_S1024x10816_S1024x1024_0_0⟩,
    ⟨S1024x1024, extractStridedSlice S1024x1024 ![0, 1024] w slices_S1024x10816_S1024x1024_0_1024⟩,
    ⟨S1024x512, extractStridedSlice S1024x512 ![0, 2048] w slices_S1024x10816_S1024x512_0_2048⟩,
    ⟨S1024x512, extractStridedSlice S1024x512 ![0, 2560] w slices_S1024x10816_S1024x512_0_2560⟩,
    ⟨S1024x1024, extractStridedSlice S1024x1024 ![0, 3072] w slices_S1024x10816_S1024x1024_0_3072⟩,
    ⟨S1024x1024, extractStridedSlice S1024x1024 ![0, 4096] w slices_S1024x10816_S1024x1024_0_4096⟩,
    ⟨S1024x1024, extractStridedSlice S1024x1024 ![0, 5136] w slices_S1024x10816_S1024x1024_0_5136⟩,
    ⟨S1024x512, extractStridedSlice S1024x512 ![0, 6160] w slices_S1024x10816_S1024x512_0_6160⟩,
    ⟨S1024x512, extractStridedSlice S1024x512 ![0, 6672] w slices_S1024x10816_S1024x512_0_6672⟩,
    ⟨S1024x512, extractStridedSlice S1024x512 ![0, 7184] w slices_S1024x10816_S1024x512_0_7184⟩,
    ⟨S1024x16, extractStridedSlice S1024x16 ![0, 5120] w slices_S1024x10816_S1024x16_0_5120⟩,
    ⟨S1024x48, extractStridedSlice S1024x48 ![0, 7696] w slices_S1024x10816_S1024x48_0_7696⟩,
    ⟨S1024x448, broadcastInDim S1024x448 ![] bcast_S_S1024x448 (constant S_ .f32 0x00000000#32)⟩]
    concatenates_S1024x3072_S1024x1024_S1024x1024_S1024x512_S1024x512_S1024x1024_S1024x1024_S1024x1024_S1024x512_S1024x512_S1024x512_S1024x16_S1024x48_S1024x448_S1024x11264_d1)
    bitsLt_bf16_f32

/-- An entry of the kernel's weights. -/
theorem permuted_at (w : FVec Ideal S1024x10816 .f32) (k : Fin 1024) (j : Fin 11264) :
    permuted w (ix2 k j) = laid (fun q => w (ix2 k q)) j := by
  pointwise [permuted]
  rfl

/-- An entry of a block's normalised rows. -/
theorem normed_at (x : FVec Ideal S1024x1024 .f32) (g : FVec Ideal S1x1024 .f32) (r k : Fin 1024) :
    k0_pay1 (F := Ideal) x g (ix2 r k) = normed (fun l => x (ix2 r l)) (fun l => g (ix2 0 l)) k := by
  pointwise [k0_pay1]
  rfl

/-- An entry of a block's result. -/
theorem block_at (h : FVec Ideal S1024x1024 .bf16) (w : FVec Ideal S1024x512 .bf16) (r : Fin 1024) (j : Fin 512) :
    k0_pay2 (F := Ideal) h w (ix2 r j) = ∑ k : Fin 1024, h (ix2 r k) * w (ix2 k j) := by
  pointwise [k0_pay2]

/-- The windows' block indices: a block of rows meets twenty-two blocks of columns. -/
theorem idx : ∀ t : Fin cfg0.N, (win0_0.index t = ![t.val / 22, 0] ∧ win0_1.index t = ![0, 0])
    ∧ (win0_2.index t = ![0, t.val % 22] ∧ win0_3.index t = ![t.val / 22, t.val % 22]) :=
  (by decide +kernel : ∀ t : Fin grid0.N, _)

variable (m : (ℓ : Loc nD τ sig) → Buf (Elt Ideal) ℓ)

section Outs

variable (c : Dev nD) (t : Fin cfg0.N)

/-- At a row block's first point the normalised rows are stored. -/
theorem first_normed (h0 : t.val % 22 = 0) (i) :
    (outsAt0 m c t.val t.isLt).2 i = k0_pay1 (F := Ideal) (iblk m c 0 t) (iblk m c 1 t) i := by
  rw [outsAt0_A m c t h0]
  frame_out

/-- At its later points they stay. -/
theorem next_normed (h1 : ¬ t.val % 22 = 0) (i) (p : Fin cfg0.N) (hp : p.val = t.val - 1) :
    (outsAt0 m c t.val t.isLt).2 i = (outsAt0 m c p.val p.isLt).2 i := by
  rw [outsAt0_B m c t h1]
  obtain rfl : p = ⟨t.val - 1, Nat.lt_of_le_of_lt (Nat.sub_le _ _) t.isLt⟩ := Fin.ext hp
  rfl

/-- At every point the result is the stored rows times the block of weights. -/
theorem result (i) : (outsAt0 m c t.val t.isLt).1 i = k0_pay2 (F := Ideal) (outsAt0 m c t.val t.isLt).2 (iblk m c 2 t) i := by
  by_cases h0 : t.val % 22 = 0
  · have e : (outsAt0 m c t.val t.isLt).2 = k0_pay1 (F := Ideal) (iblk m c 0 t) (iblk m c 1 t) := funext (first_normed m c t h0)
    rw [e, outsAt0_A m c t h0]
    frame_out
  · obtain ⟨p, hp⟩ : ∃ p : Fin cfg0.N, p.val = t.val - 1 := ⟨⟨t.val - 1, Nat.lt_of_le_of_lt (Nat.sub_le _ _) t.isLt⟩, rfl⟩
    have e : (outsAt0 m c t.val t.isLt).2 = (outsAt0 m c p.val p.isLt).2 := funext fun i => next_normed m c t h0 i p hp
    rw [e, outsAt0_B m c t h0]
    obtain rfl : p = ⟨t.val - 1, Nat.lt_of_le_of_lt (Nat.sub_le _ _) t.isLt⟩ := Fin.ext hp
    frame_out
    simp only [read_unread_whole]

end Outs

section Reads

variable (c : Dev nD) (t : Fin cfg0.N)

/-- A block of rows, in the argument. -/
theorem rows (b : Fin 4) (s : Fin 4096) (r : Fin 1024) (hr : t.val / 22 * 1024 + r.val = b.val * 4096 + s.val) (k : Fin 1024) :
    iblk m c 0 t (ix2 r k) = m ((c : Thread nD τ).loc main_arg0) (ix3 b s k) := by
  have ht : t.val < 352 := lt_of_lt_of_eq t.isLt N_0
  have h : (V m c main_v0) (ix2 (⟨t.val / 22 * 1024 + r.val, by omega⟩ : Fin 16384) k) = m ((c : Thread nD τ).loc main_arg0) (ix3 b s k) := by
    entry_read; pointwise; blk_ext
  rw [← h]
  show V m c main_v0 _ = V m c main_v0 _
  obtain ⟨⟨e, -⟩, -⟩ := idx t
  blk_ext [e]

/-- The scales, in the argument. -/
theorem scales (k : Fin 1024) : iblk m c 1 t (ix2 0 k) = m ((c : Thread nD τ).loc main_arg1) (ix1 k) := by
  have h : (V m c main_v1) (ix2 0 k) = m ((c : Thread nD τ).loc main_arg1) (ix1 k) := by
    entry_read; pointwise
  rw [← h]
  show V m c main_v1 _ = V m c main_v1 _
  obtain ⟨⟨-, e⟩, -⟩ := idx t
  blk_ext [e]

/-- The weights the region finds are the argument's columns laid out anew. -/
theorem entry_weights : V m c main_v17 = permuted (m ((c : Thread nD τ).loc main_arg2)) := rfl

/-- A block of the weights, in the argument. -/
theorem weights (j : Fin 11264) (f : Fin 512) (hj : j.val = t.val % 22 * 512 + f.val) (k : Fin 1024) :
    iblk m c 2 t (ix2 k f) = laid (fun q => m ((c : Thread nD τ).loc main_arg2) (ix2 k q)) j := by
  have h : (V m c main_v17) (ix2 k j) = laid (fun q => m ((c : Thread nD τ).loc main_arg2) (ix2 k q)) j := by
    rw [entry_weights]; exact permuted_at _ k j
  rw [← h]
  show V m c main_v17 _ = V m c main_v17 _
  obtain ⟨-, ⟨e, -⟩⟩ := idx t
  blk_ext [e]

/-- The stored rows are the argument's rows normalised, at every point of their block. -/
theorem stored (b : Fin 4) (s : Fin 4096) (r : Fin 1024) (k : Fin 1024) :
    ∀ (n : ℕ) (hn : n < cfg0.N), n / 22 * 1024 + r.val = b.val * 4096 + s.val →
      (outsAt0 m c n hn).2 (ix2 r k) = normed (fun l => m ((c : Thread nD τ).loc main_arg0) (ix3 b s l))
        (fun l => m ((c : Thread nD τ).loc main_arg1) (ix1 l)) k := by
  intro n
  induction n with
  | zero =>
    intro hn hr
    refine (first_normed m c ⟨0, hn⟩ rfl _).trans ((normed_at _ _ r k).trans ?_)
    simp only [rows m c ⟨0, hn⟩ b s r hr, scales]
  | succ n ih =>
    intro hn hr
    by_cases h0 : (n + 1) % 22 = 0
    · refine (first_normed m c ⟨n + 1, hn⟩ h0 _).trans ((normed_at _ _ r k).trans ?_)
      simp only [rows m c ⟨n + 1, hn⟩ b s r hr, scales]
    · exact (next_normed m c ⟨n + 1, hn⟩ h0 _ ⟨n, Nat.lt_of_succ_lt hn⟩ rfl).trans (ih _ (by omega))

end Reads

/-- The kernel's result is the reference's. -/
theorem final (c : Dev nD) : (dats m 0 c).arrAt 3 (cfgs 0).N
    = Cert.ProjRefIdeal.Read.val_main_v29 (F := Ideal) (m ((c : Thread nD τ).loc main_arg0)) (m ((c : Thread nD τ).loc main_arg1))
        (m ((c : Thread nD τ).loc main_arg2)) := by
  refine (dats m 0 c).arrAt_eq_of_covers 3 _ (by decide +kernel) fun t hf y => ?_
  have ht : t.val < 352 := lt_of_lt_of_eq t.isLt N_0
  blk_simp; rw [after0_3]
  obtain ⟨-, ⟨-, e⟩⟩ := idx t
  idx_vars y
  have hy : ((View.whole main_v18).slice (win0_3.rect t)).emb (ix2 y0 y1)
      = ix2 (⟨t.val / 22 * 1024 + y0.val, by omega⟩ : Fin 16384) (⟨t.val % 22 * 512 + y1.val, by omega⟩ : Fin 11264) := by
    blk_ext [e]
  obtain ⟨b, s, hr⟩ : ∃ (b : Fin 4) (s : Fin 4096), t.val / 22 * 1024 + y0.val = b.val * 4096 + s.val :=
    ⟨⟨(t.val / 22 * 1024 + y0.val) / 4096, by omega⟩, ⟨(t.val / 22 * 1024 + y0.val) % 4096, by omega⟩,
      by show t.val / 22 * 1024 + y0.val = (t.val / 22 * 1024 + y0.val) / 4096 * 4096 + (t.val / 22 * 1024 + y0.val) % 4096; omega⟩
  rw [hy, ref_at _ _ _ b s _ hr]
  refine (result m c t (ix2 y0 y1)).trans ((block_at _ _ y0 y1).trans ?_)
  simp only [stored m c b s y0 _ t.val t.isLt hr, weights m c t ⟨t.val % 22 * 512 + y1.val, by omega⟩ y1 rfl]

end Cert.ProjKernelIdeal.Value

end
-- ==== Proof.Proj.Claims.lean ====
/- The claims about the input projection: the kernel, its idealization and the reference run and leave their arguments
   as they were; the idealization changes nothing; kernel and reference end with the same array over the extended reals. -/
module

public import proofs.«01_k».proof.Defs
public import proofs.«01_k».proof.Proof.Gen.ProjKernel.Frame
public import proofs.«01_k».proof.Proof.Gen.ProjKernelIdeal.Frame
public import proofs.«01_k».proof.Proof.Gen.ProjKernelIdeal.Value
public import proofs.«01_k».proof.Proof.Gen.ProjRefIdeal.Run
public import proofs.«01_k».proof.Proof.Gen.ProjRefIdeal.Read
public import proofs.«01_k».proof.Proof.Proj.Kernel

@[expose] public section

noncomputable section

namespace Cert.Proof.Proj

open Idealize.ShloMosaic Idealize.SL.Sem

/-- The kernel terminates without fault, its arguments and semaphores end as they began. -/
theorem frame_kernel : Cert.quiescent_ProjKernel (hProjKernel := Cert.ProjKernel.Gen.facts) :=
  fun m ρ _ => Cert.ProjKernel.Gen.frame m ρ

/-- The same of the idealized kernel. -/
theorem frame_ideal : Cert.quiescent_ProjKernelIdeal (hProjKernelIdeal := Cert.ProjKernelIdeal.Gen.facts) :=
  fun m ρ _ => Cert.ProjKernelIdeal.Gen.frame m ρ

/-- The same of the reference, which declares no semaphore. -/
theorem frame_ref : Cert.quiescent_ProjRefIdeal (hProjRefIdeal := Cert.ProjRefIdeal.Gen.facts) :=
  fun m ρ _ => (θ_run _ _ _).mono (fun r h => ⟨fun c => (h c).2, sem_eq_zero_of_no_sems (by decide) r.2⟩)
    (Cert.ProjRefIdeal.Value.run m ρ)

/-- The idealization names no literal and replaces no operation. -/
theorem preserves : Cert.preserves_ProjKernel_ProjKernelIdeal := trivial

/-- From equal arguments, the idealized kernel and the reference end with the same array. -/
theorem algebraic : Cert.algebraic_ProjKernelIdeal_ProjRefIdeal (hProjKernelIdeal := Cert.ProjKernelIdeal.Gen.facts)
    (hProjRefIdeal := Cert.ProjRefIdeal.Gen.facts) := by
  intro m g m' g' _ hag
  refine ⟨fun c => Cert.ProjRefIdeal.Read.val_main_v29 (F := Ideal) (m (c.tc.loc Cert.ProjKernelIdeal.main_arg0)) (m (c.tc.loc Cert.ProjKernelIdeal.main_arg1))
      (m (c.tc.loc Cert.ProjKernelIdeal.main_arg2)),
    (θ_run _ _ _).mono (fun r h c => ⟨(h c).1.trans (Cert.ProjKernelIdeal.Value.final m c), (h c).2⟩) (Cert.ProjKernelIdeal.Value.run_blocks m g),
    (θ_run _ _ _).mono (fun r h c => ⟨(h c).1.trans ?_, (h c).2⟩) (Cert.ProjRefIdeal.Value.run m' g')⟩
  obtain ⟨h0, h1, h2⟩ := hag c
  rw [Cert.ProjRefIdeal.Read.val_main_v29_eq, h0, h1, h2]

end Cert.Proof.Proj

end
-- ==== Proof.Projs.Kernel.lean ====
/- The input projection of the decode step: what the kernel leaves in its result array is the reference's result. -/
module

public import proofs.«01_k».proof.Proof.Gen.ProjsKernelIdeal.Value
public import proofs.«01_k».proof.Proof.Gen.ProjsRefIdeal.Read
public import proofs.«01_k».proof.Proof.Proj.Kernel
public import Idealize.ShloMosaic.Lib.Pipeline.ValueKit
public import Idealize.ShloMosaic.Lib.Pipeline.ReadBack

@[expose] public section

set_option maxRecDepth 16384
noncomputable section

namespace Cert.ProjsKernelIdeal.Value

open Cert.ProjsKernelIdeal Cert.ProjsKernelIdeal.Gen Idealize.ShloMosaic Idealize.ShloMosaic.TcCoe Idealize.SL.Sem
open Idealize.ShloMosaic.Pipeline (Dat)
open Cert.Proof (normed)
open Cert.ProjKernelIdeal.Value (laid permuted permuted_at)
open scoped BigOperators

section

open Cert.ProjsRefIdeal.Read

/-- The reference's result at row `r` and column `j`: the normalised row times the column laid there. -/
theorem ref_at (x : FVec Ideal Cert.ProjsRefIdeal.S32x1x1024 .f32) (g : FVec Ideal Cert.ProjsRefIdeal.S1024 .f32)
    (w : FVec Ideal Cert.ProjsRefIdeal.S1024x10816 .f32)
    (r : Fin 32) (j : Fin 11264) :
    val_main_v29 (F := Ideal) x g w (ix2 r j)
      = ∑ k, normed (fun l => x (ix3 r 0 l)) (fun l => g (ix1 l)) k * laid (fun q => w (ix2 k q)) j := by
  pointwise [val_main_v29, val_main_v28, val_main_v27, val_main_v26, val_main_v25, val_main_v24, val_main_v23, val_main_v22,
    val_main_v21, val_main_v20, val_main_v19, val_main_v18, val_main_v17, val_main_v16, val_main_v15, val_main_v14, val_main_v13,
    val_main_v12, val_main_v11, val_main_v10, val_main_v9, val_main_v8, val_main_v7, val_main_v6, val_main_v5, val_main_v4,
    val_main_v3, val_main_v2, val_main_v1, val_main_v0, val_main_cst, val_main_cst_0, val_main_cst_1, val_main_cst_2]
  unfold laid
  simp only [mul_dite, mul_zero, Finset.sum_dite_irrel, Finset.sum_const_zero]
  rfl

end

/-- An entry of a block's normalised rows. -/
theorem normed_at (x : FVec Ideal S32x1024 .f32) (g : FVec Ideal S1x1024 .f32) (r : Fin 32) (k : Fin 1024) :
    k0_pay1 (F := Ideal) x g (ix2 r k) = normed (fun l => x (ix2 r l)) (fun l => g (ix2 0 l)) k := by
  pointwise [k0_pay1]
  rfl

/-- An entry of a block's result. -/
theorem block_at (h : FVec Ideal S32x1024 .bf16) (w : FVec Ideal S1024x512 .bf16) (r : Fin 32) (j : Fin 512) :
    k0_pay2 (F := Ideal) h w (ix2 r j) = ∑ k : Fin 1024, h (ix2 r k) * w (ix2 k j) := by
  pointwise [k0_pay2]

/-- The windows' block indices: the rows meet twenty-two blocks of columns. -/
theorem idx : ∀ t : Fin cfg0.N, (win0_0.index t = ![0, 0] ∧ win0_1.index t = ![0, 0])
    ∧ (win0_2.index t = ![0, t.val % 22] ∧ win0_3.index t = ![0, t.val % 22]) :=
  (by decide +kernel : ∀ t : Fin grid0.N, _)

variable (m : (ℓ : Loc nD τ sig) → Buf (Elt Ideal) ℓ)

section Outs

variable (c : Dev nD) (t : Fin cfg0.N)

/-- At the first point the normalised rows are stored. -/
theorem first_normed (h0 : t.val % 22 = 0) (i) :
    (outsAt0 m c t.val t.isLt).2 i = k0_pay1 (F := Ideal) (iblk m c 0 t) (iblk m c 1 t) i := by
  rw [outsAt0_A m c t h0]
  frame_out

/-- At its later points they stay. -/
theorem next_normed (h1 : ¬ t.val % 22 = 0) (i) (p : Fin cfg0.N) (hp : p.val = t.val - 1) :
    (outsAt0 m c t.val t.isLt).2 i = (outsAt0 m c p.val p.isLt).2 i := by
  rw [outsAt0_B m c t h1]
  obtain rfl : p = ⟨t.val - 1, Nat.lt_of_le_of_lt (Nat.sub_le _ _) t.isLt⟩ := Fin.ext hp
  rfl

/-- At every point the result is the stored rows times the block of weights. -/
theorem result (i) : (outsAt0 m c t.val t.isLt).1 i = k0_pay2 (F := Ideal) (outsAt0 m c t.val t.isLt).2 (iblk m c 2 t) i := by
  by_cases h0 : t.val % 22 = 0
  · have e : (outsAt0 m c t.val t.isLt).2 = k0_pay1 (F := Ideal) (iblk m c 0 t) (iblk m c 1 t) := funext (first_normed m c t h0)
    rw [e, outsAt0_A m c t h0]
    frame_out
  · obtain ⟨p, hp⟩ : ∃ p : Fin cfg0.N, p.val = t.val - 1 := ⟨⟨t.val - 1, Nat.lt_of_le_of_lt (Nat.sub_le _ _) t.isLt⟩, rfl⟩
    have e : (outsAt0 m c t.val t.isLt).2 = (outsAt0 m c p.val p.isLt).2 := funext fun i => next_normed m c t h0 i p hp
    rw [e, outsAt0_B m c t h0]
    obtain rfl : p = ⟨t.val - 1, Nat.lt_of_le_of_lt (Nat.sub_le _ _) t.isLt⟩ := Fin.ext hp
    frame_out
    simp only [read_unread_whole]

end Outs

section Reads

variable (c : Dev nD) (t : Fin cfg0.N)

/-- A block of rows, in the argument. -/
theorem rows (r : Fin 32) (k : Fin 1024) :
    iblk m c 0 t (ix2 r k) = m ((c : Thread nD τ).loc main_arg0) (ix3 r 0 k) := by
  have h : (V m c main_v0) (ix2 r k) = m ((c : Thread nD τ).loc main_arg0) (ix3 r 0 k) := by
    entry_read; pointwise; blk_ext
  rw [← h]
  show V m c main_v0 _ = V m c main_v0 _
  obtain ⟨⟨e, -⟩, -⟩ := idx t
  blk_ext [e]

/-- The scales, in the argument. -/
theorem scales (k : Fin 1024) : iblk m c 1 t (ix2 0 k) = m ((c : Thread nD τ).loc main_arg1) (ix1 k) := by
  have h : (V m c main_v1) (ix2 0 k) = m ((c : Thread nD τ).loc main_arg1) (ix1 k) := by
    entry_read; pointwise
  rw [← h]
  show V m c main_v1 _ = V m c main_v1 _
  obtain ⟨⟨-, e⟩, -⟩ := idx t
  blk_ext [e]

/-- The weights the region finds are the argument's columns laid out anew. -/
theorem entry_weights : V m c main_v17 = permuted (m ((c : Thread nD τ).loc main_arg2)) := rfl

/-- A block of the weights, in the argument. -/
theorem weights (j : Fin 11264) (f : Fin 512) (hj : j.val = t.val % 22 * 512 + f.val) (k : Fin 1024) :
    iblk m c 2 t (ix2 k f) = laid (fun q => m ((c : Thread nD τ).loc main_arg2) (ix2 k q)) j := by
  have h : (V m c main_v17) (ix2 k j) = laid (fun q => m ((c : Thread nD τ).loc main_arg2) (ix2 k q)) j := by
    rw [entry_weights]; exact permuted_at _ k j
  rw [← h]
  show V m c main_v17 _ = V m c main_v17 _
  obtain ⟨-, ⟨e, -⟩⟩ := idx t
  blk_ext [e]

/-- The stored rows are the argument's rows normalised, at every point. -/
theorem stored (r : Fin 32) (k : Fin 1024) :
    ∀ (n : ℕ) (hn : n < cfg0.N),
      (outsAt0 m c n hn).2 (ix2 r k) = normed (fun l => m ((c : Thread nD τ).loc main_arg0) (ix3 r 0 l))
        (fun l => m ((c : Thread nD τ).loc main_arg1) (ix1 l)) k := by
  intro n
  induction n with
  | zero =>
    intro hn
    refine (first_normed m c ⟨0, hn⟩ rfl _).trans ((normed_at _ _ r k).trans ?_)
    simp only [rows m c ⟨0, hn⟩, scales]
  | succ n ih =>
    intro hn
    by_cases h0 : (n + 1) % 22 = 0
    · refine (first_normed m c ⟨n + 1, hn⟩ h0 _).trans ((normed_at _ _ r k).trans ?_)
      simp only [rows m c ⟨n + 1, hn⟩, scales]
    · exact (next_normed m c ⟨n + 1, hn⟩ h0 _ ⟨n, Nat.lt_of_succ_lt hn⟩ rfl).trans (ih _)

end Reads

/-- The kernel's result is the reference's. -/
theorem final (c : Dev nD) : (dats m 0 c).arrAt 3 (cfgs 0).N
    = Cert.ProjsRefIdeal.Read.val_main_v29 (F := Ideal) (m ((c : Thread nD τ).loc main_arg0)) (m ((c : Thread nD τ).loc main_arg1))
        (m ((c : Thread nD τ).loc main_arg2)) := by
  refine (dats m 0 c).arrAt_eq_of_covers 3 _ (by decide +kernel) fun t hf y => ?_
  have ht : t.val < 22 := lt_of_lt_of_eq t.isLt N_0
  blk_simp; rw [after0_3]
  obtain ⟨-, ⟨-, e⟩⟩ := idx t
  idx_vars y
  have hy : ((View.whole main_v18).slice (win0_3.rect t)).emb (ix2 y0 y1)
      = ix2 y0 (⟨t.val % 22 * 512 + y1.val, by omega⟩ : Fin 11264) := by
    blk_ext [e]
  rw [hy, ref_at]
  refine (result m c t (ix2 y0 y1)).trans ((block_at _ _ y0 y1).trans ?_)
  simp only [stored m c y0 _ t.val t.isLt, weights m c t ⟨t.val % 22 * 512 + y1.val, by omega⟩ y1 rfl]

end Cert.ProjsKernelIdeal.Value

end
-- ==== Proof.Projs.Claims.lean ====
/- The claims about the input projection of the decode step: the kernel, its idealization and the reference run and leave their arguments
   as they were; the idealization changes nothing; kernel and reference end with the same array over the extended reals. -/
module

public import proofs.«01_k».proof.Defs
public import proofs.«01_k».proof.Proof.Gen.ProjsKernel.Frame
public import proofs.«01_k».proof.Proof.Gen.ProjsKernelIdeal.Frame
public import proofs.«01_k».proof.Proof.Gen.ProjsKernelIdeal.Value
public import proofs.«01_k».proof.Proof.Gen.ProjsRefIdeal.Run
public import proofs.«01_k».proof.Proof.Gen.ProjsRefIdeal.Read
public import proofs.«01_k».proof.Proof.Projs.Kernel

@[expose] public section

noncomputable section

namespace Cert.Proof.Projs

open Idealize.ShloMosaic Idealize.SL.Sem

/-- The kernel terminates without fault, its arguments and semaphores end as they began. -/
theorem frame_kernel : Cert.quiescent_ProjsKernel (hProjsKernel := Cert.ProjsKernel.Gen.facts) :=
  fun m ρ _ => Cert.ProjsKernel.Gen.frame m ρ

/-- The same of the idealized kernel. -/
theorem frame_ideal : Cert.quiescent_ProjsKernelIdeal (hProjsKernelIdeal := Cert.ProjsKernelIdeal.Gen.facts) :=
  fun m ρ _ => Cert.ProjsKernelIdeal.Gen.frame m ρ

/-- The same of the reference, which declares no semaphore. -/
theorem frame_ref : Cert.quiescent_ProjsRefIdeal (hProjsRefIdeal := Cert.ProjsRefIdeal.Gen.facts) :=
  fun m ρ _ => (θ_run _ _ _).mono (fun r h => ⟨fun c => (h c).2, sem_eq_zero_of_no_sems (by decide) r.2⟩)
    (Cert.ProjsRefIdeal.Value.run m ρ)

/-- The idealization names no literal and replaces no operation. -/
theorem preserves : Cert.preserves_ProjsKernel_ProjsKernelIdeal := trivial

/-- From equal arguments, the idealized kernel and the reference end with the same array. -/
theorem algebraic : Cert.algebraic_ProjsKernelIdeal_ProjsRefIdeal (hProjsKernelIdeal := Cert.ProjsKernelIdeal.Gen.facts)
    (hProjsRefIdeal := Cert.ProjsRefIdeal.Gen.facts) := by
  intro m g m' g' _ hag
  refine ⟨fun c => Cert.ProjsRefIdeal.Read.val_main_v29 (F := Ideal) (m (c.tc.loc Cert.ProjsKernelIdeal.main_arg0)) (m (c.tc.loc Cert.ProjsKernelIdeal.main_arg1))
      (m (c.tc.loc Cert.ProjsKernelIdeal.main_arg2)),
    (θ_run _ _ _).mono (fun r h c => ⟨(h c).1.trans (Cert.ProjsKernelIdeal.Value.final m c), (h c).2⟩) (Cert.ProjsKernelIdeal.Value.run_blocks m g),
    (θ_run _ _ _).mono (fun r h c => ⟨(h c).1.trans ?_, (h c).2⟩) (Cert.ProjsRefIdeal.Value.run m' g')⟩
  obtain ⟨h0, h1, h2⟩ := hag c
  rw [Cert.ProjsRefIdeal.Read.val_main_v29_eq, h0, h1, h2]

end Cert.Proof.Projs

end
-- ==== Proof.Merges.Kernel.lean ====
/- The merge of the three branches in the decode step: what the kernel leaves in its result array is the reference's result. -/
module

public import proofs.«01_k».proof.Proof.Gen.MergesKernelIdeal.Value
public import proofs.«01_k».proof.Proof.Gen.MergesRefIdeal.Read
public import Idealize.ShloMosaic.Lib.Pipeline.ValueKit

@[expose] public section

set_option maxRecDepth 16384
noncomputable section

namespace Cert.MergesKernelIdeal.Value

open Cert.MergesKernelIdeal Cert.MergesKernelIdeal.Gen Idealize.ShloMosaic Idealize.ShloMosaic.TcCoe Idealize.SL.Sem
open Idealize.ShloMosaic.Pipeline (Dat)
open scoped BigOperators

section

open Cert.MergesRefIdeal.Read

/-- The reference's result at row `r` and column `j`: the residual, and the gated branches' projections projected once more. -/
theorem ref_at (x : FVec Ideal Cert.MergesRefIdeal.S32x1x1024 .f32) (z : FVec Ideal Cert.MergesRefIdeal.S32x1x11264 .f32)
    (oa ob c1 c2 c3 : FVec Ideal Cert.MergesRefIdeal.S32x1x1024 .f32) (wa wb wc wo : FVec Ideal Cert.MergesRefIdeal.S1024x1024 .f32)
    (r : Fin 32) (j : Fin 1024) :
    val_main_v22 (F := Ideal) x z oa ob c1 c2 c3 wa wb wc wo (ix2 r j)
      = x (ix3 r 0 j) + ∑ k : Fin 1024,
        (Ideal.logistic (z (ix3 r 0 (⟨k.val, by omega⟩ : Fin 11264))) * ∑ l : Fin 1024, oa (ix3 r 0 l) * wa (ix2 l k)
          + Ideal.logistic (z (ix3 r 0 (⟨1024 + k.val, by omega⟩ : Fin 11264))) * ∑ l : Fin 1024, ob (ix3 r 0 l) * wb (ix2 l k)
          + Ideal.logistic (z (ix3 r 0 (⟨2048 + k.val, by omega⟩ : Fin 11264)))
            * ∑ l : Fin 1024, (c1 (ix3 r 0 l) + c2 (ix3 r 0 l) + c3 (ix3 r 0 l)) * wc (ix2 l k)) * wo (ix2 k j) := by
  pointwise [val_main_v22, val_main_v21, val_main_v20, val_main_v19, val_main_v18, val_main_v17, val_main_v16, val_main_v15,
    val_main_v14, val_main_v13, val_main_v12, val_main_v11, val_main_v10, val_main_v9, val_main_v8, val_main_v7, val_main_v6,
    val_main_v5, val_main_v4, val_main_v3, val_main_v2, val_main_v1, val_main_v0, val_main_cst, val_main_cst_0]
  rfl

end

/-- A block's result at row `r` and column `j`, from the blocks it reads. -/
theorem block_at (oa ob x c1 c2 c3 za zb zc : FVec Ideal S32x1024 .f32) (wa wb wc wo : FVec Ideal S1024x1024 .bf16)
    (r : Fin 32) (j : Fin 1024) :
    k0_pay1 (F := Ideal) (k0_pay2 za oa wa zb ob wb) (k0_pay3 zc) (k0_pay4 c1 c2 c3) (k0_pay5 wc) x wo (ix2 r j)
      = x (ix2 r j) + ∑ k : Fin 1024,
        (Ideal.logistic (za (ix2 r k)) * ∑ l : Fin 1024, oa (ix2 r l) * wa (ix2 l k)
          + Ideal.logistic (zb (ix2 r k)) * ∑ l : Fin 1024, ob (ix2 r l) * wb (ix2 l k)
          + Ideal.logistic (zc (ix2 r k)) * ∑ l : Fin 1024, (c1 (ix2 r l) + c2 (ix2 r l) + c3 (ix2 r l)) * wc (ix2 l k)) * wo (ix2 k j) := by
  pointwise [k0_pay1, k0_pay2, k0_pay3, k0_pay4, k0_pay5]

/-- The windows' block indices: all rows, the gates' three columns of blocks, the weights whole. -/
theorem idx : ∀ t : Fin cfg0.N, (win0_0.index t = ![0, 0] ∧ win0_1.index t = ![0, 0] ∧ win0_2.index t = ![0, 0]
    ∧ win0_3.index t = ![0, 0] ∧ win0_4.index t = ![0, 0] ∧ win0_5.index t = ![0, 0])
    ∧ (win0_6.index t = ![0, 0] ∧ win0_7.index t = ![0, 1] ∧ win0_8.index t = ![0, 2])
    ∧ (win0_9.index t = ![0, 0] ∧ win0_10.index t = ![0, 0] ∧ win0_11.index t = ![0, 0] ∧ win0_12.index t = ![0, 0])
    ∧ win0_13.index t = ![0, 0] :=
  (by decide +kernel : ∀ t : Fin grid0.N, _)

variable (m : (ℓ : Loc nD τ sig) → Buf (Elt Ideal) ℓ)

section Reads

variable (c : Dev nD) (t : Fin cfg0.N) (r : Fin 32)

/-- A block of the residual, in the argument. -/
theorem rows0 (k : Fin 1024) : iblk m c 0 t (ix2 r k) = m ((c : Thread nD τ).loc main_arg0) (ix3 r 0 k) := by
  have h : (V m c main_v0) (ix2 r k) = m ((c : Thread nD τ).loc main_arg0) (ix3 r 0 k) := by
    entry_read; pointwise; blk_ext
  rw [← h]
  show V m c main_v0 _ = V m c main_v0 _
  obtain ⟨⟨e, -⟩, -⟩ := idx t
  blk_ext [e]

/-- A block of the first branch, in the argument. -/
theorem rows1 (k : Fin 1024) : iblk m c 1 t (ix2 r k) = m ((c : Thread nD τ).loc main_arg2) (ix3 r 0 k) := by
  have h : (V m c main_v2) (ix2 r k) = m ((c : Thread nD τ).loc main_arg2) (ix3 r 0 k) := by
    entry_read; pointwise; blk_ext
  rw [← h]
  show V m c main_v2 _ = V m c main_v2 _
  obtain ⟨⟨-, e, -⟩, -⟩ := idx t
  blk_ext [e]

/-- A block of the second branch, in the argument. -/
theorem rows2 (k : Fin 1024) : iblk m c 2 t (ix2 r k) = m ((c : Thread nD τ).loc main_arg3) (ix3 r 0 k) := by
  have h : (V m c main_v3) (ix2 r k) = m ((c : Thread nD τ).loc main_arg3) (ix3 r 0 k) := by
    entry_read; pointwise; blk_ext
  rw [← h]
  show V m c main_v3 _ = V m c main_v3 _
  obtain ⟨⟨-, -, e, -⟩, -⟩ := idx t
  blk_ext [e]

/-- A block of the third branch's compressed part, in the argument. -/
theorem rows3 (k : Fin 1024) : iblk m c 3 t (ix2 r k) = m ((c : Thread nD τ).loc main_arg4) (ix3 r 0 k) := by
  have h : (V m c main_v4) (ix2 r k) = m ((c : Thread nD τ).loc main_arg4) (ix3 r 0 k) := by
    entry_read; pointwise; blk_ext
  rw [← h]
  show V m c main_v4 _ = V m c main_v4 _
  obtain ⟨⟨-, -, -, e, -⟩, -⟩ := idx t
  blk_ext [e]

/-- A block of the third branch's selected part, in the argument. -/
theorem rows4 (k : Fin 1024) : iblk m c 4 t (ix2 r k) = m ((c : Thread nD τ).loc main_arg5) (ix3 r 0 k) := by
  have h : (V m c main_v5) (ix2 r k) = m ((c : Thread nD τ).loc main_arg5) (ix3 r 0 k) := by
    entry_read; pointwise; blk_ext
  rw [← h]
  show V m c main_v5 _ = V m c main_v5 _
  obtain ⟨⟨-, -, -, -, e, -⟩, -⟩ := idx t
  blk_ext [e]

/-- A block of the third branch's window part, in the argument. -/
theorem rows5 (k : Fin 1024) : iblk m c 5 t (ix2 r k) = m ((c : Thread nD τ).loc main_arg6) (ix3 r 0 k) := by
  have h : (V m c main_v6) (ix2 r k) = m ((c : Thread nD τ).loc main_arg6) (ix3 r 0 k) := by
    entry_read; pointwise; blk_ext
  rw [← h]
  show V m c main_v6 _ = V m c main_v6 _
  obtain ⟨⟨-, -, -, -, -, e⟩, -⟩ := idx t
  blk_ext [e]

/-- A block of the first gate's columns, in the argument. -/
theorem gates6 (k : Fin 1024) : iblk m c 6 t (ix2 r k) = m ((c : Thread nD τ).loc main_arg1) (ix3 r 0 (⟨k.val, by omega⟩ : Fin 11264)) := by
  have h : (V m c main_v1) (ix2 r (⟨k.val, by omega⟩ : Fin 11264))
      = m ((c : Thread nD τ).loc main_arg1) (ix3 r 0 (⟨k.val, by omega⟩ : Fin 11264)) := by
    entry_read; pointwise; blk_ext
  rw [← h]
  show V m c main_v1 _ = V m c main_v1 _
  obtain ⟨-, ⟨e, -⟩, -⟩ := idx t
  blk_ext [e]

/-- A block of the second gate's columns, in the argument. -/
theorem gates7 (k : Fin 1024) : iblk m c 7 t (ix2 r k) = m ((c : Thread nD τ).loc main_arg1) (ix3 r 0 (⟨1024 + k.val, by omega⟩ : Fin 11264)) := by
  have h : (V m c main_v1) (ix2 r (⟨1024 + k.val, by omega⟩ : Fin 11264))
      = m ((c : Thread nD τ).loc main_arg1) (ix3 r 0 (⟨1024 + k.val, by omega⟩ : Fin 11264)) := by
    entry_read; pointwise; blk_ext
  rw [← h]
  show V m c main_v1 _ = V m c main_v1 _
  obtain ⟨-, ⟨-, e, -⟩, -⟩ := idx t
  blk_ext [e]

/-- A block of the third gate's columns, in the argument. -/
theorem gates8 (k : Fin 1024) : iblk m c 8 t (ix2 r k) = m ((c : Thread nD τ).loc main_arg1) (ix3 r 0 (⟨2048 + k.val, by omega⟩ : Fin 11264)) := by
  have h : (V m c main_v1) (ix2 r (⟨2048 + k.val, by omega⟩ : Fin 11264))
      = m ((c : Thread nD τ).loc main_arg1) (ix3 r 0 (⟨2048 + k.val, by omega⟩ : Fin 11264)) := by
    entry_read; pointwise; blk_ext
  rw [← h]
  show V m c main_v1 _ = V m c main_v1 _
  obtain ⟨-, ⟨-, -, e⟩, -⟩ := idx t
  blk_ext [e]

end Reads

section Weights

variable (c : Dev nD) (t : Fin cfg0.N)

/-- The first branch's weights, in the argument. -/
theorem weights9 (l k : Fin 1024) : iblk m c 9 t (ix2 l k) = m ((c : Thread nD τ).loc main_arg7) (ix2 l k) := by
  have h : (V m c main_v7) (ix2 l k) = m ((c : Thread nD τ).loc main_arg7) (ix2 l k) := by
    entry_read; pointwise
  rw [← h]
  show V m c main_v7 _ = V m c main_v7 _
  obtain ⟨-, -, ⟨e, -⟩, -⟩ := idx t
  blk_ext [e]

/-- The second branch's weights, in the argument. -/
theorem weights10 (l k : Fin 1024) : iblk m c 10 t (ix2 l k) = m ((c : Thread nD τ).loc main_arg8) (ix2 l k) := by
  have h : (V m c main_v8) (ix2 l k) = m ((c : Thread nD τ).loc main_arg8) (ix2 l k) := by
    entry_read; pointwise
  rw [← h]
  show V m c main_v8 _ = V m c main_v8 _
  obtain ⟨-, -, ⟨-, e, -⟩, -⟩ := idx t
  blk_ext [e]

/-- The third branch's weights, in the argument. -/
theorem weights11 (l k : Fin 1024) : iblk m c 11 t (ix2 l k) = m ((c : Thread nD τ).loc main_arg9) (ix2 l k) := by
  have h : (V m c main_v9) (ix2 l k) = m ((c : Thread nD τ).loc main_arg9) (ix2 l k) := by
    entry_read; pointwise
  rw [← h]
  show V m c main_v9 _ = V m c main_v9 _
  obtain ⟨-, -, ⟨-, -, e, -⟩, -⟩ := idx t
  blk_ext [e]

/-- The last weights, in the argument. -/
theorem weights12 (l k : Fin 1024) : iblk m c 12 t (ix2 l k) = m ((c : Thread nD τ).loc main_arg10) (ix2 l k) := by
  have h : (V m c main_v10) (ix2 l k) = m ((c : Thread nD τ).loc main_arg10) (ix2 l k) := by
    entry_read; pointwise
  rw [← h]
  show V m c main_v10 _ = V m c main_v10 _
  obtain ⟨-, -, ⟨-, -, -, e⟩, -⟩ := idx t
  blk_ext [e]

end Weights

/-- The kernel's result is the reference's. -/
theorem final (c : Dev nD) : (dats m 0 c).arrAt 13 (cfgs 0).N
    = Cert.MergesRefIdeal.Read.val_main_v22 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))
        (m ((c : Thread nD τ).loc main_arg8)) (m ((c : Thread nD τ).loc main_arg9)) (m ((c : Thread nD τ).loc main_arg10)) := by
  refine (dats m 0 c).arrAt_eq_of_covers 13 _ (by decide +kernel) fun t hf y => ?_
  blk_simp; rw [after0_13]
  frame_out
  obtain ⟨-, -, -, e⟩ := idx t
  idx_vars y
  have hy : ((View.whole main_v11).slice (win0_13.rect t)).emb (ix2 y0 y1) = ix2 y0 y1 := by
    blk_ext [e]
  rw [hy, ref_at]
  pointwise
  refine (block_at _ _ _ _ _ _ _ _ _ _ _ _ _ y0 y1).trans ?_
  simp only [rows0 m c t y0, rows1 m c t y0, rows2 m c t y0, rows3 m c t y0, rows4 m c t y0,
    rows5 m c t y0, gates6 m c t y0, gates7 m c t y0, gates8 m c t y0, weights9, weights10, weights11,
    weights12]

end Cert.MergesKernelIdeal.Value

end
-- ==== Proof.Merges.Claims.lean ====
/- The claims about the merge of the three branches in the decode step: the kernel, its idealization and the reference run and leave their arguments
   as they were; the idealization changes nothing; kernel and reference end with the same array over the extended reals. -/
module

public import proofs.«01_k».proof.Defs
public import proofs.«01_k».proof.Proof.Gen.MergesKernel.Frame
public import proofs.«01_k».proof.Proof.Gen.MergesKernelIdeal.Frame
public import proofs.«01_k».proof.Proof.Gen.MergesKernelIdeal.Value
public import proofs.«01_k».proof.Proof.Gen.MergesRefIdeal.Run
public import proofs.«01_k».proof.Proof.Gen.MergesRefIdeal.Read
public import proofs.«01_k».proof.Proof.Merges.Kernel

@[expose] public section

noncomputable section

namespace Cert.Proof.Merges

open Idealize.ShloMosaic Idealize.SL.Sem

/-- The kernel terminates without fault, its arguments and semaphores end as they began. -/
theorem frame_kernel : Cert.quiescent_MergesKernel (hMergesKernel := Cert.MergesKernel.Gen.facts) :=
  fun m ρ _ => Cert.MergesKernel.Gen.frame m ρ

/-- The same of the idealized kernel. -/
theorem frame_ideal : Cert.quiescent_MergesKernelIdeal (hMergesKernelIdeal := Cert.MergesKernelIdeal.Gen.facts) :=
  fun m ρ _ => Cert.MergesKernelIdeal.Gen.frame m ρ

/-- The same of the reference, which declares no semaphore. -/
theorem frame_ref : Cert.quiescent_MergesRefIdeal (hMergesRefIdeal := Cert.MergesRefIdeal.Gen.facts) :=
  fun m ρ _ => (θ_run _ _ _).mono (fun r h => ⟨fun c => (h c).2, sem_eq_zero_of_no_sems (by decide) r.2⟩)
    (Cert.MergesRefIdeal.Value.run m ρ)

/-- The idealization names no literal and replaces no operation. -/
theorem preserves : Cert.preserves_MergesKernel_MergesKernelIdeal := trivial

/-- From equal arguments, the idealized kernel and the reference end with the same array. -/
theorem algebraic : Cert.algebraic_MergesKernelIdeal_MergesRefIdeal (hMergesKernelIdeal := Cert.MergesKernelIdeal.Gen.facts)
    (hMergesRefIdeal := Cert.MergesRefIdeal.Gen.facts) := by
  intro m g m' g' _ hag
  refine ⟨fun c => Cert.MergesRefIdeal.Read.val_main_v22 (F := Ideal) (m (c.tc.loc Cert.MergesKernelIdeal.main_arg0)) (m (c.tc.loc Cert.MergesKernelIdeal.main_arg1))
      (m (c.tc.loc Cert.MergesKernelIdeal.main_arg2)) (m (c.tc.loc Cert.MergesKernelIdeal.main_arg3))
      (m (c.tc.loc Cert.MergesKernelIdeal.main_arg4)) (m (c.tc.loc Cert.MergesKernelIdeal.main_arg5))
      (m (c.tc.loc Cert.MergesKernelIdeal.main_arg6)) (m (c.tc.loc Cert.MergesKernelIdeal.main_arg7))
      (m (c.tc.loc Cert.MergesKernelIdeal.main_arg8)) (m (c.tc.loc Cert.MergesKernelIdeal.main_arg9))
      (m (c.tc.loc Cert.MergesKernelIdeal.main_arg10)),
    (θ_run _ _ _).mono (fun r h c => ⟨(h c).1.trans (Cert.MergesKernelIdeal.Value.final m c), (h c).2⟩) (Cert.MergesKernelIdeal.Value.run_blocks m g),
    (θ_run _ _ _).mono (fun r h c => ⟨(h c).1.trans ?_, (h c).2⟩) (Cert.MergesRefIdeal.Value.run m' g')⟩
  obtain ⟨h0, h1, h2, h3, h4, h5, h6, h7, h8, h9, h10⟩ := hag c
  rw [Cert.MergesRefIdeal.Read.val_main_v22_eq, h0, h1, h2, h3, h4, h5, h6, h7, h8, h9, h10]

end Cert.Proof.Merges

end
-- ==== Proof.Ffns.Kernel.lean ====
/- The feed-forward part of the decode step: what the kernel leaves in its result array is the reference's result. -/
module

public import proofs.«01_k».proof.Proof.Gen.FfnsKernelIdeal.Value
public import proofs.«01_k».proof.Proof.Gen.FfnsRefIdeal.Read
public import proofs.«01_k».proof.Proof.Ffn.Kernel
public import Idealize.ShloMosaic.Lib.Pipeline.ValueKit
public import Idealize.ShloMosaic.Lib.Pipeline.ReadBack

@[expose] public section

set_option maxRecDepth 16384
noncomputable section

namespace Cert.FfnsKernelIdeal.Value

open Cert.FfnsKernelIdeal Cert.FfnsKernelIdeal.Gen Idealize.ShloMosaic Idealize.ShloMosaic.TcCoe Idealize.SL.Sem
open Idealize.ShloMosaic.Pipeline (Dat)
open Cert.Proof (normed)
open Cert.FfnKernelIdeal.Value (unit halves)
open scoped BigOperators

section

open Cert.FfnsRefIdeal.Read

/-- The reference's result at row `r` and column `j`: the residual, and the hidden units projected. -/
theorem ref_at (x : FVec Ideal Cert.FfnsRefIdeal.S32x1x1024 .f32) (g : FVec Ideal Cert.FfnsRefIdeal.S1024 .f32)
    (wg wu : FVec Ideal Cert.FfnsRefIdeal.S1024x2816 .f32) (wd : FVec Ideal Cert.FfnsRefIdeal.S2816x1024 .f32)
    (r : Fin 32) (j : Fin 1024) :
    val_main_v19 (F := Ideal) x g wg wu wd (ix2 r j)
      = x (ix3 r 0 j) + ∑ f : Fin 2816, unit (normed (fun k => x (ix3 r 0 k)) fun k => g (ix1 k)) (fun k => wg (ix2 k f)) (fun k => wu (ix2 k f))
        * wd (ix2 f j) := by
  pointwise [val_main_v19, val_main_v18, val_main_v17, val_main_v16, val_main_v15, val_main_v14, val_main_v13, val_main_v12,
    val_main_v11, val_main_v10, val_main_v9, val_main_v8, val_main_v7, val_main_v6, val_main_v5, val_main_v4, val_main_v3,
    val_main_v2, val_main_v1, val_main_v0, val_main_cst, val_main_cst_0, val_main_cst_1, val_main_call0_v5, val_main_call0_v4,
    val_main_call0_v3, val_main_call0_v2, val_main_call0_v1, val_main_call0_v0, val_main_call0_cst, val_main_call0_cst_0]
  rfl

end

/-- An entry of a block's normalised rows. -/
theorem normed_at (x : FVec Ideal S32x1024 .f32) (g : FVec Ideal S1x1024 .f32) (r : Fin 32) (k : Fin 1024) :
    k0_pay2 (F := Ideal) x g (ix2 r k) = normed (fun l => x (ix2 r l)) (fun l => g (ix2 0 l)) k := by
  pointwise [k0_pay2, k0_pay1]
  rfl

/-- A half of the hidden units, projected and added to what was there. -/
theorem half_at (h : FVec Ideal S32x1024 .bf16) (wg wu : FVec Ideal S1024x1408 .bf16) (a : FVec Ideal S32x1024 .f32)
    (wd : FVec Ideal S1408x1024 .bf16) (r : Fin 32) (j : Fin 1024) :
    k0_pay4 (F := Ideal) h wg wu a wd (ix2 r j)
      = a (ix2 r j) + ∑ f : Fin 1408, unit (fun k => h (ix2 r k)) (fun k => wg (ix2 k f)) (fun k => wu (ix2 k f)) * wd (ix2 f j) := by
  pointwise [k0_pay4]
  rfl

/-- The sum starts at the residual. -/
theorem start_at (x : FVec Ideal S32x1024 .f32) (r : Fin 32) (j : Fin 1024) : k0_pay3 (F := Ideal) x (ix2 r j) = x (ix2 r j) := by
  pointwise [k0_pay3, k0_pay1]

/-- The windows' block indices: two points, one for each half of the hidden units. -/
theorem idx : ∀ t : Fin cfg0.N, (win0_0.index t = ![0, 0] ∧ win0_1.index t = ![0, 0])
    ∧ (win0_2.index t = ![0, t.val % 2] ∧ win0_3.index t = ![0, t.val % 2] ∧ win0_4.index t = ![t.val % 2, 0])
    ∧ win0_5.index t = ![0, 0] :=
  (by decide +kernel : ∀ t : Fin grid0.N, _)

variable (m : (ℓ : Loc nD τ sig) → Buf (Elt Ideal) ℓ)

section Outs

variable (c : Dev nD) (t : Fin cfg0.N)

/-- At the first point the normalised rows are stored. -/
theorem first_normed (h0 : t.val % 2 = 0) (i) :
    (outsAt0 m c t.val t.isLt).2.1 i = k0_pay2 (F := Ideal) (iblk m c 0 t) (iblk m c 1 t) i := by
  rw [outsAt0_A m c t h0 (by omega)]
  frame_out

/-- At the first point the residual and the first half of the hidden units are summed. -/
theorem first_sum (h0 : t.val % 2 = 0) (i) :
    (outsAt0 m c t.val t.isLt).2.2 i = k0_pay4 (F := Ideal) (k0_pay2 (F := Ideal) (iblk m c 0 t) (iblk m c 1 t)) (iblk m c 2 t)
      (iblk m c 3 t) (k0_pay3 (F := Ideal) (iblk m c 0 t)) (iblk m c 4 t) i := by
  rw [outsAt0_A m c t h0 (by omega)]
  frame_out

/-- At the second point the second half is added to the first point's sum and the result is written. -/
theorem second_sum (h1 : t.val % 2 = 1) (i) (p : Fin cfg0.N) (hp : p.val = t.val - 1) :
    (outsAt0 m c t.val t.isLt).1 i = k0_pay4 (F := Ideal) (outsAt0 m c p.val p.isLt).2.1 (iblk m c 2 t) (iblk m c 3 t)
      (outsAt0 m c p.val p.isLt).2.2 (iblk m c 4 t) i := by
  rw [outsAt0_B m c t (by omega) h1]
  obtain rfl : p = ⟨t.val - 1, Nat.lt_of_le_of_lt (Nat.sub_le _ _) t.isLt⟩ := Fin.ext hp
  frame_out
  simp only [read_unread_whole]

end Outs

section Reads

variable (c : Dev nD) (t : Fin cfg0.N)

/-- A block of the residual, in the argument. -/
theorem rows (r : Fin 32) (k : Fin 1024) :
    iblk m c 0 t (ix2 r k) = m ((c : Thread nD τ).loc main_arg0) (ix3 r 0 k) := by
  have h : (V m c main_v0) (ix2 r k) = m ((c : Thread nD τ).loc main_arg0) (ix3 r 0 k) := by
    entry_read; pointwise; blk_ext
  rw [← h]
  show V m c main_v0 _ = V m c main_v0 _
  obtain ⟨⟨e, -⟩, -⟩ := idx t
  blk_ext [e]

/-- The scales, in the argument. -/
theorem scales (k : Fin 1024) : iblk m c 1 t (ix2 0 k) = m ((c : Thread nD τ).loc main_arg1) (ix1 k) := by
  have h : (V m c main_v1) (ix2 0 k) = m ((c : Thread nD τ).loc main_arg1) (ix1 k) := by
    entry_read; pointwise
  rw [← h]
  show V m c main_v1 _ = V m c main_v1 _
  obtain ⟨⟨-, e⟩, -⟩ := idx t
  blk_ext [e]

/-- A half of the gate's weights, in the argument. -/
theorem weights2 (q : Fin 2) (hq : t.val % 2 = q.val) (k : Fin 1024) (f : Fin 1408) :
    iblk m c 2 t (ix2 k f) = m ((c : Thread nD τ).loc main_arg2) (ix2 k (⟨q.val * 1408 + f.val, by omega⟩ : Fin 2816)) := by
  have h : (V m c main_v2) (ix2 k (⟨q.val * 1408 + f.val, by omega⟩ : Fin 2816))
      = m ((c : Thread nD τ).loc main_arg2) (ix2 k (⟨q.val * 1408 + f.val, by omega⟩ : Fin 2816)) := by
    entry_read; pointwise
  rw [← h]
  show V m c main_v2 _ = V m c main_v2 _
  obtain ⟨-, ⟨e, -⟩, -⟩ := idx t
  rw [hq] at e
  blk_ext [e]

/-- A half of the other projection's weights, in the argument. -/
theorem weights3 (q : Fin 2) (hq : t.val % 2 = q.val) (k : Fin 1024) (f : Fin 1408) :
    iblk m c 3 t (ix2 k f) = m ((c : Thread nD τ).loc main_arg3) (ix2 k (⟨q.val * 1408 + f.val, by omega⟩ : Fin 2816)) := by
  have h : (V m c main_v3) (ix2 k (⟨q.val * 1408 + f.val, by omega⟩ : Fin 2816))
      = m ((c : Thread nD τ).loc main_arg3) (ix2 k (⟨q.val * 1408 + f.val, by omega⟩ : Fin 2816)) := by
    entry_read; pointwise
  rw [← h]
  show V m c main_v3 _ = V m c main_v3 _
  obtain ⟨-, ⟨-, e, -⟩, -⟩ := idx t
  rw [hq] at e
  blk_ext [e]

/-- A half of the last projection's weights, in the argument. -/
theorem weights4 (q : Fin 2) (hq : t.val % 2 = q.val) (f : Fin 1408) (j : Fin 1024) :
    iblk m c 4 t (ix2 f j) = m ((c : Thread nD τ).loc main_arg4) (ix2 (⟨q.val * 1408 + f.val, by omega⟩ : Fin 2816) j) := by
  have h : (V m c main_v4) (ix2 (⟨q.val * 1408 + f.val, by omega⟩ : Fin 2816) j)
      = m ((c : Thread nD τ).loc main_arg4) (ix2 (⟨q.val * 1408 + f.val, by omega⟩ : Fin 2816) j) := by
    entry_read; pointwise
  rw [← h]
  show V m c main_v4 _ = V m c main_v4 _
  obtain ⟨-, ⟨-, -, e⟩, -⟩ := idx t
  rw [hq] at e
  blk_ext [e]

end Reads

/-- The kernel's result is the reference's. -/
theorem final (c : Dev nD) : (dats m 0 c).arrAt 5 (cfgs 0).N
    = Cert.FfnsRefIdeal.Read.val_main_v19 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 5 _ (by decide +kernel) fun t hf y => ?_
  have h1 : t.val % 2 = 1 := (flush0_5 t).mp hf
  blk_simp; rw [after0_5]
  obtain ⟨-, -, e⟩ := idx t
  idx_vars y
  have hy : ((View.whole main_v5).slice (win0_5.rect t)).emb (ix2 y0 y1) = ix2 y0 y1 := by
    blk_ext [e]
  obtain ⟨p, hp⟩ : ∃ p : Fin cfg0.N, p.val = t.val - 1 := ⟨⟨t.val - 1, Nat.lt_of_le_of_lt (Nat.sub_le _ _) t.isLt⟩, rfl⟩
  have p0 : p.val % 2 = 0 := by omega
  rw [hy, ref_at, halves, ← add_assoc]
  refine (second_sum m c t h1 (ix2 y0 y1) p hp).trans ((half_at _ _ _ _ _ y0 y1).trans ?_)
  simp only [first_normed m c p p0, first_sum m c p p0, half_at, normed_at, start_at, rows m c p y0, scales,
    weights2 m c p 0 p0, weights3 m c p 0 p0, weights4 m c p 0 p0, weights2 m c t 1 h1, weights3 m c t 1 h1, weights4 m c t 1 h1]
  rfl

end Cert.FfnsKernelIdeal.Value

end
-- ==== Proof.Ffns.Claims.lean ====
/- The claims about the feed-forward part of the decode step: the kernel, its idealization and the reference run and leave their arguments
   as they were; the idealization changes nothing; kernel and reference end with the same array over the extended reals. -/
module

public import proofs.«01_k».proof.Defs
public import proofs.«01_k».proof.Proof.Gen.FfnsKernel.Frame
public import proofs.«01_k».proof.Proof.Gen.FfnsKernelIdeal.Frame
public import proofs.«01_k».proof.Proof.Gen.FfnsKernelIdeal.Value
public import proofs.«01_k».proof.Proof.Gen.FfnsRefIdeal.Run
public import proofs.«01_k».proof.Proof.Gen.FfnsRefIdeal.Read
public import proofs.«01_k».proof.Proof.Ffns.Kernel

@[expose] public section

noncomputable section

namespace Cert.Proof.Ffns

open Idealize.ShloMosaic Idealize.SL.Sem

/-- The kernel terminates without fault, its arguments and semaphores end as they began. -/
theorem frame_kernel : Cert.quiescent_FfnsKernel (hFfnsKernel := Cert.FfnsKernel.Gen.facts) :=
  fun m ρ _ => Cert.FfnsKernel.Gen.frame m ρ

/-- The same of the idealized kernel. -/
theorem frame_ideal : Cert.quiescent_FfnsKernelIdeal (hFfnsKernelIdeal := Cert.FfnsKernelIdeal.Gen.facts) :=
  fun m ρ _ => Cert.FfnsKernelIdeal.Gen.frame m ρ

/-- The same of the reference, which declares no semaphore. -/
theorem frame_ref : Cert.quiescent_FfnsRefIdeal (hFfnsRefIdeal := Cert.FfnsRefIdeal.Gen.facts) :=
  fun m ρ _ => (θ_run _ _ _).mono (fun r h => ⟨fun c => (h c).2, sem_eq_zero_of_no_sems (by decide) r.2⟩)
    (Cert.FfnsRefIdeal.Value.run m ρ)

/-- The idealization names no literal and replaces no operation. -/
theorem preserves : Cert.preserves_FfnsKernel_FfnsKernelIdeal := trivial

/-- From equal arguments, the idealized kernel and the reference end with the same array. -/
theorem algebraic : Cert.algebraic_FfnsKernelIdeal_FfnsRefIdeal (hFfnsKernelIdeal := Cert.FfnsKernelIdeal.Gen.facts)
    (hFfnsRefIdeal := Cert.FfnsRefIdeal.Gen.facts) := by
  intro m g m' g' _ hag
  refine ⟨fun c => Cert.FfnsRefIdeal.Read.val_main_v19 (F := Ideal) (m (c.tc.loc Cert.FfnsKernelIdeal.main_arg0)) (m (c.tc.loc Cert.FfnsKernelIdeal.main_arg1))
      (m (c.tc.loc Cert.FfnsKernelIdeal.main_arg2)) (m (c.tc.loc Cert.FfnsKernelIdeal.main_arg3))
      (m (c.tc.loc Cert.FfnsKernelIdeal.main_arg4)),
    (θ_run _ _ _).mono (fun r h c => ⟨(h c).1.trans (Cert.FfnsKernelIdeal.Value.final m c), (h c).2⟩) (Cert.FfnsKernelIdeal.Value.run_blocks m g),
    (θ_run _ _ _).mono (fun r h c => ⟨(h c).1.trans ?_, (h c).2⟩) (Cert.FfnsRefIdeal.Value.run m' g')⟩
  obtain ⟨h0, h1, h2, h3, h4⟩ := hag c
  rw [Cert.FfnsRefIdeal.Read.val_main_v19_eq, h0, h1, h2, h3, h4]

end Cert.Proof.Ffns

end
-- ==== Proof.Rgs.Blocks.lean ====
/- The gates of the decode step's RG-LRU, block by block: the state's columns fall into eight blocks of 128, and each block has its
   own matrices for the two gates. -/
module

public import proofs.«01_k».proof.Proof.Gen.RgsKernelIdeal.Value
public import Idealize.ShloMosaic.Lib.Pipeline.ValueKit
public import Idealize.ShloMosaic.Lib.Pipeline.ReadBack

@[expose] public section

set_option maxRecDepth 16384
noncomputable section

namespace Cert.RgsKernelIdeal.Value

open Cert.RgsKernelIdeal Cert.RgsKernelIdeal.Gen Idealize.ShloMosaic Idealize.ShloMosaic.TcCoe Idealize.SL.Sem
open scoped BigOperators

/-- A column's product with its block's matrix. -/
def dot (X : Fin 1024 → EReal) (W : Fin 8 → Fin 128 → Fin 128 → EReal) (j : Fin 1024) : EReal :=
  ∑ k : Fin 128, X ⟨j.val / 128 * 128 + k.val, by omega⟩ * W ⟨j.val / 128, by omega⟩ k ⟨j.val % 128, by omega⟩

/-- The logarithm of a column's decay: −8, times the recurrence gate, times the softplus. -/
def rate (X : Fin 1024 → EReal) (W : Fin 8 → Fin 128 → Fin 128 → EReal) (b s : Fin 1024 → EReal) (j : Fin 1024) : EReal :=
  Ideal.ofBits FTy.f32 3238002688#32 * Ideal.logistic (dot X W j + b j) * s j

/-- What a column takes in: the gated input times the square root of one minus the squared decay, as the kernel computes it. -/
def intake (X : Fin 1024 → EReal) (W W' : Fin 8 → Fin 128 → Fin 128 → EReal) (b b' s : Fin 1024 → EReal) (j : Fin 1024) : EReal :=
  Ideal.sqrt (0 - Ideal.tanh (rate X W b s j) * (Ideal.exp (rate X W b s j) * Ideal.exp (rate X W b s j) + 1))
    * (Ideal.logistic (dot X W' j + b' j) * X j)

variable (x : FVec Ideal S32x1024 .f32) (ba bx s : FVec Ideal S1x1024 .f32) (w : Vec Ideal S8x128x256 .bf16)

/-- The matrices of the recurrence gate: the left halves. -/
def left (n : Fin 8) (k q : Fin 128) : EReal := w (ix3 n k (⟨q.val, by omega⟩ : Fin 256))

/-- The matrices of the input gate: the right halves. -/
def right (n : Fin 8) (k q : Fin 128) : EReal := w (ix3 n k (⟨128 + q.val, by omega⟩ : Fin 256))

/-- A row's decays from the block of inputs. -/
def decayOf (r : Fin 32) (j : Fin 1024) : EReal :=
  Ideal.exp (rate (fun j => x (ix2 r j)) (left w) (fun j => ba (ix2 0 j)) (fun j => s (ix2 0 j)) j)

/-- What a row takes in, from the block of inputs. -/
def intakeOf (r : Fin 32) (j : Fin 1024) : EReal :=
  intake (fun j => x (ix2 r j)) (left w) (right w) (fun j => ba (ix2 0 j)) (fun j => bx (ix2 0 j)) (fun j => s (ix2 0 j)) j

/-- Block 0 of the matrices. -/
theorem ld0 (k : Fin 128) (q : Fin 256) : View.ld w r0_3 (ix3 0 k q) = w (ix3 0 k q) := by
  refine congrArg w (funext fun a => Fin.ext ?_)
  match a with
  | ⟨0, _⟩ => rfl
  | ⟨1, _⟩ => show 0 + 1 * k.val = k.val; omega
  | ⟨2, _⟩ => show 0 + 1 * q.val = q.val; omega

/-- The decays of block 0. -/
theorem decay0 (u v : FVec Ideal S1x1024 .f32) (r : Fin 32) (q : Fin 128) (j : Fin 1024) (hj : j.val = 0 + q.val) :
    k0_pay14 (F := Ideal) x ba u v (View.ld w r0_3) (ix2 r q) = decayOf x ba (k0_pay10 (F := Ideal) u v) w r j := by
  have e1 : ∀ k : Fin 128, (⟨j.val / 128 * 128 + k.val, by omega⟩ : Fin 1024) = ⟨k.val, by omega⟩ := fun k => Fin.ext (by dsimp only; omega)
  have e2 : (⟨j.val / 128, by omega⟩ : Fin 8) = 0 := Fin.ext (by show j.val / 128 = 0; omega)
  have e3 : j.val % 128 = q.val := by omega
  have e4 : j = ⟨q.val, by omega⟩ := Fin.ext (by dsimp only; omega)
  pointwise [k0_pay14, k0_pay13, k0_pay12, k0_pay11]
  simp only [decayOf, rate, dot, left, right, e1, e2, e3]
  simp only [← e4]

/-- What block 0 takes in. -/
theorem intake0 (u v : FVec Ideal S1x1024 .f32) (r : Fin 32) (q : Fin 128) (j : Fin 1024) (hj : j.val = 0 + q.val) :
    k0_pay15 (F := Ideal) x ba bx u v (View.ld w r0_3) (ix2 r q) = intakeOf x ba bx (k0_pay10 (F := Ideal) u v) w r j := by
  have e1 : ∀ k : Fin 128, (⟨j.val / 128 * 128 + k.val, by omega⟩ : Fin 1024) = ⟨k.val, by omega⟩ := fun k => Fin.ext (by dsimp only; omega)
  have e2 : (⟨j.val / 128, by omega⟩ : Fin 8) = 0 := Fin.ext (by show j.val / 128 = 0; omega)
  have e3 : j.val % 128 = q.val := by omega
  have e4 : j = ⟨q.val, by omega⟩ := Fin.ext (by dsimp only; omega)
  pointwise [k0_pay15, k0_pay14, k0_pay13, k0_pay12, k0_pay11]
  simp only [intakeOf, intake, rate, dot, left, right, e1, e2, e3]
  simp only [← e4]

/-- Block 1 of the matrices. -/
theorem ld1 (k : Fin 128) (q : Fin 256) : View.ld w r0_4 (ix3 0 k q) = w (ix3 1 k q) := by
  refine congrArg w (funext fun a => Fin.ext ?_)
  match a with
  | ⟨0, _⟩ => rfl
  | ⟨1, _⟩ => show 0 + 1 * k.val = k.val; omega
  | ⟨2, _⟩ => show 0 + 1 * q.val = q.val; omega

/-- The decays of block 1. -/
theorem decay1 (r : Fin 32) (q : Fin 128) (j : Fin 1024) (hj : j.val = 128 + q.val) :
    k0_pay22 (F := Ideal) s (k0_pay18 x ba (View.ld w r0_4)) (ix2 r q) = decayOf x ba s w r j := by
  have e1 : ∀ k : Fin 128, (⟨j.val / 128 * 128 + k.val, by omega⟩ : Fin 1024) = ⟨128 + k.val, by omega⟩ := fun k => Fin.ext (by dsimp only; omega)
  have e2 : (⟨j.val / 128, by omega⟩ : Fin 8) = 1 := Fin.ext (by show j.val / 128 = 1; omega)
  have e3 : j.val % 128 = q.val := by omega
  have e4 : j = ⟨128 + q.val, by omega⟩ := Fin.ext (by dsimp only; omega)
  pointwise [k0_pay22, k0_pay21, k0_pay18, k0_pay17, k0_pay16]
  simp only [decayOf, rate, dot, left, right, e1, e2, e3]
  simp only [← e4]

/-- What block 1 takes in. -/
theorem intake1 (r : Fin 32) (q : Fin 128) (j : Fin 1024) (hj : j.val = 128 + q.val) :
    k0_pay23 (F := Ideal) s (k0_pay16 x) (k0_pay18 x ba (View.ld w r0_4)) (k0_pay19 x (View.ld w r0_4)) (k0_pay20 bx) (ix2 r q) = intakeOf x ba bx s w r j := by
  have e1 : ∀ k : Fin 128, (⟨j.val / 128 * 128 + k.val, by omega⟩ : Fin 1024) = ⟨128 + k.val, by omega⟩ := fun k => Fin.ext (by dsimp only; omega)
  have e2 : (⟨j.val / 128, by omega⟩ : Fin 8) = 1 := Fin.ext (by show j.val / 128 = 1; omega)
  have e3 : j.val % 128 = q.val := by omega
  have e4 : j = ⟨128 + q.val, by omega⟩ := Fin.ext (by dsimp only; omega)
  pointwise [k0_pay23, k0_pay22, k0_pay21, k0_pay20, k0_pay19, k0_pay18, k0_pay17, k0_pay16]
  simp only [intakeOf, intake, rate, dot, left, right, e1, e2, e3]
  simp only [← e4]

/-- Block 2 of the matrices. -/
theorem ld2 (k : Fin 128) (q : Fin 256) : View.ld w r0_5 (ix3 0 k q) = w (ix3 2 k q) := by
  refine congrArg w (funext fun a => Fin.ext ?_)
  match a with
  | ⟨0, _⟩ => rfl
  | ⟨1, _⟩ => show 0 + 1 * k.val = k.val; omega
  | ⟨2, _⟩ => show 0 + 1 * q.val = q.val; omega

/-- The decays of block 2. -/
theorem decay2 (r : Fin 32) (q : Fin 128) (j : Fin 1024) (hj : j.val = 256 + q.val) :
    k0_pay27 (F := Ideal) x ba s (View.ld w r0_5) (ix2 r q) = decayOf x ba s w r j := by
  have e1 : ∀ k : Fin 128, (⟨j.val / 128 * 128 + k.val, by omega⟩ : Fin 1024) = ⟨256 + k.val, by omega⟩ := fun k => Fin.ext (by dsimp only; omega)
  have e2 : (⟨j.val / 128, by omega⟩ : Fin 8) = 2 := Fin.ext (by show j.val / 128 = 2; omega)
  have e3 : j.val % 128 = q.val := by omega
  have e4 : j = ⟨256 + q.val, by omega⟩ := Fin.ext (by dsimp only; omega)
  pointwise [k0_pay27, k0_pay26, k0_pay25, k0_pay24]
  simp only [decayOf, rate, dot, left, right, e1, e2, e3]
  simp only [← e4]

/-- What block 2 takes in. -/
theorem intake2 (r : Fin 32) (q : Fin 128) (j : Fin 1024) (hj : j.val = 256 + q.val) :
    k0_pay28 (F := Ideal) x ba bx s (View.ld w r0_5) (ix2 r q) = intakeOf x ba bx s w r j := by
  have e1 : ∀ k : Fin 128, (⟨j.val / 128 * 128 + k.val, by omega⟩ : Fin 1024) = ⟨256 + k.val, by omega⟩ := fun k => Fin.ext (by dsimp only; omega)
  have e2 : (⟨j.val / 128, by omega⟩ : Fin 8) = 2 := Fin.ext (by show j.val / 128 = 2; omega)
  have e3 : j.val % 128 = q.val := by omega
  have e4 : j = ⟨256 + q.val, by omega⟩ := Fin.ext (by dsimp only; omega)
  pointwise [k0_pay28, k0_pay27, k0_pay26, k0_pay25, k0_pay24]
  simp only [intakeOf, intake, rate, dot, left, right, e1, e2, e3]
  simp only [← e4]

/-- Block 3 of the matrices. -/
theorem ld3 (k : Fin 128) (q : Fin 256) : View.ld w r0_6 (ix3 0 k q) = w (ix3 3 k q) := by
  refine congrArg w (funext fun a => Fin.ext ?_)
  match a with
  | ⟨0, _⟩ => rfl
  | ⟨1, _⟩ => show 0 + 1 * k.val = k.val; omega
  | ⟨2, _⟩ => show 0 + 1 * q.val = q.val; omega

/-- The decays of block 3. -/
theorem decay3 (r : Fin 32) (q : Fin 128) (j : Fin 1024) (hj : j.val = 384 + q.val) :
    k0_pay32 (F := Ideal) x ba s (View.ld w r0_6) (ix2 r q) = decayOf x ba s w r j := by
  have e1 : ∀ k : Fin 128, (⟨j.val / 128 * 128 + k.val, by omega⟩ : Fin 1024) = ⟨384 + k.val, by omega⟩ := fun k => Fin.ext (by dsimp only; omega)
  have e2 : (⟨j.val / 128, by omega⟩ : Fin 8) = 3 := Fin.ext (by show j.val / 128 = 3; omega)
  have e3 : j.val % 128 = q.val := by omega
  have e4 : j = ⟨384 + q.val, by omega⟩ := Fin.ext (by dsimp only; omega)
  pointwise [k0_pay32, k0_pay31, k0_pay30, k0_pay29]
  simp only [decayOf, rate, dot, left, right, e1, e2, e3]
  simp only [← e4]

/-- What block 3 takes in. -/
theorem intake3 (r : Fin 32) (q : Fin 128) (j : Fin 1024) (hj : j.val = 384 + q.val) :
    k0_pay33 (F := Ideal) x ba bx s (View.ld w r0_6) (ix2 r q) = intakeOf x ba bx s w r j := by
  have e1 : ∀ k : Fin 128, (⟨j.val / 128 * 128 + k.val, by omega⟩ : Fin 1024) = ⟨384 + k.val, by omega⟩ := fun k => Fin.ext (by dsimp only; omega)
  have e2 : (⟨j.val / 128, by omega⟩ : Fin 8) = 3 := Fin.ext (by show j.val / 128 = 3; omega)
  have e3 : j.val % 128 = q.val := by omega
  have e4 : j = ⟨384 + q.val, by omega⟩ := Fin.ext (by dsimp only; omega)
  pointwise [k0_pay33, k0_pay32, k0_pay31, k0_pay30, k0_pay29]
  simp only [intakeOf, intake, rate, dot, left, right, e1, e2, e3]
  simp only [← e4]

/-- Block 4 of the matrices. -/
theorem ld4 (k : Fin 128) (q : Fin 256) : View.ld w r0_7 (ix3 0 k q) = w (ix3 4 k q) := by
  refine congrArg w (funext fun a => Fin.ext ?_)
  match a with
  | ⟨0, _⟩ => rfl
  | ⟨1, _⟩ => show 0 + 1 * k.val = k.val; omega
  | ⟨2, _⟩ => show 0 + 1 * q.val = q.val; omega

/-- The decays of block 4. -/
theorem decay4 (r : Fin 32) (q : Fin 128) (j : Fin 1024) (hj : j.val = 512 + q.val) :
    k0_pay39 (F := Ideal) s (k0_pay37 x ba (View.ld w r0_7)) (ix2 r q) = decayOf x ba s w r j := by
  have e1 : ∀ k : Fin 128, (⟨j.val / 128 * 128 + k.val, by omega⟩ : Fin 1024) = ⟨512 + k.val, by omega⟩ := fun k => Fin.ext (by dsimp only; omega)
  have e2 : (⟨j.val / 128, by omega⟩ : Fin 8) = 4 := Fin.ext (by show j.val / 128 = 4; omega)
  have e3 : j.val % 128 = q.val := by omega
  have e4 : j = ⟨512 + q.val, by omega⟩ := Fin.ext (by dsimp only; omega)
  pointwise [k0_pay39, k0_pay38, k0_pay37, k0_pay35, k0_pay34]
  simp only [decayOf, rate, dot, left, right, e1, e2, e3]
  simp only [← e4]

/-- What block 4 takes in. -/
theorem intake4 (r : Fin 32) (q : Fin 128) (j : Fin 1024) (hj : j.val = 512 + q.val) :
    k0_pay40 (F := Ideal) s (k0_pay34 x) (k0_pay36 x bx (View.ld w r0_7)) (k0_pay37 x ba (View.ld w r0_7)) (ix2 r q) = intakeOf x ba bx s w r j := by
  have e1 : ∀ k : Fin 128, (⟨j.val / 128 * 128 + k.val, by omega⟩ : Fin 1024) = ⟨512 + k.val, by omega⟩ := fun k => Fin.ext (by dsimp only; omega)
  have e2 : (⟨j.val / 128, by omega⟩ : Fin 8) = 4 := Fin.ext (by show j.val / 128 = 4; omega)
  have e3 : j.val % 128 = q.val := by omega
  have e4 : j = ⟨512 + q.val, by omega⟩ := Fin.ext (by dsimp only; omega)
  pointwise [k0_pay40, k0_pay39, k0_pay38, k0_pay37, k0_pay36, k0_pay35, k0_pay34]
  simp only [intakeOf, intake, rate, dot, left, right, e1, e2, e3]
  simp only [← e4]

/-- Block 5 of the matrices. -/
theorem ld5 (k : Fin 128) (q : Fin 256) : View.ld w r0_8 (ix3 0 k q) = w (ix3 5 k q) := by
  refine congrArg w (funext fun a => Fin.ext ?_)
  match a with
  | ⟨0, _⟩ => rfl
  | ⟨1, _⟩ => show 0 + 1 * k.val = k.val; omega
  | ⟨2, _⟩ => show 0 + 1 * q.val = q.val; omega

/-- The decays of block 5. -/
theorem decay5 (r : Fin 32) (q : Fin 128) (j : Fin 1024) (hj : j.val = 640 + q.val) :
    k0_pay44 (F := Ideal) x ba s (View.ld w r0_8) (ix2 r q) = decayOf x ba s w r j := by
  have e1 : ∀ k : Fin 128, (⟨j.val / 128 * 128 + k.val, by omega⟩ : Fin 1024) = ⟨640 + k.val, by omega⟩ := fun k => Fin.ext (by dsimp only; omega)
  have e2 : (⟨j.val / 128, by omega⟩ : Fin 8) = 5 := Fin.ext (by show j.val / 128 = 5; omega)
  have e3 : j.val % 128 = q.val := by omega
  have e4 : j = ⟨640 + q.val, by omega⟩ := Fin.ext (by dsimp only; omega)
  pointwise [k0_pay44, k0_pay43, k0_pay42, k0_pay41]
  simp only [decayOf, rate, dot, left, right, e1, e2, e3]
  simp only [← e4]

/-- What block 5 takes in. -/
theorem intake5 (r : Fin 32) (q : Fin 128) (j : Fin 1024) (hj : j.val = 640 + q.val) :
    k0_pay45 (F := Ideal) x ba bx s (View.ld w r0_8) (ix2 r q) = intakeOf x ba bx s w r j := by
  have e1 : ∀ k : Fin 128, (⟨j.val / 128 * 128 + k.val, by omega⟩ : Fin 1024) = ⟨640 + k.val, by omega⟩ := fun k => Fin.ext (by dsimp only; omega)
  have e2 : (⟨j.val / 128, by omega⟩ : Fin 8) = 5 := Fin.ext (by show j.val / 128 = 5; omega)
  have e3 : j.val % 128 = q.val := by omega
  have e4 : j = ⟨640 + q.val, by omega⟩ := Fin.ext (by dsimp only; omega)
  pointwise [k0_pay45, k0_pay44, k0_pay43, k0_pay42, k0_pay41]
  simp only [intakeOf, intake, rate, dot, left, right, e1, e2, e3]
  simp only [← e4]

/-- Block 6 of the matrices. -/
theorem ld6 (k : Fin 128) (q : Fin 256) : View.ld w r0_9 (ix3 0 k q) = w (ix3 6 k q) := by
  refine congrArg w (funext fun a => Fin.ext ?_)
  match a with
  | ⟨0, _⟩ => rfl
  | ⟨1, _⟩ => show 0 + 1 * k.val = k.val; omega
  | ⟨2, _⟩ => show 0 + 1 * q.val = q.val; omega

/-- The decays of block 6. -/
theorem decay6 (r : Fin 32) (q : Fin 128) (j : Fin 1024) (hj : j.val = 768 + q.val) :
    k0_pay50 (F := Ideal) ba s (k0_pay47 x) (View.ld w r0_9) (ix2 r q) = decayOf x ba s w r j := by
  have e1 : ∀ k : Fin 128, (⟨j.val / 128 * 128 + k.val, by omega⟩ : Fin 1024) = ⟨768 + k.val, by omega⟩ := fun k => Fin.ext (by dsimp only; omega)
  have e2 : (⟨j.val / 128, by omega⟩ : Fin 8) = 6 := Fin.ext (by show j.val / 128 = 6; omega)
  have e3 : j.val % 128 = q.val := by omega
  have e4 : j = ⟨768 + q.val, by omega⟩ := Fin.ext (by dsimp only; omega)
  pointwise [k0_pay50, k0_pay49, k0_pay48, k0_pay47, k0_pay46]
  simp only [decayOf, rate, dot, left, right, e1, e2, e3]
  simp only [← e4]

/-- What block 6 takes in. -/
theorem intake6 (r : Fin 32) (q : Fin 128) (j : Fin 1024) (hj : j.val = 768 + q.val) :
    k0_pay51 (F := Ideal) ba bx s (k0_pay46 x) (k0_pay47 x) (View.ld w r0_9) (ix2 r q) = intakeOf x ba bx s w r j := by
  have e1 : ∀ k : Fin 128, (⟨j.val / 128 * 128 + k.val, by omega⟩ : Fin 1024) = ⟨768 + k.val, by omega⟩ := fun k => Fin.ext (by dsimp only; omega)
  have e2 : (⟨j.val / 128, by omega⟩ : Fin 8) = 6 := Fin.ext (by show j.val / 128 = 6; omega)
  have e3 : j.val % 128 = q.val := by omega
  have e4 : j = ⟨768 + q.val, by omega⟩ := Fin.ext (by dsimp only; omega)
  pointwise [k0_pay51, k0_pay50, k0_pay49, k0_pay48, k0_pay47, k0_pay46]
  simp only [intakeOf, intake, rate, dot, left, right, e1, e2, e3]
  simp only [← e4]

/-- Block 7 of the matrices. -/
theorem ld7 (k : Fin 128) (q : Fin 256) : View.ld w r0_10 (ix3 0 k q) = w (ix3 7 k q) := by
  refine congrArg w (funext fun a => Fin.ext ?_)
  match a with
  | ⟨0, _⟩ => rfl
  | ⟨1, _⟩ => show 0 + 1 * k.val = k.val; omega
  | ⟨2, _⟩ => show 0 + 1 * q.val = q.val; omega

/-- The decays of block 7. -/
theorem decay7 (r : Fin 32) (q : Fin 128) (j : Fin 1024) (hj : j.val = 896 + q.val) :
    k0_pay56 (F := Ideal) x ba s (View.ld w r0_10) (ix2 r q) = decayOf x ba s w r j := by
  have e1 : ∀ k : Fin 128, (⟨j.val / 128 * 128 + k.val, by omega⟩ : Fin 1024) = ⟨896 + k.val, by omega⟩ := fun k => Fin.ext (by dsimp only; omega)
  have e2 : (⟨j.val / 128, by omega⟩ : Fin 8) = 7 := Fin.ext (by show j.val / 128 = 7; omega)
  have e3 : j.val % 128 = q.val := by omega
  have e4 : j = ⟨896 + q.val, by omega⟩ := Fin.ext (by dsimp only; omega)
  pointwise [k0_pay56, k0_pay55, k0_pay53, k0_pay52]
  simp only [decayOf, rate, dot, left, right, e1, e2, e3]
  simp only [← e4]

end Cert.RgsKernelIdeal.Value

end
-- ==== Proof.Shared.Scatter.lean ====
/- A scatter that adds, read at an entry at which exactly one update lands. -/
module

public import Idealize.ShloMosaic.Lib.Pipeline.ValueKit

@[expose] public section

noncomputable section

namespace Cert.Proof

open Idealize.ShloMosaic

variable {α ι : Type} {N : ℕ} (f : α → α → α) (step : (ι → α) → Fin N → ι → α) (upd : Fin N → α) (e : ι)

/-- Steps that leave the entry alone leave it after all of them. -/
theorem foldl_once_miss (l : List (Fin N)) (h : ∀ n ∈ l, ∀ r, step r n e = r e) (r : ι → α) : l.foldl step r e = r e := by
  induction l generalizing r with
  | nil => rfl
  | cons n l ih =>
    rw [List.foldl_cons, ih fun n hn => h n (List.mem_cons_of_mem _ hn)]
    exact h n List.mem_cons_self r

/-- If step `n` combines the entry with an update and every other step leaves it, the entry is combined once. -/
theorem foldl_once_hit (n : Fin N) (hn : ∀ r, step r n e = f (r e) (upd n)) (l : List (Fin N)) (hm : n ∈ l) (hd : l.Nodup)
    (hu : ∀ n', n' ≠ n → ∀ r, step r n' e = r e) (r : ι → α) : l.foldl step r e = f (r e) (upd n) := by
  induction l generalizing r with
  | nil => cases hm
  | cons n' l ih =>
    rw [List.foldl_cons]
    obtain ⟨hd', hl⟩ := List.nodup_cons.1 hd
    by_cases q : n' = n
    · subst q
      rw [foldl_once_miss step e l fun k hk => hu k fun h => hd' (h ▸ hk), hn]
    · rw [ih (List.mem_of_ne_of_mem (Ne.symm q) hm) hl, hu n' q]

/-- A scatter read at an entry at which update `k` lands and no other. -/
theorem scatter_once {α : Type} {s si u : Shape} {w : ℕ} (d : ScatterDims s si u) (f : α → α → α) (x : s.Idx → α) (idx : IVec si w)
    (v : u.Idx → α) (e : s.Idx) (k : u.Idx) (hk : ∀ k', d.resultIdx? k' idx = some e ↔ k' = k) :
    Host.scatter d f x idx v e = f (x e) (v k) := by
  have hv : v k = (fun n => v (u.rowMajor.symm n)) (u.rowMajor k) := by
    change _ = v _
    rw [Equiv.symm_apply_apply]
  unfold Host.scatter
  rw [hv]
  refine foldl_once_hit f _ (fun n => v (u.rowMajor.symm n)) e (u.rowMajor k) (fun r => ?_) _ (List.mem_finRange _)
    (List.nodup_finRange _) (fun n hn r => ?_) x
  · have h : d.resultIdx? (u.rowMajor.symm (u.rowMajor k)) idx = some e := by
      rw [Equiv.symm_apply_apply]
      exact (hk k).2 rfl
    generalize d.resultIdx? (u.rowMajor.symm (u.rowMajor k)) idx = o at h ⊢
    subst h
    exact if_pos rfl
  · have h : d.resultIdx? (u.rowMajor.symm n) idx ≠ some e := fun h => hn (by rw [← (hk _).1 h, Equiv.apply_symm_apply])
    generalize d.resultIdx? (u.rowMajor.symm n) idx = o at h ⊢
    cases o with
    | none => rfl
    | some i => exact if_neg fun q => h (congrArg some q.symm)

end Cert.Proof

end
-- ==== Proof.Rgs.Ref.lean ====
/- The reference of the decode step's RG-LRU, read at an entry. -/
module

public import proofs.«01_k».proof.Proof.Gen.RgsRefIdeal.Read
public import proofs.«01_k».proof.Proof.Rgs.Blocks
public import proofs.«01_k».proof.Proof.Shared.Scatter
public import Idealize.ShloMosaic.Lib.Routing.OpsPair

@[expose] public section

set_option maxRecDepth 16384
noncomputable section

namespace Cert.RgsKernelIdeal.Value

open Idealize.ShloMosaic Idealize.ShloMosaic.TcCoe Idealize.SL.Sem
open Cert.RgsRefIdeal.Read
open scoped BigOperators

/-- The causal convolution over the three carried rows and the token's own. -/
def conv (s0 s1 s2 z w0 w1 w2 w3 b : EReal) : EReal := b + s0 * w0 + s1 * w1 + s2 * w2 + z * w3

/-- The softplus of the negated parameter. -/
def soft (l : EReal) : EReal := max (-l) 0 + Ideal.log1p (Ideal.exp (-FloatOps.absf (F := Ideal) (φ := .f32) (-l)))

variable (z : FVec Ideal Cert.RgsRefIdeal.S32x1x11264 .f32) (st : FVec Ideal Cert.RgsRefIdeal.S32x3x1024 .f32)
  (h0 : FVec Ideal Cert.RgsRefIdeal.S32x1024 .f32) (cw : FVec Ideal Cert.RgsRefIdeal.S4x1024 .f32)
  (cb ba bx lam : FVec Ideal Cert.RgsRefIdeal.S1024 .f32) (wa wx : FVec Ideal Cert.RgsRefIdeal.S8x128x128 .f32)

/-- A row of the convolution, from the reference's arguments. -/
def convOf (r : Fin 32) (j : Fin 1024) : EReal :=
  conv (st (ix3 r 0 j)) (st (ix3 r 1 j)) (st (ix3 r 2 j)) (z (ix3 r 0 (⟨4096 + j.val, by omega⟩ : Fin 11264)))
    (cw (ix2 0 j)) (cw (ix2 1 j)) (cw (ix2 2 j)) (cw (ix2 3 j)) (cb (ix1 j))

/-- The reference's convolution at row `r` and column `j`. -/
theorem ref_conv (r : Fin 32) (j : Fin 1024) : val_main_v32 (F := Ideal) z st cw cb (ix3 r 0 j) = convOf z st cw cb r j := by
  pointwise [val_main_v32, val_main_v31, val_main_v30, val_main_v29, val_main_v28, val_main_v27, val_main_v26, val_main_v25,
    val_main_v24, val_main_v23, val_main_v22, val_main_v21, val_main_v20, val_main_v19, val_main_v18, val_main_v17, val_main_v16,
    val_main_v15, val_main_v14, val_main_v13, val_main_v12, val_main_v11, val_main_v10, val_main_v9, val_main_v8, val_main_v7,
    val_main_v6, val_main_v5, val_main_v4, val_main_v3, val_main_v2, val_main_v1, val_main_v0]
  rfl

/-- The reference's recurrence gate. -/
theorem ref_gate_a (r : Fin 32) (j : Fin 1024) : val_main_v46 (F := Ideal) z st cw cb wa ba (ix3 r 0 j)
    = Ideal.logistic (dot (convOf z st cw cb r) (fun n k q => wa (ix3 n k q)) j + ba (ix1 j)) := by
  pointwise [val_main_v46, val_main_v45, val_main_v44, val_main_v43, val_main_v42, val_main_v41, val_main_v40, val_main_v39,
    val_main_v38, val_main_v37, val_main_v36, val_main_v35, val_main_v34, val_main_v33, val_main_cst, val_main_cst_0]
  simp only [ref_conv, dot, mul_comm (wa _)]
  rfl

/-- The reference's input gate. -/
theorem ref_gate_x (r : Fin 32) (j : Fin 1024) : val_main_v58 (F := Ideal) z st cw cb wx bx (ix3 r 0 j)
    = Ideal.logistic (dot (convOf z st cw cb r) (fun n k q => wx (ix3 n k q)) j + bx (ix1 j)) := by
  pointwise [val_main_v58, val_main_v57, val_main_v56, val_main_v55, val_main_v54, val_main_v53, val_main_v52, val_main_v51,
    val_main_v50, val_main_v49, val_main_v48, val_main_v47, val_main_v34, val_main_v33, val_main_cst_1, val_main_cst_2]
  simp only [ref_conv, dot, mul_comm (wx _)]
  rfl

/-- The reference's softplus. -/
theorem ref_soft (j : Fin 1024) : val_main_v62 (F := Ideal) lam (ix1 j) = soft (lam (ix1 j)) := by
  pointwise [val_main_v62, val_main_call0_v11, val_main_call0_v10, val_main_call0_v9, val_main_call0_v8, val_main_call0_v7,
    val_main_call0_v6, val_main_call0_v5, val_main_call0_v4, val_main_call0_v3, val_main_call0_v2, val_main_call0_v1,
    val_main_call0_v0, val_main_call0_cst, val_main_v61]
  rw [if_neg (fun h => h rfl)]
  rfl

/-- An update lands at the one token's entry of its row and column. -/
theorem lands (k' : Cert.RgsRefIdeal.S32x1024.Idx) (r : Fin 32) (j : Fin 1024) :
    (Cert.RgsRefIdeal.scatter_S32x1x1024_S1_S32x1024_01_1_1_0.resultIdx? k' fun _ => 0#32) = some (ix3 r 0 j) ↔ k' = ix2 r j := by
  rw [Routing.resultIdx?_eq_some]
  have w0 : Cert.RgsRefIdeal.scatter_S32x1x1024_S1_S32x1024_01_1_1_0.window k' 0 = (k' 0).val := rfl
  have w1 : Cert.RgsRefIdeal.scatter_S32x1x1024_S1_S32x1024_01_1_1_0.window k' 1 = 0 := rfl
  have w2 : Cert.RgsRefIdeal.scatter_S32x1x1024_S1_S32x1024_01_1_1_0.window k' 2 = (k' 1).val := rfl
  have s0 : (Cert.RgsRefIdeal.scatter_S32x1x1024_S1_S32x1024_01_1_1_0.start k' (fun _ => 0#32) 0 : Int) = 0 := rfl
  have s1 : (Cert.RgsRefIdeal.scatter_S32x1x1024_S1_S32x1024_01_1_1_0.start k' (fun _ => 0#32) 1 : Int) = 0 := rfl
  have s2 : (Cert.RgsRefIdeal.scatter_S32x1x1024_S1_S32x1024_01_1_1_0.start k' (fun _ => 0#32) 2 : Int) = 0 := rfl
  constructor
  · intro h
    have h0 := h 0
    have h2 := h 2
    rw [w0, s0] at h0
    rw [w2, s2] at h2
    funext a
    match a with
    | ⟨0, _⟩ => exact Fin.ext (by have : (k' 0).val = r.val := by simpa using h0
                                  exact this)
    | ⟨1, _⟩ => exact Fin.ext (by have : (k' 1).val = j.val := by simpa using h2
                                  exact this)
  · rintro rfl a
    match a with
    | ⟨0, _⟩ => exact (congrArg₂ (· + ·) s0 (congrArg Nat.cast w0)).trans (zero_add _)
    | ⟨1, _⟩ => exact (congrArg₂ (· + ·) s1 (congrArg Nat.cast w1)).trans (zero_add _)
    | ⟨2, _⟩ => exact (congrArg₂ (· + ·) s2 (congrArg Nat.cast w2)).trans (zero_add _)

/-- The scatter adds the decayed state to the one token's entry. -/
theorem ref_scatter (x : FVec Ideal Cert.RgsRefIdeal.S32x1x1024 .f32) (v : FVec Ideal Cert.RgsRefIdeal.S32x1024 .f32) (r : Fin 32) (j : Fin 1024) :
    Host.scatter Cert.RgsRefIdeal.scatter_S32x1x1024_S1_S32x1024_01_1_1_0 FloatOps.addf x (val_main_v76 (F := Ideal)) v (ix3 r 0 j)
      = x (ix3 r 0 j) + v (ix2 r j) := by
  have hz : val_main_v76 (F := Ideal) = fun _ => 0#32 := rfl
  rw [hz]
  exact Cert.Proof.scatter_once _ _ _ _ _ _ (ix2 r j) fun k' => lands k' r j

/-- The literal 2. -/
theorem ofBits_two : Ideal.ofBits .f32 0x40000000#32 = ((2 : ℝ) : EReal) := by
  simp [Ideal.ofBits, Ideal.ieee]
  norm_num
  rw [← EReal.coe_mul]
  norm_num

/-- On the reals, the hyperbolic tangent times one plus the squared exponential is the squared exponential less one. -/
theorem tanh_real (x : ℝ) : Real.tanh x * (Real.exp x * Real.exp x + 1) = Real.exp (2 * x) - 1 := by
  have h : Real.exp x * Real.exp (-x) = 1 := by rw [← Real.exp_add, add_neg_cancel, Real.exp_zero]
  have hp : Real.exp x + Real.exp (-x) ≠ 0 := (add_pos (Real.exp_pos x) (Real.exp_pos (-x))).ne'
  rw [Real.tanh_eq_sinh_div_cosh, Real.sinh_eq, Real.cosh_eq, two_mul, Real.exp_add]
  field_simp
  linear_combination (-2 : ℝ) * Real.exp x * h

/-- The kernel's one minus the squared decay, by the hyperbolic tangent, is the reference's. -/
theorem tanh_exp (x : EReal) : 0 - Ideal.tanh x * (Ideal.exp x * Ideal.exp x + 1)
    = -(Ideal.exp (Ideal.ofBits FTy.f32 1073741824#32 * x) - 1) := by
  rw [ofBits_two]
  induction x using EReal.rec with
  | bot =>
    rw [EReal.coe_mul_bot_of_pos (by norm_num)]
    show 0 - (-1 : EReal) * ((0 : EReal) * 0 + 1) = -((0 : EReal) - 1)
    simp
  | top =>
    rw [EReal.coe_mul_top_of_pos (by norm_num)]
    show 0 - (1 : EReal) * ((⊤ : EReal) * ⊤ + 1) = -((⊤ : EReal) - 1)
    rw [EReal.top_mul_top, one_mul]
    rfl
  | coe x =>
    show (0 : EReal) - ((Real.tanh x : ℝ) : EReal) * (((Real.exp x : ℝ) : EReal) * ((Real.exp x : ℝ) : EReal) + 1)
      = -(((Real.exp (2 * x) : ℝ) : EReal) - 1)
    have h : ((Real.tanh x : ℝ) : EReal) * (((Real.exp x : ℝ) : EReal) * ((Real.exp x : ℝ) : EReal) + 1)
        = ((Real.exp (2 * x) : ℝ) : EReal) - 1 := by
      have := congrArg ((↑) : ℝ → EReal) (tanh_real x)
      push_cast at this
      exact this
    rw [h, zero_sub]

/-- The new state at row `r` and column `j`: what the column takes in, and the decayed state. -/
def stateOf (r : Fin 32) (j : Fin 1024) : EReal :=
  intake (convOf z st cw cb r) (fun n k q => wa (ix3 n k q)) (fun n k q => wx (ix3 n k q)) (fun j => ba (ix1 j)) (fun j => bx (ix1 j))
      (fun j => soft (lam (ix1 j))) j
    + Ideal.exp (rate (convOf z st cw cb r) (fun n k q => wa (ix3 n k q)) (fun j => ba (ix1 j)) (fun j => soft (lam (ix1 j))) j) * h0 (ix2 r j)

/-- The reference's new state, before it is laid out. -/
theorem ref_new (r : Fin 32) (j : Fin 1024) :
    val_main_v77 (F := Ideal) z st h0 cw cb wa ba wx bx lam (ix3 r 0 j) = stateOf z st h0 cw cb ba bx lam wa wx r j := by
  unfold val_main_v77
  rw [ref_scatter]
  pointwise [val_main_v73, val_main_v75, val_main_v74, val_main_v72, val_main_v71, val_main_v70, val_main_v69, val_main_v68,
    val_main_v67, val_main_v66, val_main_v65, val_main_v64, val_main_v63, val_main_v60, val_main_v59, val_main_cst_3, val_main_cst_4]
  simp only [ref_gate_a, ref_gate_x, ref_soft, ref_conv, stateOf, intake, rate, tanh_exp]

/-- The reference's new state. -/
theorem ref_state (r : Fin 32) (j : Fin 1024) :
    val_main_v78 (F := Ideal) z st h0 cw cb wa ba wx bx lam (ix2 r j) = stateOf z st h0 cw cb ba bx lam wa wx r j := by
  pointwise [val_main_v78]
  exact ref_new z st h0 cw cb ba bx lam wa wx r j

/-- The tanh form of the gelu. -/
def gelu (x : EReal) : EReal :=
  x * (Ideal.ofBits .f32 0x3F000000#32 * (1 + Ideal.tanh (Ideal.ofBits .f32 0x3F4C422A#32 * (x + Ideal.ofBits .f32 0x3D372713#32 * (x * x * x)))))

/-- The reference's output: the gelu of the gate's column times the new state. -/
theorem ref_out (r : Fin 32) (j : Fin 1024) :
    val_main_v93 (F := Ideal) z st h0 cw cb wa ba wx bx lam (ix2 r j)
      = gelu (z (ix3 r 0 (⟨3072 + j.val, by omega⟩ : Fin 11264))) * stateOf z st h0 cw cb ba bx lam wa wx r j := by
  pointwise [val_main_v93, val_main_v92, val_main_v91, val_main_v90, val_main_v89, val_main_v88, val_main_v87, val_main_v86,
    val_main_v85, val_main_v84, val_main_v83, val_main_v82, val_main_v81, val_main_v80, val_main_v79, val_main_v0, val_main_cst_5,
    val_main_cst_6, val_main_cst_7, val_main_cst_8]
  simp only [ref_new]
  rfl

end Cert.RgsKernelIdeal.Value

end
-- ==== Proof.Rgs.Kernel.lean ====
/- The decode step's RG-LRU: what the kernel leaves in its two result arrays is the reference's output and its new state. -/
module

public import proofs.«01_k».proof.Proof.Rgs.Ref

@[expose] public section

set_option maxRecDepth 16384
noncomputable section

namespace Cert.RgsKernelIdeal.Value

open Cert.RgsKernelIdeal Cert.RgsKernelIdeal.Gen Idealize.ShloMosaic Idealize.ShloMosaic.TcCoe Idealize.SL.Sem
open Idealize.ShloMosaic.Pipeline (Dat)
open scoped BigOperators

section Body

variable (x0 x1 x2 x3 x4 x5 : Vec Ideal S32x1024 .f32) (x6 : Vec Ideal S4x1024 .f32) (x7 : Vec Ideal S1x1024 .f32)
  (x8 : Vec Ideal S8x128x256 .bf16) (x9 x10 x11 : Vec Ideal S1x1024 .f32)

/-- A whole block is what is loaded. -/
theorem ld_rows (x : Vec Ideal S32x1024 .f32) : View.ld x r0_1 = x := by
  funext i
  refine congrArg x (funext fun a => Fin.ext ?_)
  match a with
  | ⟨0, _⟩ => show 0 + 1 * (i 0).val = (i 0).val; omega
  | ⟨1, _⟩ => show 0 + 1 * (i 1).val = (i 1).val; omega

/-- The same of a block of one row. -/
theorem ld_row (x : Vec Ideal S1x1024 .f32) : View.ld x r0_2 = x := by
  funext i
  refine congrArg x (funext fun a => Fin.ext ?_)
  match a with
  | ⟨0, _⟩ => show 0 + 1 * (i 0).val = (i 0).val; omega
  | ⟨1, _⟩ => show 0 + 1 * (i 1).val = (i 1).val; omega

/-- The same of the convolution's weights. -/
theorem ld_conv (x : Vec Ideal S4x1024 .f32) : View.ld x r0_0 = x := by
  funext i
  refine congrArg x (funext fun a => Fin.ext ?_)
  match a with
  | ⟨0, _⟩ => show 0 + 1 * (i 0).val = (i 0).val; omega
  | ⟨1, _⟩ => show 0 + 1 * (i 1).val = (i 1).val; omega

/-- A whole block that is stored is what the block ends as. -/
theorem stored (x : Vec Ideal S32x1024 .f32) (r : Fin 32) (j : Fin 1024) :
    View.canon (Val := Elt Ideal) (s := S32x1024) (e := .f32) [⟨r0_1, x⟩] (ix2 r j) = x (ix2 r j) := by
  have h : r0_1.emb (ix2 r j) = ix2 r j := by
    funext a
    refine Fin.ext ?_
    match a with
    | ⟨0, _⟩ => show 0 + 1 * r.val = r.val; omega
    | ⟨1, _⟩ => show 0 + 1 * j.val = j.val; omega
  have e := View.canon_cons_emb (Val := Elt Ideal) (s := S32x1024) (e := .f32) r0_1 x [] (ix2 r j)
  rw [h] at e
  exact e

/-- A row of the kernel's convolution. -/
theorem conv_at (r : Fin 32) (j : Fin 1024) : k0_pay4 (F := Ideal) x6 x1 x7 x2 x3 x4 (ix2 r j)
    = conv (x2 (ix2 r j)) (x3 (ix2 r j)) (x4 (ix2 r j)) (x1 (ix2 r j)) (x6 (ix2 0 j)) (x6 (ix2 1 j)) (x6 (ix2 2 j)) (x6 (ix2 3 j)) (x7 (ix2 0 j)) := by
  pointwise [k0_pay4]
  rfl

/-- The kernel's softplus. -/
theorem soft_at (j : Fin 1024) : k0_pay10 (F := Ideal) (k0_pay8 (F := Ideal) x11) (k0_pay9 (F := Ideal) x11) (ix2 0 j) = soft (x11 (ix2 0 j)) := by
  pointwise [k0_pay10, k0_pay9, k0_pay8, k0_pay7]
  simp only [zero_sub]
  rfl

/-- The gate biases are taken as they are. -/
theorem bias5 (j : Fin 1024) : k0_pay5 (F := Ideal) x9 (ix2 0 j) = x9 (ix2 0 j) := by
  pointwise [k0_pay5]

/-- The same of the other gate's. -/
theorem bias6 (j : Fin 1024) : k0_pay6 (F := Ideal) x9 (ix2 0 j) = x9 (ix2 0 j) := by
  pointwise [k0_pay6]

/-- The eight blocks side by side, where each agrees with one function of the columns. -/
theorem cat (A0 A1 A2 A3 A4 A5 A6 A7 : FVec Ideal S32x128 .f32) (u h : FVec Ideal S32x1024 .f32) (r : Fin 32) (f : Fin 1024 → EReal)
    (e0 : ∀ (q : Fin 128) (j : Fin 1024), j.val = 0 + q.val → A0 (ix2 r q) = f j)
    (e1 : ∀ (q : Fin 128) (j : Fin 1024), j.val = 128 + q.val → A1 (ix2 r q) = f j)
    (e2 : ∀ (q : Fin 128) (j : Fin 1024), j.val = 256 + q.val → A2 (ix2 r q) = f j)
    (e3 : ∀ (q : Fin 128) (j : Fin 1024), j.val = 384 + q.val → A3 (ix2 r q) = f j)
    (e4 : ∀ (q : Fin 128) (j : Fin 1024), j.val = 512 + q.val → A4 (ix2 r q) = f j)
    (e5 : ∀ (q : Fin 128) (j : Fin 1024), j.val = 640 + q.val → A5 (ix2 r q) = f j)
    (e6 : ∀ (q : Fin 128) (j : Fin 1024), j.val = 768 + q.val → A6 (ix2 r q) = f j)
    (e7 : ∀ (q : Fin 128) (j : Fin 1024), j.val = 896 + q.val → A7 (ix2 r q) = f j) (j : Fin 1024) :
    k0_pay2 (F := Ideal) A0 A1 A2 A3 A4 A5 A6 A7 u h (ix2 r j) = u (ix2 r j) + f j * h (ix2 r j) := by
  pointwise [k0_pay2]
  congr 2
  split_ifs
  all_goals first
    | exact e0 _ _ (by dsimp only; omega) | exact e1 _ _ (by dsimp only; omega) | exact e2 _ _ (by dsimp only; omega)
    | exact e3 _ _ (by dsimp only; omega) | exact e4 _ _ (by dsimp only; omega) | exact e5 _ _ (by dsimp only; omega)
    | exact e6 _ _ (by dsimp only; omega) | exact e7 _ _ (by dsimp only; omega)

/-- What the eight blocks take in, side by side; the last block's comes from its parts. -/
theorem cat_in (A0 A1 A2 A3 A4 A5 A6 a b c d : FVec Ideal S32x128 .f32) (r : Fin 32) (f : Fin 1024 → EReal)
    (e0 : ∀ (q : Fin 128) (j : Fin 1024), j.val = 0 + q.val → A0 (ix2 r q) = f j)
    (e1 : ∀ (q : Fin 128) (j : Fin 1024), j.val = 128 + q.val → A1 (ix2 r q) = f j)
    (e2 : ∀ (q : Fin 128) (j : Fin 1024), j.val = 256 + q.val → A2 (ix2 r q) = f j)
    (e3 : ∀ (q : Fin 128) (j : Fin 1024), j.val = 384 + q.val → A3 (ix2 r q) = f j)
    (e4 : ∀ (q : Fin 128) (j : Fin 1024), j.val = 512 + q.val → A4 (ix2 r q) = f j)
    (e5 : ∀ (q : Fin 128) (j : Fin 1024), j.val = 640 + q.val → A5 (ix2 r q) = f j)
    (e6 : ∀ (q : Fin 128) (j : Fin 1024), j.val = 768 + q.val → A6 (ix2 r q) = f j)
    (e7 : ∀ (q : Fin 128) (j : Fin 1024), j.val = 896 + q.val →
      Ideal.sqrt (0 - c (ix2 r q) * (d (ix2 r q) + 1)) * (b (ix2 r q) * a (ix2 r q)) = f j) (j : Fin 1024) :
    k0_pay1 (F := Ideal) A0 A1 A2 A3 A4 A5 A6 a b c d (ix2 r j) = f j := by
  pointwise [k0_pay1]
  split_ifs
  all_goals first
    | exact e0 _ _ (by dsimp only; omega) | exact e1 _ _ (by dsimp only; omega) | exact e2 _ _ (by dsimp only; omega)
    | exact e3 _ _ (by dsimp only; omega) | exact e4 _ _ (by dsimp only; omega) | exact e5 _ _ (by dsimp only; omega)
    | exact e6 _ _ (by dsimp only; omega) | exact e7 _ _ (by dsimp only; omega)

/-- What the last block takes in, from its parts. -/
theorem intake7 (x : FVec Ideal S32x1024 .f32) (ba bx s : FVec Ideal S1x1024 .f32) (w : Vec Ideal S8x128x256 .bf16)
    (r : Fin 32) (q : Fin 128) (j : Fin 1024) (hj : j.val = 896 + q.val) :
    Ideal.sqrt (0 - k0_pay57 (F := Ideal) x ba s (View.ld w r0_10) (ix2 r q) * (k0_pay58 (F := Ideal) x ba s (View.ld w r0_10) (ix2 r q) + 1))
        * (k0_pay54 (F := Ideal) x bx (View.ld w r0_10) (ix2 r q) * k0_pay52 (F := Ideal) x (ix2 r q))
      = intakeOf x ba bx s w r j := by
  have e1 : ∀ k : Fin 128, (⟨j.val / 128 * 128 + k.val, by omega⟩ : Fin 1024) = ⟨896 + k.val, by omega⟩ := fun k => Fin.ext (by dsimp only; omega)
  have e2 : (⟨j.val / 128, by omega⟩ : Fin 8) = 7 := Fin.ext (by show j.val / 128 = 7; omega)
  have e3 : j.val % 128 = q.val := by omega
  have e4 : j = ⟨896 + q.val, by omega⟩ := Fin.ext (by dsimp only; omega)
  pointwise [k0_pay58, k0_pay57, k0_pay56, k0_pay55, k0_pay54, k0_pay53, k0_pay52]
  simp only [intakeOf, intake, rate, dot, left, right, e1, e2, e3]
  simp only [← e4]

/-- The kernel's new state from its input blocks. -/
theorem body_state (r : Fin 32) (j : Fin 1024) : k0_pay68 (F := Ideal) x0 x1 x2 x3 x4 x5 x6 x7 x8 x9 x10 x11 (ix2 r j)
    = intakeOf (k0_pay4 (F := Ideal) x6 x1 x7 x2 x3 x4) (k0_pay5 (F := Ideal) x9) (k0_pay6 (F := Ideal) x10)
        (k0_pay10 (F := Ideal) (k0_pay8 (F := Ideal) x11) (k0_pay9 (F := Ideal) x11)) x8 r j
      + decayOf (k0_pay4 (F := Ideal) x6 x1 x7 x2 x3 x4) (k0_pay5 (F := Ideal) x9)
        (k0_pay10 (F := Ideal) (k0_pay8 (F := Ideal) x11) (k0_pay9 (F := Ideal) x11)) x8 r j * x5 (ix2 r j) := by
  simp only [k0_pay68, k0_pay67, k0_pay66, k0_pay65, k0_pay64, k0_pay63, k0_pay62, k0_pay61, k0_pay60, k0_pay59, ld_rows, ld_row, ld_conv]
  generalize k0_pay4 (F := Ideal) x6 x1 x7 x2 x3 x4 = x
  generalize k0_pay5 (F := Ideal) x9 = ba
  generalize k0_pay6 (F := Ideal) x10 = bx
  generalize k0_pay8 (F := Ideal) x11 = u
  generalize k0_pay9 (F := Ideal) x11 = v
  refine (cat _ _ _ _ _ _ _ _ _ _ r (fun j => decayOf x ba (k0_pay10 (F := Ideal) u v) x8 r j) (decay0 x ba x8 u v r)
    (decay1 x ba _ x8 r) (decay2 x ba _ x8 r) (decay3 x ba _ x8 r) (decay4 x ba _ x8 r) (decay5 x ba _ x8 r) (decay6 x ba _ x8 r)
    (decay7 x ba _ x8 r) j).trans ?_
  refine congrArg (· + _) ?_
  exact cat_in _ _ _ _ _ _ _ _ _ _ _ r (fun j => intakeOf x ba bx (k0_pay10 (F := Ideal) u v) x8 r j) (intake0 x ba bx x8 u v r)
    (intake1 x ba bx _ x8 r) (intake2 x ba bx _ x8 r) (intake3 x ba bx _ x8 r) (intake4 x ba bx _ x8 r) (intake5 x ba bx _ x8 r)
    (intake6 x ba bx _ x8 r) (intake7 x ba bx _ x8 r) j

/-- The kernel's output from the gate's block and the new state. -/
theorem out_at (u : FVec Ideal S32x1024 .f32) (r : Fin 32) (j : Fin 1024) :
    k0_pay3 (F := Ideal) u x0 (ix2 r j) = gelu (x0 (ix2 r j)) * u (ix2 r j) := by
  pointwise [k0_pay3]
  rfl

end Body

/-- The windows' block indices at the one point: the gate's columns are block 3 of the projection's, the convolved ones block 4. -/
theorem idx : ∀ t : Fin cfg0.N, (win0_0.index t = ![0, 3] ∧ win0_1.index t = ![0, 4])
    ∧ (win0_2.index t = ![0, 0] ∧ win0_3.index t = ![0, 0] ∧ win0_4.index t = ![0, 0] ∧ win0_5.index t = ![0, 0])
    ∧ (win0_6.index t = ![0, 0] ∧ win0_7.index t = ![0, 0] ∧ win0_8.index t = ![0, 0, 0])
    ∧ (win0_9.index t = ![0, 0] ∧ win0_10.index t = ![0, 0] ∧ win0_11.index t = ![0, 0])
    ∧ win0_12.index t = ![0, 0] ∧ win0_13.index t = ![0, 0] :=
  (by decide +kernel : ∀ t : Fin grid0.N, _)

variable (m : (ℓ : Loc nD τ sig) → Buf (Elt Ideal) ℓ) (c : Dev nD)

section Reads

variable (t : Fin cfg0.N)

/-- The gate's columns of the projection's result. -/
theorem read0 (r : Fin 32) (k : Fin 1024) : iblk m c 0 t (ix2 r k) = m ((c : Thread nD τ).loc main_arg0) (ix3 r 0 (⟨3072 + k.val, by omega⟩ : Fin 11264)) := by
  have h : (V m c main_v0) (ix2 r (⟨3072 + k.val, by omega⟩ : Fin 11264)) = m ((c : Thread nD τ).loc main_arg0) (ix3 r 0 (⟨3072 + k.val, by omega⟩ : Fin 11264)) := by
    entry_read; pointwise; blk_ext
  rw [← h]
  show V m c main_v0 _ = V m c main_v0 _
  obtain ⟨⟨e, -⟩, -⟩ := idx t
  blk_ext [e]

/-- The convolved columns of the projection's result. -/
theorem read1 (r : Fin 32) (k : Fin 1024) : iblk m c 1 t (ix2 r k) = m ((c : Thread nD τ).loc main_arg0) (ix3 r 0 (⟨4096 + k.val, by omega⟩ : Fin 11264)) := by
  have h : (V m c main_v0) (ix2 r (⟨4096 + k.val, by omega⟩ : Fin 11264)) = m ((c : Thread nD τ).loc main_arg0) (ix3 r 0 (⟨4096 + k.val, by omega⟩ : Fin 11264)) := by
    entry_read; pointwise; blk_ext
  rw [← h]
  show V m c main_v0 _ = V m c main_v0 _
  obtain ⟨⟨-, e⟩, -⟩ := idx t
  blk_ext [e]

/-- The first carried row of the convolution. -/
theorem read2 (r : Fin 32) (k : Fin 1024) : iblk m c 2 t (ix2 r k) = m ((c : Thread nD τ).loc main_arg1) (ix3 r 0 k) := by
  have h : (V m c main_v8) (ix2 r k) = m ((c : Thread nD τ).loc main_arg1) (ix3 r 0 k) := by
    entry_read; pointwise; blk_ext
  rw [← h]
  show V m c main_v8 _ = V m c main_v8 _
  obtain ⟨-, ⟨e, -⟩, -⟩ := idx t
  blk_ext [e]

/-- The second carried row of the convolution. -/
theorem read3 (r : Fin 32) (k : Fin 1024) : iblk m c 3 t (ix2 r k) = m ((c : Thread nD τ).loc main_arg1) (ix3 r 1 k) := by
  have h : (V m c main_v10) (ix2 r k) = m ((c : Thread nD τ).loc main_arg1) (ix3 r 1 k) := by
    entry_read; pointwise; blk_ext
  rw [← h]
  show V m c main_v10 _ = V m c main_v10 _
  obtain ⟨-, ⟨-, e, -⟩, -⟩ := idx t
  blk_ext [e]

/-- The third carried row of the convolution. -/
theorem read4 (r : Fin 32) (k : Fin 1024) : iblk m c 4 t (ix2 r k) = m ((c : Thread nD τ).loc main_arg1) (ix3 r 2 k) := by
  have h : (V m c main_v12) (ix2 r k) = m ((c : Thread nD τ).loc main_arg1) (ix3 r 2 k) := by
    entry_read; pointwise; blk_ext
  rw [← h]
  show V m c main_v12 _ = V m c main_v12 _
  obtain ⟨-, ⟨-, -, e, -⟩, -⟩ := idx t
  blk_ext [e]

/-- The carried state. -/
theorem read5 (r : Fin 32) (k : Fin 1024) : iblk m c 5 t (ix2 r k) = m ((c : Thread nD τ).loc main_arg2) (ix2 r k) := by
  rw [← V_main_arg2 m c]
  show V m c main_arg2 _ = V m c main_arg2 _
  obtain ⟨-, ⟨-, -, -, e⟩, -⟩ := idx t
  blk_ext [e]

/-- The convolution's weights. -/
theorem read6 (r : Fin 4) (k : Fin 1024) : iblk m c 6 t (ix2 r k) = m ((c : Thread nD τ).loc main_arg3) (ix2 r k) := by
  rw [← V_main_arg3 m c]
  show V m c main_arg3 _ = V m c main_arg3 _
  obtain ⟨-, -, ⟨e, -⟩, -⟩ := idx t
  blk_ext [e]

/-- The convolution's bias. -/
theorem read7 (k : Fin 1024) : iblk m c 7 t (ix2 0 k) = m ((c : Thread nD τ).loc main_arg4) (ix1 k) := by
  have h : (V m c main_v1) (ix2 0 k) = m ((c : Thread nD τ).loc main_arg4) (ix1 k) := by
    entry_read; pointwise
  rw [← h]
  show V m c main_v1 _ = V m c main_v1 _
  obtain ⟨-, -, ⟨-, e, -⟩, -⟩ := idx t
  blk_ext [e]

/-- The recurrence gate's bias. -/
theorem read9 (k : Fin 1024) : iblk m c 9 t (ix2 0 k) = m ((c : Thread nD τ).loc main_arg6) (ix1 k) := by
  have h : (V m c main_v4) (ix2 0 k) = m ((c : Thread nD τ).loc main_arg6) (ix1 k) := by
    entry_read; pointwise
  rw [← h]
  show V m c main_v4 _ = V m c main_v4 _
  obtain ⟨-, -, -, ⟨e, -⟩, -⟩ := idx t
  blk_ext [e]

/-- The input gate's bias. -/
theorem read10 (k : Fin 1024) : iblk m c 10 t (ix2 0 k) = m ((c : Thread nD τ).loc main_arg8) (ix1 k) := by
  have h : (V m c main_v5) (ix2 0 k) = m ((c : Thread nD τ).loc main_arg8) (ix1 k) := by
    entry_read; pointwise
  rw [← h]
  show V m c main_v5 _ = V m c main_v5 _
  obtain ⟨-, -, -, ⟨-, e, -⟩, -⟩ := idx t
  blk_ext [e]

/-- The decay's parameter. -/
theorem read11 (k : Fin 1024) : iblk m c 11 t (ix2 0 k) = m ((c : Thread nD τ).loc main_arg9) (ix1 k) := by
  have h : (V m c main_v6) (ix2 0 k) = m ((c : Thread nD τ).loc main_arg9) (ix1 k) := by
    entry_read; pointwise
  rw [← h]
  show V m c main_v6 _ = V m c main_v6 _
  obtain ⟨-, -, -, ⟨-, -, e⟩, -⟩ := idx t
  blk_ext [e]

/-- The recurrence gate's matrices are the left halves of the joined ones. -/
theorem read8a (n : Fin 8) (k q : Fin 128) :
    iblk m c 8 t (ix3 n k (⟨q.val, by omega⟩ : Fin 256)) = m ((c : Thread nD τ).loc main_arg5) (ix3 n k q) := by
  have h : (V m c main_v3) (ix3 n k (⟨q.val, by omega⟩ : Fin 256)) = m ((c : Thread nD τ).loc main_arg5) (ix3 n k q) := by
    entry_read; pointwise
  rw [← h]
  show V m c main_v3 _ = V m c main_v3 _
  obtain ⟨-, -, ⟨-, -, e⟩, -⟩ := idx t
  blk_ext [e]

/-- The input gate's matrices are the right halves. -/
theorem read8x (n : Fin 8) (k q : Fin 128) :
    iblk m c 8 t (ix3 n k (⟨128 + q.val, by omega⟩ : Fin 256)) = m ((c : Thread nD τ).loc main_arg7) (ix3 n k q) := by
  have h : (V m c main_v3) (ix3 n k (⟨128 + q.val, by omega⟩ : Fin 256)) = m ((c : Thread nD τ).loc main_arg7) (ix3 n k q) := by
    entry_read; pointwise
  rw [← h]
  show V m c main_v3 _ = V m c main_v3 _
  obtain ⟨-, -, ⟨-, -, e⟩, -⟩ := idx t
  blk_ext [e]

end Reads

/-- The state the kernel computes is the specification's. -/
theorem state_at (t : Fin cfg0.N) (r : Fin 32) (j : Fin 1024) : k0_pay68 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r j)
    = stateOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg8)) (m ((c : Thread nD τ).loc main_arg9)) (m ((c : Thread nD τ).loc main_arg5)) (m ((c : Thread nD τ).loc main_arg7)) r j := by
  rw [body_state]
  have hx : (fun j => k0_pay4 (F := Ideal) (iblk m c 6 t) (iblk m c 1 t) (iblk m c 7 t) (iblk m c 2 t) (iblk m c 3 t) (iblk m c 4 t) (ix2 r j))
      = convOf (m ((c : Thread nD τ).loc main_arg0)) (m ((c : Thread nD τ).loc main_arg1)) (m ((c : Thread nD τ).loc main_arg3))
        (m ((c : Thread nD τ).loc main_arg4)) r := by
    funext j
    rw [conv_at]
    simp only [read1, read2, read3, read4, read6, read7]
    rfl
  have hl : left (iblk m c 8 t) = fun n k q => m ((c : Thread nD τ).loc main_arg5) (ix3 n k q) := by
    funext n k q
    exact read8a m c t n k q
  have hr : right (iblk m c 8 t) = fun n k q => m ((c : Thread nD τ).loc main_arg7) (ix3 n k q) := by
    funext n k q
    exact read8x m c t n k q
  simp only [intakeOf, decayOf, hx, hl, hr, bias5, bias6, soft_at, read5, read9, read10, read11]
  rfl

/-- The kernel's output array is the reference's output. -/
theorem final12 : (dats m 0 c).arrAt 12 (cfgs 0).N
    = Cert.RgsRefIdeal.Read.val_main_v93 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (dats m 0 c).arrAt_eq_of_covers 12 _ (by decide +kernel) fun t hf y => ?_
  blk_simp; rw [after0_12]
  obtain ⟨-, -, -, -, e, -⟩ := idx t
  idx_vars y
  have hy : ((View.whole main_v13_0).slice (win0_12.rect t)).emb (ix2 y0 y1) = ix2 y0 y1 := by
    blk_ext [e]
  rw [hy, ref_out]
  refine (stored _ y0 y1).trans ?_
  rw [ld_rows, out_at, state_at m c t, read0]

/-- The kernel's second array is the reference's new state. -/
theorem final13 : (dats m 0 c).arrAt 13 (cfgs 0).N
    = Cert.RgsRefIdeal.Read.val_main_v78 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (dats m 0 c).arrAt_eq_of_covers 13 _ (by decide +kernel) fun t hf y => ?_
  blk_simp; rw [after0_13]
  obtain ⟨-, -, -, -, -, e⟩ := idx t
  idx_vars y
  have hy : ((View.whole main_v13_1).slice (win0_13.rect t)).emb (ix2 y0 y1) = ix2 y0 y1 := by
    blk_ext [e]
  rw [hy, ref_state]
  exact (stored _ y0 y1).trans (state_at m c t y0 y1)

end Cert.RgsKernelIdeal.Value

end
-- ==== Proof.Rgs.Claims.lean ====
/- The claims about the RG-LRU of the decode step: the kernel, its idealization and the reference run and leave their arguments
   as they were; the idealization changes nothing; kernel and reference end with the same two arrays over the extended reals. -/
module

public import proofs.«01_k».proof.Defs
public import proofs.«01_k».proof.Proof.Gen.RgsKernel.Frame
public import proofs.«01_k».proof.Proof.Gen.RgsKernelIdeal.Frame
public import proofs.«01_k».proof.Proof.Gen.RgsKernelIdeal.Value
public import proofs.«01_k».proof.Proof.Gen.RgsRefIdeal.Run
public import proofs.«01_k».proof.Proof.Gen.RgsRefIdeal.Read
public import proofs.«01_k».proof.Proof.Rgs.Kernel

@[expose] public section

noncomputable section

namespace Cert.Proof.Rgs

open Idealize.ShloMosaic Idealize.SL.Sem

/-- The kernel terminates without fault, its arguments and semaphores end as they began. -/
theorem frame_kernel : Cert.quiescent_RgsKernel (hRgsKernel := Cert.RgsKernel.Gen.facts) :=
  fun m ρ _ => Cert.RgsKernel.Gen.frame m ρ

/-- The same of the idealized kernel. -/
theorem frame_ideal : Cert.quiescent_RgsKernelIdeal (hRgsKernelIdeal := Cert.RgsKernelIdeal.Gen.facts) :=
  fun m ρ _ => Cert.RgsKernelIdeal.Gen.frame m ρ

/-- The same of the reference, which declares no semaphore. -/
theorem frame_ref : Cert.quiescent_RgsRefIdeal (hRgsRefIdeal := Cert.RgsRefIdeal.Gen.facts) :=
  fun m ρ _ => (θ_run _ _ _).mono (fun r h => ⟨fun c => (h c).2.2, sem_eq_zero_of_no_sems (by decide) r.2⟩)
    (Cert.RgsRefIdeal.Value.run m ρ)

/-- The idealization names no literal and replaces no operation. -/
theorem preserves : Cert.preserves_RgsKernel_RgsKernelIdeal := trivial

/-- From equal arguments, the idealized kernel and the reference end with the same output and the same new state. -/
theorem algebraic : Cert.algebraic_RgsKernelIdeal_RgsRefIdeal (hRgsKernelIdeal := Cert.RgsKernelIdeal.Gen.facts)
    (hRgsRefIdeal := Cert.RgsRefIdeal.Gen.facts) := by
  intro m g m' g' _ hag
  refine ⟨fun c => Cert.RgsRefIdeal.Read.val_main_v93 (F := Ideal) (m (c.tc.loc Cert.RgsKernelIdeal.main_arg0)) (m (c.tc.loc Cert.RgsKernelIdeal.main_arg1))
      (m (c.tc.loc Cert.RgsKernelIdeal.main_arg2)) (m (c.tc.loc Cert.RgsKernelIdeal.main_arg3))
      (m (c.tc.loc Cert.RgsKernelIdeal.main_arg4)) (m (c.tc.loc Cert.RgsKernelIdeal.main_arg5))
      (m (c.tc.loc Cert.RgsKernelIdeal.main_arg6)) (m (c.tc.loc Cert.RgsKernelIdeal.main_arg7))
      (m (c.tc.loc Cert.RgsKernelIdeal.main_arg8)) (m (c.tc.loc Cert.RgsKernelIdeal.main_arg9)),
    fun c => Cert.RgsRefIdeal.Read.val_main_v78 (F := Ideal) (m (c.tc.loc Cert.RgsKernelIdeal.main_arg0)) (m (c.tc.loc Cert.RgsKernelIdeal.main_arg1))
      (m (c.tc.loc Cert.RgsKernelIdeal.main_arg2)) (m (c.tc.loc Cert.RgsKernelIdeal.main_arg3))
      (m (c.tc.loc Cert.RgsKernelIdeal.main_arg4)) (m (c.tc.loc Cert.RgsKernelIdeal.main_arg5))
      (m (c.tc.loc Cert.RgsKernelIdeal.main_arg6)) (m (c.tc.loc Cert.RgsKernelIdeal.main_arg7))
      (m (c.tc.loc Cert.RgsKernelIdeal.main_arg8)) (m (c.tc.loc Cert.RgsKernelIdeal.main_arg9)),
    (θ_run _ _ _).mono (fun r h c => ⟨(h c).1.trans (Cert.RgsKernelIdeal.Value.final12 m c),
      (h c).2.1.trans (Cert.RgsKernelIdeal.Value.final13 m c), (h c).2.2⟩) (Cert.RgsKernelIdeal.Value.run_blocks m g),
    (θ_run _ _ _).mono (fun r h c => ⟨(h c).1.trans ?_, (h c).2.1.trans ?_, (h c).2.2⟩) (Cert.RgsRefIdeal.Value.run m' g')⟩
  · obtain ⟨h0, h1, h2, h3, h4, h5, h6, h7, h8, h9⟩ := hag c
    rw [Cert.RgsRefIdeal.Read.val_main_v93_eq, h0, h1, h2, h3, h4, h5, h6, h7, h8, h9]
  · obtain ⟨h0, h1, h2, h3, h4, h5, h6, h7, h8, h9⟩ := hag c
    rw [Cert.RgsRefIdeal.Read.val_main_v78_eq, h0, h1, h2, h3, h4, h5, h6, h7, h8, h9]

end Cert.Proof.Rgs

end
-- ==== Proof.Glas.Ref.lean ====
/- The reference of the decode step's gated linear attention, read at an entry. -/
module

public import proofs.«01_k».proof.Proof.Gen.GlasRefIdeal.Read
public import proofs.«01_k».proof.Proof.Gen.GlasKernelIdeal.Value
public import Idealize.ShloMosaic.Lib.Pipeline.ValueKit
public import Idealize.ShloMosaic.Lib.Pipeline.ReadBack

@[expose] public section

set_option maxRecDepth 16384
noncomputable section

namespace Cert.GlasKernelIdeal.Value

open Idealize.ShloMosaic Idealize.ShloMosaic.TcCoe Idealize.SL.Sem
open Cert.GlasRefIdeal.Read
open scoped BigOperators

/-- The logarithm of the sigmoid. -/
def logSig (x : EReal) : EReal := min x 0 - Ideal.log1p (Ideal.exp (0 - FloatOps.absf (F := Ideal) (φ := .f32) x))

/-- The logarithm of the forget gate: a sixteenth of the log-sigmoid. -/
def gate (x : EReal) : EReal := logSig x * Ideal.ofBits .f32 0x3D800000#32

/-- The reference's log-sigmoid, by the logarithm of a sum of exponentials. -/
def logSigRef (x : EReal) : EReal :=
  -(max (-x) 0 + Ideal.log1p (Ideal.exp (-FloatOps.absf (F := Ideal) (φ := .f32) (-x))))

/-- The literal 16. -/
theorem ofBits_sixteen : Ideal.ofBits .f32 0x41800000#32 = ((16 : ℝ) : EReal) := by
  simp [Ideal.ofBits, Ideal.ieee]
  norm_num
  rw [← EReal.coe_mul]
  norm_num

/-- The literal a sixteenth. -/
theorem ofBits_sixteenth : Ideal.ofBits .f32 0x3D800000#32 = (((1 : ℝ) / 16 : ℝ) : EReal) := by
  simp [Ideal.ofBits, Ideal.ieee]
  norm_num
  rw [← EReal.coe_mul]
  norm_num

/-- The larger of two real numbers. -/
theorem coe_max (x y : ℝ) : ((max x y : ℝ) : EReal) = max (x : EReal) (y : EReal) := EReal.coe_strictMono.monotone.map_max

/-- The smaller of two real numbers. -/
theorem coe_min (x y : ℝ) : ((min x y : ℝ) : EReal) = min (x : EReal) (y : EReal) := EReal.coe_strictMono.monotone.map_min

/-- A window of one element has no other position. -/
theorem one_pos (k n : Nat) (h : n < 1) : k * 1 + n = k := by omega

/-- A choice whose condition holds, however it is decided. -/
theorem dite_of {p : Prop} (d : Decidable p) (h : p) (f : p → EReal) (g : ¬p → EReal) : @dite EReal p d f g = f h := dif_pos h

/-- The absolute value of a real number. -/
theorem abs_coe (x : ℝ) : FloatOps.absf (F := Ideal) (φ := .f32) (x : EReal) = ((|x| : ℝ) : EReal) := by
  show max (x : EReal) (-(x : EReal)) = _
  rw [← EReal.coe_neg, ← coe_max]
  rfl

/-- The logarithm of one plus an exponential of a real number. -/
theorem log1p_exp (x : ℝ) : Ideal.log1p (Ideal.exp (x : EReal)) = ((Real.log (1 + Real.exp x) : ℝ) : EReal) := by
  show Ideal.log (((1 : ℝ) : EReal) + ((Real.exp x : ℝ) : EReal)) = _
  rw [← EReal.coe_add, Ideal.log_coe, if_neg (not_le.mpr (by positivity))]

/-- The log-sigmoid of a real number is a real number. -/
theorem logSig_coe (x : ℝ) : logSig (x : EReal) = ((min x 0 - Real.log (1 + Real.exp (-|x|)) : ℝ) : EReal) := by
  unfold logSig
  rw [abs_coe, zero_sub, ← EReal.coe_neg, log1p_exp, EReal.coe_sub, coe_min]
  rfl

/-- The reference's log-sigmoid of a real number is the same one. -/
theorem logSigRef_coe (x : ℝ) : logSigRef (x : EReal) = ((min x 0 - Real.log (1 + Real.exp (-|x|)) : ℝ) : EReal) := by
  unfold logSigRef
  rw [← EReal.coe_neg, abs_coe, ← EReal.coe_neg, log1p_exp, abs_neg, ← EReal.coe_zero, ← coe_max, ← EReal.coe_add, ← EReal.coe_neg]
  congr 1
  rcases le_total x 0 with h | h
  · rw [min_eq_left h, max_eq_left (by linarith)]; ring
  · rw [min_eq_right h, max_eq_right (by linarith)]; ring

/-- Where its argument is not minus infinity, the log gate is a real number. -/
theorem gate_real (x : EReal) (h : x ≠ ⊥) : ∃ r : ℝ, gate x = (r : EReal) := by
  unfold gate
  rw [ofBits_sixteenth]
  induction x using EReal.rec with
  | bot => exact absurd rfl h
  | top =>
    refine ⟨0, ?_⟩
    have e : logSig ⊤ = 0 := by
      show min (⊤ : EReal) 0 - Ideal.log1p (Ideal.exp (0 - max (⊤ : EReal) (-⊤))) = 0
      have h1 : (0 : EReal) - max (⊤ : EReal) (-⊤) = ⊥ := by simp
      rw [h1]
      show min (⊤ : EReal) 0 - Ideal.log (((1 : ℝ) : EReal) + ((0 : ℝ) : EReal)) = 0
      rw [← EReal.coe_add, Ideal.log_coe, if_neg (by norm_num)]
      simp
    rw [e, zero_mul]
    rfl
  | coe x => exact ⟨_, by rw [logSig_coe, ← EReal.coe_mul]⟩

/-- Where its argument is not minus infinity, the reference's log gate is the kernel's. -/
theorem gate_ref (x : EReal) (h : x ≠ ⊥) : Ideal.div (logSigRef x) (Ideal.ofBits .f32 0x41800000#32) = gate x := by
  unfold gate Ideal.div
  rw [ofBits_sixteenth, ofBits_sixteen, if_neg (by rw [← EReal.coe_zero, EReal.coe_eq_coe_iff]; norm_num)]
  have e16 : ((16 : ℝ) : EReal)⁻¹ = (((1 : ℝ) / 16 : ℝ) : EReal) := by
    rw [← EReal.coe_inv, one_div]
  rw [e16]
  refine congrArg (· * _) ?_
  induction x using EReal.rec with
  | bot => exact absurd rfl h
  | top =>
    show -(max (-⊤ : EReal) 0 + Ideal.log1p (Ideal.exp (-(max (-⊤ : EReal) (- -⊤)))))
      = min (⊤ : EReal) 0 - Ideal.log1p (Ideal.exp (0 - max (⊤ : EReal) (-⊤)))
    have h1 : (0 : EReal) - max (⊤ : EReal) (-⊤) = ⊥ := by simp
    have h2 : -(max (-⊤ : EReal) (- -⊤)) = ⊥ := by simp
    rw [h1, h2]
    have h3 : Ideal.log1p (Ideal.exp ⊥) = 0 := by
      show Ideal.log (((1 : ℝ) : EReal) + ((0 : ℝ) : EReal)) = 0
      rw [← EReal.coe_add, Ideal.log_coe, if_neg (by norm_num)]
      simp
    rw [h3]
    simp
  | coe x => rw [logSig_coe, logSigRef_coe]

/-- A real number's exponential of its difference with itself is one. -/
theorem exp_sub_self (x : EReal) (h : ∃ r : ℝ, x = (r : EReal)) : Ideal.exp (x - x) = 1 := by
  obtain ⟨r, rfl⟩ := h
  rw [← EReal.coe_sub, sub_self]
  show ((Real.exp 0 : ℝ) : EReal) = 1
  rw [Real.exp_zero]
  rfl

/-- The sum over windows of one element is that element, added to the initial value. -/
theorem window_one (x : FVec Ideal Cert.GlasRefIdeal.S32x4x1x128 .f32) (init : FVec Ideal Cert.GlasRefIdeal.S_ .f32)
    (i : Cert.GlasRefIdeal.S32x4x1x128.Idx) (hw : Cert.GlasRefIdeal.S32x4x1x128.ReduceWindows (![1, 1, 1, 1] : Fin 4 → Nat) ![1, 1, 1, 1] ![0, 0, 0, 0] ![0, 0, 0, 0] Cert.GlasRefIdeal.S32x4x1x128)
    (h0 : 0 < Cert.GlasRefIdeal.S_.numel) :
    Host.reduceWindowAdd (F := Ideal) ![1, 1, 1, 1] ![1, 1, 1, 1] ![0, 0, 0, 0] ![0, 0, 0, 0] x init
      hw h0 i
      = init (Shape.Idx.first h0) + x i := by
  show Host.reduceWindow (· + ·) _ _ _ _ x (fun _ : Cert.GlasRefIdeal.S_.Idx => init (Shape.Idx.first h0)) hw h0 i = _
  unfold Host.reduceWindow
  have hin : ∀ (n : Fin (Shape.numel ⟨4, ![1, 1, 1, 1]⟩)) (a : Fin 4), (i a).val * (![1, 1, 1, 1] : Fin 4 → Nat) a
      + (Shape.rowMajor ⟨4, ![1, 1, 1, 1]⟩ |>.symm n a).val = (i a).val := by
    intro n a
    have h := (Shape.rowMajor ⟨4, ![1, 1, 1, 1]⟩ |>.symm n a).isLt
    match a with
    | ⟨0, _⟩ => exact one_pos _ _ h
    | ⟨1, _⟩ => exact one_pos _ _ h
    | ⟨2, _⟩ => exact one_pos _ _ h
    | ⟨3, _⟩ => exact one_pos _ _ h
  have hz : ∀ a : Fin 4, (![0, 0, 0, 0] : Fin 4 → Nat) a = 0 := by decide
  refine Eq.trans (congrArg (fun y => init (Shape.Idx.first h0) + y) (dite_of _ ?_ _ _)) ?_
  · intro a
    refine ⟨(hz a).le.trans (Nat.zero_le _), ?_⟩
    exact ((congrArg₂ (· - ·) (hin _ a) (hz a)).trans (Nat.sub_zero _)).trans_lt (i a).isLt
  · refine congrArg (fun y => init (Shape.Idx.first h0) + x y) (funext fun a => Fin.ext ?_)
    exact (congrArg₂ (· - ·) (hin _ a) (hz a)).trans (Nat.sub_zero _)

variable (z : FVec Ideal Cert.GlasRefIdeal.S32x1x11264 .f32) (st : FVec Ideal Cert.GlasRefIdeal.S32x4x128x256 .f32)
  (wa : FVec Ideal Cert.GlasRefIdeal.S16x512 .f32) (ba : FVec Ideal Cert.GlasRefIdeal.S512 .f32) (nw : FVec Ideal Cert.GlasRefIdeal.S256 .f32)

/-- The forget gate's argument at row `b` and column `j`. -/
def argOf (b : Fin 32) (j : Fin 512) : EReal :=
  (∑ k : Fin 16, z (ix3 b 0 (⟨10752 + k.val, by omega⟩ : Fin 11264)) * wa (ix2 k j)) + ba (ix1 j)

/-- The reference's forget gate's argument. -/
theorem ref_arg (b : Fin 32) (j : Fin 512) : val_main_v13 (F := Ideal) z wa ba (ix3 b 0 j) = argOf z wa ba b j := by
  pointwise [val_main_v13, val_main_v12, val_main_v11, val_main_v10, val_main_v4]
  rfl

/-- The reference's log gate. -/
theorem ref_log (b : Fin 32) (j : Fin 512) : val_main_v16 (F := Ideal) z wa ba (ix3 b 0 j)
    = Ideal.div (logSigRef (argOf z wa ba b j)) (Ideal.ofBits .f32 0x41800000#32) := by
  pointwise [val_main_v16, val_main_v15, val_main_cst_0, val_main_v14, val_main_call0_v1, val_main_call0_call0_v11,
    val_main_call0_call0_v10, val_main_call0_call0_v9, val_main_call0_call0_v8, val_main_call0_call0_v7, val_main_call0_call0_v6,
    val_main_call0_call0_v5, val_main_call0_call0_v4, val_main_call0_call0_v3, val_main_call0_call0_v2, val_main_call0_call0_v1,
    val_main_call0_call0_v0, val_main_call0_call0_cst, val_main_call0_v0]
  rw [if_neg (fun h => h rfl), ref_arg]
  rfl

/-- The log gate of head `h`, channel `d`. -/
theorem ref_log4 (b : Fin 32) (h : Fin 4) (d : Fin 128) : val_main_v35 (F := Ideal) z wa ba (ix4 b h 0 d)
    = Ideal.div (logSigRef (argOf z wa ba b ⟨h.val * 128 + d.val, by omega⟩)) (Ideal.ofBits .f32 0x41800000#32) := by
  pointwise [val_main_v35, val_main_v34, val_main_v33, val_main_v32, val_main_v17]
  rw [ref_log]

/-- The scaled query of head `h`, channel `d`. -/
theorem ref_q (b : Fin 32) (h : Fin 4) (d : Fin 128) : val_main_v23 (F := Ideal) z (ix4 b h 0 d)
    = z (ix3 b 0 (⟨5120 + (h.val * 128 + d.val), by omega⟩ : Fin 11264)) * Ideal.ofBits .f32 0x3DB504F3#32 := by
  pointwise [val_main_v23, val_main_v22, val_main_v21, val_main_v20, val_main_v7, val_main_v6, val_main_cst, val_main_v5, val_main_v0]

/-- The key of head `h`, channel `d`. -/
theorem ref_k (b : Fin 32) (h : Fin 4) (d : Fin 128) : val_main_v27 (F := Ideal) z (ix4 b h 0 d)
    = z (ix3 b 0 (⟨5632 + (h.val * 128 + d.val), by omega⟩ : Fin 11264)) := by
  pointwise [val_main_v27, val_main_v26, val_main_v25, val_main_v24, val_main_v8, val_main_v1]

/-- The value of head `h`, channel `j`. -/
theorem ref_v (b : Fin 32) (h : Fin 4) (j : Fin 256) : val_main_v31 (F := Ideal) z (ix4 b h 0 j)
    = z (ix3 b 0 (⟨6144 + (h.val * 256 + j.val), by omega⟩ : Fin 11264)) := by
  pointwise [val_main_v31, val_main_v30, val_main_v29, val_main_v28, val_main_v9, val_main_v2]

/-- The log gate at row `b` and column `j`. -/
def gateOf (b : Fin 32) (j : Fin 512) : EReal := gate (argOf z wa ba b j)

/-- The query of head `h`, channel `d`. -/
def qOf (b : Fin 32) (h : Fin 4) (d : Fin 128) : EReal :=
  z (ix3 b 0 (⟨5120 + (h.val * 128 + d.val), by omega⟩ : Fin 11264)) * Ideal.ofBits .f32 0x3DB504F3#32

/-- The key of head `h`, channel `d`. -/
def kOf (b : Fin 32) (h : Fin 4) (d : Fin 128) : EReal := z (ix3 b 0 (⟨5632 + (h.val * 128 + d.val), by omega⟩ : Fin 11264))

/-- The value of head `h`, channel `j`. -/
def vOf (b : Fin 32) (h : Fin 4) (j : Fin 256) : EReal := z (ix3 b 0 (⟨6144 + (h.val * 256 + j.val), by omega⟩ : Fin 11264))

/-- What a token reads: its own value by the product of its query and key, and the decayed state. -/
def token (q k e : Fin 128 → EReal) (v : EReal) (s : Fin 128 → EReal) : EReal :=
  (∑ d, q d * k d) * v + ∑ d, q d * e d * s d

/-- The normalised and gated output from a head's row. -/
def normed (o : Fin 256 → EReal) (w r : EReal) (j : Fin 256) : EReal :=
  o j * Ideal.rsqrt (Ideal.div (∑ x, o x * o x) (Ideal.ofBits .f32 0x43800000#32) + Ideal.ofBits .f32 0x358637BD#32) * w
    * (r * Ideal.logistic r)

/-- What the token at row `b` reads from head `h`. -/
def tokenOf (b : Fin 32) (h : Fin 4) (j : Fin 256) : EReal :=
  token (qOf z b h) (kOf z b h) (fun d => Ideal.exp (gateOf z wa ba b ⟨h.val * 128 + d.val, by omega⟩)) (vOf z b h j)
    (fun d => st (ix4 b h d j))

/-- The new state. -/
def stateOf (b : Fin 32) (h : Fin 4) (d : Fin 128) (j : Fin 256) : EReal :=
  Ideal.exp (gateOf z wa ba b ⟨h.val * 128 + d.val, by omega⟩) * st (ix4 b h d j) + kOf z b h d * vOf z b h j

variable (hopen : ∀ (b : Fin 32) (j : Fin 512), argOf z wa ba b j ≠ ⊥)
include hopen

/-- The running sum of the log gates over the one token is the token's. -/
theorem ref_cum (b : Fin 32) (h : Fin 4) (d : Fin 128) : val_main_v36 (F := Ideal) z wa ba (ix4 b h 0 d)
    = gateOf z wa ba b ⟨h.val * 128 + d.val, by omega⟩ := by
  unfold val_main_v36
  rw [window_one, ref_log4, gate_ref _ (hopen _ _)]
  pointwise [val_main_call6_call0_v0, val_main_call6_call0_cst]
  rfl

/-- The decay between the token and itself is one. -/
theorem ref_decay (b : Fin 32) (h : Fin 4) (d : Fin 128) : val_main_v42 (F := Ideal) z wa ba (ix5 b h 0 0 d) = 1 := by
  have e : Ideal.exp (val_main_v36 (F := Ideal) z wa ba (ix4 b h 0 d) - val_main_v36 (F := Ideal) z wa ba (ix4 b h 0 d)) = 1 := by
    rw [ref_cum z wa ba hopen]
    exact exp_sub_self _ (gate_real _ (hopen _ _))
  pointwise [val_main_v42, val_main_v41, val_main_call7_v2, val_main_call7_v1, val_main_call7_v0, val_main_cst_5, val_main_v40,
    val_main_v39, val_main_v38, val_main_v37, val_main_v19, val_main_call1_v5, val_main_call1_c_0, val_main_call1_v4, val_main_call1_v3,
    val_main_call1_v2, val_main_call1_v1, val_main_call1_c, val_main_call1_v0, val_main_v18, val_main_c]
  have hc : Scalar.select (IntOp.cmpi CmpIPredicate.sge (IntOp.addi 0#32 0#32) 0#32) 1#1 0#1 = 1#1 := by decide
  rw [hc]
  exact e

/-- What the reference's token reads. -/
theorem ref_token (b : Fin 32) (h : Fin 4) (j : Fin 256) :
    val_main_v52 (F := Ideal) z st wa ba (ix4 b h 0 j) = tokenOf z st wa ba b h j := by
  pointwise [val_main_v52, val_main_v51, val_main_v50, val_main_v49, val_main_v48, val_main_v47, val_main_cst_6, val_main_v46, val_main_v45,
    val_main_v44, val_main_v43]
  have e1 : ∀ x : Fin 1, x = 0 := fun x => Subsingleton.elim _ _
  simp only [ref_decay z wa ba hopen, ref_cum z wa ba hopen, ref_q, ref_k, e1, ref_v, mul_one, Fin.sum_univ_one]
  rfl

/-- The reference's new state. -/
theorem ref_state (b : Fin 32) (h : Fin 4) (d : Fin 128) (j : Fin 256) :
    val_main_v63 (F := Ideal) z st wa ba (ix4 b h d j) = stateOf z st wa ba b h d j := by
  have e : Ideal.exp (gateOf z wa ba b ⟨h.val * 128 + d.val, by omega⟩ - gateOf z wa ba b ⟨h.val * 128 + d.val, by omega⟩) = 1 :=
    exp_sub_self _ (gate_real _ (hopen _ _))
  pointwise [val_main_v63, val_main_v62, val_main_v61, val_main_v60, val_main_v59, val_main_v58, val_main_v57, val_main_v56, val_main_v55,
    val_main_v54, val_main_v53]
  have e1 : ∀ x : Fin 1, x = 0 := fun x => Subsingleton.elim _ _
  simp only [ref_cum z wa ba hopen, ref_k, e1, ref_v, e, mul_one, Fin.sum_univ_one]
  rfl

/-- The reference's output. -/
theorem ref_out (b : Fin 32) (h : Fin 4) (j : Fin 256) :
    val_main_v82 (F := Ideal) z st wa ba nw (ix3 b 0 (⟨h.val * 256 + j.val, by omega⟩ : Fin 1024))
      = normed (tokenOf z st wa ba b h) (nw (ix1 j)) (z (ix3 b 0 (⟨7168 + (h.val * 256 + j.val), by omega⟩ : Fin 11264))) j := by
  have e1 : (⟨(h.val * 256 + j.val) / 256, by omega⟩ : Fin 4) = h := Fin.ext (by dsimp only; omega)
  have e2 : (⟨(h.val * 256 + j.val) % 256, by omega⟩ : Fin 256) = j := Fin.ext (by dsimp only; omega)
  pointwise [val_main_v82, val_main_v81, val_main_call8_v5, val_main_call8_v4, val_main_call8_v3, val_main_call8_v2, val_main_call8_v1,
    val_main_call8_v0, val_main_call8_cst, val_main_call8_cst_0, val_main_v3, val_main_v80, val_main_v79, val_main_v78, val_main_v77,
    val_main_v76, val_main_v75, val_main_v74, val_main_v73, val_main_v72, val_main_cst_9, val_main_v71, val_main_v70, val_main_cst_8,
    val_main_v69, val_main_v68, val_main_cst_7, val_main_v67, val_main_v66, val_main_v65, val_main_v64]
  simp only [e1, e2, ref_token z st wa ba hopen]
  rfl

end Cert.GlasKernelIdeal.Value

end
-- ==== Proof.Glas.Body.lean ====
/- The decode step's gated linear attention: what the kernel's body computes from its blocks. -/
module

public import proofs.«01_k».proof.Proof.Glas.Ref

@[expose] public section

set_option maxRecDepth 16384
noncomputable section

namespace Cert.GlasKernelIdeal.Value

open Cert.GlasKernelIdeal Cert.GlasKernelIdeal.Gen Idealize.ShloMosaic Idealize.ShloMosaic.TcCoe Idealize.SL.Sem
open scoped BigOperators

/-- The column of head `h`, channel `d`, among the key channels. -/
def hq (h : Fin 4) (d : Fin 128) : Fin 512 := ⟨h.val * 128 + d.val, by omega⟩

/-- The column of head `h`, channel `j`, among the value channels. -/
def hv (h : Fin 4) (j : Fin 256) : Fin 1024 := ⟨h.val * 256 + j.val, by omega⟩

section Loads

variable (x : Vec Ideal S1x1x512 .f32) (y : Vec Ideal S1x1x1024 .f32) (u : Vec Ideal S1x4x128x256 .f32)

/-- The first head's key channels of a block. -/
theorem ld_q0 (d : Fin 128) : View.ld x r0_3 (ix3 0 0 d : S1x1x128.Idx) = x (ix3 0 0 (hq 0 d)) := by
  refine congrArg x (funext fun a => Fin.ext ?_)
  match a with
  | ⟨0, _⟩ => rfl
  | ⟨1, _⟩ => rfl
  | ⟨2, _⟩ => show 0 + 1 * d.val = 0 * 128 + d.val; omega

/-- The first head's value channels of a block. -/
theorem ld_v0 (j : Fin 256) : View.ld y r0_4 (ix3 0 0 j : S1x1x256.Idx) = y (ix3 0 0 (hv 0 j)) := by
  refine congrArg y (funext fun a => Fin.ext ?_)
  match a with
  | ⟨0, _⟩ => rfl
  | ⟨1, _⟩ => rfl
  | ⟨2, _⟩ => show 0 + 1 * j.val = 0 * 256 + j.val; omega

/-- The first head's state in a block. -/
theorem ld_s0 (d : Fin 128) (j : Fin 256) : View.ld u r0_5 (ix4 0 0 d j : S1x1x128x256.Idx) = u (ix4 0 0 d j) := by
  refine congrArg u (funext fun a => Fin.ext ?_)
  match a with
  | ⟨0, _⟩ => rfl
  | ⟨1, _⟩ => rfl
  | ⟨2, _⟩ => show 0 + 1 * d.val = d.val; omega
  | ⟨3, _⟩ => show 0 + 1 * j.val = j.val; omega

/-- The first head's key channels of a row of gates. -/
theorem col0 (d : Fin 128) (p : 0 + d.val < 512) : (⟨0 + d.val, p⟩ : Fin 512) = hq 0 d :=
  Fin.ext (by show 0 + d.val = 0 * 128 + d.val; omega)

/-- The second head's key channels of a block. -/
theorem ld_q1 (d : Fin 128) : View.ld x r0_7 (ix3 0 0 d : S1x1x128.Idx) = x (ix3 0 0 (hq 1 d)) := by
  refine congrArg x (funext fun a => Fin.ext ?_)
  match a with
  | ⟨0, _⟩ => rfl
  | ⟨1, _⟩ => rfl
  | ⟨2, _⟩ => show 128 + 1 * d.val = 1 * 128 + d.val; omega

/-- The second head's value channels of a block. -/
theorem ld_v1 (j : Fin 256) : View.ld y r0_8 (ix3 0 0 j : S1x1x256.Idx) = y (ix3 0 0 (hv 1 j)) := by
  refine congrArg y (funext fun a => Fin.ext ?_)
  match a with
  | ⟨0, _⟩ => rfl
  | ⟨1, _⟩ => rfl
  | ⟨2, _⟩ => show 256 + 1 * j.val = 1 * 256 + j.val; omega

/-- The second head's state in a block. -/
theorem ld_s1 (d : Fin 128) (j : Fin 256) : View.ld u r0_9 (ix4 0 0 d j : S1x1x128x256.Idx) = u (ix4 0 1 d j) := by
  refine congrArg u (funext fun a => Fin.ext ?_)
  match a with
  | ⟨0, _⟩ => rfl
  | ⟨1, _⟩ => rfl
  | ⟨2, _⟩ => show 0 + 1 * d.val = d.val; omega
  | ⟨3, _⟩ => show 0 + 1 * j.val = j.val; omega

/-- The second head's key channels of a row of gates. -/
theorem col1 (d : Fin 128) (p : 128 + d.val < 512) : (⟨128 + d.val, p⟩ : Fin 512) = hq 1 d :=
  Fin.ext (by show 128 + d.val = 1 * 128 + d.val; omega)

/-- The third head's key channels of a block. -/
theorem ld_q2 (d : Fin 128) : View.ld x r0_10 (ix3 0 0 d : S1x1x128.Idx) = x (ix3 0 0 (hq 2 d)) := by
  refine congrArg x (funext fun a => Fin.ext ?_)
  match a with
  | ⟨0, _⟩ => rfl
  | ⟨1, _⟩ => rfl
  | ⟨2, _⟩ => show 256 + 1 * d.val = 2 * 128 + d.val; omega

/-- The third head's value channels of a block. -/
theorem ld_v2 (j : Fin 256) : View.ld y r0_11 (ix3 0 0 j : S1x1x256.Idx) = y (ix3 0 0 (hv 2 j)) := by
  refine congrArg y (funext fun a => Fin.ext ?_)
  match a with
  | ⟨0, _⟩ => rfl
  | ⟨1, _⟩ => rfl
  | ⟨2, _⟩ => show 512 + 1 * j.val = 2 * 256 + j.val; omega

/-- The third head's state in a block. -/
theorem ld_s2 (d : Fin 128) (j : Fin 256) : View.ld u r0_12 (ix4 0 0 d j : S1x1x128x256.Idx) = u (ix4 0 2 d j) := by
  refine congrArg u (funext fun a => Fin.ext ?_)
  match a with
  | ⟨0, _⟩ => rfl
  | ⟨1, _⟩ => rfl
  | ⟨2, _⟩ => show 0 + 1 * d.val = d.val; omega
  | ⟨3, _⟩ => show 0 + 1 * j.val = j.val; omega

/-- The third head's key channels of a row of gates. -/
theorem col2 (d : Fin 128) (p : 256 + d.val < 512) : (⟨256 + d.val, p⟩ : Fin 512) = hq 2 d :=
  Fin.ext (by show 256 + d.val = 2 * 128 + d.val; omega)

/-- The fourth head's key channels of a block. -/
theorem ld_q3 (d : Fin 128) : View.ld x r0_13 (ix3 0 0 d : S1x1x128.Idx) = x (ix3 0 0 (hq 3 d)) := by
  refine congrArg x (funext fun a => Fin.ext ?_)
  match a with
  | ⟨0, _⟩ => rfl
  | ⟨1, _⟩ => rfl
  | ⟨2, _⟩ => show 384 + 1 * d.val = 3 * 128 + d.val; omega

/-- The fourth head's value channels of a block. -/
theorem ld_v3 (j : Fin 256) : View.ld y r0_14 (ix3 0 0 j : S1x1x256.Idx) = y (ix3 0 0 (hv 3 j)) := by
  refine congrArg y (funext fun a => Fin.ext ?_)
  match a with
  | ⟨0, _⟩ => rfl
  | ⟨1, _⟩ => rfl
  | ⟨2, _⟩ => show 768 + 1 * j.val = 3 * 256 + j.val; omega

/-- The fourth head's state in a block. -/
theorem ld_s3 (d : Fin 128) (j : Fin 256) : View.ld u r0_15 (ix4 0 0 d j : S1x1x128x256.Idx) = u (ix4 0 3 d j) := by
  refine congrArg u (funext fun a => Fin.ext ?_)
  match a with
  | ⟨0, _⟩ => rfl
  | ⟨1, _⟩ => rfl
  | ⟨2, _⟩ => show 0 + 1 * d.val = d.val; omega
  | ⟨3, _⟩ => show 0 + 1 * j.val = j.val; omega

/-- The fourth head's key channels of a row of gates. -/
theorem col3 (d : Fin 128) (p : 384 + d.val < 512) : (⟨384 + d.val, p⟩ : Fin 512) = hq 3 d :=
  Fin.ext (by show 384 + d.val = 3 * 128 + d.val; omega)

/-- The block that holds the gate's inputs is loaded whole. -/
theorem ld_x4 (x : Vec Ideal S1x1x128 .f32) : View.ld x r0_0 = x := by
  funext i
  refine congrArg x (funext fun a => Fin.ext ?_)
  match a with
  | ⟨0, _⟩ => show 0 + 1 * (i 0).val = (i 0).val; omega
  | ⟨1, _⟩ => show 0 + 1 * (i 1).val = (i 1).val; omega
  | ⟨2, _⟩ => show 0 + 1 * (i 2).val = (i 2).val; omega

/-- So are the gate's weights. -/
theorem ld_x6 (x : Vec Ideal S128x512 .bf16) : View.ld x r0_1 = x := by
  funext i
  refine congrArg x (funext fun a => Fin.ext ?_)
  match a with
  | ⟨0, _⟩ => show 0 + 1 * (i 0).val = (i 0).val; omega
  | ⟨1, _⟩ => show 0 + 1 * (i 1).val = (i 1).val; omega

/-- So is the gate's bias. -/
theorem ld_x7 (x : Vec Ideal S1x512 .f32) : View.ld x r0_2 = x := by
  funext i
  refine congrArg x (funext fun a => Fin.ext ?_)
  match a with
  | ⟨0, _⟩ => show 0 + 1 * (i 0).val = (i 0).val; omega
  | ⟨1, _⟩ => show 0 + 1 * (i 1).val = (i 1).val; omega

/-- So is the norm's scale. -/
theorem ld_x8 (x : Vec Ideal S1x256 .f32) : View.ld x r0_6 = x := by
  funext i
  refine congrArg x (funext fun a => Fin.ext ?_)
  match a with
  | ⟨0, _⟩ => show 0 + 1 * (i 0).val = (i 0).val; omega
  | ⟨1, _⟩ => show 0 + 1 * (i 1).val = (i 1).val; omega

end Loads

section Body

variable (a : FVec Ideal S1x512 .f32) (q3 k3 : Vec Ideal S1x1x128 .f32) (v3 r3 : Vec Ideal S1x1x256 .f32)
  (s4 : Vec Ideal S1x1x128x256 .f32) (w : Vec Ideal S1x256 .f32)

/-- The kernel's log gate from its blocks. -/
theorem log_at (x : Vec Ideal S1x1x128 .f32) (wa : Vec Ideal S128x512 .bf16) (ba : Vec Ideal S1x512 .f32) (j : Fin 512) :
    k0_pay1 (F := Ideal) x wa ba (ix2 0 j) = gate ((∑ d : Fin 128, x (ix3 0 0 d) * wa (ix2 d j)) + ba (ix2 0 j)) := by
  pointwise [k0_pay1]
  rfl

/-- A sum that keeps the diagonal's term is that term. -/
theorem diag (f : Fin 128 → EReal) (d : Fin 128) :
    (∑ x : Fin 128, Scalar.select (IntOp.cmpi CmpIPredicate.eq (BitVec.ofNat 32 d.val) (BitVec.ofNat 32 x.val)) (f x) 0) = f d := by
  have h : ∀ x : Fin 128, Scalar.select (IntOp.cmpi CmpIPredicate.eq (BitVec.ofNat 32 d.val) (BitVec.ofNat 32 x.val)) (f x) 0
      = if d = x then f x else 0 := by
    intro x
    by_cases e : d = x
    · subst e
      rw [if_pos rfl]
      show Scalar.select (BitVec.ofBool (BitVec.ofNat 32 d.val == BitVec.ofNat 32 d.val)) (f d) 0 = f d
      rw [beq_self_eq_true]
      rfl
    · rw [if_neg e]
      have ne : BitVec.ofNat 32 d.val ≠ BitVec.ofNat 32 x.val := fun h => e (Fin.ext (by
        have := congrArg BitVec.toNat h
        simp only [BitVec.toNat_ofNat] at this
        omega))
      show Scalar.select (BitVec.ofBool (BitVec.ofNat 32 d.val == BitVec.ofNat 32 x.val)) (f x) 0 = 0
      rw [beq_eq_false_iff_ne.mpr ne]
      rfl
  simp only [h, Finset.sum_ite_eq, Finset.mem_univ, if_true]

/-- What a head's token reads, from the head's pieces of the blocks and its decays. -/
def tk (e : Fin 128 → EReal) (j : Fin 256) : EReal :=
  token (fun d => q3 (ix3 0 0 d) * Ideal.ofBits .f32 0x3DB504F3#32) (fun d => k3 (ix3 0 0 d)) e (v3 (ix3 0 0 j)) (fun d => s4 (ix4 0 0 d j))

/-- The first head's decays are read off the log gates. -/
theorem decay0 (x : Vec Ideal S1x1x128 .f32) (wa : Vec Ideal S128x512 .bf16) (ba : Vec Ideal S1x512 .f32) (d : Fin 128) :
    k0_pay5 (F := Ideal) x wa ba (ix2 0 d) = Ideal.exp (k0_pay1 (F := Ideal) x wa ba (ix2 0 (hq 0 d))) := by
  have e : (⟨d.val, by omega⟩ : Fin 512) = hq 0 d := Fin.ext (by show d.val = 0 * 128 + d.val; omega)
  pointwise [k0_pay5]
  rw [e]

/-- The first head's output. -/
theorem out0 (x : Vec Ideal S1x1x128 .f32) (wa : Vec Ideal S128x512 .bf16) (ba : Vec Ideal S1x512 .f32) (j : Fin 256) :
    k0_pay11 (F := Ideal) (k0_pay7 (F := Ideal) (k0_pay2 (F := Ideal) q3) (k0_pay3 (F := Ideal) k3) (k0_pay4 (F := Ideal) v3) (k0_pay5 (F := Ideal) x wa ba) (k0_pay6 (F := Ideal) s4))
      (k0_pay9 (F := Ideal) (k0_pay2 (F := Ideal) q3) (k0_pay3 (F := Ideal) k3) (k0_pay4 (F := Ideal) v3) (k0_pay5 (F := Ideal) x wa ba) (k0_pay6 (F := Ideal) s4))
      (k0_pay10 (F := Ideal)) w r3 (ix3 0 0 j)
    = normed (tk q3 k3 v3 s4 (fun d => Ideal.exp (k0_pay1 (F := Ideal) x wa ba (ix2 0 (hq 0 d))))) (w (ix2 0 j)) (r3 (ix3 0 0 j)) j := by
  simp only [← decay0]
  generalize k0_pay5 (F := Ideal) x wa ba = e
  pointwise [k0_pay11, k0_pay9, k0_pay10, k0_pay7, k0_pay2, k0_pay3, k0_pay4, k0_pay6]
  rfl

/-- The second head's output. -/
theorem out1 (j : Fin 256) : k0_pay21 (F := Ideal) (k0_pay20 (F := Ideal) (k0_pay16 (F := Ideal) s4) (k0_pay17 (F := Ideal) a q3) (k0_pay18 (F := Ideal) q3 k3 v3) w) r3 (ix3 0 0 j)
    = normed (tk q3 k3 v3 s4 (fun d => Ideal.exp (a (ix2 0 (hq 1 d))))) (w (ix2 0 j)) (r3 (ix3 0 0 j)) j := by
  pointwise [k0_pay21, k0_pay20, k0_pay17, k0_pay18, k0_pay12, k0_pay13, k0_pay14, k0_pay15, k0_pay16]
  simp only [col1]
  rfl

/-- The third head's output. -/
theorem out2 (j : Fin 256) : k0_pay31 (F := Ideal) (k0_pay30 (F := Ideal) (k0_pay26 (F := Ideal) a q3 k3 v3 s4) w r3) (ix3 0 0 j)
    = normed (tk q3 k3 v3 s4 (fun d => Ideal.exp (a (ix2 0 (hq 2 d))))) (w (ix2 0 j)) (r3 (ix3 0 0 j)) j := by
  pointwise [k0_pay31, k0_pay30, k0_pay26, k0_pay22, k0_pay23, k0_pay24, k0_pay25]
  simp only [col2]
  rfl

/-- The fourth head's output. -/
theorem out3 (j : Fin 256) : k0_pay39 (F := Ideal) (k0_pay36 (F := Ideal) a q3 k3 v3 s4) w r3 (ix3 0 0 j)
    = normed (tk q3 k3 v3 s4 (fun d => Ideal.exp (a (ix2 0 (hq 3 d))))) (w (ix2 0 j)) (r3 (ix3 0 0 j)) j := by
  pointwise [k0_pay39, k0_pay36, k0_pay32, k0_pay33, k0_pay34, k0_pay35]
  simp only [col3]
  rfl

/-- The first head's new state. -/
theorem new0 (x : Vec Ideal S1x1x128 .f32) (wa : Vec Ideal S128x512 .bf16) (ba : Vec Ideal S1x512 .f32) (d : Fin 128) (j : Fin 256) :
    k0_pay8 (F := Ideal) (k0_pay3 (F := Ideal) k3) (k0_pay4 (F := Ideal) v3) (k0_pay5 (F := Ideal) x wa ba) (k0_pay6 (F := Ideal) s4) (ix4 0 0 d j)
    = Ideal.exp (k0_pay1 (F := Ideal) x wa ba (ix2 0 (hq 0 d))) * s4 (ix4 0 0 d j) + k3 (ix3 0 0 d) * v3 (ix3 0 0 j) := by
  rw [← decay0]
  generalize k0_pay5 (F := Ideal) x wa ba = e
  pointwise [k0_pay8, k0_pay3, k0_pay4, k0_pay6]
  rw [diag (fun x => e (ix2 0 x)), diag (fun x => k3 (ix3 0 0 x))]

/-- The second head's new state. -/
theorem new1 (d : Fin 128) (j : Fin 256) : k0_pay19 (F := Ideal) (k0_pay13 (F := Ideal) k3) (k0_pay14 (F := Ideal) v3) (k0_pay15 (F := Ideal) a) (k0_pay16 (F := Ideal) s4) (ix4 0 0 d j)
    = Ideal.exp (a (ix2 0 (hq 1 d))) * s4 (ix4 0 0 d j) + k3 (ix3 0 0 d) * v3 (ix3 0 0 j) := by
  pointwise [k0_pay19, k0_pay13, k0_pay14, k0_pay15, k0_pay16]
  simp only [col1]
  rw [diag (fun x => Ideal.exp (a (ix2 0 (hq 1 x)))), diag (fun x => k3 (ix3 0 0 x))]

/-- The third head's new state. -/
theorem new2 (d : Fin 128) (j : Fin 256) : k0_pay29 (F := Ideal) (k0_pay22 (F := Ideal) k3) (k0_pay23 (F := Ideal) v3) (k0_pay25 (F := Ideal) s4) k0_pay27 (k0_pay28 (F := Ideal) a) (ix4 0 0 d j)
    = Ideal.exp (a (ix2 0 (hq 2 d))) * s4 (ix4 0 0 d j) + k3 (ix3 0 0 d) * v3 (ix3 0 0 j) := by
  pointwise [k0_pay29, k0_pay22, k0_pay23, k0_pay24, k0_pay25, k0_pay27, k0_pay28]
  simp only [col2]
  rw [diag (fun x => Ideal.exp (a (ix2 0 (hq 2 x)))), diag (fun x => k3 (ix3 0 0 x))]

/-- The fourth head's new state. -/
theorem new3 (d : Fin 128) (j : Fin 256) : k0_pay38 (F := Ideal) (k0_pay32 (F := Ideal) k3) (k0_pay33 (F := Ideal) v3) (k0_pay37 (F := Ideal) a s4)
      (iota .tc S128x128 32 [0] iota_S128x128_d0_w32) (iota .tc S128x128 32 [1] iota_S128x128_d1_w32) (ix4 0 0 d j)
    = Ideal.exp (a (ix2 0 (hq 3 d))) * s4 (ix4 0 0 d j) + k3 (ix3 0 0 d) * v3 (ix3 0 0 j) := by
  pointwise [k0_pay38, k0_pay32, k0_pay33, k0_pay34, k0_pay35, k0_pay37]
  simp only [col3]
  rw [diag (fun x => Ideal.exp (a (ix2 0 (hq 3 x)))), diag (fun x => k3 (ix3 0 0 x))]

end Body

section Blocks

variable (x0 x1 : Vec Ideal S1x1x512 .f32) (x2 x3 : Vec Ideal S1x1x1024 .f32) (x4 : Vec Ideal S1x1x128 .f32)
  (x5 : Vec Ideal S1x4x128x256 .f32) (x6 : Vec Ideal S128x512 .bf16) (x7 : Vec Ideal S1x512 .f32) (x8 : Vec Ideal S1x256 .f32)

/-- The log gate from the blocks. -/
def gateB (j : Fin 512) : EReal := gate ((∑ d : Fin 128, x4 (ix3 0 0 d) * x6 (ix2 d j)) + x7 (ix2 0 j))

/-- What a head's token reads, from the blocks. -/
def tokenB (h : Fin 4) (j : Fin 256) : EReal :=
  token (fun d => x0 (ix3 0 0 (hq h d)) * Ideal.ofBits .f32 0x3DB504F3#32) (fun d => x1 (ix3 0 0 (hq h d)))
    (fun d => Ideal.exp (gateB x4 x6 x7 (hq h d))) (x2 (ix3 0 0 (hv h j))) (fun d => x5 (ix4 0 h d j))

/-- The output of head `h`, channel `j`, from the blocks. -/
def outB (h : Fin 4) (j : Fin 256) : EReal :=
  normed (tokenB x0 x1 x2 x4 x5 x6 x7 h) (x8 (ix2 0 j)) (x3 (ix3 0 0 (hv h j))) j

/-- The new state of head `h`, from the blocks. -/
def newB (h : Fin 4) (d : Fin 128) (j : Fin 256) : EReal :=
  Ideal.exp (gateB x4 x6 x7 (hq h d)) * x5 (ix4 0 h d j) + x1 (ix3 0 0 (hq h d)) * x2 (ix3 0 0 (hv h j))

/-- What the first head's token reads, from its pieces of the blocks. -/
theorem tk0 : tk (View.ld x0 r0_3) (View.ld x1 r0_3) (View.ld x2 r0_4) (View.ld x5 r0_5) (fun d => Ideal.exp (gateB x4 x6 x7 (hq 0 d)))
    = tokenB x0 x1 x2 x4 x5 x6 x7 0 := by
  funext j
  unfold tk tokenB
  congr 1
  · funext d
    exact congrArg (· * Ideal.ofBits .f32 0x3DB504F3#32) (ld_q0 x0 d)
  · funext d
    exact ld_q0 x1 d
  · exact ld_v0 x2 j
  · funext d
    exact ld_s0 x5 d j

/-- What the second head's token reads, from its pieces of the blocks. -/
theorem tk1 : tk (View.ld x0 r0_7) (View.ld x1 r0_7) (View.ld x2 r0_8) (View.ld x5 r0_9) (fun d => Ideal.exp (gateB x4 x6 x7 (hq 1 d)))
    = tokenB x0 x1 x2 x4 x5 x6 x7 1 := by
  funext j
  unfold tk tokenB
  congr 1
  · funext d
    exact congrArg (· * Ideal.ofBits .f32 0x3DB504F3#32) (ld_q1 x0 d)
  · funext d
    exact ld_q1 x1 d
  · exact ld_v1 x2 j
  · funext d
    exact ld_s1 x5 d j

/-- What the third head's token reads, from its pieces of the blocks. -/
theorem tk2 : tk (View.ld x0 r0_10) (View.ld x1 r0_10) (View.ld x2 r0_11) (View.ld x5 r0_12) (fun d => Ideal.exp (gateB x4 x6 x7 (hq 2 d)))
    = tokenB x0 x1 x2 x4 x5 x6 x7 2 := by
  funext j
  unfold tk tokenB
  congr 1
  · funext d
    exact congrArg (· * Ideal.ofBits .f32 0x3DB504F3#32) (ld_q2 x0 d)
  · funext d
    exact ld_q2 x1 d
  · exact ld_v2 x2 j
  · funext d
    exact ld_s2 x5 d j

/-- What the fourth head's token reads, from its pieces of the blocks. -/
theorem tk3 : tk (View.ld x0 r0_13) (View.ld x1 r0_13) (View.ld x2 r0_14) (View.ld x5 r0_15) (fun d => Ideal.exp (gateB x4 x6 x7 (hq 3 d)))
    = tokenB x0 x1 x2 x4 x5 x6 x7 3 := by
  funext j
  unfold tk tokenB
  congr 1
  · funext d
    exact congrArg (· * Ideal.ofBits .f32 0x3DB504F3#32) (ld_q3 x0 d)
  · funext d
    exact ld_q3 x1 d
  · exact ld_v3 x2 j
  · funext d
    exact ld_s3 x5 d j

/-- The first head's piece of the output's block lies at its columns. -/
theorem at_v0 (j : Fin 256) : r0_4.emb (ix3 0 0 j : S1x1x256.Idx) = (ix3 0 0 (hv 0 j) : S1x1x1024.Idx) := by
  funext a
  refine Fin.ext ?_
  match a with
  | ⟨0, _⟩ => rfl
  | ⟨1, _⟩ => rfl
  | ⟨2, _⟩ => show 0 + 1 * j.val = 0 * 256 + j.val; omega

/-- The first head's piece of the state's block is its own. -/
theorem at_s0 (d : Fin 128) (j : Fin 256) : r0_5.emb (ix4 0 0 d j : S1x1x128x256.Idx) = (ix4 0 0 d j : S1x4x128x256.Idx) := by
  funext a
  refine Fin.ext ?_
  match a with
  | ⟨0, _⟩ => rfl
  | ⟨1, _⟩ => rfl
  | ⟨2, _⟩ => show 0 + 1 * d.val = d.val; omega
  | ⟨3, _⟩ => show 0 + 1 * j.val = j.val; omega

/-- The second head's piece of the output's block lies at its columns. -/
theorem at_v1 (j : Fin 256) : r0_8.emb (ix3 0 0 j : S1x1x256.Idx) = (ix3 0 0 (hv 1 j) : S1x1x1024.Idx) := by
  funext a
  refine Fin.ext ?_
  match a with
  | ⟨0, _⟩ => rfl
  | ⟨1, _⟩ => rfl
  | ⟨2, _⟩ => show 256 + 1 * j.val = 1 * 256 + j.val; omega

/-- The second head's piece of the state's block is its own. -/
theorem at_s1 (d : Fin 128) (j : Fin 256) : r0_9.emb (ix4 0 0 d j : S1x1x128x256.Idx) = (ix4 0 1 d j : S1x4x128x256.Idx) := by
  funext a
  refine Fin.ext ?_
  match a with
  | ⟨0, _⟩ => rfl
  | ⟨1, _⟩ => rfl
  | ⟨2, _⟩ => show 0 + 1 * d.val = d.val; omega
  | ⟨3, _⟩ => show 0 + 1 * j.val = j.val; omega

/-- The third head's piece of the output's block lies at its columns. -/
theorem at_v2 (j : Fin 256) : r0_11.emb (ix3 0 0 j : S1x1x256.Idx) = (ix3 0 0 (hv 2 j) : S1x1x1024.Idx) := by
  funext a
  refine Fin.ext ?_
  match a with
  | ⟨0, _⟩ => rfl
  | ⟨1, _⟩ => rfl
  | ⟨2, _⟩ => show 512 + 1 * j.val = 2 * 256 + j.val; omega

/-- The third head's piece of the state's block is its own. -/
theorem at_s2 (d : Fin 128) (j : Fin 256) : r0_12.emb (ix4 0 0 d j : S1x1x128x256.Idx) = (ix4 0 2 d j : S1x4x128x256.Idx) := by
  funext a
  refine Fin.ext ?_
  match a with
  | ⟨0, _⟩ => rfl
  | ⟨1, _⟩ => rfl
  | ⟨2, _⟩ => show 0 + 1 * d.val = d.val; omega
  | ⟨3, _⟩ => show 0 + 1 * j.val = j.val; omega

/-- The fourth head's piece of the output's block lies at its columns. -/
theorem at_v3 (j : Fin 256) : r0_14.emb (ix3 0 0 j : S1x1x256.Idx) = (ix3 0 0 (hv 3 j) : S1x1x1024.Idx) := by
  funext a
  refine Fin.ext ?_
  match a with
  | ⟨0, _⟩ => rfl
  | ⟨1, _⟩ => rfl
  | ⟨2, _⟩ => show 768 + 1 * j.val = 3 * 256 + j.val; omega

/-- The fourth head's piece of the state's block is its own. -/
theorem at_s3 (d : Fin 128) (j : Fin 256) : r0_15.emb (ix4 0 0 d j : S1x1x128x256.Idx) = (ix4 0 3 d j : S1x4x128x256.Idx) := by
  funext a
  refine Fin.ext ?_
  match a with
  | ⟨0, _⟩ => rfl
  | ⟨1, _⟩ => rfl
  | ⟨2, _⟩ => show 0 + 1 * d.val = d.val; omega
  | ⟨3, _⟩ => show 0 + 1 * j.val = j.val; omega

/-- The output's block as one function of its index. -/
def outBlock (y : S1x1x1024.Idx) : EReal :=
  outB x0 x1 x2 x3 x4 x5 x6 x7 x8 (⟨(y 2).val / 256, by have : (y 2).val < 1024 := (y 2).isLt; omega⟩ : Fin 4) (⟨(y 2).val % 256, by omega⟩ : Fin 256)

/-- That function at a head's column. -/
theorem outBlock_at (h : Fin 4) (j : Fin 256) : outBlock x0 x1 x2 x3 x4 x5 x6 x7 x8 (ix3 0 0 (hv h j)) = outB x0 x1 x2 x3 x4 x5 x6 x7 x8 h j := by
  show outB x0 x1 x2 x3 x4 x5 x6 x7 x8 ⟨(h.val * 256 + j.val) / 256, _⟩ ⟨(h.val * 256 + j.val) % 256, _⟩ = _
  congr 1
  · exact Fin.ext (by show (h.val * 256 + j.val) / 256 = h.val; omega)
  · exact Fin.ext (by show (h.val * 256 + j.val) % 256 = j.val; omega)

/-- The state's block as one function of its index. -/
def newBlock (y : S1x4x128x256.Idx) : EReal := newB x1 x2 x4 x5 x6 x7 (y 1) (y 2) (y 3)

/-- An index of a head's piece of the output is a column. -/
theorem idx_v (x : S1x1x256.Idx) : ∃ j : Fin 256, x = ix3 0 0 j := by
  refine ⟨x 2, ?_⟩
  funext a
  match a with
  | ⟨0, _⟩ => exact Subsingleton.elim (α := Fin 1) _ _
  | ⟨1, _⟩ => exact Subsingleton.elim (α := Fin 1) _ _
  | ⟨2, _⟩ => rfl

/-- An index of a head's piece of the state is a row and a column. -/
theorem idx_s (x : S1x1x128x256.Idx) : ∃ (d : Fin 128) (j : Fin 256), x = ix4 0 0 d j := by
  refine ⟨x 2, x 3, ?_⟩
  funext a
  match a with
  | ⟨0, _⟩ => exact Subsingleton.elim (α := Fin 1) _ _
  | ⟨1, _⟩ => exact Subsingleton.elim (α := Fin 1) _ _
  | ⟨2, _⟩ => rfl
  | ⟨3, _⟩ => rfl

/-- The kernel's log gate is the blocks' one. -/
theorem gate_at (j : Fin 512) : k0_pay1 (F := Ideal) (View.ld x4 r0_0) (View.ld x6 r0_1) (View.ld x7 r0_2) (ix2 0 j) = gateB x4 x6 x7 j := by
  rw [ld_x4, ld_x6, ld_x7]
  exact log_at x4 x6 x7 j

/-- What the body leaves in the output's block. -/
theorem block_out (y : S1x1x1024.Idx) : out0_9 (F := Ideal) x0 x1 x2 x3 x4 x5 x6 x7 x8 y = outBlock x0 x1 x2 x3 x4 x5 x6 x7 x8 y := by
  unfold_out out0_9
  refine View.canon_apply_of_pieces (Val := Elt Ideal) (S := S1x1x1024) (e := .f32) (outBlock x0 x1 x2 x3 x4 x5 x6 x7 x8) _ ?_ y (cover0_9 _ _ _ _ _)
  intro p hp
  fin_cases hp
  · intro x
    obtain ⟨j, rfl⟩ := idx_v x
    refine (out3 _ _ _ _ _ _ _ j).trans ?_
    simp only [gate_at]
    refine Eq.trans ?_ (congrArg (outBlock x0 x1 x2 x3 x4 x5 x6 x7 x8) (at_v3 j)).symm
    rw [outBlock_at, tk3, ld_x8]
    exact congrArg (fun r => normed _ _ r _) (ld_v3 x3 j)
  · intro x
    obtain ⟨j, rfl⟩ := idx_v x
    refine (out2 _ _ _ _ _ _ _ j).trans ?_
    simp only [gate_at]
    refine Eq.trans ?_ (congrArg (outBlock x0 x1 x2 x3 x4 x5 x6 x7 x8) (at_v2 j)).symm
    rw [outBlock_at, tk2, ld_x8]
    exact congrArg (fun r => normed _ _ r _) (ld_v2 x3 j)
  · intro x
    obtain ⟨j, rfl⟩ := idx_v x
    refine (out1 _ _ _ _ _ _ _ j).trans ?_
    simp only [gate_at]
    refine Eq.trans ?_ (congrArg (outBlock x0 x1 x2 x3 x4 x5 x6 x7 x8) (at_v1 j)).symm
    rw [outBlock_at, tk1, ld_x8]
    exact congrArg (fun r => normed _ _ r _) (ld_v1 x3 j)
  · intro x
    obtain ⟨j, rfl⟩ := idx_v x
    refine (out0 _ _ _ _ _ _ _ _ _ j).trans ?_
    simp only [gate_at]
    refine Eq.trans ?_ (congrArg (outBlock x0 x1 x2 x3 x4 x5 x6 x7 x8) (at_v0 j)).symm
    rw [outBlock_at, tk0, ld_x8]
    exact congrArg (fun r => normed _ _ r _) (ld_v0 x3 j)

/-- What the body leaves in the state's block. -/
theorem block_new (y : S1x4x128x256.Idx) : out0_10 (F := Ideal) x0 x1 x2 x3 x4 x5 x6 x7 x8 y = newBlock x1 x2 x4 x5 x6 x7 y := by
  unfold_out out0_10
  refine View.canon_apply_of_pieces (Val := Elt Ideal) (S := S1x4x128x256) (e := .f32) (newBlock x1 x2 x4 x5 x6 x7) _ ?_ y (cover0_10 _ _ _ _ _)
  intro p hp
  fin_cases hp
  · intro x
    obtain ⟨d, j, rfl⟩ := idx_s x
    refine (new3 _ _ _ _ d j).trans ?_
    rw [gate_at]
    refine Eq.trans ?_ (congrArg (newBlock x1 x2 x4 x5 x6 x7) (at_s3 d j)).symm
    rw [ld_s3, ld_q3, ld_v3]
    rfl
  · intro x
    obtain ⟨d, j, rfl⟩ := idx_s x
    refine (new2 _ _ _ _ d j).trans ?_
    rw [gate_at]
    refine Eq.trans ?_ (congrArg (newBlock x1 x2 x4 x5 x6 x7) (at_s2 d j)).symm
    rw [ld_s2, ld_q2, ld_v2]
    rfl
  · intro x
    obtain ⟨d, j, rfl⟩ := idx_s x
    refine (new1 _ _ _ _ d j).trans ?_
    rw [gate_at]
    refine Eq.trans ?_ (congrArg (newBlock x1 x2 x4 x5 x6 x7) (at_s1 d j)).symm
    rw [ld_s1, ld_q1, ld_v1]
    rfl
  · intro x
    obtain ⟨d, j, rfl⟩ := idx_s x
    refine (new0 _ _ _ _ _ _ d j).trans ?_
    rw [gate_at]
    refine Eq.trans ?_ (congrArg (newBlock x1 x2 x4 x5 x6 x7) (at_s0 d j)).symm
    rw [ld_s0, ld_q0, ld_v0]
    rfl

end Blocks

end Cert.GlasKernelIdeal.Value

end
-- ==== Proof.Glas.Kernel.lean ====
/- The decode step's gated linear attention: what the kernel leaves in its two result arrays is the reference's output and its new state. -/
module

public import Idealize.ShloMosaic.Lib.KernelVsHost
public import proofs.«01_k».proof.Proof.Glas.Body

@[expose] public section

set_option maxRecDepth 16384
noncomputable section

namespace Cert.GlasKernelIdeal.Value

open Cert.GlasKernelIdeal Cert.GlasKernelIdeal.Gen Idealize.ShloMosaic Idealize.ShloMosaic.TcCoe Idealize.SL.Sem
open Idealize.ShloMosaic.Pipeline (Dat)
open scoped BigOperators

/-- The windows' block indices: point `t` takes row `t`, the projection's columns of queries, keys, values, output gates and gate inputs. -/
theorem idx : ∀ t : Fin cfg0.N, (win0_0.index t = ![t.val, 0, 10] ∧ win0_1.index t = ![t.val, 0, 11] ∧ win0_2.index t = ![t.val, 0, 6] ∧ win0_3.index t = ![t.val, 0, 7])
    ∧ (win0_4.index t = ![t.val, 0, 84] ∧ win0_5.index t = ![t.val, 0, 0, 0])
    ∧ (win0_6.index t = ![0, 0] ∧ win0_7.index t = ![0, 0] ∧ win0_8.index t = ![0, 0])
    ∧ win0_9.index t = ![t.val, 0, 0] ∧ win0_10.index t = ![t.val, 0, 0, 0] :=
  (by decide +kernel : ∀ t : Fin grid0.N, _)

/-- The row a point takes. -/
def rowOf (t : Fin cfg0.N) : Fin 32 := ⟨t.val, t.isLt⟩

variable (m : (ℓ : Loc nD τ sig) → Buf (Elt Ideal) ℓ) (c : Dev nD)

section Reads

variable (t : Fin cfg0.N)

/-- The queries' columns of the projection's result. -/
theorem read0 (k : Fin 512) : iblk m c 0 t (ix3 0 0 k) = m ((c : Thread nD τ).loc main_arg0) (ix3 (rowOf t) 0 (⟨5120 + k.val, by omega⟩ : Fin 11264)) := by
  rw [← V_main_arg0 m c]
  show V m c main_arg0 _ = V m c main_arg0 _
  obtain ⟨⟨e, -, -, -⟩, -⟩ := idx t
  blk_ext [e]
  rfl

/-- The keys' columns. -/
theorem read1 (k : Fin 512) : iblk m c 1 t (ix3 0 0 k) = m ((c : Thread nD τ).loc main_arg0) (ix3 (rowOf t) 0 (⟨5632 + k.val, by omega⟩ : Fin 11264)) := by
  rw [← V_main_arg0 m c]
  show V m c main_arg0 _ = V m c main_arg0 _
  obtain ⟨⟨-, e, -, -⟩, -⟩ := idx t
  blk_ext [e]
  rfl

/-- The values' columns. -/
theorem read2 (k : Fin 1024) : iblk m c 2 t (ix3 0 0 k) = m ((c : Thread nD τ).loc main_arg0) (ix3 (rowOf t) 0 (⟨6144 + k.val, by omega⟩ : Fin 11264)) := by
  rw [← V_main_arg0 m c]
  show V m c main_arg0 _ = V m c main_arg0 _
  obtain ⟨⟨-, -, e, -⟩, -⟩ := idx t
  blk_ext [e]
  rfl

/-- The output gates' columns. -/
theorem read3 (k : Fin 1024) : iblk m c 3 t (ix3 0 0 k) = m ((c : Thread nD τ).loc main_arg0) (ix3 (rowOf t) 0 (⟨7168 + k.val, by omega⟩ : Fin 11264)) := by
  rw [← V_main_arg0 m c]
  show V m c main_arg0 _ = V m c main_arg0 _
  obtain ⟨⟨-, -, -, e⟩, -⟩ := idx t
  blk_ext [e]
  rfl

/-- The forget gate's inputs and the columns after them. -/
theorem read4 (k : Fin 128) : iblk m c 4 t (ix3 0 0 k) = m ((c : Thread nD τ).loc main_arg0) (ix3 (rowOf t) 0 (⟨10752 + k.val, by omega⟩ : Fin 11264)) := by
  rw [← V_main_arg0 m c]
  show V m c main_arg0 _ = V m c main_arg0 _
  obtain ⟨-, ⟨e, -⟩, -⟩ := idx t
  blk_ext [e]
  rfl

/-- The carried state. -/
theorem read5 (h : Fin 4) (d : Fin 128) (j : Fin 256) : iblk m c 5 t (ix4 0 h d j) = m ((c : Thread nD τ).loc main_arg1) (ix4 (rowOf t) h d j) := by
  rw [← V_main_arg1 m c]
  show V m c main_arg1 _ = V m c main_arg1 _
  obtain ⟨-, ⟨-, e⟩, -⟩ := idx t
  blk_ext [e]
  rfl

/-- The gate's weights, with rows of zeros below. -/
theorem read6 (d : Fin 128) (j : Fin 512) : iblk m c 6 t (ix2 d j)
    = if h : d.val < 16 then m ((c : Thread nD τ).loc main_arg2) (ix2 (⟨d.val, h⟩ : Fin 16) j) else (0 : EReal) := by
  have h : (V m c main_v1) (ix2 d j) = if h : d.val < 16 then m ((c : Thread nD τ).loc main_arg2) (ix2 (⟨d.val, h⟩ : Fin 16) j) else (0 : EReal) := by
    simp only [V, hostOps0, hostOps0_1, hostOps0_2, List.flatten_cons, List.flatten_nil, List.append_nil, List.cons_append, List.nil_append]
    entry_read; pointwise
    show pad S128x512 ![0, 0] ![112, 0] ![0, 0] (α := EReal) (m ((c : Thread nD τ).loc main_arg2))
      (sitofp (F := Ideal) .f32 (constantI S_ 32 0#32)) pads_S16x512_S128x512_01120_000 h_S_ (ix2 d j) = _
    by_cases h : d.val < 16
    · rw [dif_pos h]
      refine pad_apply_of_inside _ _ _ _ _ _ _ _ (ix2 (⟨d.val, h⟩ : Fin 16) j) fun a => ?_
      match a with
      | ⟨0, _⟩ => show d.val = 0 + d.val * (0 + 1); omega
      | ⟨1, _⟩ => show j.val = 0 + j.val * (0 + 1); omega
    · rw [dif_neg h]
      refine (pad_apply_of_not_inside _ _ _ _ _ _ _ _ (0 : Fin 2) fun hc => h ?_).trans (sitofp_zero (φ := .f32))
      have h2 : (d.val - 0) / (0 + 1) < 16 := hc.2.2
      omega
  rw [← h]
  show V m c main_v1 _ = V m c main_v1 _
  obtain ⟨-, -, ⟨e, -, -⟩, -⟩ := idx t
  blk_ext [e]

/-- The gate's bias. -/
theorem read7 (k : Fin 512) : iblk m c 7 t (ix2 0 k) = m ((c : Thread nD τ).loc main_arg3) (ix1 k) := by
  have h : (V m c main_v2) (ix2 0 k) = m ((c : Thread nD τ).loc main_arg3) (ix1 k) := by
    simp only [V, hostOps0, hostOps0_1, hostOps0_2, List.flatten_cons, List.flatten_nil, List.append_nil, List.cons_append, List.nil_append]
    entry_read; pointwise
  rw [← h]
  show V m c main_v2 _ = V m c main_v2 _
  obtain ⟨-, -, ⟨-, e, -⟩, -⟩ := idx t
  blk_ext [e]

/-- The norm's scale. -/
theorem read8 (k : Fin 256) : iblk m c 8 t (ix2 0 k) = m ((c : Thread nD τ).loc main_arg4) (ix1 k) := by
  have h : (V m c main_v3) (ix2 0 k) = m ((c : Thread nD τ).loc main_arg4) (ix1 k) := by
    simp only [V, hostOps0, hostOps0_1, hostOps0_2, List.flatten_cons, List.flatten_nil, List.append_nil, List.cons_append, List.nil_append]
    entry_read; pointwise
  rw [← h]
  show V m c main_v3 _ = V m c main_v3 _
  obtain ⟨-, -, ⟨-, -, e⟩, -⟩ := idx t
  blk_ext [e]

/-- A sum of 128 terms that are zero from the 16th on is the sum of the first 16. -/
theorem sum16 (f : Fin 128 → EReal) (g : Fin 16 → EReal) (h1 : ∀ k : Fin 16, f (⟨k.val, by omega⟩ : Fin 128) = g k)
    (h2 : ∀ k : Fin 128, ¬k.val < 16 → f k = 0) : ∑ k, f k = ∑ k, g k := by
  have e := Fin.sum_univ_add (a := 16) (b := 112) f
  rw [e]
  have z : ∑ i : Fin 112, f (Fin.natAdd 16 i) = 0 := Finset.sum_eq_zero fun i _ => h2 _ (by show ¬(16 + i.val < 16); omega)
  rw [z, add_zero]
  exact Finset.sum_congr rfl fun k _ => h1 k

/-- The blocks' log gate is the reference's. -/
theorem gate_blocks (j : Fin 512) : gateB (iblk m c 4 t) (iblk m c 6 t) (iblk m c 7 t) j
    = gateOf (m ((c : Thread nD τ).loc main_arg0)) (m ((c : Thread nD τ).loc main_arg2)) (m ((c : Thread nD τ).loc main_arg3)) (rowOf t) j := by
  unfold gateB gateOf argOf
  rw [read7]
  refine congrArg (fun x => gate (x + _)) ?_
  refine sum16 _ _ (fun k => ?_) (fun k hk => ?_)
  · rw [read4, read6, dif_pos k.isLt]
  · rw [read6, dif_neg hk]; exact mul_zero _

/-- What a head's token reads from the blocks is what the reference's does. -/
theorem token_blocks (h : Fin 4) : tokenB (iblk m c 0 t) (iblk m c 1 t) (iblk m c 2 t) (iblk m c 4 t) (iblk m c 5 t) (iblk m c 6 t) (iblk m c 7 t) h
    = tokenOf (m ((c : Thread nD τ).loc main_arg0)) (m ((c : Thread nD τ).loc main_arg1)) (m ((c : Thread nD τ).loc main_arg2)) (m ((c : Thread nD τ).loc main_arg3)) (rowOf t) h := by
  funext j
  unfold tokenB
  simp only [read0, read1, read2, read5, gate_blocks]
  rfl

end Reads

variable (hopen : ∀ (b : Fin 32) (j : Fin 512), argOf (m ((c : Thread nD τ).loc main_arg0)) (m ((c : Thread nD τ).loc main_arg2)) (m ((c : Thread nD τ).loc main_arg3)) b j ≠ ⊥)
include hopen

/-- The kernel's output array is the reference's output. -/
theorem final9 : (dats m 0 c).arrAt 9 (cfgs 0).N = Cert.GlasRefIdeal.Read.val_main_v82 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 9 _ (by decide +kernel) fun t hf y => ?_
  blk_simp; rw [after0_9]
  obtain ⟨-, -, -, e, -⟩ := idx t
  idx_vars y
  obtain rfl : y0 = 0 := Subsingleton.elim _ _
  obtain rfl : y1 = 0 := Subsingleton.elim _ _
  obtain ⟨h, j, rfl⟩ : ∃ (h : Fin 4) (j : Fin 256), y2 = hv h j :=
    ⟨⟨y2.val / 256, by omega⟩, ⟨y2.val % 256, by omega⟩, Fin.ext (by show y2.val = y2.val / 256 * 256 + y2.val % 256; omega)⟩
  have hy : ((View.whole main_v4_0).slice (win0_9.rect t)).emb (ix3 0 0 (hv h j)) = ix3 (rowOf t) 0 (hv h j) := by
    blk_ext [e]
    rfl
  rw [hy]
  refine Eq.trans ?_ (ref_out (m ((c : Thread nD τ).loc main_arg0)) (m ((c : Thread nD τ).loc main_arg1)) (m ((c : Thread nD τ).loc main_arg2)) (m ((c : Thread nD τ).loc main_arg3)) (m ((c : Thread nD τ).loc main_arg4)) hopen (rowOf t) h j).symm
  refine (block_out _ _ _ _ _ _ _ _ _ _).trans ((outBlock_at _ _ _ _ _ _ _ _ _ h j).trans ?_)
  unfold outB
  rw [token_blocks, read8, read3]
  rfl

/-- The kernel's second array is the reference's new state. -/
theorem final10 : (dats m 0 c).arrAt 10 (cfgs 0).N = Cert.GlasRefIdeal.Read.val_main_v63 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 10 _ (by decide +kernel) fun t hf y => ?_
  blk_simp; rw [after0_10]
  obtain ⟨-, -, -, -, e⟩ := idx t
  idx_vars y
  obtain rfl : y0 = 0 := Subsingleton.elim _ _
  have hy : ((View.whole main_v4_1).slice (win0_10.rect t)).emb (ix4 0 y1 y2 y3) = ix4 (rowOf t) y1 y2 y3 := by
    blk_ext [e]
    rfl
  rw [hy]
  refine Eq.trans ?_ (ref_state (m ((c : Thread nD τ).loc main_arg0)) (m ((c : Thread nD τ).loc main_arg1)) (m ((c : Thread nD τ).loc main_arg2)) (m ((c : Thread nD τ).loc main_arg3)) hopen (rowOf t) y1 y2 y3).symm
  refine (block_new _ _ _ _ _ _ _ _ _ _).trans ?_
  show newB _ _ _ _ _ _ y1 y2 y3 = _
  unfold newB
  rw [read1, read2, read5, gate_blocks]
  rfl

end Cert.GlasKernelIdeal.Value

end
-- ==== Proof.Glas.Claims.lean ====
/- The claims about the gated linear attention of the decode step: the kernel, its idealization and the reference run and leave
   their arguments as they were; the idealization changes nothing; where no forget gate's argument is minus infinity, kernel and
   reference end with the same two arrays over the extended reals. -/
module

public import proofs.«01_k».proof.Defs
public import proofs.«01_k».proof.Proof.Gen.GlasKernel.Frame
public import proofs.«01_k».proof.Proof.Gen.GlasKernelIdeal.Frame
public import proofs.«01_k».proof.Proof.Gen.GlasKernelIdeal.Value
public import proofs.«01_k».proof.Proof.Gen.GlasRefIdeal.Run
public import proofs.«01_k».proof.Proof.Gen.GlasRefIdeal.Read
public import proofs.«01_k».proof.Proof.Glas.Kernel

@[expose] public section

noncomputable section

namespace Cert.Proof.Glas

open Idealize.ShloMosaic Idealize.ShloMosaic.Pointwise Idealize.SL.Sem
open Cert.GlasKernelIdeal.Value (argOf)

/-- The side conditions of the precondition's operations hold. -/
theorem facts_open : Cert.Pre_gates_open.Facts where
  slices_S32x1x11264_S32x1x16_0_0_10752 := by decide
  bcast_S512_S1x1x512_2 := by decide
  bcast_S1x1x512_S32x1x512_0_1_2 := by decide
  bcast_S_S32x1x512 := by decide
  dot_S32x1x16_S16x512_S32x1x512_2_0_01_1_n_n_wf := by decide

/-- The kernel terminates without fault, its arguments and semaphores end as they began. -/
theorem frame_kernel : Cert.quiescent_GlasKernel (hGlasKernel := Cert.GlasKernel.Gen.facts) :=
  fun m ρ _ => Cert.GlasKernel.Gen.frame m ρ

/-- The same of the idealized kernel. -/
theorem frame_ideal : Cert.quiescent_GlasKernelIdeal (hGlasKernelIdeal := Cert.GlasKernelIdeal.Gen.facts) :=
  fun m ρ _ => Cert.GlasKernelIdeal.Gen.frame m ρ

/-- The same of the idealized kernel under the precondition. -/
theorem frame_ideal_open : Cert.quiescent_GlasKernelIdeal_pre_gates_open (hGlasKernelIdeal := Cert.GlasKernelIdeal.Gen.facts)
    (hPre_gates_open := facts_open) :=
  fun m ρ _ => Cert.GlasKernelIdeal.Gen.frame m ρ

/-- The same of the reference, which declares no semaphore. -/
theorem frame_ref : Cert.quiescent_GlasRefIdeal (hGlasRefIdeal := Cert.GlasRefIdeal.Gen.facts) :=
  fun m ρ _ => (θ_run _ _ _).mono (fun r h => ⟨fun c => (h c).2.2, sem_eq_zero_of_no_sems (by decide) r.2⟩)
    (Cert.GlasRefIdeal.Value.run m ρ)

/-- The same of the reference under the precondition. -/
theorem frame_ref_open : Cert.quiescent_GlasRefIdeal_pre_gates_open (hGlasRefIdeal := Cert.GlasRefIdeal.Gen.facts)
    (hPre_gates_open := facts_open) :=
  fun m ρ _ => frame_ref m ρ trivial

/-- The idealization names no literal and replaces no operation. -/
theorem preserves : Cert.preserves_GlasKernel_GlasKernelIdeal := trivial

section Open

attribute [local instance] facts_open

/-- What is greater than something is not minus infinity. -/
theorem ne_bot_of (x y : EReal) [Decidable (y < x)] (h : BitVec.ofBool (decide (y < x)) = 1#1) : x ≠ ⊥ := by
  by_cases hy : y < x
  · exact ne_bot_of_gt hy
  · rw [decide_eq_false hy] at h
    exact absurd h (by decide)

/-- Where the precondition holds no forget gate's argument is minus infinity. -/
theorem arg_ne (z : FVec Ideal Cert.Pre_gates_open.S32x1x11264 .f32) (st : FVec Ideal Cert.Pre_gates_open.S32x4x128x256 .f32)
    (wa : FVec Ideal Cert.Pre_gates_open.S16x512 .f32) (ba : FVec Ideal Cert.Pre_gates_open.S512 .f32)
    (nw : FVec Ideal Cert.Pre_gates_open.S256 .f32)
    (h : Cert.Pre_gates_open.fn (F := Ideal) z st wa ba nw = fun _ => 1#1) (b : Fin 32) (j : Fin 512) : argOf z wa ba b j ≠ ⊥ := by
  have h1 := congrFun h (ix3 b 0 j)
  revert h1
  pointwise [Cert.Pre_gates_open.fn, Cert.Pre_gates_open.dot_S32x1x16_S16x512_S32x1x512_2_0_01_1_n_n]
  exact fun h1 => ne_bot_of (argOf z wa ba b j) _ h1

end Open

/-- From equal arguments, the idealized kernel and the reference end with the same output and the same new state. -/
theorem algebraic : Cert.algebraic_GlasKernelIdeal_GlasRefIdeal_pre_gates_open (hGlasKernelIdeal := Cert.GlasKernelIdeal.Gen.facts)
    (hGlasRefIdeal := Cert.GlasRefIdeal.Gen.facts) (hPre_gates_open := facts_open) := by
  intro m g m' g' hpre hag
  refine ⟨fun c => Cert.GlasRefIdeal.Read.val_main_v82 (F := Ideal) (m (c.tc.loc Cert.GlasKernelIdeal.main_arg0)) (m (c.tc.loc Cert.GlasKernelIdeal.main_arg1))
      (m (c.tc.loc Cert.GlasKernelIdeal.main_arg2)) (m (c.tc.loc Cert.GlasKernelIdeal.main_arg3))
      (m (c.tc.loc Cert.GlasKernelIdeal.main_arg4)),
    fun c => Cert.GlasRefIdeal.Read.val_main_v63 (F := Ideal) (m (c.tc.loc Cert.GlasKernelIdeal.main_arg0)) (m (c.tc.loc Cert.GlasKernelIdeal.main_arg1))
      (m (c.tc.loc Cert.GlasKernelIdeal.main_arg2)) (m (c.tc.loc Cert.GlasKernelIdeal.main_arg3)),
    (θ_run _ _ _).mono (fun r h c => ⟨(h c).1.trans (Cert.GlasKernelIdeal.Value.final9 m c (arg_ne _ _ _ _ _ (hpre c))),
      (h c).2.1.trans (Cert.GlasKernelIdeal.Value.final10 m c (arg_ne _ _ _ _ _ (hpre c))), (h c).2.2⟩) (Cert.GlasKernelIdeal.Value.run_blocks m g),
    (θ_run _ _ _).mono (fun r h c => ⟨(h c).1.trans ?_, (h c).2.1.trans ?_, (h c).2.2⟩) (Cert.GlasRefIdeal.Value.run m' g')⟩
  · obtain ⟨h0, h1, h2, h3, h4⟩ := hag c
    rw [Cert.GlasRefIdeal.Read.val_main_v82_eq, h0, h1, h2, h3, h4]
  · obtain ⟨h0, h1, h2, h3, h4⟩ := hag c
    rw [Cert.GlasRefIdeal.Read.val_main_v63_eq, h0, h1, h2, h3]

end Cert.Proof.Glas

end
-- ==== Proof.lean ====
module

public import proofs.«01_k».proof.Defs
public import proofs.«01_k».proof.Proof.Win.Claims
public import proofs.«01_k».proof.Proof.Ffn.Claims
public import proofs.«01_k».proof.Proof.Merge.Claims
public import proofs.«01_k».proof.Proof.Proj.Claims
public import proofs.«01_k».proof.Proof.Projs.Claims
public import proofs.«01_k».proof.Proof.Merges.Claims
public import proofs.«01_k».proof.Proof.Ffns.Claims
public import proofs.«01_k».proof.Proof.Rgs.Claims
public import proofs.«01_k».proof.Proof.Glas.Claims

@[expose] public section

noncomputable section

namespace Cert.Proof

open Idealize.ShloMosaic Idealize.SL.Sem

/-- Everything that is claimed. -/
theorem claim : Cert.Claim := ⟨Cert.WinKernel.Gen.facts, Cert.WinKernelIdeal.Gen.facts, Cert.WinRefIdeal.Gen.facts,
  Cert.ProjKernel.Gen.facts, Cert.ProjKernelIdeal.Gen.facts, Cert.ProjRefIdeal.Gen.facts,
  Cert.MergeKernel.Gen.facts, Cert.MergeKernelIdeal.Gen.facts, Cert.MergeRefIdeal.Gen.facts,
  Cert.FfnKernel.Gen.facts, Cert.FfnKernelIdeal.Gen.facts, Cert.FfnRefIdeal.Gen.facts,
  Cert.ProjsKernel.Gen.facts, Cert.ProjsKernelIdeal.Gen.facts, Cert.ProjsRefIdeal.Gen.facts,
  Cert.MergesKernel.Gen.facts, Cert.MergesKernelIdeal.Gen.facts, Cert.MergesRefIdeal.Gen.facts,
  Cert.FfnsKernel.Gen.facts, Cert.FfnsKernelIdeal.Gen.facts, Cert.FfnsRefIdeal.Gen.facts,
  Cert.RgsKernel.Gen.facts, Cert.RgsKernelIdeal.Gen.facts, Cert.RgsRefIdeal.Gen.facts,
  Cert.GlasKernel.Gen.facts, Cert.GlasKernelIdeal.Gen.facts, Cert.GlasRefIdeal.Gen.facts, Glas.facts_open,
  Win.frame_kernel, Win.frame_ideal, Win.frame_ref,
  Proj.frame_kernel, Proj.frame_ideal, Proj.frame_ref,
  Merge.frame_kernel, Merge.frame_ideal, Merge.frame_ref,
  Ffn.frame_kernel, Ffn.frame_ideal, Ffn.frame_ref,
  Projs.frame_kernel, Projs.frame_ideal, Projs.frame_ref,
  Merges.frame_kernel, Merges.frame_ideal, Merges.frame_ref,
  Ffns.frame_kernel, Ffns.frame_ideal, Ffns.frame_ref,
  Rgs.frame_kernel, Rgs.frame_ideal, Rgs.frame_ref,
  Glas.frame_kernel, Glas.frame_ideal, Glas.frame_ideal_open, Glas.frame_ref, Glas.frame_ref_open,
  Win.preserves, Win.algebraic, Proj.preserves, Proj.algebraic, Merge.preserves, Merge.algebraic, Ffn.preserves, Ffn.algebraic,
  Projs.preserves, Projs.algebraic, Merges.preserves, Merges.algebraic, Ffns.preserves, Ffns.algebraic,
  Rgs.preserves, Rgs.algebraic, Glas.preserves, Glas.algebraic⟩

end Cert.Proof

end
